-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_n" .f32 0x36CCCCCD#32 ((1 / 163840 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x4096x1280 : Shape := ⟨3, ![8, 4096, 1280]⟩
abbrev S1280 : Shape := ⟨1, ![1280]⟩
abbrev S_ : Shape := ⟨0, ![]⟩

class Facts : Prop where
  bitsLt_bf16_f32 : FTy.bits .bf16 < FTy.bits .f32
  bcast_S_S8x4096x1280 : S_.BroadcastsInDim S8x4096x1280 (![] : Fin 0 → Fin S8x4096x1280.rank)
  reducesTo_S8x4096x1280_S_d0_1_2 : S8x4096x1280.ReducesTo [0, 1, 2] S_
  h_S_ : 0 < S_.numel
  bcast_S_S1280 : S_.BroadcastsInDim S1280 (![] : Fin 0 → Fin S1280.rank)
  reducesTo_S1280_S_d0 : S1280.ReducesTo [0] S_

variable [Facts]

def fn {F : FTy → Type} [FloatOps F] (main_arg0 : FVec F S8x4096x1280 .bf16) (main_arg1 : FVec F S1280 .f32) (main_arg2 : FVec F S1280 .f32) : IVec S_ 1 :=
  let main_v0 : FVec F S8x4096x1280 .f32 := (extf .f32 · bitsLt_bf16_f32) main_arg0
  let main_v1 : FVec F S8x4096x1280 .f32 := Host.absf main_v0
  let main_cst : FVec F S_ .f32 := constant S_ .f32 0x7F800000#32
  let main_v2 : FVec F S8x4096x1280 .f32 := broadcastInDim S8x4096x1280 ![] bcast_S_S8x4096x1280 main_cst
  let main_v3 : IVec S8x4096x1280 1 := cmpf .olt main_v1 main_v2
  let main_c : IVec S_ 1 := constantI S_ 1 1#1
  let main_v4 : IVec S_ 1 := (fun x v => Host.reduce IntOp.andi x v reducesTo_S8x4096x1280_S_d0_1_2 h_S_) main_v3 main_c
  let main_v5 : FVec F S1280 .f32 := Host.absf main_arg1
  let main_cst_0 : FVec F S_ .f32 := constant S_ .f32 0x7E800000#32
  let main_v6 : FVec F S1280 .f32 := broadcastInDim S1280 ![] bcast_S_S1280 main_cst_0
  let main_v7 : IVec S1280 1 := cmpf .ole main_v5 main_v6
  let main_c_1 : IVec S_ 1 := constantI S_ 1 1#1
  let main_v8 : IVec S_ 1 := (fun x v => Host.reduce IntOp.andi x v reducesTo_S1280_S_d0 h_S_) main_v7 main_c_1
  let main_v9 : IVec S_ 1 := andi main_v4 main_v8
  let main_v10 : FVec F S1280 .f32 := Host.absf main_arg2
  let main_cst_2 : FVec F S_ .f32 := constant S_ .f32 0x7E800000#32
  let main_v11 : FVec F S1280 .f32 := broadcastInDim S1280 ![] bcast_S_S1280 main_cst_2
  let main_v12 : IVec S1280 1 := cmpf .ole main_v10 main_v11
  let main_c_3 : IVec S_ 1 := constantI S_ 1 1#1
  let main_v13 : IVec S_ 1 := (fun x v => Host.reduce IntOp.andi x v reducesTo_S1280_S_d0 h_S_) main_v12 main_c_3
  let main_v14 : IVec S_ 1 := andi main_v9 main_v13
  main_v14
-- ==== Kernel.lean ====
abbrev S8x4096x1280 : Shape := ⟨3, ![8, 4096, 1280]⟩
abbrev S1280 : Shape := ⟨1, ![1280]⟩
abbrev S5x1x256 : Shape := ⟨3, ![5, 1, 256]⟩
abbrev S8 : Shape := ⟨1, ![8]⟩
abbrev S1x4096x256 : Shape := ⟨3, ![1, 4096, 256]⟩
abbrev S5x4096x256 : Shape := ⟨3, ![5, 4096, 256]⟩
abbrev S5x8x256 : Shape := ⟨3, ![5, 8, 256]⟩
abbrev S5x16x256 : Shape := ⟨3, ![5, 16, 256]⟩
abbrev S1 : Shape := ⟨1, ![1]⟩
abbrev S8x256 : Shape := ⟨2, ![8, 256]⟩
abbrev S16x256 : Shape := ⟨2, ![16, 256]⟩
abbrev S1x8x256 : Shape := ⟨3, ![1, 8, 256]⟩
abbrev S1x1x256 : Shape := ⟨3, ![1, 1, 256]⟩
abbrev S1x256 : Shape := ⟨2, ![1, 256]⟩
abbrev S1x32x256 : Shape := ⟨3, ![1, 32, 256]⟩
abbrev S32x256 : Shape := ⟨2, ![32, 256]⟩
abbrev S1x16x256 : Shape := ⟨3, ![1, 16, 256]⟩
abbrev S1280x128 : Shape := ⟨2, ![1280, 128]⟩
abbrev S1x1280 : Shape := ⟨2, ![1, 1280]⟩
abbrev S8x1280 : Shape := ⟨2, ![8, 1280]⟩
abbrev S8x128 : Shape := ⟨2, ![8, 128]⟩
abbrev S128 : Shape := ⟨1, ![128]⟩
abbrev S1x128 : Shape := ⟨2, ![1, 128]⟩
abbrev S1x1x128 : Shape := ⟨3, ![1, 1, 128]⟩
abbrev S1x1x1 : Shape := ⟨3, ![1, 1, 1]⟩
abbrev S16x1280 : Shape := ⟨2, ![16, 1280]⟩
abbrev S1x1x1280 : Shape := ⟨3, ![1, 1, 1280]⟩
abbrev S1x8x128 : Shape := ⟨3, ![1, 8, 128]⟩

abbrev nBuf : Space → Nat
  | .hbm => 7
  | .vmem => 12
  | .smem => 3
  | _ => 0

abbrev bufTy : (tb : Table) → Fin (tcTables nBuf tb) → BufTy
  | .hbm, ⟨0, _⟩ => ⟨S8x4096x1280, .bf16⟩
  | .hbm, ⟨1, _⟩ => ⟨S1280, .f32⟩
  | .hbm, ⟨2, _⟩ => ⟨S1280, .f32⟩
  | .hbm, ⟨3, _⟩ => ⟨S5x1x256, .f32⟩
  | .hbm, ⟨4, _⟩ => ⟨S5x1x256, .f32⟩
  | .hbm, ⟨5, _⟩ => ⟨S8x4096x1280, .fp8e4m3⟩
  | .hbm, ⟨6, _⟩ => ⟨S8, .f32⟩
  | .local _ .vmem, ⟨0, _⟩ => ⟨S1x4096x256, .bf16⟩
  | .local _ .vmem, ⟨1, _⟩ => ⟨S1x4096x256, .bf16⟩
  | .local _ .vmem, ⟨2, _⟩ => ⟨S5x1x256, .f32⟩
  | .local _ .vmem, ⟨3, _⟩ => ⟨S5x1x256, .f32⟩
  | .local _ .vmem, ⟨4, _⟩ => ⟨S1x4096x256, .fp8e4m3⟩
  | .local _ .vmem, ⟨5, _⟩ => ⟨S1x4096x256, .fp8e4m3⟩
  | .local _ .vmem, ⟨6, _⟩ => ⟨S5x4096x256, .bf16⟩
  | .local _ .vmem, ⟨7, _⟩ => ⟨S5x8x256, .f32⟩
  | .local _ .vmem, ⟨8, _⟩ => ⟨S5x8x256, .f32⟩
  | .local _ .vmem, ⟨9, _⟩ => ⟨S5x16x256, .bf16⟩
  | .local _ .vmem, ⟨10, _⟩ => ⟨S5x16x256, .bf16⟩
  | .local _ .vmem, ⟨11, _⟩ => ⟨S5x8x256, .f32⟩
  | .local _ .smem, ⟨0, _⟩ => ⟨S8, .f32⟩
  | .local _ .smem, ⟨1, _⟩ => ⟨S1, .i32⟩
  | .local _ .smem, ⟨2, _⟩ => ⟨S1, .i32⟩
  | _, _ => ⟨S8x4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_stg4_0 : Ref sig .tc := ⟨.smem, 0, rfl⟩
abbrev cc0_scratch6 : Ref sig .tc := ⟨.smem, 1, rfl⟩
abbrev cc0_scratch7 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![9, 5], ![false, false]⟩

def k0_off1 (i : grid0.Coords) : Fin 3 → Nat :=
  let arg1 : BitVec 32 := BitVec.ofNat 32 (i 1).val
  let v29 : Index := Scalar.indexCast arg1
  let c0_11 : Index := 0#32
  let c0_12 : Index := 0#32
  ![v29.toNat, 0, 0]
def k0_off2 (i : grid0.Coords) : Fin 3 → Nat :=
  let arg1 : BitVec 32 := BitVec.ofNat 32 (i 1).val
  let v37 : Index := Scalar.indexCast arg1
  let c0_15 : Index := 0#32
  let c0_16 : Index := 0#32
  ![v37.toNat, 0, 0]
@[reducible] def k0_t1_loop : Scf.Loop 32 :=
  let c0_i32_19 : BitVec 32 := 0#32
  let c128_i32 : BitVec 32 := 128#32
  let v43 : BitVec 32 := Scalar.addi c0_i32_19 c128_i32
  let c1_i32_20 : BitVec 32 := 1#32
  ⟨c0_i32_19, v43, c1_i32_20⟩
def k0_mult1 (k0_t1 : Fin k0_t1_loop.trips) : BitVec 32 :=
  let c0_i32_19 : BitVec 32 := 0#32
  let c1_i32_20 : BitVec 32 := 1#32
  let arg15 : BitVec 32 := Scf.iv c0_i32_19 c1_i32_20 k0_t1
  let c32_i32 : BitVec 32 := 32#32
  let v44 : BitVec 32 := Scalar.muli arg15 c32_i32
  v44
def k0_off3 (i : grid0.Coords) (k0_t1 : Fin k0_t1_loop.trips) : Fin 3 → Nat :=
  let arg1 : BitVec 32 := BitVec.ofNat 32 (i 1).val
  let v46 : Index := Scalar.indexCast arg1
  let c0_i32_19 : BitVec 32 := 0#32
  let c1_i32_20 : BitVec 32 := 1#32
  let arg15 : BitVec 32 := Scf.iv c0_i32_19 c1_i32_20 k0_t1
  let c32_i32 : BitVec 32 := 32#32
  let v44 : BitVec 32 := Scalar.muli arg15 c32_i32
  let v45 : BitVec 32 := v44
  let v47 : Index := Scalar.indexCast v45
  let c0_22 : Index := 0#32
  ![v46.toNat, v47.toNat, 0]
def k0_off4 (k0_t1 : Fin k0_t1_loop.trips) : Fin 3 → Nat :=
  let c0_28 : Index := 0#32
  let c0_i32_19 : BitVec 32 := 0#32
  let c1_i32_20 : BitVec 32 := 1#32
  let arg15 : BitVec 32 := Scf.iv c0_i32_19 c1_i32_20 k0_t1
  let c32_i32 : BitVec 32 := 32#32
  let v44 : BitVec 32 := Scalar.muli arg15 c32_i32
  let v45 : BitVec 32 := v44
  let v76 : Index := Scalar.indexCast v45
  let c0_29 : Index := 0#32
  ![0, v76.toNat, 0]
def k0_off5 (i : grid0.Coords) : Fin 3 → Nat :=
  let arg1 : BitVec 32 := BitVec.ofNat 32 (i 1).val
  let v29 : Index := Scalar.indexCast arg1
  let c0_11 : Index := 0#32
  let c0_12 : Index := 0#32
  ![v29.toNat, 0, 0]
@[reducible] def k0_t2_loop : Scf.Loop 32 :=
  let c0_i32_15 : BitVec 32 := 0#32
  let c32_i32 : BitVec 32 := 32#32
  let v39 : BitVec 32 := Scalar.addi c0_i32_15 c32_i32
  let c1_i32_16 : BitVec 32 := 1#32
  ⟨c0_i32_15, v39, c1_i32_16⟩
def k0_mult2 (k0_t2 : Fin k0_t2_loop.trips) : BitVec 32 :=
  let c0_i32_15 : BitVec 32 := 0#32
  let c1_i32_16 : BitVec 32 := 1#32
  let arg15 : BitVec 32 := Scf.iv c0_i32_15 c1_i32_16 k0_t2
  let c4_i32_26 : BitVec 32 := 4#32
  let v57 : BitVec 32 := Scalar.muli arg15 c4_i32_26
  let c0_i32_27 : BitVec 32 := 0#32
  let v58 : BitVec 32 := Scalar.addi v57 c0_i32_27
  let c32_i32_28 : BitVec 32 := 32#32
  let v59 : BitVec 32 := Scalar.muli v58 c32_i32_28
  v59
def k0_off6 (i : grid0.Coords) (k0_t2 : Fin k0_t2_loop.trips) (c0_i32_27 : BitVec 32) : Fin 3 → Nat :=
  let arg1 : BitVec 32 := BitVec.ofNat 32 (i 1).val
  let v61 : Index := Scalar.indexCast arg1
  let c0_i32_15 : BitVec 32 := 0#32
  let c1_i32_16 : BitVec 32 := 1#32
  let arg15 : BitVec 32 := Scf.iv c0_i32_15 c1_i32_16 k0_t2
  let c4_i32_26 : BitVec 32 := 4#32
  let v57 : BitVec 32 := Scalar.muli arg15 c4_i32_26
  let v58 : BitVec 32 := Scalar.addi v57 c0_i32_27
  let c32_i32_28 : BitVec 32 := 32#32
  let v59 : BitVec 32 := Scalar.muli v58 c32_i32_28
  let v60 : BitVec 32 := v59
  let v62 : Index := Scalar.indexCast v60
  let c0_29 : Index := 0#32
  ![v61.toNat, v62.toNat, 0]
def k0_off7 (k0_t2 : Fin k0_t2_loop.trips) (c0_i32_27 : BitVec 32) : Fin 3 → Nat :=
  let c0_33 : Index := 0#32
  let c0_i32_15 : BitVec 32 := 0#32
  let c1_i32_16 : BitVec 32 := 1#32
  let arg15 : BitVec 32 := Scf.iv c0_i32_15 c1_i32_16 k0_t2
  let c4_i32_26 : BitVec 32 := 4#32
  let v57 : BitVec 32 := Scalar.muli arg15 c4_i32_26
  let v58 : BitVec 32 := Scalar.addi v57 c0_i32_27
  let c32_i32_28 : BitVec 32 := 32#32
  let v59 : BitVec 32 := Scalar.muli v58 c32_i32_28
  let v60 : BitVec 32 := v59
  let v81 : Index := Scalar.indexCast v60
  let c0_34 : Index := 0#32
  ![0, v81.toNat, 0]
def k0_mult3 (k0_t2 : Fin k0_t2_loop.trips) : BitVec 32 :=
  let c0_i32_15 : BitVec 32 := 0#32
  let c1_i32_16 : BitVec 32 := 1#32
  let arg15 : BitVec 32 := Scf.iv c0_i32_15 c1_i32_16 k0_t2
  let c4_i32_38 : BitVec 32 := 4#32
  let v117 : BitVec 32 := Scalar.muli arg15 c4_i32_38
  let c1_i32_39 : BitVec 32 := 1#32
  let v118 : BitVec 32 := Scalar.addi v117 c1_i32_39
  let c32_i32_40 : BitVec 32 := 32#32
  let v119 : BitVec 32 := Scalar.muli v118 c32_i32_40
  v119
def k0_mult4 (k0_t2 : Fin k0_t2_loop.trips) : BitVec 32 :=
  let c0_i32_15 : BitVec 32 := 0#32
  let c1_i32_16 : BitVec 32 := 1#32
  let arg15 : BitVec 32 := Scf.iv c0_i32_15 c1_i32_16 k0_t2
  let c4_i32_50 : BitVec 32 := 4#32
  let v177 : BitVec 32 := Scalar.muli arg15 c4_i32_50
  let c2_i32 : BitVec 32 := 2#32
  let v178 : BitVec 32 := Scalar.addi v177 c2_i32
  let c32_i32_51 : BitVec 32 := 32#32
  let v179 : BitVec 32 := Scalar.muli v178 c32_i32_51
  v179
def k0_mult5 (k0_t2 : Fin k0_t2_loop.trips) : BitVec 32 :=
  let c0_i32_15 : BitVec 32 := 0#32
  let c1_i32_16 : BitVec 32 := 1#32
  let arg15 : BitVec 32 := Scf.iv c0_i32_15 c1_i32_16 k0_t2
  let c4_i32_61 : BitVec 32 := 4#32
  let v237 : BitVec 32 := Scalar.muli arg15 c4_i32_61
  let c3_i32 : BitVec 32 := 3#32
  let v238 : BitVec 32 := Scalar.addi v237 c3_i32
  let c32_i32_62 : BitVec 32 := 32#32
  let v239 : BitVec 32 := Scalar.muli v238 c32_i32_62
  v239
def k0_off8 (i : grid0.Coords) : Fin 3 → Nat :=
  let arg1 : BitVec 32 := BitVec.ofNat 32 (i 1).val
  let v49 : Index := Scalar.indexCast arg1
  let c0_22 : Index := 0#32
  let c0_23 : Index := 0#32
  ![v49.toNat, 0, 0]
def k0_off9 (i : grid0.Coords) : Fin 3 → Nat :=
  let arg1 : BitVec 32 := BitVec.ofNat 32 (i 1).val
  let v29 : Index := Scalar.indexCast arg1
  let c0_11 : Index := 0#32
  let c0_12 : Index := 0#32
  ![v29.toNat, 0, 0]
@[reducible] def k0_t3_loop : Scf.Loop 32 :=
  let c0_i32_15 : BitVec 32 := 0#32
  let c32_i32 : BitVec 32 := 32#32
  let v39 : BitVec 32 := Scalar.addi c0_i32_15 c32_i32
  let c1_i32_16 : BitVec 32 := 1#32
  ⟨c0_i32_15, v39, c1_i32_16⟩
def k0_mult6 (k0_t3 : Fin k0_t3_loop.trips) : BitVec 32 :=
  let c0_i32_15 : BitVec 32 := 0#32
  let c1_i32_16 : BitVec 32 := 1#32
  let arg15 : BitVec 32 := Scf.iv c0_i32_15 c1_i32_16 k0_t3
  let c4_i32_18 : BitVec 32 := 4#32
  let v40 : BitVec 32 := Scalar.muli arg15 c4_i32_18
  let c0_i32_19 : BitVec 32 := 0#32
  let v41 : BitVec 32 := Scalar.addi v40 c0_i32_19
  let c32_i32_20 : BitVec 32 := 32#32
  let v42 : BitVec 32 := Scalar.muli v41 c32_i32_20
  v42
def k0_off10 (i : grid0.Coords) (k0_t3 : Fin k0_t3_loop.trips) (c0_i32_19 : BitVec 32) : Fin 3 → Nat :=
  let arg1 : BitVec 32 := BitVec.ofNat 32 (i 1).val
  let v44 : Index := Scalar.indexCast arg1
  let c0_i32_15 : BitVec 32 := 0#32
  let c1_i32_16 : BitVec 32 := 1#32
  let arg15 : BitVec 32 := Scf.iv c0_i32_15 c1_i32_16 k0_t3
  let c4_i32_18 : BitVec 32 := 4#32
  let v40 : BitVec 32 := Scalar.muli arg15 c4_i32_18
  let v41 : BitVec 32 := Scalar.addi v40 c0_i32_19
  let c32_i32_20 : BitVec 32 := 32#32
  let v42 : BitVec 32 := Scalar.muli v41 c32_i32_20
  let v43 : BitVec 32 := v42
  let v45 : Index := Scalar.indexCast v43
  let c0_21 : Index := 0#32
  ![v44.toNat, v45.toNat, 0]
def k0_off11 (k0_t3 : Fin k0_t3_loop.trips) (c0_i32_19 : BitVec 32) : Fin 3 → Nat :=
  let c0_25 : Index := 0#32
  let c0_i32_15 : BitVec 32 := 0#32
  let c1_i32_16 : BitVec 32 := 1#32
  let arg15 : BitVec 32 := Scf.iv c0_i32_15 c1_i32_16 k0_t3
  let c4_i32_18 : BitVec 32 := 4#32
  let v40 : BitVec 32 := Scalar.muli arg15 c4_i32_18
  let v41 : BitVec 32 := Scalar.addi v40 c0_i32_19
  let c32_i32_20 : BitVec 32 := 32#32
  let v42 : BitVec 32 := Scalar.muli v41 c32_i32_20
  let v43 : BitVec 32 := v42
  let v64 : Index := Scalar.indexCast v43
  let c0_26 : Index := 0#32
  ![0, v64.toNat, 0]
def k0_mult7 (k0_t3 : Fin k0_t3_loop.trips) : BitVec 32 :=
  let c0_i32_15 : BitVec 32 := 0#32
  let c1_i32_16 : BitVec 32 := 1#32
  let arg15 : BitVec 32 := Scf.iv c0_i32_15 c1_i32_16 k0_t3
  let c4_i32_27 : BitVec 32 := 4#32
  let v68 : BitVec 32 := Scalar.muli arg15 c4_i32_27
  let c1_i32_28 : BitVec 32 := 1#32
  let v69 : BitVec 32 := Scalar.addi v68 c1_i32_28
  let c32_i32_29 : BitVec 32 := 32#32
  let v70 : BitVec 32 := Scalar.muli v69 c32_i32_29
  v70
def k0_mult8 (k0_t3 : Fin k0_t3_loop.trips) : BitVec 32 :=
  let c0_i32_15 : BitVec 32 := 0#32
  let c1_i32_16 : BitVec 32 := 1#32
  let arg15 : BitVec 32 := Scf.iv c0_i32_15 c1_i32_16 k0_t3
  let c4_i32_36 : BitVec 32 := 4#32
  let v96 : BitVec 32 := Scalar.muli arg15 c4_i32_36
  let c2_i32 : BitVec 32 := 2#32
  let v97 : BitVec 32 := Scalar.addi v96 c2_i32
  let c32_i32_37 : BitVec 32 := 32#32
  let v98 : BitVec 32 := Scalar.muli v97 c32_i32_37
  v98
def k0_mult9 (k0_t3 : Fin k0_t3_loop.trips) : BitVec 32 :=
  let c0_i32_15 : BitVec 32 := 0#32
  let c1_i32_16 : BitVec 32 := 1#32
  let arg15 : BitVec 32 := Scf.iv c0_i32_15 c1_i32_16 k0_t3
  let c4_i32_44 : BitVec 32 := 4#32
  let v124 : BitVec 32 := Scalar.muli arg15 c4_i32_44
  let c3_i32 : BitVec 32 := 3#32
  let v125 : BitVec 32 := Scalar.addi v124 c3_i32
  let c32_i32_45 : BitVec 32 := 32#32
  let v126 : BitVec 32 := Scalar.muli v125 c32_i32_45
  v126
@[reducible] def k0_t4_loop : Scf.Loop 32 :=
  let c0_i32_11 : BitVec 32 := 0#32
  let c32_i32 : BitVec 32 := 32#32
  let v29 : BitVec 32 := Scalar.addi c0_i32_11 c32_i32
  let c1_i32_12 : BitVec 32 := 1#32
  ⟨c0_i32_11, v29, c1_i32_12⟩
def k0_mult10 (k0_t4 : Fin k0_t4_loop.trips) : BitVec 32 :=
  let c0_i32_11 : BitVec 32 := 0#32
  let c1_i32_12 : BitVec 32 := 1#32
  let arg15 : BitVec 32 := Scf.iv c0_i32_11 c1_i32_12 k0_t4
  let c4_i32_22 : BitVec 32 := 4#32
  let v47 : BitVec 32 := Scalar.muli arg15 c4_i32_22
  let c0_i32_23 : BitVec 32 := 0#32
  let v48 : BitVec 32 := Scalar.addi v47 c0_i32_23
  let c32_i32_24 : BitVec 32 := 32#32
  let v49 : BitVec 32 := Scalar.muli v48 c32_i32_24
  v49
def k0_off12 (k0_t4 : Fin k0_t4_loop.trips) (c0_i32_23 : BitVec 32) : Fin 3 → Nat :=
  let c0_25 : Index := 0#32
  let c0_i32_11 : BitVec 32 := 0#32
  let c1_i32_12 : BitVec 32 := 1#32
  let arg15 : BitVec 32 := Scf.iv c0_i32_11 c1_i32_12 k0_t4
  let c4_i32_22 : BitVec 32 := 4#32
  let v47 : BitVec 32 := Scalar.muli arg15 c4_i32_22
  let v48 : BitVec 32 := Scalar.addi v47 c0_i32_23
  let c32_i32_24 : BitVec 32 := 32#32
  let v49 : BitVec 32 := Scalar.muli v48 c32_i32_24
  let v50 : BitVec 32 := v49
  let v51 : Index := Scalar.indexCast v50
  let c0_26 : Index := 0#32
  ![0, v51.toNat, 0]
def k0_off13 (i : grid0.Coords) (k0_t4 : Fin k0_t4_loop.trips) (c0_i32_23 : BitVec 32) : Fin 3 → Nat :=
  let arg1 : BitVec 32 := BitVec.ofNat 32 (i 1).val
  let v54 : Index := Scalar.indexCast arg1
  let c0_i32_11 : BitVec 32 := 0#32
  let c1_i32_12 : BitVec 32 := 1#32
  let arg15 : BitVec 32 := Scf.iv c0_i32_11 c1_i32_12 k0_t4
  let c4_i32_22 : BitVec 32 := 4#32
  let v47 : BitVec 32 := Scalar.muli arg15 c4_i32_22
  let v48 : BitVec 32 := Scalar.addi v47 c0_i32_23
  let c32_i32_24 : BitVec 32 := 32#32
  let v49 : BitVec 32 := Scalar.muli v48 c32_i32_24
  let v50 : BitVec 32 := v49
  let v55 : Index := Scalar.indexCast v50
  let c0_27 : Index := 0#32
  ![v54.toNat, v55.toNat, 0]
def k0_mult11 (k0_t4 : Fin k0_t4_loop.trips) : BitVec 32 :=
  let c0_i32_11 : BitVec 32 := 0#32
  let c1_i32_12 : BitVec 32 := 1#32
  let arg15 : BitVec 32 := Scf.iv c0_i32_11 c1_i32_12 k0_t4
  let c4_i32_28 : BitVec 32 := 4#32
  let v83 : BitVec 32 := Scalar.muli arg15 c4_i32_28
  let c1_i32_29 : BitVec 32 := 1#32
  let v84 : BitVec 32 := Scalar.addi v83 c1_i32_29
  let c32_i32_30 : BitVec 32 := 32#32
  let v85 : BitVec 32 := Scalar.muli v84 c32_i32_30
  v85
def k0_mult12 (k0_t4 : Fin k0_t4_loop.trips) : BitVec 32 :=
  let c0_i32_11 : BitVec 32 := 0#32
  let c1_i32_12 : BitVec 32 := 1#32
  let arg15 : BitVec 32 := Scf.iv c0_i32_11 c1_i32_12 k0_t4
  let c4_i32_34 : BitVec 32 := 4#32
  let v119 : BitVec 32 := Scalar.muli arg15 c4_i32_34
  let c2_i32 : BitVec 32 := 2#32
  let v120 : BitVec 32 := Scalar.addi v119 c2_i32
  let c32_i32_35 : BitVec 32 := 32#32
  let v121 : BitVec 32 := Scalar.muli v120 c32_i32_35
  v121
def k0_mult13 (k0_t4 : Fin k0_t4_loop.trips) : BitVec 32 :=
  let c0_i32_11 : BitVec 32 := 0#32
  let c1_i32_12 : BitVec 32 := 1#32
  let arg15 : BitVec 32 := Scf.iv c0_i32_11 c1_i32_12 k0_t4
  let c4_i32_39 : BitVec 32 := 4#32
  let v155 : BitVec 32 := Scalar.muli arg15 c4_i32_39
  let c3_i32 : BitVec 32 := 3#32
  let v156 : BitVec 32 := Scalar.addi v155 c3_i32
  let c32_i32_40 : BitVec 32 := 32#32
  let v157 : BitVec 32 := Scalar.muli v156 c32_i32_40
  v157
def k0_off14 (i : grid0.Coords) : Fin 3 → Nat :=
  let arg1 : BitVec 32 := BitVec.ofNat 32 (i 1).val
  let v31 : Index := Scalar.indexCast arg1
  let c0_14 : Index := 0#32
  let c0_15 : Index := 0#32
  ![v31.toNat, 0, 0]
def k0_off15 (i : grid0.Coords) : Fin 3 → Nat :=
  let arg1 : BitVec 32 := BitVec.ofNat 32 (i 1).val
  let v39 : Index := Scalar.indexCast arg1
  let c0_18 : Index := 0#32
  let c0_19 : Index := 0#32
  ![v39.toNat, 0, 0]
def k0_cond5 (i : grid0.Coords) : BitVec 1 :=
  let arg0 : BitVec 32 := BitVec.ofNat 32 (i 0).val
  let c8_i32 : BitVec 32 := 8#32
  let v4 : BitVec 1 := Scalar.cmpi .slt arg0 c8_i32
  let arg1 : BitVec 32 := BitVec.ofNat 32 (i 1).val
  let c4_i32 : BitVec 32 := 4#32
  let v25 : BitVec 1 := Scalar.cmpi .eq arg1 c4_i32
  let v26 : BitVec 1 := Scalar.andi v4 v25
  let v27 : BitVec 32 := Scalar.extui v26
  let c0_i32_10 : BitVec 32 := 0#32
  let v28 : BitVec 1 := Scalar.cmpi .ne v27 c0_i32_10
  v28

@[reducible] def k0_t5_loop : Scf.Loop 32 :=
  let c0_i32_201 : BitVec 32 := 0#32
  let c128_i32_202 : BitVec 32 := 128#32
  let v310 : BitVec 32 := Scalar.addi c0_i32_201 c128_i32_202
  let c1_i32_203 : BitVec 32 := 1#32
  ⟨c0_i32_201, v310, c1_i32_203⟩
def k0_mult14 (k0_t5 : Fin k0_t5_loop.trips) : BitVec 32 :=
  let c0_i32_201 : BitVec 32 := 0#32
  let c1_i32_203 : BitVec 32 := 1#32
  let arg15 : BitVec 32 := Scf.iv c0_i32_201 c1_i32_203 k0_t5
  let c32_i32 : BitVec 32 := 32#32
  let v511 : BitVec 32 := Scalar.muli arg15 c32_i32
  v511
def k0_off16 (k0_t5 : Fin k0_t5_loop.trips) : Fin 3 → Nat :=
  let c0_362 : Index := 0#32
  let c0_i32_201 : BitVec 32 := 0#32
  let c1_i32_203 : BitVec 32 := 1#32
  let arg15 : BitVec 32 := Scf.iv c0_i32_201 c1_i32_203 k0_t5
  let c32_i32 : BitVec 32 := 32#32
  let v511 : BitVec 32 := Scalar.muli arg15 c32_i32
  let v512 : BitVec 32 := v511
  let v513 : Index := Scalar.indexCast v512
  let c0_363 : Index := 0#32
  ![0, v513.toNat, 0]
@[reducible] def k0_t6_loop : Scf.Loop 32 :=
  let c0_i32_209 : BitVec 32 := 0#32
  let c128_i32_210 : BitVec 32 := 128#32
  let v317 : BitVec 32 := Scalar.addi c0_i32_209 c128_i32_210
  let c1_i32_211 : BitVec 32 := 1#32
  ⟨c0_i32_209, v317, c1_i32_211⟩
def k0_mult15 (k0_t6 : Fin k0_t6_loop.trips) : BitVec 32 :=
  let c0_i32_209 : BitVec 32 := 0#32
  let c1_i32_211 : BitVec 32 := 1#32
  let arg15 : BitVec 32 := Scf.iv c0_i32_209 c1_i32_211 k0_t6
  let c32_i32 : BitVec 32 := 32#32
  let v511 : BitVec 32 := Scalar.muli arg15 c32_i32
  v511
def k0_off17 (k0_t6 : Fin k0_t6_loop.trips) : Fin 3 → Nat :=
  let c1_362 : Index := 1#32
  let c0_i32_209 : BitVec 32 := 0#32
  let c1_i32_211 : BitVec 32 := 1#32
  let arg15 : BitVec 32 := Scf.iv c0_i32_209 c1_i32_211 k0_t6
  let c32_i32 : BitVec 32 := 32#32
  let v511 : BitVec 32 := Scalar.muli arg15 c32_i32
  let v512 : BitVec 32 := v511
  let v513 : Index := Scalar.indexCast v512
  let c0_363 : Index := 0#32
  ![1, v513.toNat, 0]
@[reducible] def k0_t7_loop : Scf.Loop 32 :=
  let c0_i32_217 : BitVec 32 := 0#32
  let c128_i32_218 : BitVec 32 := 128#32
  let v324 : BitVec 32 := Scalar.addi c0_i32_217 c128_i32_218
  let c1_i32_219 : BitVec 32 := 1#32
  ⟨c0_i32_217, v324, c1_i32_219⟩
def k0_mult16 (k0_t7 : Fin k0_t7_loop.trips) : BitVec 32 :=
  let c0_i32_217 : BitVec 32 := 0#32
  let c1_i32_219 : BitVec 32 := 1#32
  let arg15 : BitVec 32 := Scf.iv c0_i32_217 c1_i32_219 k0_t7
  let c32_i32 : BitVec 32 := 32#32
  let v511 : BitVec 32 := Scalar.muli arg15 c32_i32
  v511
def k0_off18 (k0_t7 : Fin k0_t7_loop.trips) : Fin 3 → Nat :=
  let c2_362 : Index := 2#32
  let c0_i32_217 : BitVec 32 := 0#32
  let c1_i32_219 : BitVec 32 := 1#32
  let arg15 : BitVec 32 := Scf.iv c0_i32_217 c1_i32_219 k0_t7
  let c32_i32 : BitVec 32 := 32#32
  let v511 : BitVec 32 := Scalar.muli arg15 c32_i32
  let v512 : BitVec 32 := v511
  let v513 : Index := Scalar.indexCast v512
  let c0_363 : Index := 0#32
  ![2, v513.toNat, 0]
@[reducible] def k0_t8_loop : Scf.Loop 32 :=
  let c0_i32_225 : BitVec 32 := 0#32
  let c128_i32_226 : BitVec 32 := 128#32
  let v331 : BitVec 32 := Scalar.addi c0_i32_225 c128_i32_226
  let c1_i32_227 : BitVec 32 := 1#32
  ⟨c0_i32_225, v331, c1_i32_227⟩
def k0_mult17 (k0_t8 : Fin k0_t8_loop.trips) : BitVec 32 :=
  let c0_i32_225 : BitVec 32 := 0#32
  let c1_i32_227 : BitVec 32 := 1#32
  let arg15 : BitVec 32 := Scf.iv c0_i32_225 c1_i32_227 k0_t8
  let c32_i32 : BitVec 32 := 32#32
  let v511 : BitVec 32 := Scalar.muli arg15 c32_i32
  v511
def k0_off19 (k0_t8 : Fin k0_t8_loop.trips) : Fin 3 → Nat :=
  let c3_362 : Index := 3#32
  let c0_i32_225 : BitVec 32 := 0#32
  let c1_i32_227 : BitVec 32 := 1#32
  let arg15 : BitVec 32 := Scf.iv c0_i32_225 c1_i32_227 k0_t8
  let c32_i32 : BitVec 32 := 32#32
  let v511 : BitVec 32 := Scalar.muli arg15 c32_i32
  let v512 : BitVec 32 := v511
  let v513 : Index := Scalar.indexCast v512
  let c0_363 : Index := 0#32
  ![3, v513.toNat, 0]
@[reducible] def k0_t9_loop : Scf.Loop 32 :=
  let c0_i32_233 : BitVec 32 := 0#32
  let c128_i32_234 : BitVec 32 := 128#32
  let v338 : BitVec 32 := Scalar.addi c0_i32_233 c128_i32_234
  let c1_i32_235 : BitVec 32 := 1#32
  ⟨c0_i32_233, v338, c1_i32_235⟩
def k0_mult18 (k0_t9 : Fin k0_t9_loop.trips) : BitVec 32 :=
  let c0_i32_233 : BitVec 32 := 0#32
  let c1_i32_235 : BitVec 32 := 1#32
  let arg15 : BitVec 32 := Scf.iv c0_i32_233 c1_i32_235 k0_t9
  let c32_i32 : BitVec 32 := 32#32
  let v511 : BitVec 32 := Scalar.muli arg15 c32_i32
  v511
def k0_off20 (k0_t9 : Fin k0_t9_loop.trips) : Fin 3 → Nat :=
  let c4_362 : Index := 4#32
  let c0_i32_233 : BitVec 32 := 0#32
  let c1_i32_235 : BitVec 32 := 1#32
  let arg15 : BitVec 32 := Scf.iv c0_i32_233 c1_i32_235 k0_t9
  let c32_i32 : BitVec 32 := 32#32
  let v511 : BitVec 32 := Scalar.muli arg15 c32_i32
  let v512 : BitVec 32 := v511
  let v513 : Index := Scalar.indexCast v512
  let c0_363 : Index := 0#32
  ![4, v513.toNat, 0]
@[reducible] def k0_t10_loop : Scf.Loop 32 :=
  let c0_i32_331 : BitVec 32 := 0#32
  let c128_i32_332 : BitVec 32 := 128#32
  let v470 : BitVec 32 := Scalar.addi c0_i32_331 c128_i32_332
  let c1_i32_333 : BitVec 32 := 1#32
  ⟨c0_i32_331, v470, c1_i32_333⟩
def k0_mult19 (k0_t10 : Fin k0_t10_loop.trips) : BitVec 32 :=
  let c0_i32_331 : BitVec 32 := 0#32
  let c1_i32_333 : BitVec 32 := 1#32
  let arg15 : BitVec 32 := Scf.iv c0_i32_331 c1_i32_333 k0_t10
  let c32_i32 : BitVec 32 := 32#32
  let v511 : BitVec 32 := Scalar.muli arg15 c32_i32
  v511
def k0_off21 (k0_t10 : Fin k0_t10_loop.trips) : Fin 3 → Nat :=
  let c0_362 : Index := 0#32
  let c0_i32_331 : BitVec 32 := 0#32
  let c1_i32_333 : BitVec 32 := 1#32
  let arg15 : BitVec 32 := Scf.iv c0_i32_331 c1_i32_333 k0_t10
  let c32_i32 : BitVec 32 := 32#32
  let v511 : BitVec 32 := Scalar.muli arg15 c32_i32
  let v512 : BitVec 32 := v511
  let v513 : Index := Scalar.indexCast v512
  let c0_363 : Index := 0#32
  ![0, v513.toNat, 0]
@[reducible] def k0_t11_loop : Scf.Loop 32 :=
  let c0_i32_335 : BitVec 32 := 0#32
  let c128_i32_336 : BitVec 32 := 128#32
  let v472 : BitVec 32 := Scalar.addi c0_i32_335 c128_i32_336
  let c1_i32_337 : BitVec 32 := 1#32
  ⟨c0_i32_335, v472, c1_i32_337⟩
def k0_mult20 (k0_t11 : Fin k0_t11_loop.trips) : BitVec 32 :=
  let c0_i32_335 : BitVec 32 := 0#32
  let c1_i32_337 : BitVec 32 := 1#32
  let arg15 : BitVec 32 := Scf.iv c0_i32_335 c1_i32_337 k0_t11
  let c32_i32 : BitVec 32 := 32#32
  let v511 : BitVec 32 := Scalar.muli arg15 c32_i32
  v511
def k0_off22 (k0_t11 : Fin k0_t11_loop.trips) : Fin 3 → Nat :=
  let c1_362 : Index := 1#32
  let c0_i32_335 : BitVec 32 := 0#32
  let c1_i32_337 : BitVec 32 := 1#32
  let arg15 : BitVec 32 := Scf.iv c0_i32_335 c1_i32_337 k0_t11
  let c32_i32 : BitVec 32 := 32#32
  let v511 : BitVec 32 := Scalar.muli arg15 c32_i32
  let v512 : BitVec 32 := v511
  let v513 : Index := Scalar.indexCast v512
  let c0_363 : Index := 0#32
  ![1, v513.toNat, 0]
@[reducible] def k0_t12_loop : Scf.Loop 32 :=
  let c0_i32_339 : BitVec 32 := 0#32
  let c128_i32_340 : BitVec 32 := 128#32
  let v474 : BitVec 32 := Scalar.addi c0_i32_339 c128_i32_340
  let c1_i32_341 : BitVec 32 := 1#32
  ⟨c0_i32_339, v474, c1_i32_341⟩
def k0_mult21 (k0_t12 : Fin k0_t12_loop.trips) : BitVec 32 :=
  let c0_i32_339 : BitVec 32 := 0#32
  let c1_i32_341 : BitVec 32 := 1#32
  let arg15 : BitVec 32 := Scf.iv c0_i32_339 c1_i32_341 k0_t12
  let c32_i32 : BitVec 32 := 32#32
  let v511 : BitVec 32 := Scalar.muli arg15 c32_i32
  v511
def k0_off23 (k0_t12 : Fin k0_t12_loop.trips) : Fin 3 → Nat :=
  let c2_362 : Index := 2#32
  let c0_i32_339 : BitVec 32 := 0#32
  let c1_i32_341 : BitVec 32 := 1#32
  let arg15 : BitVec 32 := Scf.iv c0_i32_339 c1_i32_341 k0_t12
  let c32_i32 : BitVec 32 := 32#32
  let v511 : BitVec 32 := Scalar.muli arg15 c32_i32
  let v512 : BitVec 32 := v511
  let v513 : Index := Scalar.indexCast v512
  let c0_363 : Index := 0#32
  ![2, v513.toNat, 0]
@[reducible] def k0_t13_loop : Scf.Loop 32 :=
  let c0_i32_343 : BitVec 32 := 0#32
  let c128_i32_344 : BitVec 32 := 128#32
  let v476 : BitVec 32 := Scalar.addi c0_i32_343 c128_i32_344
  let c1_i32_345 : BitVec 32 := 1#32
  ⟨c0_i32_343, v476, c1_i32_345⟩
def k0_mult22 (k0_t13 : Fin k0_t13_loop.trips) : BitVec 32 :=
  let c0_i32_343 : BitVec 32 := 0#32
  let c1_i32_345 : BitVec 32 := 1#32
  let arg15 : BitVec 32 := Scf.iv c0_i32_343 c1_i32_345 k0_t13
  let c32_i32 : BitVec 32 := 32#32
  let v511 : BitVec 32 := Scalar.muli arg15 c32_i32
  v511
def k0_off24 (k0_t13 : Fin k0_t13_loop.trips) : Fin 3 → Nat :=
  let c3_362 : Index := 3#32
  let c0_i32_343 : BitVec 32 := 0#32
  let c1_i32_345 : BitVec 32 := 1#32
  let arg15 : BitVec 32 := Scf.iv c0_i32_343 c1_i32_345 k0_t13
  let c32_i32 : BitVec 32 := 32#32
  let v511 : BitVec 32 := Scalar.muli arg15 c32_i32
  let v512 : BitVec 32 := v511
  let v513 : Index := Scalar.indexCast v512
  let c0_363 : Index := 0#32
  ![3, v513.toNat, 0]
@[reducible] def k0_t14_loop : Scf.Loop 32 :=
  let c0_i32_347 : BitVec 32 := 0#32
  let c128_i32_348 : BitVec 32 := 128#32
  let v478 : BitVec 32 := Scalar.addi c0_i32_347 c128_i32_348
  let c1_i32_349 : BitVec 32 := 1#32
  ⟨c0_i32_347, v478, c1_i32_349⟩
def k0_mult23 (k0_t14 : Fin k0_t14_loop.trips) : BitVec 32 :=
  let c0_i32_347 : BitVec 32 := 0#32
  let c1_i32_349 : BitVec 32 := 1#32
  let arg15 : BitVec 32 := Scf.iv c0_i32_347 c1_i32_349 k0_t14
  let c32_i32 : BitVec 32 := 32#32
  let v511 : BitVec 32 := Scalar.muli arg15 c32_i32
  v511
def k0_off25 (k0_t14 : Fin k0_t14_loop.trips) : Fin 3 → Nat :=
  let c4_362 : Index := 4#32
  let c0_i32_347 : BitVec 32 := 0#32
  let c1_i32_349 : BitVec 32 := 1#32
  let arg15 : BitVec 32 := Scf.iv c0_i32_347 c1_i32_349 k0_t14
  let c32_i32 : BitVec 32 := 32#32
  let v511 : BitVec 32 := Scalar.muli arg15 c32_i32
  let v512 : BitVec 32 := v511
  let v513 : Index := Scalar.indexCast v512
  let c0_363 : Index := 0#32
  ![4, v513.toNat, 0]
def k0_off26 (i : grid0.Coords) : Fin 1 → Nat :=
  let arg0 : BitVec 32 := BitVec.ofNat 32 (i 0).val
  let v306 : Index := Scalar.indexCast arg0
  ![v306.toNat]
def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c8_i32 : BitVec 32 := 8#32
  let v1 : BitVec 1 := Scalar.cmpi .slt arg0 c8_i32
  let c4_i32 : BitVec 32 := 4#32
  let v2 : BitVec 32 := Scalar.select v1 arg1 c4_i32
  let c0_i32 : BitVec 32 := 0#32
  let c0_i32_0 : BitVec 32 := 0#32
  ![v0.toNat, c0_i32.toNat, v2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  let c0_i32_3 : BitVec 32 := 0#32
  ![v1.toNat, c0_i32_2.toNat, v3.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S5x1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S5x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4096x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .smem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== KernelIdeal.lean ====
variable {F : FTy → Type} [FloatOps F] [Named F]
def κ : String → Option EReal := fun
  | "inv_n" => some ((1 / 163840 : ℝ) : EReal)
  | _ => none
-- ==== ReferenceIdeal.lean ====
abbrev S8x4096x1280 : Shape := ⟨3, ![8, 4096, 1280]⟩
abbrev S1280 : Shape := ⟨1, ![1280]⟩
abbrev S8x4096x32x40 : Shape := ⟨4, ![8, 4096, 32, 40]⟩
abbrev S_ : Shape := ⟨0, ![]⟩
abbrev S8x32 : Shape := ⟨2, ![8, 32]⟩
abbrev S8x1x32x1 : Shape := ⟨4, ![8, 1, 32, 1]⟩
abbrev S1x1x1280 : Shape := ⟨3, ![1, 1, 1280]⟩
abbrev S8 : Shape := ⟨1, ![8]⟩
abbrev S254 : Shape := ⟨1, ![254]⟩
abbrev S8x1 : Shape := ⟨2, ![8, 1]⟩
abbrev S1x254 : Shape := ⟨2, ![1, 254]⟩
abbrev S8x254 : Shape := ⟨2, ![8, 254]⟩
abbrev S8x1x1 : Shape := ⟨3, ![8, 1, 1]⟩

abbrev nBuf : Space → Nat
  | .hbm => 94
  | .vmem => 0
  | .smem => 0
  | _ => 0

abbrev bufTy : (tb : Table) → Fin (tcTables nBuf tb) → BufTy
  | .hbm, ⟨0, _⟩ => ⟨S8x4096x1280, .bf16⟩
  | .hbm, ⟨1, _⟩ => ⟨S1280, .f32⟩
  | .hbm, ⟨2, _⟩ => ⟨S1280, .f32⟩
  | .hbm, ⟨3, _⟩ => ⟨S8x4096x1280, .f32⟩
  | .hbm, ⟨4, _⟩ => ⟨S8x4096x32x40, .f32⟩
  | .hbm, ⟨5, _⟩ => ⟨S_, .f32⟩
  | .hbm, ⟨6, _⟩ => ⟨S8x32, .f32⟩
  | .hbm, ⟨7, _⟩ => ⟨S8x1x32x1, .f32⟩
  | .hbm, ⟨8, _⟩ => ⟨S_, .f32⟩
  | .hbm, ⟨9, _⟩ => ⟨S8x1x32x1, .f32⟩
  | .hbm, ⟨10, _⟩ => ⟨S8x1x32x1, .f32⟩
  | .hbm, ⟨11, _⟩ => ⟨S8x4096x32x40, .f32⟩
  | .hbm, ⟨12, _⟩ => ⟨S8x4096x32x40, .f32⟩
  | .hbm, ⟨13, _⟩ => ⟨S8x4096x32x40, .f32⟩
  | .hbm, ⟨14, _⟩ => ⟨S_, .f32⟩
  | .hbm, ⟨15, _⟩ => ⟨S8x32, .f32⟩
  | .hbm, ⟨16, _⟩ => ⟨S8x1x32x1, .f32⟩
  | .hbm, ⟨17, _⟩ => ⟨S_, .f32⟩
  | .hbm, ⟨18, _⟩ => ⟨S8x1x32x1, .f32⟩
  | .hbm, ⟨19, _⟩ => ⟨S8x1x32x1, .f32⟩
  | .hbm, ⟨20, _⟩ => ⟨S_, .f32⟩
  | .hbm, ⟨21, _⟩ => ⟨S8x1x32x1, .f32⟩
  | .hbm, ⟨22, _⟩ => ⟨S8x1x32x1, .f32⟩
  | .hbm, ⟨23, _⟩ => ⟨S8x1x32x1, .f32⟩
  | .hbm, ⟨24, _⟩ => ⟨S8x4096x32x40, .f32⟩
  | .hbm, ⟨25, _⟩ => ⟨S8x4096x32x40, .f32⟩
  | .hbm, ⟨26, _⟩ => ⟨S8x4096x1280, .f32⟩
  | .hbm, ⟨27, _⟩ => ⟨S1x1x1280, .f32⟩
  | .hbm, ⟨28, _⟩ => ⟨S8x4096x1280, .f32⟩
  | .hbm, ⟨29, _⟩ => ⟨S8x4096x1280, .f32⟩
  | .hbm, ⟨30, _⟩ => ⟨S1x1x1280, .f32⟩
  | .hbm, ⟨31, _⟩ => ⟨S8x4096x1280, .f32⟩
  | .hbm, ⟨32, _⟩ => ⟨S8x4096x1280, .f32⟩
  | .hbm, ⟨33, _⟩ => ⟨S8x4096x1280, .f32⟩
  | .hbm, ⟨34, _⟩ => ⟨S8x4096x1280, .f32⟩
  | .hbm, ⟨35, _⟩ => ⟨S_, .f32⟩
  | .hbm, ⟨36, _⟩ => ⟨S8x4096x1280, .f32⟩
  | .hbm, ⟨37, _⟩ => ⟨S8x4096x1280, .f32⟩
  | .hbm, ⟨38, _⟩ => ⟨S_, .f32⟩
  | .hbm, ⟨39, _⟩ => ⟨S8x4096x1280, .f32⟩
  | .hbm, ⟨40, _⟩ => ⟨S8x4096x1280, .f32⟩
  | .hbm, ⟨41, _⟩ => ⟨S8x4096x1280, .f32⟩
  | .hbm, ⟨42, _⟩ => ⟨S8x4096x1280, .f32⟩
  | .hbm, ⟨43, _⟩ => ⟨S_, .f32⟩
  | .hbm, ⟨44, _⟩ => ⟨S8, .f32⟩
  | .hbm, ⟨45, _⟩ => ⟨S254, .f32⟩
  | .hbm, ⟨46, _⟩ => ⟨S_, .f32⟩
  | .hbm, ⟨47, _⟩ => ⟨S254, .f32⟩
  | .hbm, ⟨48, _⟩ => ⟨S254, .f32⟩
  | .hbm, ⟨49, _⟩ => ⟨S_, .f32⟩
  | .hbm, ⟨50, _⟩ => ⟨S254, .f32⟩
  | .hbm, ⟨51, _⟩ => ⟨S254, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S8x1, .f32⟩
  | .hbm, ⟨56, _⟩ => ⟨S1x254, .f32⟩
  | .hbm, ⟨57, _⟩ => ⟨S8x254, .f32⟩
  | .hbm, ⟨58, _⟩ => ⟨S8x254, .f32⟩
  | .hbm, ⟨59, _⟩ => ⟨S8x254, .i1⟩
  | .hbm, ⟨60, _⟩ => ⟨S8x254, .i32⟩
  | .hbm, ⟨61, _⟩ => ⟨S_, .i32⟩
  | .hbm, ⟨62, _⟩ => ⟨S8, .i32⟩
  | .hbm, ⟨63, _⟩ => ⟨S_, .i32⟩
  | .hbm, ⟨64, _⟩ => ⟨S8, .i32⟩
  | .hbm, ⟨65, _⟩ => ⟨S8, .i32⟩
  | .hbm, ⟨66, _⟩ => ⟨S_, .f32⟩
  | .hbm, ⟨67, _⟩ => ⟨S8, .f32⟩
  | .hbm, ⟨68, _⟩ => ⟨S8, .i1⟩
  | .hbm, ⟨69, _⟩ => ⟨S_, .i32⟩
  | .hbm, ⟨70, _⟩ => ⟨S_, .i32⟩
  | .hbm, ⟨71, _⟩ => ⟨S8, .i32⟩
  | .hbm, ⟨72, _⟩ => ⟨S8, .i32⟩
  | .hbm, ⟨73, _⟩ => ⟨S8, .f32⟩
  | .hbm, ⟨74, _⟩ => ⟨S_, .f32⟩
  | .hbm, ⟨75, _⟩ => ⟨S8, .f32⟩
  | .hbm, ⟨76, _⟩ => ⟨S8, .f32⟩
  | .hbm, ⟨77, _⟩ => ⟨S8, .i32⟩
  | .hbm, ⟨78, _⟩ => ⟨S8, .f32⟩
  | .hbm, ⟨79, _⟩ => ⟨S_, .f32⟩
  | .hbm, ⟨80, _⟩ => ⟨S8, .f32⟩
  | .hbm, ⟨81, _⟩ => ⟨S8, .f32⟩
  | .hbm, ⟨82, _⟩ => ⟨S8x1x1, .f32⟩
  | .hbm, ⟨83, _⟩ => ⟨S8x4096x1280, .f32⟩
  | .hbm, ⟨84, _⟩ => ⟨S8x4096x1280, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S8x4096x1280, .f32⟩
  | .hbm, ⟨89, _⟩ => ⟨S8x4096x1280, .f32⟩
  | .hbm, ⟨90, _⟩ => ⟨S_, .f32⟩
  | .hbm, ⟨91, _⟩ => ⟨S8x4096x1280, .f32⟩
  | .hbm, ⟨92, _⟩ => ⟨S8x4096x1280, .f32⟩
  | .hbm, ⟨93, _⟩ => ⟨S8x4096x1280, .fp8e4m3⟩
  | _, _ => ⟨S8x4096x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_cst_9 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c : Ref sig .tc := ⟨.hbm, 61, rfl⟩
abbrev main_v47 : Ref sig .tc := ⟨.hbm, 62, rfl⟩
abbrev main_c_10 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_c_12 : Ref sig .tc := ⟨.hbm, 69, rfl⟩
abbrev main_call0_v0 : Ref sig .tc := ⟨.hbm, 70, rfl⟩
abbrev main_call0_v1 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_14 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_15 : Ref sig .tc := ⟨.hbm, 85, rfl⟩
abbrev main_cst_16 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]
-- ==== Proof.Kernel.Blocks.lean ====
/-
  Hand-written, untrusted. The body of the kernel cut into its five guarded blocks (and the recomputation inside the last
  one), each a program of its own, and the equation that puts them together again.
-/
module

public import proofs.«01_k».proof.Proof.Gen.Kernel.Frame
public import proofs.«01_k».proof.Proof.Gen.Kernel.Loops
public import Idealize.ShloMosaic.Lib.Pipeline.Frame
public import Idealize.ShloMosaic.Lib.Tactic

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL.Sem

variable {F : FTy → Type} [FloatOps F]

/-- The first guarded block of the body. -/
noncomputable def blk1 (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) :
    Prog (TpuEff nD τ sig (Elt F) Λ₀ .tc) PUnit := do
  let arg1 : BitVec 32 := BitVec.ofNat 32 (i 1).val
  let v30 : Vec F S1x8x256 .f32 ← Prog.lift (.load arg12 (Rect.unit (s := S5x8x256) (k0_off1 i) S1x8x256.size (k0_off1_inb i)).toLoadRect (View.loadsAt_vmem h_S1x8x256))
  let v32 : Elt F .i32 ← smemLoad arg13 (Rect.unit (s := S1) ![0] S1.size inb_S1_S1_0) numel1_S1 rfl
  let v38 : Vec F S1x1x256 .f32 ← Prog.lift (.load arg3 (Rect.unit (s := S5x1x256) (k0_off2 i) S1x1x256.size (k0_off2_inb i)).toLoadRect (View.loadsAt_vmem h_S1x1x256))
  let v41 : Vec F S1x1x256 .f32 ← Prog.lift (.load arg4 (Rect.unit (s := S5x1x256) (k0_off2 i) S1x1x256.size (k0_off2_inb i)).toLoadRect (View.loadsAt_vmem h_S1x1x256))
  Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 v30 v32 v38 v41)
  pure ⟨⟩

/-- The second guarded block of the body. -/
noncomputable def blk2 (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) :
    Prog (TpuEff nD τ sig (Elt F) Λ₀ .tc) PUnit := do
  let arg1 : BitVec 32 := BitVec.ofNat 32 (i 1).val
  let v30 : Vec F S1x8x256 .f32 ← Prog.lift (.load arg12 (Rect.unit (s := S5x8x256) (k0_off5 i) S1x8x256.size (k0_off5_inb i)).toLoadRect (View.loadsAt_vmem h_S1x8x256))
  let v32 : Elt F .i32 ← smemLoad arg13 (Rect.unit (s := S1) ![0] S1.size inb_S1_S1_0) numel1_S1 rfl
  let (v40_0, v40_1, v40_2, v40_3) ← Scf.Loop.for k0_t2_loop k0_t2_ok (k0_pay1 (F := F), k0_pay2 (F := F), k0_pay3 (F := F), k0_pay4 (F := F)) (k0_t2_body i arg2 harg2 arg3 harg3 arg4 harg4 arg5 harg5 arg6 harg6 arg7 harg7 arg8 harg8 arg9 harg9 arg10 harg10 arg11 harg11 arg12 harg12 arg13 harg13 arg14 harg14 arg1 v30 v32)
  let v42 : Vec F S1x8x256 .f32 ← Prog.lift (.load arg8 (Rect.unit (s := S5x8x256) (k0_off5 i) S1x8x256.size (k0_off5_inb i)).toLoadRect (View.loadsAt_vmem h_S1x8x256))
  Prog.lift (.store arg8 (Rect.unit (s := S5x8x256) (k0_off5 i) S1x8x256.size (k0_off5_inb i)) (k0_pay11 v40_0) Finset.univ (View.stores_vmem_bits_univ h_S1x8x256 rfl) (.inl rfl))
  let v46 : Vec F S1x8x256 .f32 ← Prog.lift (.load arg9 (Rect.unit (s := S5x8x256) (k0_off5 i) S1x8x256.size (k0_off5_inb i)).toLoadRect (View.loadsAt_vmem h_S1x8x256))
  Prog.lift (.store arg9 (Rect.unit (s := S5x8x256) (k0_off5 i) S1x8x256.size (k0_off5_inb i)) (k0_pay12 v40_1) Finset.univ (View.stores_vmem_bits_univ h_S1x8x256 rfl) (.inl rfl))
  let v50 : Vec F S1x16x256 .bf16 ← Prog.lift (.load arg10 (Rect.unit (s := S5x16x256) (k0_off8 i) S1x16x256.size (k0_off8_inb i)).toLoadRect (View.loadsAt_vmem h_S1x16x256))
  Prog.lift (.store arg10 (Rect.unit (s := S5x16x256) (k0_off8 i) S1x16x256.size (k0_off8_inb i)) (k0_pay13 v40_2) Finset.univ (View.stores_vmem h_S1x16x256 (harg10.storeExact_slice rfl _ (k0_off8_packedbf16 i)) (fun _ => rfl)) (.inl rfl))
  let v54 : Vec F S1x16x256 .bf16 ← Prog.lift (.load arg11 (Rect.unit (s := S5x16x256) (k0_off8 i) S1x16x256.size (k0_off8_inb i)).toLoadRect (View.loadsAt_vmem h_S1x16x256))
  Prog.lift (.store arg11 (Rect.unit (s := S5x16x256) (k0_off8 i) S1x16x256.size (k0_off8_inb i)) (k0_pay14 v40_3) Finset.univ (View.stores_vmem h_S1x16x256 (harg11.storeExact_slice rfl _ (k0_off8_packedbf16 i)) (fun _ => rfl)) (.inl rfl))
  pure ⟨⟩

/-- The third guarded block of the body. -/
noncomputable def blk3 (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) :
    Prog (TpuEff nD τ sig (Elt F) Λ₀ .tc) PUnit := do
  let arg1 : BitVec 32 := BitVec.ofNat 32 (i 1).val
  let v30 : Vec F S1x8x256 .f32 ← Prog.lift (.load arg12 (Rect.unit (s := S5x8x256) (k0_off9 i) S1x8x256.size (k0_off9_inb i)).toLoadRect (View.loadsAt_vmem h_S1x8x256))
  let v32 : Elt F .i32 ← smemLoad arg13 (Rect.unit (s := S1) ![0] S1.size inb_S1_S1_0) numel1_S1 rfl
  Scf.Loop.for k0_t3_loop k0_t3_ok ⟨⟩ (k0_t3_body i arg2 harg2 arg3 harg3 arg4 harg4 arg5 harg5 arg6 harg6 arg7 harg7 arg8 harg8 arg9 harg9 arg10 harg10 arg11 harg11 arg12 harg12 arg13 harg13 arg14 harg14 arg1 v30 v32)
  pure ⟨⟩

/-- The fourth guarded block of the body. -/
noncomputable def blk4 (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) :
    Prog (TpuEff nD τ sig (Elt F) Λ₀ .tc) PUnit := do
  let arg1 : BitVec 32 := BitVec.ofNat 32 (i 1).val
  let (v30_0, v30_1, v30_2, v30_3) ← Scf.Loop.for k0_t4_loop k0_t4_ok (k0_pay1 (F := F), k0_pay2 (F := F), k0_pay3 (F := F), k0_pay4 (F := F)) (k0_t4_body i arg2 harg2 arg3 harg3 arg4 harg4 arg5 harg5 arg6 harg6 arg7 harg7 arg8 harg8 arg9 harg9 arg10 harg10 arg11 harg11 arg12 harg12 arg13 harg13 arg14 harg14 arg1)
  let v32 : Vec F S1x8x256 .f32 ← Prog.lift (.load arg8 (Rect.unit (s := S5x8x256) (k0_off14 i) S1x8x256.size (k0_off14_inb i)).toLoadRect (View.loadsAt_vmem h_S1x8x256))
  Prog.lift (.store arg8 (Rect.unit (s := S5x8x256) (k0_off14 i) S1x8x256.size (k0_off14_inb i)) (k0_pay37 v30_0) Finset.univ (View.stores_vmem_bits_univ h_S1x8x256 rfl) (.inl rfl))
  let v36 : Vec F S1x8x256 .f32 ← Prog.lift (.load arg9 (Rect.unit (s := S5x8x256) (k0_off14 i) S1x8x256.size (k0_off14_inb i)).toLoadRect (View.loadsAt_vmem h_S1x8x256))
  Prog.lift (.store arg9 (Rect.unit (s := S5x8x256) (k0_off14 i) S1x8x256.size (k0_off14_inb i)) (k0_pay38 v30_1) Finset.univ (View.stores_vmem_bits_univ h_S1x8x256 rfl) (.inl rfl))
  let v40 : Vec F S1x16x256 .bf16 ← Prog.lift (.load arg10 (Rect.unit (s := S5x16x256) (k0_off15 i) S1x16x256.size (k0_off15_inb i)).toLoadRect (View.loadsAt_vmem h_S1x16x256))
  Prog.lift (.store arg10 (Rect.unit (s := S5x16x256) (k0_off15 i) S1x16x256.size (k0_off15_inb i)) (k0_pay39 v30_2) Finset.univ (View.stores_vmem h_S1x16x256 (harg10.storeExact_slice rfl _ (k0_off15_packedbf16 i)) (fun _ => rfl)) (.inl rfl))
  let v44 : Vec F S1x16x256 .bf16 ← Prog.lift (.load arg11 (Rect.unit (s := S5x16x256) (k0_off15 i) S1x16x256.size (k0_off15_inb i)).toLoadRect (View.loadsAt_vmem h_S1x16x256))
  Prog.lift (.store arg11 (Rect.unit (s := S5x16x256) (k0_off15 i) S1x16x256.size (k0_off15_inb i)) (k0_pay40 v30_3) Finset.univ (View.stores_vmem h_S1x16x256 (harg11.storeExact_slice rfl _ (k0_off15_packedbf16 i)) (fun _ => rfl)) (.inl rfl))
  pure ⟨⟩

/-- The recomputation the last block runs when the fast form is refused. -/
noncomputable def blk6 (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (k0_h5 : k0_cond5 i = 1#1) (v40 : FVec F S1280x128 .f32) (v51 : FVec F S1x1280 .f32) (v62 : FVec F S1x1280 .f32) (v112 : FVec F S1x1280 .f32) :
    Prog (TpuEff nD τ sig (Elt F) Λ₀ .tc) PUnit := do
  let v332 : FVec F S8x256 .f32 ← k0_part10 i arg2 harg2 arg3 harg3 arg4 harg4 arg5 harg5 arg6 harg6 arg7 harg7 arg8 harg8 arg9 harg9 arg10 harg10 arg11 harg11 arg12 harg12 arg13 harg13 arg14 harg14 k0_h5 v112
  let v363 : FVec F S8x128 .f32 ← k0_part11 i arg2 harg2 arg3 harg3 arg4 harg4 arg5 harg5 arg6 harg6 arg7 harg7 arg8 harg8 arg9 harg9 arg10 harg10 arg11 harg11 arg12 harg12 arg13 harg13 arg14 harg14 k0_h5 v40 v112 v332
  let ⟨v365, v366, v368, v397⟩ : Σ' (v365 : FVec F S1x1280 .f32) (v366 : FVec F S1x1280 .f32) (v368 : FVec F S1x1280 .f32), FVec F S1x256 .f32 ← k0_part12 i arg2 harg2 arg3 harg3 arg4 harg4 arg5 harg5 arg6 harg6 arg7 harg7 arg8 harg8 arg9 harg9 arg10 harg10 arg11 harg11 arg12 harg12 arg13 harg13 arg14 harg14 v40 v51 v62 v112 v363
  k0_part13 i arg2 harg2 arg3 harg3 arg4 harg4 arg5 harg5 arg6 harg6 arg7 harg7 arg8 harg8 arg9 harg9 arg10 harg10 arg11 harg11 arg12 harg12 arg13 harg13 arg14 harg14 v112 v365 v366 v368 v397
  k0_part14 i arg2 harg2 arg3 harg3 arg4 harg4 arg5 harg5 arg6 harg6 arg7 harg7 arg8 harg8 arg9 harg9 arg10 harg10 arg11 harg11 arg12 harg12 arg13 harg13 arg14 harg14 v112 v365 v366 v368
  let ⟨v484, v486, v487, v488⟩ : Σ' (v484 : FVec F S8x128 .f32) (v486 : FVec F S8x128 .f32) (v487 : IVec S8x128 32), IVec S8x128 32 ← k0_part15 i arg2 harg2 arg3 harg3 arg4 harg4 arg5 harg5 arg6 harg6 arg7 harg7 arg8 harg8 arg9 harg9 arg10 harg10 arg11 harg11 arg12 harg12 arg13 harg13 arg14 harg14 k0_h5 v51 v62 v112 v365
  let v509 : BitVec 32 := extractAt ![0, 0, 0] (k0_pay41 v484 v486 v487 v488) inpos_S1x1x1_p0_0_0
  let v510 : Elt F .i32 ← smemLoad arg13 (Rect.unit (s := S1) ![0] S1.size inb_S1_S1_0) numel1_S1 rfl
  Prog.lift (.store arg13 (Rect.unit (s := S1) ![0] S1.size inb_S1_S1_0) (fun _ => v509) Finset.univ (View.stores_smem_one rfl numel1_S1) (.inl rfl))
  pure ⟨⟩

/-- The fifth guarded block of the body: the statistics of one image turned into constants. -/
noncomputable def blk5 (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (k0_h5 : k0_cond5 i = 1#1) :
    Prog (TpuEff nD τ sig (Elt F) Λ₀ .tc) PUnit := do
  let ⟨v40, v51, v53, v55, v57⟩ : Σ' (v40 : FVec F S1280x128 .f32) (v51 : FVec F S1x1280 .f32) (v53 : FVec F S1x256 .f32) (v55 : FVec F S1x256 .f32), FVec F S1x256 .f32 ← k0_part16 i arg2 harg2 arg3 harg3 arg4 harg4 arg5 harg5 arg6 harg6 arg7 harg7 arg8 harg8 arg9 harg9 arg10 harg10 arg11 harg11 arg12 harg12 arg13 harg13 arg14 harg14
  let ⟨v62, v78, v80, v82, v84⟩ : Σ' (v62 : FVec F S1x1280 .f32) (v78 : FVec F S1x128 .f32) (v80 : FVec F S8x256 .f32) (v82 : FVec F S8x256 .f32), FVec F S8x256 .f32 ← k0_part17 i arg2 harg2 arg3 harg3 arg4 harg4 arg5 harg5 arg6 harg6 arg7 harg7 arg8 harg8 arg9 harg9 arg10 harg10 arg11 harg11 arg12 harg12 arg13 harg13 arg14 harg14 v40 v53 v55 v57
  let ⟨v108, v112, v116, v117, v119, v126, v127⟩ : Σ' (v108 : F .f32) (v112 : FVec F S1x1280 .f32) (v116 : FVec F S1x1280 .f32) (v117 : FVec F S1x1280 .f32) (v119 : FVec F S1x1280 .f32) (v126 : FVec F S1x256 .f32), FVec F S1x256 .f32 ← k0_part18 i arg2 harg2 arg3 harg3 arg4 harg4 arg5 harg5 arg6 harg6 arg7 harg7 arg8 harg8 arg9 harg9 arg10 harg10 arg11 harg11 arg12 harg12 arg13 harg13 arg14 harg14 v40 v51 v62 v78 v80 v82 v84
  let v156 : FVec F S1x256 .f32 ← k0_part19 i arg2 harg2 arg3 harg3 arg4 harg4 arg5 harg5 arg6 harg6 arg7 harg7 arg8 harg8 arg9 harg9 arg10 harg10 arg11 harg11 arg12 harg12 arg13 harg13 arg14 harg14 v112 v116 v117 v119 v126 v127
  let v188 : FVec F S1x256 .f32 ← k0_part20 i arg2 harg2 arg3 harg3 arg4 harg4 arg5 harg5 arg6 harg6 arg7 harg7 arg8 harg8 arg9 harg9 arg10 harg10 arg11 harg11 arg12 harg12 arg13 harg13 arg14 harg14 v112 v116 v117 v119 v156
  let v220 : Vec F S1x16x256 .bf16 ← k0_part21 i arg2 harg2 arg3 harg3 arg4 harg4 arg5 harg5 arg6 harg6 arg7 harg7 arg8 harg8 arg9 harg9 arg10 harg10 arg11 harg11 arg12 harg12 arg13 harg13 arg14 harg14 v112 v116 v117 v119 v188
  let ⟨v249, v251⟩ : Σ' (v249 : FVec F S1x1280 .f32), FVec F S1x1280 .f32 ← k0_part22 i arg2 harg2 arg3 harg3 arg4 harg4 arg5 harg5 arg6 harg6 arg7 harg7 arg8 harg8 arg9 harg9 arg10 harg10 arg11 harg11 arg12 harg12 arg13 harg13 arg14 harg14 v117 v119 v220
  let ⟨v290, v295⟩ : Σ' (v290 : BitVec 32), BitVec 1 ← k0_part23 i arg2 harg2 arg3 harg3 arg4 harg4 arg5 harg5 arg6 harg6 arg7 harg7 arg8 harg8 arg9 harg9 arg10 harg10 arg11 harg11 arg12 harg12 arg13 harg13 arg14 harg14 v108 v249 v251
  let v296 : BitVec 32 := Scalar.extui v295
  let v297 : Elt F .i32 ← smemLoad arg14 (Rect.unit (s := S1) ![0] S1.size inb_S1_S1_0) numel1_S1 rfl
  Prog.lift (.store arg14 (Rect.unit (s := S1) ![0] S1.size inb_S1_S1_0) (fun _ => v296) Finset.univ (View.stores_smem_one rfl numel1_S1) (.inl rfl))
  let v298 : Elt F .i32 ← smemLoad arg13 (Rect.unit (s := S1) ![0] S1.size inb_S1_S1_0) numel1_S1 rfl
  Prog.lift (.store arg13 (Rect.unit (s := S1) ![0] S1.size inb_S1_S1_0) (fun _ => v290) Finset.univ (View.stores_smem_one rfl numel1_S1) (.inl rfl))
  let v299 : BitVec 1 := Scalar.xori v295 1#1
  let v300 : BitVec 32 := Scalar.extui v299
  let v301 : BitVec 1 := Scalar.cmpi .ne v300 0#32
  (if v301 = 1#1 then blk6 i arg2 harg2 arg3 harg3 arg4 harg4 arg5 harg5 arg6 harg6 arg7 harg7 arg8 harg8 arg9 harg9 arg10 harg10 arg11 harg11 arg12 harg12 arg13 harg13 arg14 harg14 k0_h5 v40 v51 v62 v112 else pure ⟨⟩)
  let v302 : Elt F .i32 ← smemLoad arg13 (Rect.unit (s := S1) ![0] S1.size inb_S1_S1_0) numel1_S1 rfl
  let v307 : Elt F .f32 ← smemLoad arg6 (Rect.unit (s := S8) (k0_off26 i) S1.size (k0_off26_inb i k0_h5)) numel1_S1 rfl
  Prog.lift (.store arg6 (Rect.unit (s := S8) (k0_off26 i) S1.size (k0_off26_inb i k0_h5)) (fun _ => k0_pay42 v302) Finset.univ (View.stores_smem_one rfl numel1_S1) (.inl rfl))
  pure ⟨⟩

/-- The body as its five guarded blocks, one after the other. -/
noncomputable def bodyBlocks (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) :
    Prog (TpuEff nD τ sig (Elt F) Λ₀ .tc) PUnit := do
  let arg0 : BitVec 32 := BitVec.ofNat 32 (i 0).val
  let arg1 : BitVec 32 := BitVec.ofNat 32 (i 1).val
  let v4 : BitVec 1 := Scalar.cmpi .slt arg0 8#32
  let v5 : BitVec 1 := Scalar.cmpi .sgt arg0 0#32
  let v6 : BitVec 1 := Scalar.cmpi .sgt arg0 0#32
  let v7 : Elt F .i32 ← smemLoad arg14 (Rect.unit (s := S1) ![0] S1.size inb_S1_S1_0) numel1_S1 rfl
  let v8 : BitVec 1 := Scalar.cmpi .eq v7 1#32
  let v9 : BitVec 1 := Scalar.andi v6 v8
  let v10 : BitVec 1 := Scalar.xori v9 1#1
  let v11 : BitVec 1 := Scalar.andi v5 v10
  let v12 : BitVec 32 := Scalar.extui v11
  let v13 : BitVec 1 := Scalar.cmpi .ne v12 0#32
  (if v13 = 1#1 then blk1 i arg2 harg2 arg3 harg3 arg4 harg4 arg5 harg5 arg6 harg6 arg7 harg7 arg8 harg8 arg9 harg9 arg10 harg10 arg11 harg11 arg12 harg12 arg13 harg13 arg14 harg14 else pure ⟨⟩)
  let v14 : BitVec 1 := Scalar.andi v9 v4
  let v15 : BitVec 32 := Scalar.extui v14
  let v16 : BitVec 1 := Scalar.cmpi .ne v15 0#32
  (if v16 = 1#1 then blk2 i arg2 harg2 arg3 harg3 arg4 harg4 arg5 harg5 arg6 harg6 arg7 harg7 arg8 harg8 arg9 harg9 arg10 harg10 arg11 harg11 arg12 harg12 arg13 harg13 arg14 harg14 else pure ⟨⟩)
  let v17 : BitVec 1 := Scalar.xori v4 1#1
  let v18 : BitVec 1 := Scalar.andi v9 v17
  let v19 : BitVec 32 := Scalar.extui v18
  let v20 : BitVec 1 := Scalar.cmpi .ne v19 0#32
  (if v20 = 1#1 then blk3 i arg2 harg2 arg3 harg3 arg4 harg4 arg5 harg5 arg6 harg6 arg7 harg7 arg8 harg8 arg9 harg9 arg10 harg10 arg11 harg11 arg12 harg12 arg13 harg13 arg14 harg14 else pure ⟨⟩)
  let v21 : BitVec 1 := Scalar.xori v9 1#1
  let v22 : BitVec 1 := Scalar.andi v4 v21
  let v23 : BitVec 32 := Scalar.extui v22
  let v24 : BitVec 1 := Scalar.cmpi .ne v23 0#32
  (if v24 = 1#1 then blk4 i arg2 harg2 arg3 harg3 arg4 harg4 arg5 harg5 arg6 harg6 arg7 harg7 arg8 harg8 arg9 harg9 arg10 harg10 arg11 harg11 arg12 harg12 arg13 harg13 arg14 harg14 else pure ⟨⟩)
  (if k0_h5 : k0_cond5 i = 1#1 then blk5 i arg2 harg2 arg3 harg3 arg4 harg4 arg5 harg5 arg6 harg6 arg7 harg7 arg8 harg8 arg9 harg9 arg10 harg10 arg11 harg11 arg12 harg12 arg13 harg13 arg14 harg14 k0_h5 else pure ⟨⟩)

theorem ite_bind' {E : Type → Type} {α β : Type} (p : Prop) [Decidable p] (a b : Prog E α) (k : α → Prog E β) :
    (if p then a else b) >>= k = if p then a >>= k else b >>= k := by split <;> rfl

theorem dite_bind' {E : Type → Type} {α β : Type} (p : Prop) [Decidable p] (a : p → Prog E α) (b : ¬p → Prog E α)
    (k : α → Prog E β) :
    (if h : p then a h else b h) >>= k = if h : p then a h >>= k else b h >>= k := by split <;> rfl

theorem bind_pure_unit {E : Type → Type} (a : Prog E PUnit) : (a >>= fun _ => pure PUnit.unit) = a := bind_pure a

theorem skel_eq_blocks (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) :
    cc0_gn_silu_fp8_skel (F := F) i arg2 harg2 arg3 harg3 arg4 harg4 arg5 harg5 arg6 harg6 arg7 harg7 arg8 harg8 arg9 harg9 arg10 harg10 arg11 harg11 arg12 harg12 arg13 harg13 arg14 harg14 = bodyBlocks i arg2 harg2 arg3 harg3 arg4 harg4 arg5 harg5 arg6 harg6 arg7 harg7 arg8 harg8 arg9 harg9 arg10 harg10 arg11 harg11 arg12 harg12 arg13 harg13 arg14 harg14 := by
  unfold cc0_gn_silu_fp8_skel bodyBlocks blk1 blk2 blk3 blk4 blk5 blk6
  simp only [ite_bind', dite_bind', bind_assoc, pure_bind, bind_pure_unit]

end Cert.Kernel.Hand

end
-- ==== Proof.Kernel.Held.lean ====
/-
  Hand-written, untrusted. The resources of the body: its thirteen buffers at some contents.
-/
module

public import proofs.«01_k».proof.Proof.Kernel.Blocks
public import Idealize.ShloMosaic.Lib.Pipeline.Frame
public import Idealize.ShloMosaic.Lib.Tactic

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The thirteen buffers of the body, each held whole at some contents. -/
abbrev Held (c : Dev nD) (arg2 : Memref sig .tc .vmem S1x4096x256 .bf16) (arg3 : Memref sig .tc .vmem S5x1x256 .f32) (arg4 : Memref sig .tc .vmem S5x1x256 .f32) (arg5 : Memref sig .tc .vmem S1x4096x256 .fp8e4m3) (arg6 : Memref sig .tc .smem S8 .f32) (arg7 : Memref sig .tc .vmem S5x4096x256 .bf16) (arg8 : Memref sig .tc .vmem S5x8x256 .f32) (arg9 : Memref sig .tc .vmem S5x8x256 .f32) (arg10 : Memref sig .tc .vmem S5x16x256 .bf16) (arg11 : Memref sig .tc .vmem S5x16x256 .bf16) (arg12 : Memref sig .tc .vmem S5x8x256 .f32) (arg13 : Memref sig .tc .smem S1 .i32) (arg14 : Memref sig .tc .smem S1 .i32) : sProp 𝕄 :=
  iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d))

/-- A block that keeps the buffers, then the rest of the body. -/
theorem seq_held (c : Dev nD) (arg2 : Memref sig .tc .vmem S1x4096x256 .bf16) (arg3 : Memref sig .tc .vmem S5x1x256 .f32) (arg4 : Memref sig .tc .vmem S5x1x256 .f32) (arg5 : Memref sig .tc .vmem S1x4096x256 .fp8e4m3) (arg6 : Memref sig .tc .smem S8 .f32) (arg7 : Memref sig .tc .vmem S5x4096x256 .bf16) (arg8 : Memref sig .tc .vmem S5x8x256 .f32) (arg9 : Memref sig .tc .vmem S5x8x256 .f32) (arg10 : Memref sig .tc .vmem S5x16x256 .bf16) (arg11 : Memref sig .tc .vmem S5x16x256 .bf16) (arg12 : Memref sig .tc .vmem S5x8x256 .f32) (arg13 : Memref sig .tc .smem S1 .i32) (arg14 : Memref sig .tc .smem S1 .i32) {β : Type}
    (p : Prog (TpuEff nD τ sig (Elt F) Λ₀ .tc) PUnit) (k : PUnit → Prog (TpuEff nD τ sig (Elt F) Λ₀ .tc) β) (K : β → sProp 𝕄)
    (hp : Held (F := F) c arg2 arg3 arg4 arg5 arg6 arg7 arg8 arg9 arg10 arg11 arg12 arg13 arg14 ⊢ wp frame (wpE (defs₀ (F := F)) Variants.none c none) Set.univ p (fun _ => Held (F := F) c arg2 arg3 arg4 arg5 arg6 arg7 arg8 arg9 arg10 arg11 arg12 arg13 arg14))
    (hk : Held (F := F) c arg2 arg3 arg4 arg5 arg6 arg7 arg8 arg9 arg10 arg11 arg12 arg13 arg14 ⊢ wp frame (wpE (defs₀ (F := F)) Variants.none c none) Set.univ (k ⟨⟩) K) :
    Held (F := F) c arg2 arg3 arg4 arg5 arg6 arg7 arg8 arg9 arg10 arg11 arg12 arg13 arg14 ⊢ wp frame (wpE (defs₀ (F := F)) Variants.none c none) Set.univ (p >>= k) K := by
  rw [wp_bind]
  iintro H
  iapply (wp_wand_r frame (wpE (defs₀ (F := F)) Variants.none (c : Thread nD τ) none) Set.univ)
  isplitl [H]
  · iapply hp; iexact H
  · iintro %u H
    iapply hk; iexact H

/-- Doing nothing keeps the buffers. -/
theorem ret_held (c : Dev nD) (arg2 : Memref sig .tc .vmem S1x4096x256 .bf16) (arg3 : Memref sig .tc .vmem S5x1x256 .f32) (arg4 : Memref sig .tc .vmem S5x1x256 .f32) (arg5 : Memref sig .tc .vmem S1x4096x256 .fp8e4m3) (arg6 : Memref sig .tc .smem S8 .f32) (arg7 : Memref sig .tc .vmem S5x4096x256 .bf16) (arg8 : Memref sig .tc .vmem S5x8x256 .f32) (arg9 : Memref sig .tc .vmem S5x8x256 .f32) (arg10 : Memref sig .tc .vmem S5x16x256 .bf16) (arg11 : Memref sig .tc .vmem S5x16x256 .bf16) (arg12 : Memref sig .tc .vmem S5x8x256 .f32) (arg13 : Memref sig .tc .smem S1 .i32) (arg14 : Memref sig .tc .smem S1 .i32) :
    Held (F := F) c arg2 arg3 arg4 arg5 arg6 arg7 arg8 arg9 arg10 arg11 arg12 arg13 arg14 ⊢ wp frame (wpE (defs₀ (F := F)) Variants.none c none) Set.univ (pure ⟨⟩ : Prog (TpuEff nD τ sig (Elt F) Λ₀ .tc) PUnit)
      (fun _ => Held (F := F) c arg2 arg3 arg4 arg5 arg6 arg7 arg8 arg9 arg10 arg11 arg12 arg13 arg14) := by
  iintro H
  sl_step
  iexact H

end Cert.Kernel.Hand

end
-- ==== Proof.Kernel.Run1.lean ====
/-
  Hand-written, untrusted. Block 1 of the body run once.
-/
module

public import proofs.«01_k».proof.Proof.Kernel.Held
public import Idealize.ShloMosaic.Lib.Pipeline.Frame
public import Idealize.ShloMosaic.Lib.Tactic

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Block 1, from every buffer at some contents to every buffer at some contents. -/
theorem blk1_held (c : Dev nD) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) :
    Held (F := F) c arg2 arg3 arg4 arg5 arg6 arg7 arg8 arg9 arg10 arg11 arg12 arg13 arg14
      ⊢ wp frame (wpE (defs₀ (F := F)) Variants.none c none) Set.univ
          (blk1 (F := F) i arg2 harg2 arg3 harg3 arg4 harg4 arg5 harg5 arg6 harg6 arg7 harg7 arg8 harg8 arg9 harg9 arg10 harg10 arg11 harg11 arg12 harg12 arg13 harg13 arg14 harg14) (fun _ => Held (F := F) c arg2 arg3 arg4 arg5 arg6 arg7 arg8 arg9 arg10 arg11 arg12 arg13 arg14) := by
  unfold blk1 Held owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩⟩
  sl_exec
  sl_step
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.Kernel.Hand

end
-- ==== Proof.Kernel.Run2.lean ====
/-
  Hand-written, untrusted. Block 2 of the body run once.
-/
module

public import proofs.«01_k».proof.Proof.Kernel.Held
public import Idealize.ShloMosaic.Lib.Pipeline.Frame
public import Idealize.ShloMosaic.Lib.Tactic

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Block 2, from every buffer at some contents to every buffer at some contents. -/
theorem blk2_held (c : Dev nD) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) :
    Held (F := F) c arg2 arg3 arg4 arg5 arg6 arg7 arg8 arg9 arg10 arg11 arg12 arg13 arg14
      ⊢ wp frame (wpE (defs₀ (F := F)) Variants.none c none) Set.univ
          (blk2 (F := F) i arg2 harg2 arg3 harg3 arg4 harg4 arg5 harg5 arg6 harg6 arg7 harg7 arg8 harg8 arg9 harg9 arg10 harg10 arg11 harg11 arg12 harg12 arg13 harg13 arg14 harg14) (fun _ => Held (F := F) c arg2 arg3 arg4 arg5 arg6 arg7 arg8 arg9 arg10 arg11 arg12 arg13 arg14) := by
  unfold blk2 Held owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩⟩
  sl_exec
  sl_step
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.Kernel.Hand

end
-- ==== Proof.Kernel.Run3.lean ====
/-
  Hand-written, untrusted. Block 3 of the body run once.
-/
module

public import proofs.«01_k».proof.Proof.Kernel.Held
public import Idealize.ShloMosaic.Lib.Pipeline.Frame
public import Idealize.ShloMosaic.Lib.Tactic

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Block 3, from every buffer at some contents to every buffer at some contents. -/
theorem blk3_held (c : Dev nD) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) :
    Held (F := F) c arg2 arg3 arg4 arg5 arg6 arg7 arg8 arg9 arg10 arg11 arg12 arg13 arg14
      ⊢ wp frame (wpE (defs₀ (F := F)) Variants.none c none) Set.univ
          (blk3 (F := F) i arg2 harg2 arg3 harg3 arg4 harg4 arg5 harg5 arg6 harg6 arg7 harg7 arg8 harg8 arg9 harg9 arg10 harg10 arg11 harg11 arg12 harg12 arg13 harg13 arg14 harg14) (fun _ => Held (F := F) c arg2 arg3 arg4 arg5 arg6 arg7 arg8 arg9 arg10 arg11 arg12 arg13 arg14) := by
  unfold blk3 Held owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩⟩
  sl_exec
  sl_step
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.Kernel.Hand

end
-- ==== Proof.Kernel.Run4.lean ====
/-
  Hand-written, untrusted. Block 4 of the body run once.
-/
module

public import proofs.«01_k».proof.Proof.Kernel.Held
public import Idealize.ShloMosaic.Lib.Pipeline.Frame
public import Idealize.ShloMosaic.Lib.Tactic

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Block 4, from every buffer at some contents to every buffer at some contents. -/
theorem blk4_held (c : Dev nD) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) :
    Held (F := F) c arg2 arg3 arg4 arg5 arg6 arg7 arg8 arg9 arg10 arg11 arg12 arg13 arg14
      ⊢ wp frame (wpE (defs₀ (F := F)) Variants.none c none) Set.univ
          (blk4 (F := F) i arg2 harg2 arg3 harg3 arg4 harg4 arg5 harg5 arg6 harg6 arg7 harg7 arg8 harg8 arg9 harg9 arg10 harg10 arg11 harg11 arg12 harg12 arg13 harg13 arg14 harg14) (fun _ => Held (F := F) c arg2 arg3 arg4 arg5 arg6 arg7 arg8 arg9 arg10 arg11 arg12 arg13 arg14) := by
  unfold blk4 Held owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩⟩
  sl_exec
  sl_step
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.Kernel.Hand

end
-- ==== Proof.Kernel.Run6.lean ====
/-
  Hand-written, untrusted. Block 6 of the body run once.
-/
module

public import proofs.«01_k».proof.Proof.Kernel.Held
public import Idealize.ShloMosaic.Lib.Pipeline.Frame
public import Idealize.ShloMosaic.Lib.Tactic

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Block 6, from every buffer at some contents to every buffer at some contents. -/
theorem blk6_held (c : Dev nD) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (k0_h5 : k0_cond5 i = 1#1) (v40 : FVec F S1280x128 .f32) (v51 : FVec F S1x1280 .f32) (v62 : FVec F S1x1280 .f32) (v112 : FVec F S1x1280 .f32) :
    Held (F := F) c arg2 arg3 arg4 arg5 arg6 arg7 arg8 arg9 arg10 arg11 arg12 arg13 arg14
      ⊢ wp frame (wpE (defs₀ (F := F)) Variants.none c none) Set.univ
          (blk6 (F := F) i arg2 harg2 arg3 harg3 arg4 harg4 arg5 harg5 arg6 harg6 arg7 harg7 arg8 harg8 arg9 harg9 arg10 harg10 arg11 harg11 arg12 harg12 arg13 harg13 arg14 harg14 k0_h5 v40 v51 v62 v112) (fun _ => Held (F := F) c arg2 arg3 arg4 arg5 arg6 arg7 arg8 arg9 arg10 arg11 arg12 arg13 arg14) := by
  unfold blk6 Held owns
  simp only [k0_part10_eq_skeleton, k0_part11_eq_skeleton, k0_part12_eq_skeleton, k0_part13_eq_skeleton, k0_part14_eq_skeleton, k0_part15_eq_skeleton]
  unfold k0_part10_skel k0_part11_skel k0_part12_skel k0_part13_skel k0_part14_skel k0_part15_skel
  simp only [bind_assoc, pure_bind]
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩⟩
  sl_exec
  sl_step
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.Kernel.Hand

end
-- ==== Proof.Kernel.Run5.lean ====
/-
  Hand-written, untrusted. Block 5 of the body run once.
-/
module

public import proofs.«01_k».proof.Proof.Kernel.Run6
public import Idealize.ShloMosaic.Lib.Pipeline.Frame
public import Idealize.ShloMosaic.Lib.Tactic

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Block 5, from every buffer at some contents to every buffer at some contents. -/
theorem blk5_held (c : Dev nD) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (k0_h5 : k0_cond5 i = 1#1) :
    Held (F := F) c arg2 arg3 arg4 arg5 arg6 arg7 arg8 arg9 arg10 arg11 arg12 arg13 arg14
      ⊢ wp frame (wpE (defs₀ (F := F)) Variants.none c none) Set.univ
          (blk5 (F := F) i arg2 harg2 arg3 harg3 arg4 harg4 arg5 harg5 arg6 harg6 arg7 harg7 arg8 harg8 arg9 harg9 arg10 harg10 arg11 harg11 arg12 harg12 arg13 harg13 arg14 harg14 k0_h5) (fun _ => Held (F := F) c arg2 arg3 arg4 arg5 arg6 arg7 arg8 arg9 arg10 arg11 arg12 arg13 arg14) := by
  unfold blk5 Held owns
  simp only [k0_part16_eq_skeleton, k0_part17_eq_skeleton, k0_part18_eq_skeleton, k0_part19_eq_skeleton, k0_part20_eq_skeleton, k0_part21_eq_skeleton, k0_part22_eq_skeleton, k0_part23_eq_skeleton]
  unfold k0_part16_skel k0_part17_skel k0_part18_skel k0_part19_skel k0_part20_skel k0_part21_skel k0_part22_skel k0_part23_skel
  simp only [bind_assoc, pure_bind]
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩⟩
  sl_exec
  iapply (seq_held (F := F) c arg2 arg3 arg4 arg5 arg6 arg7 arg8 arg9 arg10 arg11 arg12 arg13 arg14 _ _ _ ?hp ?hk)
  case hp =>
    split
    · exact blk6_held c i arg2 harg2 arg3 harg3 arg4 harg4 arg5 harg5 arg6 harg6 arg7 harg7 arg8 harg8 arg9 harg9 arg10 harg10 arg11 harg11 arg12 harg12 arg13 harg13 arg14 harg14 k0_h5 _ _ _ _
    · exact ret_held c arg2 arg3 arg4 arg5 arg6 arg7 arg8 arg9 arg10 arg11 arg12 arg13 arg14
  case hk =>
    unfold Held owns
    iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩⟩
    sl_exec
    sl_step
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl
  unfold Held owns
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.Kernel.Hand

end
-- ==== Proof.Kernel.Body.lean ====
/-
  Hand-written, untrusted. The body put together from its blocks.
-/
module

public import proofs.«01_k».proof.Proof.Kernel.Run1
public import proofs.«01_k».proof.Proof.Kernel.Run2
public import proofs.«01_k».proof.Proof.Kernel.Run3
public import proofs.«01_k».proof.Proof.Kernel.Run4
public import proofs.«01_k».proof.Proof.Kernel.Run5
public import Idealize.ShloMosaic.Lib.Pipeline.Frame
public import Idealize.ShloMosaic.Lib.Tactic

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The whole body, from every buffer at some contents to every buffer at some contents. -/
theorem body_held (c : Dev nD) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) :
    Held (F := F) c arg2 arg3 arg4 arg5 arg6 arg7 arg8 arg9 arg10 arg11 arg12 arg13 arg14
      ⊢ wp frame (wpE (defs₀ (F := F)) Variants.none c none) Set.univ
          (cc0_gn_silu_fp8 (F := F) i arg2 harg2 arg3 harg3 arg4 harg4 arg5 harg5 arg6 harg6 arg7 harg7 arg8 harg8 arg9 harg9 arg10 harg10 arg11 harg11 arg12 harg12 arg13 harg13 arg14 harg14) (fun _ => Held (F := F) c arg2 arg3 arg4 arg5 arg6 arg7 arg8 arg9 arg10 arg11 arg12 arg13 arg14) := by
  rw [cc0_gn_silu_fp8_eq_skeleton, skel_eq_blocks]
  unfold bodyBlocks
  unfold Held owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩⟩
  sl_exec
  iapply (seq_held (F := F) c arg2 arg3 arg4 arg5 arg6 arg7 arg8 arg9 arg10 arg11 arg12 arg13 arg14 _ _ _ ?hp ?hk)
  case hp =>
    split
    · exact blk1_held c i arg2 harg2 arg3 harg3 arg4 harg4 arg5 harg5 arg6 harg6 arg7 harg7 arg8 harg8 arg9 harg9 arg10 harg10 arg11 harg11 arg12 harg12 arg13 harg13 arg14 harg14
    · exact ret_held c arg2 arg3 arg4 arg5 arg6 arg7 arg8 arg9 arg10 arg11 arg12 arg13 arg14
  case hk =>
    refine seq_held (F := F) c arg2 arg3 arg4 arg5 arg6 arg7 arg8 arg9 arg10 arg11 arg12 arg13 arg14 _ _ _ ?_ (seq_held (F := F) c arg2 arg3 arg4 arg5 arg6 arg7 arg8 arg9 arg10 arg11 arg12 arg13 arg14 _ _ _ ?_ (seq_held (F := F) c arg2 arg3 arg4 arg5 arg6 arg7 arg8 arg9 arg10 arg11 arg12 arg13 arg14 _ _ _ ?_ ?_))
    · split
      · exact blk2_held c i arg2 harg2 arg3 harg3 arg4 harg4 arg5 harg5 arg6 harg6 arg7 harg7 arg8 harg8 arg9 harg9 arg10 harg10 arg11 harg11 arg12 harg12 arg13 harg13 arg14 harg14
      · exact ret_held c arg2 arg3 arg4 arg5 arg6 arg7 arg8 arg9 arg10 arg11 arg12 arg13 arg14
    · split
      · exact blk3_held c i arg2 harg2 arg3 harg3 arg4 harg4 arg5 harg5 arg6 harg6 arg7 harg7 arg8 harg8 arg9 harg9 arg10 harg10 arg11 harg11 arg12 harg12 arg13 harg13 arg14 harg14
      · exact ret_held c arg2 arg3 arg4 arg5 arg6 arg7 arg8 arg9 arg10 arg11 arg12 arg13 arg14
    · split
      · exact blk4_held c i arg2 harg2 arg3 harg3 arg4 harg4 arg5 harg5 arg6 harg6 arg7 harg7 arg8 harg8 arg9 harg9 arg10 harg10 arg11 harg11 arg12 harg12 arg13 harg13 arg14 harg14
      · exact ret_held c arg2 arg3 arg4 arg5 arg6 arg7 arg8 arg9 arg10 arg11 arg12 arg13 arg14
    · split
      · exact blk5_held c i arg2 harg2 arg3 harg3 arg4 harg4 arg5 harg5 arg6 harg6 arg7 harg7 arg8 harg8 arg9 harg9 arg10 harg10 arg11 harg11 arg12 harg12 arg13 harg13 arg14 harg14 _
      · exact ret_held c arg2 arg3 arg4 arg5 arg6 arg7 arg8 arg9 arg10 arg11 arg12 arg13 arg14
  unfold Held owns
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.Kernel.Hand

end
-- ==== Proof.Kernel.Frame.lean ====
/-
  Hand-written, untrusted. The frame of `Kernel`: the body obligation with nothing said of what the windows' buffers hold
  (the relation true of any two contents), and the run of @main.
-/
module

public import proofs.«01_k».proof.Proof.Kernel.Body
public import proofs.«01_k».proof.Proof.Gen.Kernel.Frame
public import proofs.«01_k».proof.Proof.Gen.Kernel.Points
public import Idealize.ShloMosaic.Lib.Pipeline.Frame
public import Idealize.ShloMosaic.Lib.Tactic

@[expose] public section

set_option maxHeartbeats 1000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers, whole. -/
abbrev sc0 : Memref sig .tc .vmem S5x4096x256 .bf16 := Memref.whole cc0_scratch0
abbrev sc1 : Memref sig .tc .vmem S5x8x256 .f32 := Memref.whole cc0_scratch1
abbrev sc2 : Memref sig .tc .vmem S5x8x256 .f32 := Memref.whole cc0_scratch2
abbrev sc3 : Memref sig .tc .vmem S5x16x256 .bf16 := Memref.whole cc0_scratch3
abbrev sc4 : Memref sig .tc .vmem S5x16x256 .bf16 := Memref.whole cc0_scratch4
abbrev sc5 : Memref sig .tc .vmem S5x8x256 .f32 := Memref.whole cc0_scratch5
abbrev sc6 : Memref sig .tc .smem S1 .i32 := Memref.whole cc0_scratch6
abbrev sc7 : Memref sig .tc .smem S1 .i32 := Memref.whole cc0_scratch7

/-- The launch's invariant opened: the scratch at some contents, the generator register at some state. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)
          ∗ (∃ d, owns (c : Thread nD τ) sc4 fullShare d) ∗ (∃ d, owns (c : Thread nD τ) sc5 fullShare d)
          ∗ (∃ d, owns (c : Thread nD τ) sc6 fullShare d) ∗ (∃ d, owns (c : Thread nD τ) sc7 fullShare d))
          ∗ (∃ r, prngReg c r)) := by
  unfold Pipeline.ΦA
  rw [scopedRest0_eq]; simp only [owns_whole]; try rfl

/-- The proof data on core `c`: the arrays as the region finds them; nothing said of what the body leaves in a window's
    buffer; full shares; nothing owed. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body at the point, from the five windows' buffers at anything. -/
theorem sound_body (c : Dev nD) (t : Fin cfg0.N)
    (Y : (w : Fin cfg0.W) → (cfg0.win w).block.Idx → Elt F (cfg0.win w).elt) :
    iprop((rdat m c).Φ t.castSucc ∗ (rdat m c).owesAt () t.castSucc
        ∗ (owns (c : Thread nD τ) ((cfg0.win 0).stage (cfg0.slots t 0)) fullShare (Y 0)
          ∗ owns (c : Thread nD τ) ((cfg0.win 1).stage (cfg0.slots t 1)) fullShare (Y 1)
          ∗ owns (c : Thread nD τ) ((cfg0.win 2).stage (cfg0.slots t 2)) fullShare (Y 2)
          ∗ owns (c : Thread nD τ) ((cfg0.win 3).stage (cfg0.slots t 3)) fullShare (Y 3)
          ∗ owns (c : Thread nD τ) ((cfg0.win 4).stage (cfg0.slots t 4)) fullShare (Y 4)))
      ⊢ wp frame (wpE (defs₀ (F := F)) Variants.none c none) Set.univ (bodyAt0 t) (fun _ =>
        iprop((rdat m c).Φ t.succ ∗ (rdat m c).owesAt () t.succ
        ∗ ((∃ X, ⌜(rdat m c).after 0 t (Y 0) X⌝ ∗ owns (c : Thread nD τ) ((cfg0.win 0).stage (cfg0.slots t 0)) fullShare X)
          ∗ (∃ X, ⌜(rdat m c).after 1 t (Y 1) X⌝ ∗ owns (c : Thread nD τ) ((cfg0.win 1).stage (cfg0.slots t 1)) fullShare X)
          ∗ (∃ X, ⌜(rdat m c).after 2 t (Y 2) X⌝ ∗ owns (c : Thread nD τ) ((cfg0.win 2).stage (cfg0.slots t 2)) fullShare X)
          ∗ (∃ X, ⌜(rdat m c).after 3 t (Y 3) X⌝ ∗ owns (c : Thread nD τ) ((cfg0.win 3).stage (cfg0.slots t 3)) fullShare X)
          ∗ (∃ X, ⌜(rdat m c).after 4 t (Y 4) X⌝ ∗ owns (c : Thread nD τ) ((cfg0.win 4).stage (cfg0.slots t 4)) fullShare X)))) := by
  rw [show (rdat m c).Φ t.succ = (rdat m c).Φ t.castSucc from rfl,
    show (rdat m c).owesAt () t.succ = (rdat m c).owesAt () t.castSucc from rfl,
    show (rdat m c).Φ t.castSucc = Pipeline.ΦA spec0 c from rfl, PhiA_eq]
  iintro ⟨⟨⟨S0, S1, S2, S3, S4, S5, S6, S7⟩, Hg⟩, HO, W0, W1, W2, W3, W4⟩
  iapply (wp_wand_r frame (wpE (defs₀ (F := F)) Variants.none (c : Thread nD τ) none) Set.univ)
  isplitl [S0 S1 S2 S3 S4 S5 S6 S7 W0 W1 W2 W3 W4]
  · iapply (body_held c _ _ _ _ _ _ _ _ _ _ _ _ _ _ _ _ _ _ _ _ _ _ _ _ _ _ _)
    unfold Held
    isplitl [W0]; · iexists _; iexact W0
    isplitl [W1]; · iexists _; iexact W1
    isplitl [W2]; · iexists _; iexact W2
    isplitl [W3]; · iexists _; iexact W3
    isplitl [W4]; · iexists _; iexact W4
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  unfold Held
  iintro %_ ⟨⟨%d0, W0⟩, ⟨%d1, W1⟩, ⟨%d2, W2⟩, ⟨%d3, W3⟩, ⟨%d4, W4⟩, S0, S1, S2, S3, S4, S5, S6, S7⟩
  isplitl [S0 S1 S2 S3 S4 S5 S6 S7 Hg]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [HO]; · iexact HO
  isplitl [W0]; · iexists d0; isplitr; · ipureintro; trivial
                  iexact W0
  isplitl [W1]; · iexists d1; isplitr; · ipureintro; trivial
                  iexact W1
  isplitl [W2]; · iexists d2; isplitr; · ipureintro; trivial
                  iexact W2
  isplitl [W3]; · iexists d3; isplitr; · ipureintro; trivial
                  iexact W3
  iexists d4; isplitr; · ipureintro; trivial
  iexact W4

/-- The library's body obligation. -/
theorem body_obligation (c : Dev nD) : (rdat (F := F) m c).BodyObligation (defs₀ (F := F)) Variants.none () Set.univ :=
  fun t Y _ => by
    rw [bigSep_W0, bigSep_W0, defs₀_row]
    exact sound_body m c t Y

set_option backward.isDefEq.respectTransparency.types false in
/-- At any value instance, from any memory with zero counters, every fair execution of @main terminates; every final
    state has the arguments at their launch contents and every semaphore counter at zero. -/
theorem run_main :
    θ_run defs (onTc (τ := τ) (main (F := F))) (s₀ m ρ)
      (fun r => Pipeline.RDat.FramePost (cfgs 0) (fun c => rdat m c) (V m) r ∧ r.2.sem = fun _ => 0) :=
  Pipeline.RDat.θ_run_frame (Q' := _) cfgs (0 : Fin 1) launch0 defs₀ Variants.none (rdat m) m ρ main
    (hbody := fun c => body_obligation m c) (hshare := fun c w => by unfold RDat.share; split <;> rfl)
    (howed := fun _ _ => rfl) (V := V m) (hmain := hmain m Variants.none) (hA := fun _ _ => rfl)
    (hΦ := fun _ _ => rfl) (hQ' := fun _ h => h)

variable {m ρ}

theorem final_args {r : PUnit × MemSt nD τ sig (Elt F)}
    (h : Pipeline.RDat.FramePost (cfgs 0) (fun c => rdat (F := F) m c) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨(Pipeline.RDat.FramePost.arr_in h c 0 rfl).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c)⟩

end Cert.Kernel.Hand

end
-- ==== Proof.KernelIdeal.Blocks.lean ====
/-
  Hand-written, untrusted. The body of the kernel cut into its five guarded blocks (and the recomputation inside the last
  one), each a program of its own, and the equation that puts them together again.
-/
module

public import proofs.«01_k».proof.Proof.Gen.KernelIdeal.Frame
public import proofs.«01_k».proof.Proof.Gen.KernelIdeal.Loops
public import Idealize.ShloMosaic.Lib.Pipeline.Frame
public import Idealize.ShloMosaic.Lib.Tactic

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F] [Named F]

/-- The first guarded block of the body. -/
noncomputable def blk1 (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) :
    Prog (TpuEff nD τ sig (Elt F) Λ₀ .tc) PUnit := do
  let arg1 : BitVec 32 := BitVec.ofNat 32 (i 1).val
  let v30 : Vec F S1x8x256 .f32 ← Prog.lift (.load arg12 (Rect.unit (s := S5x8x256) (k0_off1 i) S1x8x256.size (k0_off1_inb i)).toLoadRect (View.loadsAt_vmem h_S1x8x256))
  let v32 : Elt F .i32 ← smemLoad arg13 (Rect.unit (s := S1) ![0] S1.size inb_S1_S1_0) numel1_S1 rfl
  let v38 : Vec F S1x1x256 .f32 ← Prog.lift (.load arg3 (Rect.unit (s := S5x1x256) (k0_off2 i) S1x1x256.size (k0_off2_inb i)).toLoadRect (View.loadsAt_vmem h_S1x1x256))
  let v41 : Vec F S1x1x256 .f32 ← Prog.lift (.load arg4 (Rect.unit (s := S5x1x256) (k0_off2 i) S1x1x256.size (k0_off2_inb i)).toLoadRect (View.loadsAt_vmem h_S1x1x256))
  Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 v30 v32 v38 v41)
  pure ⟨⟩

/-- The second guarded block of the body. -/
noncomputable def blk2 (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) :
    Prog (TpuEff nD τ sig (Elt F) Λ₀ .tc) PUnit := do
  let arg1 : BitVec 32 := BitVec.ofNat 32 (i 1).val
  let v30 : Vec F S1x8x256 .f32 ← Prog.lift (.load arg12 (Rect.unit (s := S5x8x256) (k0_off5 i) S1x8x256.size (k0_off5_inb i)).toLoadRect (View.loadsAt_vmem h_S1x8x256))
  let v32 : Elt F .i32 ← smemLoad arg13 (Rect.unit (s := S1) ![0] S1.size inb_S1_S1_0) numel1_S1 rfl
  let (v40_0, v40_1, v40_2, v40_3) ← Scf.Loop.for k0_t2_loop k0_t2_ok (k0_pay1 (F := F), k0_pay2 (F := F), k0_pay3 (F := F), k0_pay4 (F := F)) (k0_t2_body i arg2 harg2 arg3 harg3 arg4 harg4 arg5 harg5 arg6 harg6 arg7 harg7 arg8 harg8 arg9 harg9 arg10 harg10 arg11 harg11 arg12 harg12 arg13 harg13 arg14 harg14 arg1 v30 v32)
  let v42 : Vec F S1x8x256 .f32 ← Prog.lift (.load arg8 (Rect.unit (s := S5x8x256) (k0_off5 i) S1x8x256.size (k0_off5_inb i)).toLoadRect (View.loadsAt_vmem h_S1x8x256))
  Prog.lift (.store arg8 (Rect.unit (s := S5x8x256) (k0_off5 i) S1x8x256.size (k0_off5_inb i)) (k0_pay11 v40_0) Finset.univ (View.stores_vmem_bits_univ h_S1x8x256 rfl) (.inl rfl))
  let v46 : Vec F S1x8x256 .f32 ← Prog.lift (.load arg9 (Rect.unit (s := S5x8x256) (k0_off5 i) S1x8x256.size (k0_off5_inb i)).toLoadRect (View.loadsAt_vmem h_S1x8x256))
  Prog.lift (.store arg9 (Rect.unit (s := S5x8x256) (k0_off5 i) S1x8x256.size (k0_off5_inb i)) (k0_pay12 v40_1) Finset.univ (View.stores_vmem_bits_univ h_S1x8x256 rfl) (.inl rfl))
  let v50 : Vec F S1x16x256 .bf16 ← Prog.lift (.load arg10 (Rect.unit (s := S5x16x256) (k0_off8 i) S1x16x256.size (k0_off8_inb i)).toLoadRect (View.loadsAt_vmem h_S1x16x256))
  Prog.lift (.store arg10 (Rect.unit (s := S5x16x256) (k0_off8 i) S1x16x256.size (k0_off8_inb i)) (k0_pay13 v40_2) Finset.univ (View.stores_vmem h_S1x16x256 (harg10.storeExact_slice rfl _ (k0_off8_packedbf16 i)) (fun _ => rfl)) (.inl rfl))
  let v54 : Vec F S1x16x256 .bf16 ← Prog.lift (.load arg11 (Rect.unit (s := S5x16x256) (k0_off8 i) S1x16x256.size (k0_off8_inb i)).toLoadRect (View.loadsAt_vmem h_S1x16x256))
  Prog.lift (.store arg11 (Rect.unit (s := S5x16x256) (k0_off8 i) S1x16x256.size (k0_off8_inb i)) (k0_pay14 v40_3) Finset.univ (View.stores_vmem h_S1x16x256 (harg11.storeExact_slice rfl _ (k0_off8_packedbf16 i)) (fun _ => rfl)) (.inl rfl))
  pure ⟨⟩

/-- The third guarded block of the body. -/
noncomputable def blk3 (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) :
    Prog (TpuEff nD τ sig (Elt F) Λ₀ .tc) PUnit := do
  let arg1 : BitVec 32 := BitVec.ofNat 32 (i 1).val
  let v30 : Vec F S1x8x256 .f32 ← Prog.lift (.load arg12 (Rect.unit (s := S5x8x256) (k0_off9 i) S1x8x256.size (k0_off9_inb i)).toLoadRect (View.loadsAt_vmem h_S1x8x256))
  let v32 : Elt F .i32 ← smemLoad arg13 (Rect.unit (s := S1) ![0] S1.size inb_S1_S1_0) numel1_S1 rfl
  Scf.Loop.for k0_t3_loop k0_t3_ok ⟨⟩ (k0_t3_body i arg2 harg2 arg3 harg3 arg4 harg4 arg5 harg5 arg6 harg6 arg7 harg7 arg8 harg8 arg9 harg9 arg10 harg10 arg11 harg11 arg12 harg12 arg13 harg13 arg14 harg14 arg1 v30 v32)
  pure ⟨⟩

/-- The fourth guarded block of the body. -/
noncomputable def blk4 (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) :
    Prog (TpuEff nD τ sig (Elt F) Λ₀ .tc) PUnit := do
  let arg1 : BitVec 32 := BitVec.ofNat 32 (i 1).val
  let (v30_0, v30_1, v30_2, v30_3) ← Scf.Loop.for k0_t4_loop k0_t4_ok (k0_pay1 (F := F), k0_pay2 (F := F), k0_pay3 (F := F), k0_pay4 (F := F)) (k0_t4_body i arg2 harg2 arg3 harg3 arg4 harg4 arg5 harg5 arg6 harg6 arg7 harg7 arg8 harg8 arg9 harg9 arg10 harg10 arg11 harg11 arg12 harg12 arg13 harg13 arg14 harg14 arg1)
  let v32 : Vec F S1x8x256 .f32 ← Prog.lift (.load arg8 (Rect.unit (s := S5x8x256) (k0_off14 i) S1x8x256.size (k0_off14_inb i)).toLoadRect (View.loadsAt_vmem h_S1x8x256))
  Prog.lift (.store arg8 (Rect.unit (s := S5x8x256) (k0_off14 i) S1x8x256.size (k0_off14_inb i)) (k0_pay37 v30_0) Finset.univ (View.stores_vmem_bits_univ h_S1x8x256 rfl) (.inl rfl))
  let v36 : Vec F S1x8x256 .f32 ← Prog.lift (.load arg9 (Rect.unit (s := S5x8x256) (k0_off14 i) S1x8x256.size (k0_off14_inb i)).toLoadRect (View.loadsAt_vmem h_S1x8x256))
  Prog.lift (.store arg9 (Rect.unit (s := S5x8x256) (k0_off14 i) S1x8x256.size (k0_off14_inb i)) (k0_pay38 v30_1) Finset.univ (View.stores_vmem_bits_univ h_S1x8x256 rfl) (.inl rfl))
  let v40 : Vec F S1x16x256 .bf16 ← Prog.lift (.load arg10 (Rect.unit (s := S5x16x256) (k0_off15 i) S1x16x256.size (k0_off15_inb i)).toLoadRect (View.loadsAt_vmem h_S1x16x256))
  Prog.lift (.store arg10 (Rect.unit (s := S5x16x256) (k0_off15 i) S1x16x256.size (k0_off15_inb i)) (k0_pay39 v30_2) Finset.univ (View.stores_vmem h_S1x16x256 (harg10.storeExact_slice rfl _ (k0_off15_packedbf16 i)) (fun _ => rfl)) (.inl rfl))
  let v44 : Vec F S1x16x256 .bf16 ← Prog.lift (.load arg11 (Rect.unit (s := S5x16x256) (k0_off15 i) S1x16x256.size (k0_off15_inb i)).toLoadRect (View.loadsAt_vmem h_S1x16x256))
  Prog.lift (.store arg11 (Rect.unit (s := S5x16x256) (k0_off15 i) S1x16x256.size (k0_off15_inb i)) (k0_pay40 v30_3) Finset.univ (View.stores_vmem h_S1x16x256 (harg11.storeExact_slice rfl _ (k0_off15_packedbf16 i)) (fun _ => rfl)) (.inl rfl))
  pure ⟨⟩

/-- The recomputation the last block runs when the fast form is refused. -/
noncomputable def blk6 (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (k0_h5 : k0_cond5 i = 1#1) (v40 : FVec F S1280x128 .f32) (v51 : FVec F S1x1280 .f32) (v62 : FVec F S1x1280 .f32) (v112 : FVec F S1x1280 .f32) :
    Prog (TpuEff nD τ sig (Elt F) Λ₀ .tc) PUnit := do
  let v332 : FVec F S8x256 .f32 ← k0_part10 i arg2 harg2 arg3 harg3 arg4 harg4 arg5 harg5 arg6 harg6 arg7 harg7 arg8 harg8 arg9 harg9 arg10 harg10 arg11 harg11 arg12 harg12 arg13 harg13 arg14 harg14 k0_h5 v112
  let v363 : FVec F S8x128 .f32 ← k0_part11 i arg2 harg2 arg3 harg3 arg4 harg4 arg5 harg5 arg6 harg6 arg7 harg7 arg8 harg8 arg9 harg9 arg10 harg10 arg11 harg11 arg12 harg12 arg13 harg13 arg14 harg14 k0_h5 v40 v112 v332
  let ⟨v365, v366, v368, v397⟩ : Σ' (v365 : FVec F S1x1280 .f32) (v366 : FVec F S1x1280 .f32) (v368 : FVec F S1x1280 .f32), FVec F S1x256 .f32 ← k0_part12 i arg2 harg2 arg3 harg3 arg4 harg4 arg5 harg5 arg6 harg6 arg7 harg7 arg8 harg8 arg9 harg9 arg10 harg10 arg11 harg11 arg12 harg12 arg13 harg13 arg14 harg14 v40 v51 v62 v112 v363
  k0_part13 i arg2 harg2 arg3 harg3 arg4 harg4 arg5 harg5 arg6 harg6 arg7 harg7 arg8 harg8 arg9 harg9 arg10 harg10 arg11 harg11 arg12 harg12 arg13 harg13 arg14 harg14 v112 v365 v366 v368 v397
  k0_part14 i arg2 harg2 arg3 harg3 arg4 harg4 arg5 harg5 arg6 harg6 arg7 harg7 arg8 harg8 arg9 harg9 arg10 harg10 arg11 harg11 arg12 harg12 arg13 harg13 arg14 harg14 v112 v365 v366 v368
  let ⟨v484, v486, v487, v488⟩ : Σ' (v484 : FVec F S8x128 .f32) (v486 : FVec F S8x128 .f32) (v487 : IVec S8x128 32), IVec S8x128 32 ← k0_part15 i arg2 harg2 arg3 harg3 arg4 harg4 arg5 harg5 arg6 harg6 arg7 harg7 arg8 harg8 arg9 harg9 arg10 harg10 arg11 harg11 arg12 harg12 arg13 harg13 arg14 harg14 k0_h5 v51 v62 v112 v365
  let v509 : BitVec 32 := extractAt ![0, 0, 0] (k0_pay41 v484 v486 v487 v488) inpos_S1x1x1_p0_0_0
  let v510 : Elt F .i32 ← smemLoad arg13 (Rect.unit (s := S1) ![0] S1.size inb_S1_S1_0) numel1_S1 rfl
  Prog.lift (.store arg13 (Rect.unit (s := S1) ![0] S1.size inb_S1_S1_0) (fun _ => v509) Finset.univ (View.stores_smem_one rfl numel1_S1) (.inl rfl))
  pure ⟨⟩

/-- The fifth guarded block of the body: the statistics of one image turned into constants. -/
noncomputable def blk5 (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (k0_h5 : k0_cond5 i = 1#1) :
    Prog (TpuEff nD τ sig (Elt F) Λ₀ .tc) PUnit := do
  let ⟨v40, v51, v53, v55, v57⟩ : Σ' (v40 : FVec F S1280x128 .f32) (v51 : FVec F S1x1280 .f32) (v53 : FVec F S1x256 .f32) (v55 : FVec F S1x256 .f32), FVec F S1x256 .f32 ← k0_part16 i arg2 harg2 arg3 harg3 arg4 harg4 arg5 harg5 arg6 harg6 arg7 harg7 arg8 harg8 arg9 harg9 arg10 harg10 arg11 harg11 arg12 harg12 arg13 harg13 arg14 harg14
  let ⟨v62, v78, v80, v82, v84⟩ : Σ' (v62 : FVec F S1x1280 .f32) (v78 : FVec F S1x128 .f32) (v80 : FVec F S8x256 .f32) (v82 : FVec F S8x256 .f32), FVec F S8x256 .f32 ← k0_part17 i arg2 harg2 arg3 harg3 arg4 harg4 arg5 harg5 arg6 harg6 arg7 harg7 arg8 harg8 arg9 harg9 arg10 harg10 arg11 harg11 arg12 harg12 arg13 harg13 arg14 harg14 v40 v53 v55 v57
  let ⟨v108, v112, v116, v117, v119, v126, v127⟩ : Σ' (v108 : F .f32) (v112 : FVec F S1x1280 .f32) (v116 : FVec F S1x1280 .f32) (v117 : FVec F S1x1280 .f32) (v119 : FVec F S1x1280 .f32) (v126 : FVec F S1x256 .f32), FVec F S1x256 .f32 ← k0_part18 i arg2 harg2 arg3 harg3 arg4 harg4 arg5 harg5 arg6 harg6 arg7 harg7 arg8 harg8 arg9 harg9 arg10 harg10 arg11 harg11 arg12 harg12 arg13 harg13 arg14 harg14 v40 v51 v62 v78 v80 v82 v84
  let v156 : FVec F S1x256 .f32 ← k0_part19 i arg2 harg2 arg3 harg3 arg4 harg4 arg5 harg5 arg6 harg6 arg7 harg7 arg8 harg8 arg9 harg9 arg10 harg10 arg11 harg11 arg12 harg12 arg13 harg13 arg14 harg14 v112 v116 v117 v119 v126 v127
  let v188 : FVec F S1x256 .f32 ← k0_part20 i arg2 harg2 arg3 harg3 arg4 harg4 arg5 harg5 arg6 harg6 arg7 harg7 arg8 harg8 arg9 harg9 arg10 harg10 arg11 harg11 arg12 harg12 arg13 harg13 arg14 harg14 v112 v116 v117 v119 v156
  let v220 : Vec F S1x16x256 .bf16 ← k0_part21 i arg2 harg2 arg3 harg3 arg4 harg4 arg5 harg5 arg6 harg6 arg7 harg7 arg8 harg8 arg9 harg9 arg10 harg10 arg11 harg11 arg12 harg12 arg13 harg13 arg14 harg14 v112 v116 v117 v119 v188
  let ⟨v249, v251⟩ : Σ' (v249 : FVec F S1x1280 .f32), FVec F S1x1280 .f32 ← k0_part22 i arg2 harg2 arg3 harg3 arg4 harg4 arg5 harg5 arg6 harg6 arg7 harg7 arg8 harg8 arg9 harg9 arg10 harg10 arg11 harg11 arg12 harg12 arg13 harg13 arg14 harg14 v117 v119 v220
  let ⟨v290, v295⟩ : Σ' (v290 : BitVec 32), BitVec 1 ← k0_part23 i arg2 harg2 arg3 harg3 arg4 harg4 arg5 harg5 arg6 harg6 arg7 harg7 arg8 harg8 arg9 harg9 arg10 harg10 arg11 harg11 arg12 harg12 arg13 harg13 arg14 harg14 v108 v249 v251
  let v296 : BitVec 32 := Scalar.extui v295
  let v297 : Elt F .i32 ← smemLoad arg14 (Rect.unit (s := S1) ![0] S1.size inb_S1_S1_0) numel1_S1 rfl
  Prog.lift (.store arg14 (Rect.unit (s := S1) ![0] S1.size inb_S1_S1_0) (fun _ => v296) Finset.univ (View.stores_smem_one rfl numel1_S1) (.inl rfl))
  let v298 : Elt F .i32 ← smemLoad arg13 (Rect.unit (s := S1) ![0] S1.size inb_S1_S1_0) numel1_S1 rfl
  Prog.lift (.store arg13 (Rect.unit (s := S1) ![0] S1.size inb_S1_S1_0) (fun _ => v290) Finset.univ (View.stores_smem_one rfl numel1_S1) (.inl rfl))
  let v299 : BitVec 1 := Scalar.xori v295 1#1
  let v300 : BitVec 32 := Scalar.extui v299
  let v301 : BitVec 1 := Scalar.cmpi .ne v300 0#32
  (if v301 = 1#1 then blk6 i arg2 harg2 arg3 harg3 arg4 harg4 arg5 harg5 arg6 harg6 arg7 harg7 arg8 harg8 arg9 harg9 arg10 harg10 arg11 harg11 arg12 harg12 arg13 harg13 arg14 harg14 k0_h5 v40 v51 v62 v112 else pure ⟨⟩)
  let v302 : Elt F .i32 ← smemLoad arg13 (Rect.unit (s := S1) ![0] S1.size inb_S1_S1_0) numel1_S1 rfl
  let v307 : Elt F .f32 ← smemLoad arg6 (Rect.unit (s := S8) (k0_off26 i) S1.size (k0_off26_inb i k0_h5)) numel1_S1 rfl
  Prog.lift (.store arg6 (Rect.unit (s := S8) (k0_off26 i) S1.size (k0_off26_inb i k0_h5)) (fun _ => k0_pay42 v302) Finset.univ (View.stores_smem_one rfl numel1_S1) (.inl rfl))
  pure ⟨⟩

/-- The body as its five guarded blocks, one after the other. -/
noncomputable def bodyBlocks (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) :
    Prog (TpuEff nD τ sig (Elt F) Λ₀ .tc) PUnit := do
  let arg0 : BitVec 32 := BitVec.ofNat 32 (i 0).val
  let arg1 : BitVec 32 := BitVec.ofNat 32 (i 1).val
  let v4 : BitVec 1 := Scalar.cmpi .slt arg0 8#32
  let v5 : BitVec 1 := Scalar.cmpi .sgt arg0 0#32
  let v6 : BitVec 1 := Scalar.cmpi .sgt arg0 0#32
  let v7 : Elt F .i32 ← smemLoad arg14 (Rect.unit (s := S1) ![0] S1.size inb_S1_S1_0) numel1_S1 rfl
  let v8 : BitVec 1 := Scalar.cmpi .eq v7 1#32
  let v9 : BitVec 1 := Scalar.andi v6 v8
  let v10 : BitVec 1 := Scalar.xori v9 1#1
  let v11 : BitVec 1 := Scalar.andi v5 v10
  let v12 : BitVec 32 := Scalar.extui v11
  let v13 : BitVec 1 := Scalar.cmpi .ne v12 0#32
  (if v13 = 1#1 then blk1 i arg2 harg2 arg3 harg3 arg4 harg4 arg5 harg5 arg6 harg6 arg7 harg7 arg8 harg8 arg9 harg9 arg10 harg10 arg11 harg11 arg12 harg12 arg13 harg13 arg14 harg14 else pure ⟨⟩)
  let v14 : BitVec 1 := Scalar.andi v9 v4
  let v15 : BitVec 32 := Scalar.extui v14
  let v16 : BitVec 1 := Scalar.cmpi .ne v15 0#32
  (if v16 = 1#1 then blk2 i arg2 harg2 arg3 harg3 arg4 harg4 arg5 harg5 arg6 harg6 arg7 harg7 arg8 harg8 arg9 harg9 arg10 harg10 arg11 harg11 arg12 harg12 arg13 harg13 arg14 harg14 else pure ⟨⟩)
  let v17 : BitVec 1 := Scalar.xori v4 1#1
  let v18 : BitVec 1 := Scalar.andi v9 v17
  let v19 : BitVec 32 := Scalar.extui v18
  let v20 : BitVec 1 := Scalar.cmpi .ne v19 0#32
  (if v20 = 1#1 then blk3 i arg2 harg2 arg3 harg3 arg4 harg4 arg5 harg5 arg6 harg6 arg7 harg7 arg8 harg8 arg9 harg9 arg10 harg10 arg11 harg11 arg12 harg12 arg13 harg13 arg14 harg14 else pure ⟨⟩)
  let v21 : BitVec 1 := Scalar.xori v9 1#1
  let v22 : BitVec 1 := Scalar.andi v4 v21
  let v23 : BitVec 32 := Scalar.extui v22
  let v24 : BitVec 1 := Scalar.cmpi .ne v23 0#32
  (if v24 = 1#1 then blk4 i arg2 harg2 arg3 harg3 arg4 harg4 arg5 harg5 arg6 harg6 arg7 harg7 arg8 harg8 arg9 harg9 arg10 harg10 arg11 harg11 arg12 harg12 arg13 harg13 arg14 harg14 else pure ⟨⟩)
  (if k0_h5 : k0_cond5 i = 1#1 then blk5 i arg2 harg2 arg3 harg3 arg4 harg4 arg5 harg5 arg6 harg6 arg7 harg7 arg8 harg8 arg9 harg9 arg10 harg10 arg11 harg11 arg12 harg12 arg13 harg13 arg14 harg14 k0_h5 else pure ⟨⟩)

theorem ite_bind' {E : Type → Type} {α β : Type} (p : Prop) [Decidable p] (a b : Prog E α) (k : α → Prog E β) :
    (if p then a else b) >>= k = if p then a >>= k else b >>= k := by split <;> rfl

theorem dite_bind' {E : Type → Type} {α β : Type} (p : Prop) [Decidable p] (a : p → Prog E α) (b : ¬p → Prog E α)
    (k : α → Prog E β) :
    (if h : p then a h else b h) >>= k = if h : p then a h >>= k else b h >>= k := by split <;> rfl

theorem bind_pure_unit {E : Type → Type} (a : Prog E PUnit) : (a >>= fun _ => pure PUnit.unit) = a := bind_pure a

theorem skel_eq_blocks (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) :
    cc0_gn_silu_fp8_skel (F := F) i arg2 harg2 arg3 harg3 arg4 harg4 arg5 harg5 arg6 harg6 arg7 harg7 arg8 harg8 arg9 harg9 arg10 harg10 arg11 harg11 arg12 harg12 arg13 harg13 arg14 harg14 = bodyBlocks i arg2 harg2 arg3 harg3 arg4 harg4 arg5 harg5 arg6 harg6 arg7 harg7 arg8 harg8 arg9 harg9 arg10 harg10 arg11 harg11 arg12 harg12 arg13 harg13 arg14 harg14 := by
  unfold cc0_gn_silu_fp8_skel bodyBlocks blk1 blk2 blk3 blk4 blk5 blk6
  simp only [ite_bind', dite_bind', bind_assoc, pure_bind, bind_pure_unit]

end Cert.KernelIdeal.Hand

end
-- ==== Proof.KernelIdeal.Held.lean ====
/-
  Hand-written, untrusted. The resources of the body: its thirteen buffers at some contents.
-/
module

public import proofs.«01_k».proof.Proof.KernelIdeal.Blocks
public import Idealize.ShloMosaic.Lib.Pipeline.Frame
public import Idealize.ShloMosaic.Lib.Tactic

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The thirteen buffers of the body, each held whole at some contents. -/
abbrev Held (c : Dev nD) (arg2 : Memref sig .tc .vmem S1x4096x256 .bf16) (arg3 : Memref sig .tc .vmem S5x1x256 .f32) (arg4 : Memref sig .tc .vmem S5x1x256 .f32) (arg5 : Memref sig .tc .vmem S1x4096x256 .fp8e4m3) (arg6 : Memref sig .tc .smem S8 .f32) (arg7 : Memref sig .tc .vmem S5x4096x256 .bf16) (arg8 : Memref sig .tc .vmem S5x8x256 .f32) (arg9 : Memref sig .tc .vmem S5x8x256 .f32) (arg10 : Memref sig .tc .vmem S5x16x256 .bf16) (arg11 : Memref sig .tc .vmem S5x16x256 .bf16) (arg12 : Memref sig .tc .vmem S5x8x256 .f32) (arg13 : Memref sig .tc .smem S1 .i32) (arg14 : Memref sig .tc .smem S1 .i32) : sProp 𝕄 :=
  iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d))

/-- A block that keeps the buffers, then the rest of the body. -/
theorem seq_held (c : Dev nD) (arg2 : Memref sig .tc .vmem S1x4096x256 .bf16) (arg3 : Memref sig .tc .vmem S5x1x256 .f32) (arg4 : Memref sig .tc .vmem S5x1x256 .f32) (arg5 : Memref sig .tc .vmem S1x4096x256 .fp8e4m3) (arg6 : Memref sig .tc .smem S8 .f32) (arg7 : Memref sig .tc .vmem S5x4096x256 .bf16) (arg8 : Memref sig .tc .vmem S5x8x256 .f32) (arg9 : Memref sig .tc .vmem S5x8x256 .f32) (arg10 : Memref sig .tc .vmem S5x16x256 .bf16) (arg11 : Memref sig .tc .vmem S5x16x256 .bf16) (arg12 : Memref sig .tc .vmem S5x8x256 .f32) (arg13 : Memref sig .tc .smem S1 .i32) (arg14 : Memref sig .tc .smem S1 .i32) {β : Type}
    (p : Prog (TpuEff nD τ sig (Elt F) Λ₀ .tc) PUnit) (k : PUnit → Prog (TpuEff nD τ sig (Elt F) Λ₀ .tc) β) (K : β → sProp 𝕄)
    (hp : Held (F := F) c arg2 arg3 arg4 arg5 arg6 arg7 arg8 arg9 arg10 arg11 arg12 arg13 arg14 ⊢ wp frame (wpE (defs₀ (F := F)) Variants.none c none) Set.univ p (fun _ => Held (F := F) c arg2 arg3 arg4 arg5 arg6 arg7 arg8 arg9 arg10 arg11 arg12 arg13 arg14))
    (hk : Held (F := F) c arg2 arg3 arg4 arg5 arg6 arg7 arg8 arg9 arg10 arg11 arg12 arg13 arg14 ⊢ wp frame (wpE (defs₀ (F := F)) Variants.none c none) Set.univ (k ⟨⟩) K) :
    Held (F := F) c arg2 arg3 arg4 arg5 arg6 arg7 arg8 arg9 arg10 arg11 arg12 arg13 arg14 ⊢ wp frame (wpE (defs₀ (F := F)) Variants.none c none) Set.univ (p >>= k) K := by
  rw [wp_bind]
  iintro H
  iapply (wp_wand_r frame (wpE (defs₀ (F := F)) Variants.none (c : Thread nD τ) none) Set.univ)
  isplitl [H]
  · iapply hp; iexact H
  · iintro %u H
    iapply hk; iexact H

/-- Doing nothing keeps the buffers. -/
theorem ret_held (c : Dev nD) (arg2 : Memref sig .tc .vmem S1x4096x256 .bf16) (arg3 : Memref sig .tc .vmem S5x1x256 .f32) (arg4 : Memref sig .tc .vmem S5x1x256 .f32) (arg5 : Memref sig .tc .vmem S1x4096x256 .fp8e4m3) (arg6 : Memref sig .tc .smem S8 .f32) (arg7 : Memref sig .tc .vmem S5x4096x256 .bf16) (arg8 : Memref sig .tc .vmem S5x8x256 .f32) (arg9 : Memref sig .tc .vmem S5x8x256 .f32) (arg10 : Memref sig .tc .vmem S5x16x256 .bf16) (arg11 : Memref sig .tc .vmem S5x16x256 .bf16) (arg12 : Memref sig .tc .vmem S5x8x256 .f32) (arg13 : Memref sig .tc .smem S1 .i32) (arg14 : Memref sig .tc .smem S1 .i32) :
    Held (F := F) c arg2 arg3 arg4 arg5 arg6 arg7 arg8 arg9 arg10 arg11 arg12 arg13 arg14 ⊢ wp frame (wpE (defs₀ (F := F)) Variants.none c none) Set.univ (pure ⟨⟩ : Prog (TpuEff nD τ sig (Elt F) Λ₀ .tc) PUnit)
      (fun _ => Held (F := F) c arg2 arg3 arg4 arg5 arg6 arg7 arg8 arg9 arg10 arg11 arg12 arg13 arg14) := by
  iintro H
  sl_step
  iexact H

end Cert.KernelIdeal.Hand

end
-- ==== Proof.KernelIdeal.Run1.lean ====
/-
  Hand-written, untrusted. Block 1 of the body run once.
-/
module

public import proofs.«01_k».proof.Proof.KernelIdeal.Held
public import Idealize.ShloMosaic.Lib.Pipeline.Frame
public import Idealize.ShloMosaic.Lib.Tactic

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Block 1, from every buffer at some contents to every buffer at some contents. -/
theorem blk1_held (c : Dev nD) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) :
    Held (F := F) c arg2 arg3 arg4 arg5 arg6 arg7 arg8 arg9 arg10 arg11 arg12 arg13 arg14
      ⊢ wp frame (wpE (defs₀ (F := F)) Variants.none c none) Set.univ
          (blk1 (F := F) i arg2 harg2 arg3 harg3 arg4 harg4 arg5 harg5 arg6 harg6 arg7 harg7 arg8 harg8 arg9 harg9 arg10 harg10 arg11 harg11 arg12 harg12 arg13 harg13 arg14 harg14) (fun _ => Held (F := F) c arg2 arg3 arg4 arg5 arg6 arg7 arg8 arg9 arg10 arg11 arg12 arg13 arg14) := by
  unfold blk1 Held owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩⟩
  sl_exec
  sl_step
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.KernelIdeal.Hand

end
-- ==== Proof.KernelIdeal.Run2.lean ====
/-
  Hand-written, untrusted. Block 2 of the body run once.
-/
module

public import proofs.«01_k».proof.Proof.KernelIdeal.Held
public import Idealize.ShloMosaic.Lib.Pipeline.Frame
public import Idealize.ShloMosaic.Lib.Tactic

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Block 2, from every buffer at some contents to every buffer at some contents. -/
theorem blk2_held (c : Dev nD) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) :
    Held (F := F) c arg2 arg3 arg4 arg5 arg6 arg7 arg8 arg9 arg10 arg11 arg12 arg13 arg14
      ⊢ wp frame (wpE (defs₀ (F := F)) Variants.none c none) Set.univ
          (blk2 (F := F) i arg2 harg2 arg3 harg3 arg4 harg4 arg5 harg5 arg6 harg6 arg7 harg7 arg8 harg8 arg9 harg9 arg10 harg10 arg11 harg11 arg12 harg12 arg13 harg13 arg14 harg14) (fun _ => Held (F := F) c arg2 arg3 arg4 arg5 arg6 arg7 arg8 arg9 arg10 arg11 arg12 arg13 arg14) := by
  unfold blk2 Held owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩⟩
  sl_exec
  sl_step
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.KernelIdeal.Hand

end
-- ==== Proof.KernelIdeal.Run3.lean ====
/-
  Hand-written, untrusted. Block 3 of the body run once.
-/
module

public import proofs.«01_k».proof.Proof.KernelIdeal.Held
public import Idealize.ShloMosaic.Lib.Pipeline.Frame
public import Idealize.ShloMosaic.Lib.Tactic

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Block 3, from every buffer at some contents to every buffer at some contents. -/
theorem blk3_held (c : Dev nD) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) :
    Held (F := F) c arg2 arg3 arg4 arg5 arg6 arg7 arg8 arg9 arg10 arg11 arg12 arg13 arg14
      ⊢ wp frame (wpE (defs₀ (F := F)) Variants.none c none) Set.univ
          (blk3 (F := F) i arg2 harg2 arg3 harg3 arg4 harg4 arg5 harg5 arg6 harg6 arg7 harg7 arg8 harg8 arg9 harg9 arg10 harg10 arg11 harg11 arg12 harg12 arg13 harg13 arg14 harg14) (fun _ => Held (F := F) c arg2 arg3 arg4 arg5 arg6 arg7 arg8 arg9 arg10 arg11 arg12 arg13 arg14) := by
  unfold blk3 Held owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩⟩
  sl_exec
  sl_step
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.KernelIdeal.Hand

end
-- ==== Proof.KernelIdeal.Run4.lean ====
/-
  Hand-written, untrusted. Block 4 of the body run once.
-/
module

public import proofs.«01_k».proof.Proof.KernelIdeal.Held
public import Idealize.ShloMosaic.Lib.Pipeline.Frame
public import Idealize.ShloMosaic.Lib.Tactic

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Block 4, from every buffer at some contents to every buffer at some contents. -/
theorem blk4_held (c : Dev nD) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) :
    Held (F := F) c arg2 arg3 arg4 arg5 arg6 arg7 arg8 arg9 arg10 arg11 arg12 arg13 arg14
      ⊢ wp frame (wpE (defs₀ (F := F)) Variants.none c none) Set.univ
          (blk4 (F := F) i arg2 harg2 arg3 harg3 arg4 harg4 arg5 harg5 arg6 harg6 arg7 harg7 arg8 harg8 arg9 harg9 arg10 harg10 arg11 harg11 arg12 harg12 arg13 harg13 arg14 harg14) (fun _ => Held (F := F) c arg2 arg3 arg4 arg5 arg6 arg7 arg8 arg9 arg10 arg11 arg12 arg13 arg14) := by
  unfold blk4 Held owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩⟩
  sl_exec
  sl_step
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.KernelIdeal.Hand

end
-- ==== Proof.KernelIdeal.Run6.lean ====
/-
  Hand-written, untrusted. Block 6 of the body run once.
-/
module

public import proofs.«01_k».proof.Proof.KernelIdeal.Held
public import Idealize.ShloMosaic.Lib.Pipeline.Frame
public import Idealize.ShloMosaic.Lib.Tactic

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Block 6, from every buffer at some contents to every buffer at some contents. -/
theorem blk6_held (c : Dev nD) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (k0_h5 : k0_cond5 i = 1#1) (v40 : FVec F S1280x128 .f32) (v51 : FVec F S1x1280 .f32) (v62 : FVec F S1x1280 .f32) (v112 : FVec F S1x1280 .f32) :
    Held (F := F) c arg2 arg3 arg4 arg5 arg6 arg7 arg8 arg9 arg10 arg11 arg12 arg13 arg14
      ⊢ wp frame (wpE (defs₀ (F := F)) Variants.none c none) Set.univ
          (blk6 (F := F) i arg2 harg2 arg3 harg3 arg4 harg4 arg5 harg5 arg6 harg6 arg7 harg7 arg8 harg8 arg9 harg9 arg10 harg10 arg11 harg11 arg12 harg12 arg13 harg13 arg14 harg14 k0_h5 v40 v51 v62 v112) (fun _ => Held (F := F) c arg2 arg3 arg4 arg5 arg6 arg7 arg8 arg9 arg10 arg11 arg12 arg13 arg14) := by
  unfold blk6 Held owns
  simp only [k0_part10_eq_skeleton, k0_part11_eq_skeleton, k0_part12_eq_skeleton, k0_part13_eq_skeleton, k0_part14_eq_skeleton, k0_part15_eq_skeleton]
  unfold k0_part10_skel k0_part11_skel k0_part12_skel k0_part13_skel k0_part14_skel k0_part15_skel
  simp only [bind_assoc, pure_bind]
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩⟩
  sl_exec
  sl_step
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.KernelIdeal.Hand

end
-- ==== Proof.KernelIdeal.Run5.lean ====
/-
  Hand-written, untrusted. Block 5 of the body run once.
-/
module

public import proofs.«01_k».proof.Proof.KernelIdeal.Run6
public import Idealize.ShloMosaic.Lib.Pipeline.Frame
public import Idealize.ShloMosaic.Lib.Tactic

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Block 5, from every buffer at some contents to every buffer at some contents. -/
theorem blk5_held (c : Dev nD) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (k0_h5 : k0_cond5 i = 1#1) :
    Held (F := F) c arg2 arg3 arg4 arg5 arg6 arg7 arg8 arg9 arg10 arg11 arg12 arg13 arg14
      ⊢ wp frame (wpE (defs₀ (F := F)) Variants.none c none) Set.univ
          (blk5 (F := F) i arg2 harg2 arg3 harg3 arg4 harg4 arg5 harg5 arg6 harg6 arg7 harg7 arg8 harg8 arg9 harg9 arg10 harg10 arg11 harg11 arg12 harg12 arg13 harg13 arg14 harg14 k0_h5) (fun _ => Held (F := F) c arg2 arg3 arg4 arg5 arg6 arg7 arg8 arg9 arg10 arg11 arg12 arg13 arg14) := by
  unfold blk5 Held owns
  simp only [k0_part16_eq_skeleton, k0_part17_eq_skeleton, k0_part18_eq_skeleton, k0_part19_eq_skeleton, k0_part20_eq_skeleton, k0_part21_eq_skeleton, k0_part22_eq_skeleton, k0_part23_eq_skeleton]
  unfold k0_part16_skel k0_part17_skel k0_part18_skel k0_part19_skel k0_part20_skel k0_part21_skel k0_part22_skel k0_part23_skel
  simp only [bind_assoc, pure_bind]
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩⟩
  sl_exec
  iapply (seq_held (F := F) c arg2 arg3 arg4 arg5 arg6 arg7 arg8 arg9 arg10 arg11 arg12 arg13 arg14 _ _ _ ?hp ?hk)
  case hp =>
    split
    · exact blk6_held c i arg2 harg2 arg3 harg3 arg4 harg4 arg5 harg5 arg6 harg6 arg7 harg7 arg8 harg8 arg9 harg9 arg10 harg10 arg11 harg11 arg12 harg12 arg13 harg13 arg14 harg14 k0_h5 _ _ _ _
    · exact ret_held c arg2 arg3 arg4 arg5 arg6 arg7 arg8 arg9 arg10 arg11 arg12 arg13 arg14
  case hk =>
    unfold Held owns
    iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩⟩
    sl_exec
    sl_step
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl
  unfold Held owns
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.KernelIdeal.Hand

end
-- ==== Proof.KernelIdeal.Body.lean ====
/-
  Hand-written, untrusted. The body put together from its blocks.
-/
module

public import proofs.«01_k».proof.Proof.KernelIdeal.Run1
public import proofs.«01_k».proof.Proof.KernelIdeal.Run2
public import proofs.«01_k».proof.Proof.KernelIdeal.Run3
public import proofs.«01_k».proof.Proof.KernelIdeal.Run4
public import proofs.«01_k».proof.Proof.KernelIdeal.Run5
public import Idealize.ShloMosaic.Lib.Pipeline.Frame
public import Idealize.ShloMosaic.Lib.Tactic

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The whole body, from every buffer at some contents to every buffer at some contents. -/
theorem body_held (c : Dev nD) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) :
    Held (F := F) c arg2 arg3 arg4 arg5 arg6 arg7 arg8 arg9 arg10 arg11 arg12 arg13 arg14
      ⊢ wp frame (wpE (defs₀ (F := F)) Variants.none c none) Set.univ
          (cc0_gn_silu_fp8 (F := F) i arg2 harg2 arg3 harg3 arg4 harg4 arg5 harg5 arg6 harg6 arg7 harg7 arg8 harg8 arg9 harg9 arg10 harg10 arg11 harg11 arg12 harg12 arg13 harg13 arg14 harg14) (fun _ => Held (F := F) c arg2 arg3 arg4 arg5 arg6 arg7 arg8 arg9 arg10 arg11 arg12 arg13 arg14) := by
  rw [cc0_gn_silu_fp8_eq_skeleton, skel_eq_blocks]
  unfold bodyBlocks
  unfold Held owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩⟩
  sl_exec
  iapply (seq_held (F := F) c arg2 arg3 arg4 arg5 arg6 arg7 arg8 arg9 arg10 arg11 arg12 arg13 arg14 _ _ _ ?hp ?hk)
  case hp =>
    split
    · exact blk1_held c i arg2 harg2 arg3 harg3 arg4 harg4 arg5 harg5 arg6 harg6 arg7 harg7 arg8 harg8 arg9 harg9 arg10 harg10 arg11 harg11 arg12 harg12 arg13 harg13 arg14 harg14
    · exact ret_held c arg2 arg3 arg4 arg5 arg6 arg7 arg8 arg9 arg10 arg11 arg12 arg13 arg14
  case hk =>
    refine seq_held (F := F) c arg2 arg3 arg4 arg5 arg6 arg7 arg8 arg9 arg10 arg11 arg12 arg13 arg14 _ _ _ ?_ (seq_held (F := F) c arg2 arg3 arg4 arg5 arg6 arg7 arg8 arg9 arg10 arg11 arg12 arg13 arg14 _ _ _ ?_ (seq_held (F := F) c arg2 arg3 arg4 arg5 arg6 arg7 arg8 arg9 arg10 arg11 arg12 arg13 arg14 _ _ _ ?_ ?_))
    · split
      · exact blk2_held c i arg2 harg2 arg3 harg3 arg4 harg4 arg5 harg5 arg6 harg6 arg7 harg7 arg8 harg8 arg9 harg9 arg10 harg10 arg11 harg11 arg12 harg12 arg13 harg13 arg14 harg14
      · exact ret_held c arg2 arg3 arg4 arg5 arg6 arg7 arg8 arg9 arg10 arg11 arg12 arg13 arg14
    · split
      · exact blk3_held c i arg2 harg2 arg3 harg3 arg4 harg4 arg5 harg5 arg6 harg6 arg7 harg7 arg8 harg8 arg9 harg9 arg10 harg10 arg11 harg11 arg12 harg12 arg13 harg13 arg14 harg14
      · exact ret_held c arg2 arg3 arg4 arg5 arg6 arg7 arg8 arg9 arg10 arg11 arg12 arg13 arg14
    · split
      · exact blk4_held c i arg2 harg2 arg3 harg3 arg4 harg4 arg5 harg5 arg6 harg6 arg7 harg7 arg8 harg8 arg9 harg9 arg10 harg10 arg11 harg11 arg12 harg12 arg13 harg13 arg14 harg14
      · exact ret_held c arg2 arg3 arg4 arg5 arg6 arg7 arg8 arg9 arg10 arg11 arg12 arg13 arg14
    · split
      · exact blk5_held c i arg2 harg2 arg3 harg3 arg4 harg4 arg5 harg5 arg6 harg6 arg7 harg7 arg8 harg8 arg9 harg9 arg10 harg10 arg11 harg11 arg12 harg12 arg13 harg13 arg14 harg14 _
      · exact ret_held c arg2 arg3 arg4 arg5 arg6 arg7 arg8 arg9 arg10 arg11 arg12 arg13 arg14
  unfold Held owns
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.KernelIdeal.Hand

end
-- ==== Proof.KernelIdeal.Frame.lean ====
/-
  Hand-written, untrusted. The frame of `KernelIdeal`: the body obligation with nothing said of what the windows' buffers hold
  (the relation true of any two contents), and the run of @main.
-/
module

public import proofs.«01_k».proof.Proof.KernelIdeal.Body
public import proofs.«01_k».proof.Proof.Gen.KernelIdeal.Frame
public import proofs.«01_k».proof.Proof.Gen.KernelIdeal.Points
public import Idealize.ShloMosaic.Lib.Pipeline.Frame
public import Idealize.ShloMosaic.Lib.Tactic

@[expose] public section

set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The scratch buffers, whole. -/
abbrev sc0 : Memref sig .tc .vmem S5x4096x256 .bf16 := Memref.whole cc0_scratch0
abbrev sc1 : Memref sig .tc .vmem S5x8x256 .f32 := Memref.whole cc0_scratch1
abbrev sc2 : Memref sig .tc .vmem S5x8x256 .f32 := Memref.whole cc0_scratch2
abbrev sc3 : Memref sig .tc .vmem S5x16x256 .bf16 := Memref.whole cc0_scratch3
abbrev sc4 : Memref sig .tc .vmem S5x16x256 .bf16 := Memref.whole cc0_scratch4
abbrev sc5 : Memref sig .tc .vmem S5x8x256 .f32 := Memref.whole cc0_scratch5
abbrev sc6 : Memref sig .tc .smem S1 .i32 := Memref.whole cc0_scratch6
abbrev sc7 : Memref sig .tc .smem S1 .i32 := Memref.whole cc0_scratch7

/-- The launch's invariant opened: the scratch at some contents, the generator register at some state. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)
          ∗ (∃ d, owns (c : Thread nD τ) sc4 fullShare d) ∗ (∃ d, owns (c : Thread nD τ) sc5 fullShare d)
          ∗ (∃ d, owns (c : Thread nD τ) sc6 fullShare d) ∗ (∃ d, owns (c : Thread nD τ) sc7 fullShare d))
          ∗ (∃ r, prngReg c r)) := by
  unfold Pipeline.ΦA
  rw [scopedRest0_eq]; simp only [owns_whole]; try rfl

/-- The proof data on core `c`: the arrays as the region finds them; nothing said of what the body leaves in a window's
    buffer; full shares; nothing owed. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body at the point, from the five windows' buffers at anything. -/
theorem sound_body (c : Dev nD) (t : Fin cfg0.N)
    (Y : (w : Fin cfg0.W) → (cfg0.win w).block.Idx → Elt F (cfg0.win w).elt) :
    iprop((rdat m c).Φ t.castSucc ∗ (rdat m c).owesAt () t.castSucc
        ∗ (owns (c : Thread nD τ) ((cfg0.win 0).stage (cfg0.slots t 0)) fullShare (Y 0)
          ∗ owns (c : Thread nD τ) ((cfg0.win 1).stage (cfg0.slots t 1)) fullShare (Y 1)
          ∗ owns (c : Thread nD τ) ((cfg0.win 2).stage (cfg0.slots t 2)) fullShare (Y 2)
          ∗ owns (c : Thread nD τ) ((cfg0.win 3).stage (cfg0.slots t 3)) fullShare (Y 3)
          ∗ owns (c : Thread nD τ) ((cfg0.win 4).stage (cfg0.slots t 4)) fullShare (Y 4)))
      ⊢ wp frame (wpE (defs₀ (F := F)) Variants.none c none) Set.univ (bodyAt0 t) (fun _ =>
        iprop((rdat m c).Φ t.succ ∗ (rdat m c).owesAt () t.succ
        ∗ ((∃ X, ⌜(rdat m c).after 0 t (Y 0) X⌝ ∗ owns (c : Thread nD τ) ((cfg0.win 0).stage (cfg0.slots t 0)) fullShare X)
          ∗ (∃ X, ⌜(rdat m c).after 1 t (Y 1) X⌝ ∗ owns (c : Thread nD τ) ((cfg0.win 1).stage (cfg0.slots t 1)) fullShare X)
          ∗ (∃ X, ⌜(rdat m c).after 2 t (Y 2) X⌝ ∗ owns (c : Thread nD τ) ((cfg0.win 2).stage (cfg0.slots t 2)) fullShare X)
          ∗ (∃ X, ⌜(rdat m c).after 3 t (Y 3) X⌝ ∗ owns (c : Thread nD τ) ((cfg0.win 3).stage (cfg0.slots t 3)) fullShare X)
          ∗ (∃ X, ⌜(rdat m c).after 4 t (Y 4) X⌝ ∗ owns (c : Thread nD τ) ((cfg0.win 4).stage (cfg0.slots t 4)) fullShare X)))) := by
  rw [show (rdat m c).Φ t.succ = (rdat m c).Φ t.castSucc from rfl,
    show (rdat m c).owesAt () t.succ = (rdat m c).owesAt () t.castSucc from rfl,
    show (rdat m c).Φ t.castSucc = Pipeline.ΦA spec0 c from rfl, PhiA_eq]
  iintro ⟨⟨⟨S0, S1, S2, S3, S4, S5, S6, S7⟩, Hg⟩, HO, W0, W1, W2, W3, W4⟩
  iapply (wp_wand_r frame (wpE (defs₀ (F := F)) Variants.none (c : Thread nD τ) none) Set.univ)
  isplitl [S0 S1 S2 S3 S4 S5 S6 S7 W0 W1 W2 W3 W4]
  · iapply (body_held c _ _ _ _ _ _ _ _ _ _ _ _ _ _ _ _ _ _ _ _ _ _ _ _ _ _ _)
    unfold Held
    isplitl [W0]; · iexists _; iexact W0
    isplitl [W1]; · iexists _; iexact W1
    isplitl [W2]; · iexists _; iexact W2
    isplitl [W3]; · iexists _; iexact W3
    isplitl [W4]; · iexists _; iexact W4
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  unfold Held
  iintro %_ ⟨⟨%d0, W0⟩, ⟨%d1, W1⟩, ⟨%d2, W2⟩, ⟨%d3, W3⟩, ⟨%d4, W4⟩, S0, S1, S2, S3, S4, S5, S6, S7⟩
  isplitl [S0 S1 S2 S3 S4 S5 S6 S7 Hg]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [HO]; · iexact HO
  isplitl [W0]; · iexists d0; isplitr; · ipureintro; trivial
                  iexact W0
  isplitl [W1]; · iexists d1; isplitr; · ipureintro; trivial
                  iexact W1
  isplitl [W2]; · iexists d2; isplitr; · ipureintro; trivial
                  iexact W2
  isplitl [W3]; · iexists d3; isplitr; · ipureintro; trivial
                  iexact W3
  iexists d4; isplitr; · ipureintro; trivial
  iexact W4

/-- The library's body obligation. -/
theorem body_obligation (c : Dev nD) : (rdat (F := F) m c).BodyObligation (defs₀ (F := F)) Variants.none () Set.univ :=
  fun t Y _ => by
    rw [bigSep_W0, bigSep_W0, defs₀_row]
    exact sound_body m c t Y

set_option backward.isDefEq.respectTransparency.types false in
/-- At any value instance, from any memory with zero counters, every fair execution of @main terminates; every final
    state has the arguments at their launch contents and every semaphore counter at zero. -/
theorem run_main :
    θ_run defs (onTc (τ := τ) (main (F := F))) (s₀ m ρ)
      (fun r => Pipeline.RDat.FramePost (cfgs 0) (fun c => rdat m c) (V m) r ∧ r.2.sem = fun _ => 0) :=
  Pipeline.RDat.θ_run_frame (Q' := _) cfgs (0 : Fin 1) launch0 defs₀ Variants.none (rdat m) m ρ main
    (hbody := fun c => body_obligation m c) (hshare := fun c w => by unfold RDat.share; split <;> rfl)
    (howed := fun _ _ => rfl) (V := V m) (hmain := hmain m Variants.none) (hA := fun _ _ => rfl)
    (hΦ := fun _ _ => rfl) (hQ' := fun _ h => h)

variable {m ρ}

theorem final_args {r : PUnit × MemSt nD τ sig (Elt F)}
    (h : Pipeline.RDat.FramePost (cfgs 0) (fun c => rdat (F := F) m c) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨(Pipeline.RDat.FramePost.arr_in h c 0 rfl).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c)⟩

end Cert.KernelIdeal.Hand

end
-- ==== Proof.Value.Spec.lean ====
/-
  Hand-written, untrusted. The mathematics of one image over the reals: group means and variances, the affine map, SiLU,
  the power-of-two scale and the clamped codes; and the identities that relate the kernel's way of computing them to the
  plain one.
-/
module

public import Idealize.ShloMosaic.PureOps.Ideal
public import Mathlib.Analysis.SpecialFunctions.Trigonometric.DerivHyp
public import Mathlib.Tactic.Linarith
public import Mathlib.Tactic.Positivity
public import Mathlib.Tactic.FieldSimp
public import Mathlib.Tactic.Ring

@[expose] public section

noncomputable section

namespace Cert.Spec

open Finset

/-- The sum over one group: 4096 rows of 40 channels. -/
def gs (f : ℕ → ℕ → ℝ) (g : ℕ) : ℝ := ∑ r ∈ range 4096, ∑ k ∈ range 40, f r (40 * g + k)

/-- The constant added to the variance (1e-5 in f32). -/
def eps : ℝ := 10995116 / 2 ^ 40

/-- The constant 1/448 in f32. -/
def c448 : ℝ := 9586981 / 2 ^ 32

/-- The mean of a group. -/
def mean (x : ℕ → ℕ → ℝ) (g : ℕ) : ℝ := gs x g / 163840

/-- The variance of a group. -/
def var (x : ℕ → ℕ → ℝ) (g : ℕ) : ℝ := gs (fun r j => (x r j - mean x g) * (x r j - mean x g)) g / 163840

/-- The reciprocal deviation of a group. -/
def rstd (x : ℕ → ℕ → ℝ) (g : ℕ) : ℝ := (Real.sqrt (var x g + eps))⁻¹

/-- The normalised, scaled and shifted entry. -/
def aff (x : ℕ → ℕ → ℝ) (γ β : ℕ → ℝ) (r j : ℕ) : ℝ :=
  (x r j - mean x (j / 40)) * rstd x (j / 40) * γ j + β j

/-- SiLU. -/
def silu (v : ℝ) : ℝ := v * (1 + Real.exp (-v))⁻¹

/-- The largest magnitude of an image. -/
def amax (x : ℕ → ℕ → ℝ) (γ β : ℕ → ℝ) : ℝ :=
  (range 4096 ×ˢ range 1280).sup' (⟨(0, 0), by simp⟩) (fun p => |silu (aff x γ β p.1 p.2)|)

/-- How many of the powers 2^-126 … 2^127 lie at or below the scaled magnitude. -/
def cnt (a : ℝ) : ℕ := ((range 254).filter fun k : ℕ => (2 : ℝ) ^ ((k : ℤ) - 126) ≤ a * c448).card

/-- The exponent of the scale. -/
def expo (a : ℝ) : ℤ := if a = 0 then 0 else (cnt a : ℤ) - 126

/-- The code of an entry. -/
def code (x : ℕ → ℕ → ℝ) (γ β : ℕ → ℝ) (r j : ℕ) : ℝ :=
  min 448 (max (-448) (silu (aff x γ β r j) * (2 : ℝ) ^ (-(expo (amax x γ β)))))

theorem eps_pos : 0 < eps := by unfold eps; norm_num

theorem c448_pos : 0 < c448 := by unfold c448; norm_num

theorem sum_lanes8 (f : ℕ → ℝ) (n : ℕ) :
    ∑ a : Fin 8, ∑ i ∈ range n, f (8 * i + a.val) = ∑ r ∈ range (8 * n), f r := by
  induction n with
  | zero => simp
  | succ n ih =>
    simp only [sum_range_succ, sum_add_distrib, ih]
    rw [show 8 * (n + 1) = 8 * n + 8 by ring, sum_range_add, sum_range (fun x => f (8 * n + x))]

/-- A sum over the channels against the membership matrix is the sum over the group. -/
theorem sum_member (h : ℕ → ℝ) (g : ℕ) (hg : g < 32) :
    ∑ ch : Fin 1280, h ch.val * (if 40 * g ≤ ch.val ∧ ch.val < 40 * g + 40 then (1 : ℝ) else 0)
      = ∑ k ∈ range 40, h (40 * g + k) := by
  rw [Fin.sum_univ_eq_sum_range (fun ch => h ch * (if 40 * g ≤ ch ∧ ch < 40 * g + 40 then (1 : ℝ) else 0)) 1280]
  simp only [mul_ite, mul_one, mul_zero]
  rw [← sum_filter]
  have : (range 1280).filter (fun ch => 40 * g ≤ ch ∧ ch < 40 * g + 40) = Ico (40 * g) (40 * g + 40) := by
    ext ch; simp only [mem_filter, mem_range, mem_Ico]; omega
  rw [this, sum_Ico_eq_sum_range]
  simp

theorem group_sum (f : ℕ → ℕ → ℝ) (g : ℕ) (hg : g < 32) :
    ∑ a : Fin 8, ∑ ch : Fin 1280, (∑ i ∈ range 512, f (8 * i + a.val) ch.val)
        * (if 40 * g ≤ ch.val ∧ ch.val < 40 * g + 40 then (1 : ℝ) else 0) = gs f g := by
  have h1 : ∀ a : Fin 8, ∑ ch : Fin 1280, (∑ i ∈ range 512, f (8 * i + a.val) ch.val)
        * (if 40 * g ≤ ch.val ∧ ch.val < 40 * g + 40 then (1 : ℝ) else 0)
        = ∑ i ∈ range 512, ∑ k ∈ range 40, f (8 * i + a.val) (40 * g + k) := by
    intro a
    rw [sum_member (fun ch => ∑ i ∈ range 512, f (8 * i + a.val) ch) g hg, sum_comm]
  simp only [h1]
  rw [sum_lanes8 (fun r => ∑ k ∈ range 40, f r (40 * g + k)) 512]
  rfl

/-- A sum over the lanes against the membership matrix is the entry of the channel's group. -/
theorem sum_spread (m : ℕ → ℝ) (ch : ℕ) (hch : ch < 1280) :
    ∑ g : Fin 128, m g.val * (if 40 * g.val ≤ ch ∧ ch < 40 * g.val + 40 then (1 : ℝ) else 0) = m (ch / 40) := by
  rw [Fin.sum_univ_eq_sum_range (fun g => m g * (if 40 * g ≤ ch ∧ ch < 40 * g + 40 then (1 : ℝ) else 0)) 128]
  rw [sum_eq_single (ch / 40)]
  · rw [if_pos (by omega), mul_one]
  · intro b _ hb
    rw [if_neg (by omega), mul_zero]
  · intro h; exact absurd (mem_range.2 (by omega)) h

theorem gs_nonneg (f : ℕ → ℕ → ℝ) (g : ℕ) (h : ∀ r j, 0 ≤ f r j) : 0 ≤ gs f g :=
  sum_nonneg fun _ _ => sum_nonneg fun _ _ => h _ _

theorem var_nonneg (x : ℕ → ℕ → ℝ) (g : ℕ) : 0 ≤ var x g :=
  div_nonneg (gs_nonneg _ _ fun _ _ => mul_self_nonneg _) (by norm_num)

/-- The mean square less the squared mean is the variance. -/
theorem var_eq (x : ℕ → ℕ → ℝ) (g : ℕ) :
    gs (fun r j => x r j * x r j) g / 163840 - mean x g * mean x g = var x g := by
  have h : gs (fun r j => (x r j - mean x g) * (x r j - mean x g)) g
      = gs (fun r j => x r j * x r j) g - 2 * mean x g * gs x g + 163840 * (mean x g * mean x g) := by
    unfold gs
    have : ∀ r j, (x r j - mean x g) * (x r j - mean x g)
        = x r j * x r j - 2 * mean x g * x r j + mean x g * mean x g := by intros; ring
    simp only [this, sum_add_distrib, sum_sub_distrib, ← mul_sum, sum_const, card_range, nsmul_eq_mul]
    push_cast; ring
  unfold var
  rw [h]
  have : gs x g = 163840 * mean x g := by unfold mean; ring
  rw [this]; ring

/-- Half the argument times one plus its hyperbolic tangent is SiLU. -/
theorem silu_tanh (h : ℝ) : h * (1 + Real.tanh h) = silu (2 * h) := by
  unfold silu
  rw [Real.tanh_eq_sinh_div_cosh, Real.sinh_eq, Real.cosh_eq]
  have e1 : Real.exp (-(2 * h)) = Real.exp (-h) * Real.exp (-h) := by rw [← Real.exp_add]; congr 1; ring
  have e2 : Real.exp h * Real.exp (-h) = 1 := by rw [← Real.exp_add]; simp
  have p1 := Real.exp_pos h
  have p2 := Real.exp_pos (-h)
  rw [e1]
  have hh : Real.exp (-h) = (Real.exp h)⁻¹ := by rw [Real.exp_neg]
  rw [hh]
  field_simp
  ring

theorem silu_abs_le (v : ℝ) : |silu v| ≤ |v| := by
  unfold silu
  rw [abs_mul]
  have h : |(1 + Real.exp (-v))⁻¹| ≤ 1 := by
    have := Real.exp_pos (-v)
    rw [abs_of_pos (by positivity)]
    exact inv_le_one_of_one_le₀ (by linarith)
  nlinarith [abs_nonneg v]

theorem silu_nonpos_abs (v : ℝ) (hv : v ≤ 0) : |silu v| ≤ 1 := by
  unfold silu
  have h1 := Real.add_one_le_exp (-v)
  have h2 := Real.exp_pos (-v)
  rw [abs_mul, abs_of_nonpos hv, abs_of_pos (by positivity), ← div_eq_mul_inv, div_le_one (by positivity)]
  linarith

theorem silu_pos (v : ℝ) (hv : 0 < v) : 0 < silu v := by
  unfold silu
  have := Real.exp_pos (-v)
  positivity

theorem silu_mono (u v : ℝ) (hu : 0 ≤ u) (h : u ≤ v) : silu u ≤ silu v := by
  unfold silu
  have e : Real.exp (-v) ≤ Real.exp (-u) := Real.exp_le_exp.2 (by linarith)
  have p := Real.exp_pos (-v)
  have p' := Real.exp_pos (-u)
  have : (1 + Real.exp (-u))⁻¹ ≤ (1 + Real.exp (-v))⁻¹ := inv_anti₀ (by positivity) (by linarith)
  exact mul_le_mul h this (by positivity) (by linarith)

theorem le_amax (x : ℕ → ℕ → ℝ) (γ β : ℕ → ℝ) (r j : ℕ) (hr : r < 4096) (hj : j < 1280) :
    |silu (aff x γ β r j)| ≤ amax x γ β :=
  le_sup' (fun p : ℕ × ℕ => |silu (aff x γ β p.1 p.2)|)
    (by simp [hr, hj] : (r, j) ∈ range 4096 ×ˢ range 1280)

theorem amax_le (x : ℕ → ℕ → ℝ) (γ β : ℕ → ℝ) (b : ℝ)
    (h : ∀ r < 4096, ∀ j < 1280, |silu (aff x γ β r j)| ≤ b) : amax x γ β ≤ b :=
  sup'_le _ _ fun p hp => by
    simp only [mem_product, mem_range] at hp
    exact h _ hp.1 _ hp.2

theorem amax_nonneg (x : ℕ → ℕ → ℝ) (γ β : ℕ → ℝ) : 0 ≤ amax x γ β :=
  (abs_nonneg _).trans (le_amax x γ β 0 0 (by norm_num) (by norm_num))

/-- The deviation from the mean times the reciprocal deviation is at most 405 in magnitude. -/
theorem dev_bound (x : ℕ → ℕ → ℝ) (r j : ℕ) (hr : r < 4096) (hj : j < 1280) :
    |(x r j - mean x (j / 40)) * rstd x (j / 40)| ≤ 405 := by
  set g := j / 40 with hg
  set d := x r j - mean x g with hd
  have hv : d * d ≤ 163840 * var x g := by
    have e : 163840 * var x g = gs (fun r j => (x r j - mean x g) * (x r j - mean x g)) g := by
      unfold var; ring
    rw [e]
    unfold gs
    have hk : j % 40 ∈ range 40 := mem_range.2 (Nat.mod_lt _ (by norm_num))
    have hj' : 40 * g + j % 40 = j := by omega
    have h1 := single_le_sum (f := fun k => (x r (40 * g + k) - mean x g) * (x r (40 * g + k) - mean x g))
      (s := range 40) (fun i _ => mul_self_nonneg _) hk
    have h2 := single_le_sum
      (f := fun r => ∑ k ∈ range 40, (x r (40 * g + k) - mean x g) * (x r (40 * g + k) - mean x g))
      (s := range 4096) (fun i _ => sum_nonneg fun _ _ => mul_self_nonneg _) (mem_range.2 hr)
    simp only [hj'] at h1
    exact h1.trans h2
  have hs : 0 < Real.sqrt (var x g + eps) := Real.sqrt_pos.2 (by linarith [var_nonneg x g, eps_pos])
  have hss : Real.sqrt (var x g + eps) * Real.sqrt (var x g + eps) = var x g + eps :=
    Real.mul_self_sqrt (by linarith [var_nonneg x g, eps_pos])
  unfold rstd
  rw [abs_mul, abs_of_pos (inv_pos.2 hs), ← div_eq_mul_inv, div_le_iff₀ hs]
  apply abs_le_of_sq_le_sq' _ (by positivity) |> fun h => abs_le.2 h
  have := eps_pos
  have := var_nonneg x g
  nlinarith

theorem amax_bound (x : ℕ → ℕ → ℝ) (γ β : ℕ → ℝ) (hγ : ∀ j < 1280, |γ j| ≤ 2 ^ 126) (hβ : ∀ j < 1280, |β j| ≤ 2 ^ 126) :
    amax x γ β ≤ 406 * 2 ^ 126 := by
  apply amax_le
  intro r hr j hj
  refine (silu_abs_le _).trans ?_
  unfold aff
  refine (abs_add_le _ _).trans ?_
  rw [abs_mul]
  have h1 := dev_bound x r j hr hj
  have h2 := hγ j hj
  have h3 := hβ j hj
  have := mul_le_mul h1 h2 (abs_nonneg _) (by norm_num)
  linarith

/-- The thresholds below the scaled magnitude are the first `cnt` of them. -/
theorem lt_cnt (a : ℝ) (k : ℕ) (hk : k < 254) : k < cnt a ↔ (2 : ℝ) ^ ((k : ℤ) - 126) ≤ a * c448 := by
  have mono : ∀ i j : ℕ, i ≤ j → (2 : ℝ) ^ ((j : ℤ) - 126) ≤ a * c448 → (2 : ℝ) ^ ((i : ℤ) - 126) ≤ a * c448 := by
    intro i j hij h
    exact (zpow_le_zpow_right₀ (by norm_num) (by omega)).trans h
  constructor
  · intro h
    by_contra hc
    have hsub : (range 254).filter (fun k : ℕ => (2 : ℝ) ^ ((k : ℤ) - 126) ≤ a * c448) ⊆ range k := by
      intro i hi
      simp only [mem_filter, mem_range] at hi ⊢
      by_contra hki
      exact hc (mono k i (by omega) hi.2)
    have := card_le_card hsub
    rw [card_range] at this
    unfold cnt at h
    omega
  · intro h
    have hsub : range (k + 1) ⊆ (range 254).filter (fun k : ℕ => (2 : ℝ) ^ ((k : ℤ) - 126) ≤ a * c448) := by
      intro i hi
      simp only [mem_filter, mem_range] at hi ⊢
      exact ⟨by omega, mono i k (by omega) h⟩
    have := card_le_card hsub
    rw [card_range] at this
    unfold cnt
    omega

theorem cnt_le (a : ℝ) : cnt a ≤ 254 := by
  have := card_filter_le (range 254) (fun k => (2 : ℝ) ^ ((k : ℤ) - 126) ≤ a * c448)
  rw [card_range] at this
  exact this

theorem expo_bounds (a : ℝ) (h : a ≤ 406 * 2 ^ 126) : -126 ≤ expo a ∧ expo a ≤ 126 := by
  have hc : cnt a ≤ 252 := by
    by_contra hc
    have h1 := (lt_cnt a 252 (by norm_num)).1 (by omega)
    have h2 : (2 : ℝ) ^ (((252 : ℕ) : ℤ) - 126) = 2 ^ 126 := by norm_num
    rw [h2] at h1
    have : a * c448 ≤ 406 * 2 ^ 126 * c448 := mul_le_mul_of_nonneg_right h c448_pos.le
    unfold c448 at *
    norm_num at *
    linarith
  unfold expo
  split
  · exact ⟨by norm_num, by norm_num⟩
  · constructor <;> omega

/-- Where the largest entry is positive and its SiLU's exponent is at least -5, that SiLU is the largest magnitude. -/
theorem fast_amax (x : ℕ → ℕ → ℝ) (γ β : ℕ → ℝ) (vmax : ℝ) (hle : ∀ r < 4096, ∀ j < 1280, aff x γ β r j ≤ vmax)
    (hex : ∃ r < 4096, ∃ j < 1280, aff x γ β r j = vmax) (hpos : 0 < vmax) (he : -5 ≤ expo (silu vmax)) :
    amax x γ β = silu vmax := by
  have hs := silu_pos vmax hpos
  have h1 : 1 ≤ silu vmax := by
    unfold expo at he
    rw [if_neg hs.ne'] at he
    have h := (lt_cnt (silu vmax) 120 (by norm_num)).1 (by omega)
    have h2 : (2 : ℝ) ^ (((120 : ℕ) : ℤ) - 126) = 1 / 64 := by norm_num
    rw [h2] at h
    unfold c448 at h
    norm_num at h
    linarith
  apply le_antisymm
  · apply amax_le
    intro r hr j hj
    rcases le_total (aff x γ β r j) 0 with h | h
    · exact (silu_nonpos_abs _ h).trans h1
    · have h2 := silu_mono _ _ h (hle r hr j hj)
      have h3 : 0 ≤ silu (aff x γ β r j) := by
        have := silu_mono 0 _ le_rfl h
        have h0 : silu 0 = 0 := by simp [silu]
        linarith
      rw [abs_of_nonneg h3]; exact h2
  · obtain ⟨r, hr, j, hj, e⟩ := hex
    have := le_amax x γ β r j hr hj
    rw [e, abs_of_pos hs] at this
    exact this

end Cert.Spec

end
-- ==== Proof.Value.Lift.lean ====
/-
  Hand-written, untrusted. The operations at real arguments, the constants of the program, the powers of two made of words,
  and the exponent read off the table of thresholds.
-/
module

public import proofs.«01_k».proof.Proof.Value.Spec
public import Idealize.ShloMosaic.Lib.Pointwise

@[expose] public section

set_option maxRecDepth 8192

noncomputable section

namespace Cert.Spec

open Idealize.ShloMosaic Finset

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

theorem exp_coe (r : ℝ) : Ideal.exp (r : EReal) = (Real.exp r : EReal) := rfl

theorem tanh_coe (r : ℝ) : Ideal.tanh (r : EReal) = (Real.tanh r : EReal) := rfl

theorem rsqrt_coe (r : ℝ) (h : 0 < r) : Ideal.rsqrt (r : EReal) = ((Real.sqrt r)⁻¹ : ℝ) := by
  show (if r < 0 then ⊥ else if r = 0 then ⊤ else (((Real.sqrt r)⁻¹ : ℝ) : EReal)) = _
  rw [if_neg h.not_gt, if_neg h.ne']

theorem div_coe (a b : ℝ) (h : b ≠ 0) : Ideal.div (a : EReal) (b : EReal) = ((a / b : ℝ) : EReal) := by
  unfold Ideal.div
  rw [if_neg (by exact_mod_cast h), div_eq_mul_inv, EReal.coe_mul, EReal.coe_inv]

/-- SiLU as the kernel and the reference spell it. -/
theorem silu_coe (v : ℝ) : (v : EReal) * Ideal.div 1 (1 + Ideal.exp (-(v : EReal))) = (silu v : EReal) := by
  have h : (0 : ℝ) < 1 + Real.exp (-v) := by positivity
  rw [← EReal.coe_neg, exp_coe, ← EReal.coe_one, ← EReal.coe_add, div_coe _ _ h.ne', ← EReal.coe_mul]
  unfold silu
  rw [one_div]

theorem silu_coe0 (v : ℝ) : (v : EReal) * Ideal.div 1 (1 + Ideal.exp (0 - (v : EReal))) = (silu v : EReal) := by
  rw [zero_sub, silu_coe]

theorem bits_448 : Ideal.ofBits .f32 0x43E00000#32 = ((448 : ℝ) : EReal) := by
  simp [Ideal.ofBits, Ideal.ieee, -EReal.coe_mul]; norm_num
theorem bits_neg448 : Ideal.ofBits .f32 0xC3E00000#32 = ((-448 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num
theorem bits_n126 : Ideal.ofBits .f32 0xC2FC0000#32 = ((-126 : ℝ) : EReal) := by
  simp [Ideal.ofBits, Ideal.ieee, -EReal.coe_mul]; norm_num
theorem bits_n : Ideal.ofBits .f32 0x48200000#32 = ((163840 : ℝ) : EReal) := by
  simp [Ideal.ofBits, Ideal.ieee, -EReal.coe_mul]; norm_num
theorem bits_eps : Ideal.ofBits .f32 0x3727C5AC#32 = (eps : EReal) := by
  simp [Ideal.ofBits, Ideal.ieee, eps, -EReal.coe_mul]; norm_num
theorem bits_c448 : Ideal.ofBits .f32 0x3B124925#32 = (c448 : EReal) := by
  simp [Ideal.ofBits, Ideal.ieee, c448, -EReal.coe_mul]; norm_num
theorem bits_126 : Ideal.ofBits .f32 0x7E800000#32 = ((2 ^ 126 : ℝ) : EReal) := by
  rw [show (2 ^ 126 : ℝ) = 85070591730234615865843651857942052864 by norm_num]
  simp [Ideal.ofBits, Ideal.ieee, -EReal.coe_mul]; norm_num
theorem bits_top : Ideal.ofBits .f32 0x7F800000#32 = ⊤ := by
  simp [Ideal.ofBits, Ideal.ieee]
theorem bits_bot : Ideal.ofBits .f32 0xFF800000#32 = ⊥ := by
  simp [Ideal.ofBits, Ideal.ieee]
theorem bits_top16 : Ideal.ofBits .bf16 0x7F80#16 = ⊤ := by
  simp [Ideal.ofBits, Ideal.ieee]
theorem bits_bot16 : Ideal.ofBits .bf16 0xFF80#16 = ⊥ := by
  simp [Ideal.ofBits, Ideal.ieee]

/-- What a word with only exponent bits denotes. -/
theorem bits_shl (n : ℕ) (h0 : 0 < n) (h : n < 255) :
    Ideal.ofBits .f32 (BitVec.ofNat 32 n <<< 23) = (((2 : ℝ) ^ ((n : ℤ) - 127) : ℝ) : EReal) := by
  have e1 : (BitVec.ofNat 32 n <<< 23).extractLsb' 23 8 = BitVec.ofNat 8 n := by
    apply BitVec.eq_of_toNat_eq
    simp only [BitVec.extractLsb'_toNat, BitVec.toNat_shiftLeft, BitVec.toNat_ofNat, Nat.shiftRight_eq_div_pow,
      Nat.shiftLeft_eq]
    omega
  have e2 : (BitVec.ofNat 32 n <<< 23).extractLsb' 0 23 = 0#23 := by
    apply BitVec.eq_of_toNat_eq
    simp only [BitVec.extractLsb'_toNat, BitVec.toNat_shiftLeft, BitVec.toNat_ofNat, Nat.shiftRight_eq_div_pow,
      Nat.shiftLeft_eq]
    omega
  have e3 : (BitVec.ofNat 32 n <<< 23).extractLsb' 31 1 = 0#1 := by
    apply BitVec.eq_of_toNat_eq
    simp only [BitVec.extractLsb'_toNat, BitVec.toNat_shiftLeft, BitVec.toNat_ofNat, Nat.shiftRight_eq_div_pow,
      Nat.shiftLeft_eq]
    omega
  have e4 : (BitVec.ofNat 8 n).toNat = n := by
    simp only [BitVec.toNat_ofNat]; omega
  have e5 : (2 : ℝ) ^ ((n : ℤ) - 127) = 8388608 * (2 : ℝ) ^ ((n : ℤ) - 127 - 23) := by
    rw [show (n : ℤ) - 127 = (n : ℤ) - 127 - 23 + 23 by ring, zpow_add₀ (by norm_num)]
    norm_num [mul_comm]
  simp only [Ideal.ofBits, Ideal.ieee, Nat.reduceAdd, e1, e2, e3, e4]
  rw [if_neg (by omega), if_neg (by omega), e5]
  norm_num

theorem bits_shl_zero : Ideal.ofBits .f32 (BitVec.ofNat 32 0 <<< 23) = 0 := by
  simp [Ideal.ofBits, Ideal.ieee]

theorem bits_shl_255 : Ideal.ofBits .f32 (BitVec.ofNat 32 255 <<< 23) = ⊤ := by
  simp [Ideal.ofBits, Ideal.ieee]

/-- The power of two whose exponent is a word. -/
theorem pow2_word (e : ℤ) (h : -126 ≤ e) (h' : e ≤ 126) :
    Ideal.ofBits .f32 ((BitVec.ofInt 32 e + 127#32) <<< 23) = (((2 : ℝ) ^ e : ℝ) : EReal) := by
  obtain ⟨n, hn⟩ : ∃ n : ℕ, (n : ℤ) = e + 127 := ⟨(e + 127).toNat, by omega⟩
  have hw : BitVec.ofInt 32 e + 127#32 = BitVec.ofNat 32 n := by
    rw [show (127#32) = BitVec.ofInt 32 127 from rfl, ← BitVec.ofInt_add, ← hn, BitVec.ofInt_natCast]
  rw [hw, bits_shl n (by omega) (by omega)]
  congr 3; omega

theorem pow2_neg_word (e : ℤ) (h : -126 ≤ e) (h' : e ≤ 126) :
    Ideal.ofBits .f32 ((0#32 - BitVec.ofInt 32 e + 127#32) <<< 23) = (((2 : ℝ) ^ (-e) : ℝ) : EReal) := by
  rw [show (0#32) - BitVec.ofInt 32 e = BitVec.ofInt 32 (-e) by
    rw [BitVec.zero_sub, BitVec.ofInt_neg]]
  exact pow2_word (-e) (by omega) (by omega)

theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

theorem abs_coe (r : ℝ) : (FloatOps.absf (F := Ideal) (φ := .f32) (r : EReal) : EReal) = ((|r| : ℝ) : EReal) := by
  show max (r : EReal) (-(r : EReal)) = _
  rw [← EReal.coe_neg, ← coe_max]; rfl

/-- The largest magnitude lies below any extended real above every magnitude. -/
theorem amax_le_ereal (x : ℕ → ℕ → ℝ) (γ β : ℕ → ℝ) (c : EReal)
    (h : ∀ r < 4096, ∀ j < 1280, ((|silu (aff x γ β r j)| : ℝ) : EReal) ≤ c) : (amax x γ β : EReal) ≤ c := by
  have h0 := h 0 (by norm_num) 0 (by norm_num)
  induction c using EReal.rec with
  | bot => exact absurd h0 (EReal.bot_lt_coe _).not_ge
  | top => exact le_top
  | coe c => exact_mod_cast amax_le x γ β c fun r hr j hj => by exact_mod_cast h r hr j hj

end Cert.Spec

end
-- ==== Proof.Value.PreVal.lean ====
/-
  Hand-written, untrusted. what the precondition says of the arguments.
-/
module

public import proofs.«01_k».proof.Proof.Gen.KernelIdeal
public import proofs.«01_k».proof.Proof.Value.Lift
public import proofs.«01_k».proof.Proof.Value.Spec
public import proofs.«01_k».proof.Pre_finite
public import Idealize.ShloMosaic.Lib.ReduceAll

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec Cert.Pre_finite

theorem ofBool_true {b : Bool} (h : BitVec.ofBool b = 1#1) : b = true := by revert h; revert b; decide

theorem top_abs : (FloatOps.absf (F := Ideal) (φ := .f32) (⊤ : EReal) : EReal) = ⊤ := by
  show max (⊤ : EReal) (-⊤) = ⊤
  simp
theorem bot_abs : (FloatOps.absf (F := Ideal) (φ := .f32) (⊥ : EReal) : EReal) = ⊤ := by
  show max (⊥ : EReal) (-⊥) = ⊤
  simp

/-- A value whose magnitude lies below a bound is real. -/
theorem real_of_abs {v : EReal} (h : (FloatOps.absf (F := Ideal) (φ := .f32) v : EReal) ≠ ⊤) : v = ((v.toReal : ℝ) : EReal) := by
  induction v with
  | bot => exact absurd bot_abs h
  | top => exact absurd top_abs h
  | coe r => rfl

theorem olt_top {v : EReal} (h : FloatOps.cmpf (F := Ideal) (φ := .f32) .olt (FloatOps.absf (F := Ideal) (φ := .f32) v) (FloatOps.ofBits .f32 0x7F800000#32) = 1#1) :
    v = ((v.toReal : ℝ) : EReal) := by
  have h' : (FloatOps.absf (F := Ideal) (φ := .f32) v : EReal) < Ideal.ofBits .f32 0x7F800000#32 := of_decide_eq_true (ofBool_true h)
  rw [bits_top] at h'
  exact real_of_abs h'.ne

theorem ole_126 {v : EReal} (h : FloatOps.cmpf (F := Ideal) (φ := .f32) .ole (FloatOps.absf (F := Ideal) (φ := .f32) v) (FloatOps.ofBits .f32 0x7E800000#32) = 1#1) :
    v = ((v.toReal : ℝ) : EReal) ∧ |v.toReal| ≤ 2 ^ 126 := by
  have h' : (FloatOps.absf (F := Ideal) (φ := .f32) v : EReal) ≤ Ideal.ofBits .f32 0x7E800000#32 := of_decide_eq_true (ofBool_true h)
  rw [bits_126] at h'
  have e := real_of_abs (v := v) (fun ht => by rw [ht] at h'; exact absurd h' (not_le.2 (EReal.coe_lt_top _)))
  refine ⟨e, ?_⟩
  rw [e, abs_coe, EReal.coe_le_coe_iff] at h'
  exact h'

instance preFacts : Cert.Pre_finite.Facts where
  bitsLt_bf16_f32 := by decide
  bcast_S_S8x4096x1280 := by decide
  reducesTo_S8x4096x1280_S_d0_1_2 := by decide
  h_S_ := by decide
  bcast_S_S1280 := by decide
  reducesTo_S1280_S_d0 := by decide

/-- The precondition, element by element. -/
theorem pre_elem (X : FVec Ideal S8x4096x1280 .bf16) (G B : FVec Ideal S1280 .f32) (h : Cert.Pre_finite.fn (F := Ideal) X G B = fun _ => 1#1) :
    (∀ i, X i = (((X i : EReal).toReal : ℝ) : EReal)) ∧ (∀ i, G i = (((G i : EReal).toReal : ℝ) : EReal) ∧ |(G i : EReal).toReal| ≤ 2 ^ 126)
      ∧ ∀ i, B i = (((B i : EReal).toReal : ℝ) : EReal) ∧ |(B i : EReal).toReal| ≤ 2 ^ 126 := by
  have j0 : Cert.Pre_finite.S_.Idx := Shape.Idx.first (s := Cert.Pre_finite.S_) (by decide)
  haveI : Subsingleton Cert.Pre_finite.S_.Idx := ⟨fun a b => funext fun k => k.elim0⟩
  have h := congrFun h j0
  unfold Cert.Pre_finite.fn at h
  obtain ⟨h12, h3⟩ := IntOp.andi_eq_one.1 h
  obtain ⟨h1, h2⟩ := IntOp.andi_eq_one.1 h12
  refine ⟨fun i => ?_, fun i => ?_, fun i => ?_⟩
  · exact olt_top (Host.reduce_andi_all _ _ _ _ j0 h1 i)
  · exact ole_126 (Host.reduce_andi_all _ _ _ _ j0 h2 i)
  · exact ole_126 (Host.reduce_andi_all _ _ _ _ j0 h3 i)

/-- The arguments as real data. -/
theorem pre_real (X : FVec Ideal S8x4096x1280 .bf16) (G B : FVec Ideal S1280 .f32) (h : Cert.Pre_finite.fn (F := Ideal) X G B = fun _ => 1#1) :
    ∃ (x : ℕ → ℕ → ℕ → ℝ) (γ β : ℕ → ℝ), (∀ (q : Fin 8) (r : Fin 4096) (j : Fin 1280), X (ix3 q r j) = ((x q.val r.val j.val : ℝ) : EReal))
      ∧ (∀ j : Fin 1280, G (ix1 j) = ((γ j.val : ℝ) : EReal)) ∧ (∀ j : Fin 1280, B (ix1 j) = ((β j.val : ℝ) : EReal))
      ∧ ∀ p, amax (x p) γ β ≤ 406 * 2 ^ 126 := by
  obtain ⟨hX, hG, hB⟩ := pre_elem X G B h
  refine ⟨fun q r j => if h : q < 8 ∧ r < 4096 ∧ j < 1280 then (X (ix3 ⟨q, h.1⟩ ⟨r, h.2.1⟩ ⟨j, h.2.2⟩) : EReal).toReal else 0,
    fun j => if h : j < 1280 then (G (ix1 ⟨j, h⟩) : EReal).toReal else 0, fun j => if h : j < 1280 then (B (ix1 ⟨j, h⟩) : EReal).toReal else 0,
    fun q r j => ?_, fun j => ?_, fun j => ?_, fun p => ?_⟩
  · beta_reduce; rw [dif_pos (⟨q.isLt, r.isLt, j.isLt⟩ : q.val < 8 ∧ r.val < 4096 ∧ j.val < 1280)]; exact hX _
  · beta_reduce; rw [dif_pos j.isLt]; exact (hG _).1
  · beta_reduce; rw [dif_pos j.isLt]; exact (hB _).1
  · refine amax_bound _ _ _ (fun j hj => ?_) (fun j hj => ?_)
    · rw [dif_pos hj]; exact (hG _).2
    · rw [dif_pos hj]; exact (hB _).2

end Cert.KernelIdeal.Hand

end
-- ==== Proof.Value.Geo.lean ====
/-
  Hand-written, untrusted. where the blocks of the windows lie.
-/
module

public import proofs.«01_k».proof.Proof.Value.Spec
public import proofs.«01_k».proof.Proof.KernelIdeal.Frame
public import Idealize.ShloMosaic.Lib.Pipeline.ValueKit
public import Idealize.ShloMosaic.Lib.Claim

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec
open Idealize.ShloMosaic.Pipeline (RDat)

variable (m : (ℓ : Loc nD τ sig) → Buf (Elt Ideal) ℓ)

theorem coords_val : ∀ t : Fin cfg0.N, ((cfg0.grid.coords t) 0).val = t.val / 5 ∧ ((cfg0.grid.coords t) 1).val = t.val % 5 :=
  (by decide +kernel : ∀ t : Fin grid0.N, ((grid0.coords t) 0).val = t.val / 5 ∧ ((grid0.coords t) 1).val = t.val % 5)

theorem index0 : ∀ t : Fin cfg0.N, t.val / 5 < 8 → win0_0.index t 0 = t.val / 5 ∧ win0_0.index t 1 = 0 ∧ win0_0.index t 2 = t.val % 5 :=
  (by decide +kernel : ∀ t : Fin grid0.N, t.val / 5 < 8 → win0_0.index t 0 = t.val / 5 ∧ win0_0.index t 1 = 0 ∧ win0_0.index t 2 = t.val % 5)

theorem index1 : ∀ t : Fin cfg0.N, ∀ a, win0_1.index t a = 0 := by
  intro t a; fin_cases a <;> rfl
theorem index2 : ∀ t : Fin cfg0.N, ∀ a, win0_2.index t a = 0 := by
  intro t a; fin_cases a <;> rfl

/-- The codes window is written back only past the first image, at the column of the image before. -/
theorem index3 : ∀ t : Fin cfg0.N, (cfg0.win 3).flush t = true → 0 < t.val / 5 ∧ win0_3.index t 0 = t.val / 5 - 1 ∧ win0_3.index t 1 = 0 ∧ win0_3.index t 2 = t.val % 5 :=
  (by decide +kernel : ∀ t : Fin grid0.N, win0_3.flush t = true → 0 < t.val / 5 ∧ win0_3.index t 0 = t.val / 5 - 1 ∧ win0_3.index t 1 = 0 ∧ win0_3.index t 2 = t.val % 5)

theorem covers3 : (cfg0.win 3).Covers := by decide +kernel

theorem whole4 : (cfg0.win 4).WholeAt (⟨44, by decide⟩ : Fin cfg0.N) := by decide +kernel

/-- A block of the input. -/
theorem iblk0_at (c : Dev nD) (t : Fin cfg0.N) (h : t.val / 5 < 8) (r : Fin 4096) (l : Fin 256) (p : Fin 8) (j : Fin 1280)
    (hp : p.val = t.val / 5) (hj : j.val = 256 * (t.val % 5) + l.val) :
    iblk m c 0 t (ix3 0 r l) = m ((c : Thread nD τ).loc main_arg0) (ix3 p r j) := by
  obtain ⟨h1, h2, h3⟩ := index0 t h
  blk_simp [iblk]
  rw [V_main_arg0]
  congr 1
  blk_ext [h1, h2, h3]
  all_goals omega

/-- The scale's window. -/
theorem iblk1_at (c : Dev nD) (t : Fin cfg0.N) (k : Fin 5) (l : Fin 256) (j : Fin 1280) (hj : j.val = 256 * k.val + l.val) :
    iblk m c 1 t (ix3 k 0 l) = m ((c : Thread nD τ).loc main_arg1) (ix1 j) := by
  have h := index1 t
  blk_simp [iblk]
  entry_read
  pointwise
  blk_ext [h]
  all_goals omega

/-- The shift's window. -/
theorem iblk2_at (c : Dev nD) (t : Fin cfg0.N) (k : Fin 5) (l : Fin 256) (j : Fin 1280) (hj : j.val = 256 * k.val + l.val) :
    iblk m c 2 t (ix3 k 0 l) = m ((c : Thread nD τ).loc main_arg2) (ix1 j) := by
  have h := index2 t
  blk_simp [iblk]
  entry_read
  pointwise
  blk_ext [h]
  all_goals omega

/-- Where a block of the codes lies. -/
theorem embCodes (t : Fin cfg0.N) (y : ((cfg0.win 3).xblock (cfg0.grid.coords t)).Idx) (h : (cfg0.win 3).flush t = true) :
    ((((cfg0.win 3).blk t).view.emb y 0 : Fin _) : ℕ) = t.val / 5 - 1 ∧ ((((cfg0.win 3).blk t).view.emb y 1 : Fin _) : ℕ) = (y 1).val
      ∧ ((((cfg0.win 3).blk t).view.emb y 2 : Fin _) : ℕ) = 256 * (t.val % 5) + (y 2).val := by
  obtain ⟨h0, h1, h2, h3⟩ := index3 t h
  idx_bounds y
  refine ⟨?_, ?_, ?_⟩
  · blk_simp [h1]; try omega
  · blk_simp [h2]; try omega
  · blk_simp [h3]; omega

end Cert.KernelIdeal.Hand

end
-- ==== Proof.Value.Offs.lean ====
/-
  Hand-written, untrusted. Where the loops read and write: the offsets as numbers.
-/
module

public import proofs.«01_k».proof.Proof.Gen.KernelIdeal.Loops
public import Idealize.ShloMosaic.Lib.Pointwise

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem trips1 : k0_t1_loop.trips = 128 := by decide
theorem tlt1 (k : Fin k0_t1_loop.trips) : k.val < 128 := lt_of_lt_of_eq k.isLt trips1
theorem trips2 : k0_t2_loop.trips = 32 := by decide
theorem tlt2 (k : Fin k0_t2_loop.trips) : k.val < 32 := lt_of_lt_of_eq k.isLt trips2
theorem trips3 : k0_t3_loop.trips = 32 := by decide
theorem tlt3 (k : Fin k0_t3_loop.trips) : k.val < 32 := lt_of_lt_of_eq k.isLt trips3
theorem trips4 : k0_t4_loop.trips = 32 := by decide
theorem tlt4 (k : Fin k0_t4_loop.trips) : k.val < 32 := lt_of_lt_of_eq k.isLt trips4
theorem trips5 : k0_t5_loop.trips = 128 := by decide
theorem tlt5 (k : Fin k0_t5_loop.trips) : k.val < 128 := lt_of_lt_of_eq k.isLt trips5
theorem trips6 : k0_t6_loop.trips = 128 := by decide
theorem tlt6 (k : Fin k0_t6_loop.trips) : k.val < 128 := lt_of_lt_of_eq k.isLt trips6
theorem trips7 : k0_t7_loop.trips = 128 := by decide
theorem tlt7 (k : Fin k0_t7_loop.trips) : k.val < 128 := lt_of_lt_of_eq k.isLt trips7
theorem trips8 : k0_t8_loop.trips = 128 := by decide
theorem tlt8 (k : Fin k0_t8_loop.trips) : k.val < 128 := lt_of_lt_of_eq k.isLt trips8
theorem trips9 : k0_t9_loop.trips = 128 := by decide
theorem tlt9 (k : Fin k0_t9_loop.trips) : k.val < 128 := lt_of_lt_of_eq k.isLt trips9
theorem trips10 : k0_t10_loop.trips = 128 := by decide
theorem tlt10 (k : Fin k0_t10_loop.trips) : k.val < 128 := lt_of_lt_of_eq k.isLt trips10
theorem trips11 : k0_t11_loop.trips = 128 := by decide
theorem tlt11 (k : Fin k0_t11_loop.trips) : k.val < 128 := lt_of_lt_of_eq k.isLt trips11
theorem trips12 : k0_t12_loop.trips = 128 := by decide
theorem tlt12 (k : Fin k0_t12_loop.trips) : k.val < 128 := lt_of_lt_of_eq k.isLt trips12
theorem trips13 : k0_t13_loop.trips = 128 := by decide
theorem tlt13 (k : Fin k0_t13_loop.trips) : k.val < 128 := lt_of_lt_of_eq k.isLt trips13
theorem trips14 : k0_t14_loop.trips = 128 := by decide
theorem tlt14 (k : Fin k0_t14_loop.trips) : k.val < 128 := lt_of_lt_of_eq k.isLt trips14

theorem col_nat (i : grid0.Coords) : (BitVec.ofNat 32 (i 1).val).toNat = (i 1).val := by
  have : (i 1).val < 5 := (i 1).isLt
  rw [BitVec.toNat_ofNat]; omega

theorem iv_nat (k : ℕ) (h : k < 128) : (IntOp.muli (Scf.iv (0#32) (1#32) k) (32#32)).toNat = 32 * k := by
  unfold Scf.iv IntOp.muli
  simp only [BitVec.toNat_add, BitVec.toNat_mul, BitVec.toNat_ofNat]
  omega

theorem iv4_nat (k u : ℕ) (h : k < 32) (hu : u < 4) :
    (IntOp.muli (IntOp.addi (IntOp.muli (Scf.iv (0#32) (1#32) k) (4#32)) (BitVec.ofNat 32 u)) (32#32)).toNat = 32 * (4 * k + u) := by
  unfold Scf.iv IntOp.muli IntOp.addi
  simp only [BitVec.toNat_add, BitVec.toNat_mul, BitVec.toNat_ofNat]
  omega

theorem off1_eq (i : grid0.Coords) : k0_off1 i = ![(i 1).val, 0, 0] := by
  unfold k0_off1
  show ![(BitVec.ofNat 32 (i 1).val).toNat, 0, 0] = _
  rw [col_nat]
theorem off2_eq (i : grid0.Coords) : k0_off2 i = ![(i 1).val, 0, 0] := by
  unfold k0_off2
  show ![(BitVec.ofNat 32 (i 1).val).toNat, 0, 0] = _
  rw [col_nat]
theorem off5_eq (i : grid0.Coords) : k0_off5 i = ![(i 1).val, 0, 0] := by
  unfold k0_off5
  show ![(BitVec.ofNat 32 (i 1).val).toNat, 0, 0] = _
  rw [col_nat]
theorem off8_eq (i : grid0.Coords) : k0_off8 i = ![(i 1).val, 0, 0] := by
  unfold k0_off8
  show ![(BitVec.ofNat 32 (i 1).val).toNat, 0, 0] = _
  rw [col_nat]
theorem off9_eq (i : grid0.Coords) : k0_off9 i = ![(i 1).val, 0, 0] := by
  unfold k0_off9
  show ![(BitVec.ofNat 32 (i 1).val).toNat, 0, 0] = _
  rw [col_nat]
theorem off14_eq (i : grid0.Coords) : k0_off14 i = ![(i 1).val, 0, 0] := by
  unfold k0_off14
  show ![(BitVec.ofNat 32 (i 1).val).toNat, 0, 0] = _
  rw [col_nat]
theorem off15_eq (i : grid0.Coords) : k0_off15 i = ![(i 1).val, 0, 0] := by
  unfold k0_off15
  show ![(BitVec.ofNat 32 (i 1).val).toNat, 0, 0] = _
  rw [col_nat]
theorem off3_eq (i : grid0.Coords) (k : Fin k0_t1_loop.trips) : k0_off3 i k = ![(i 1).val, 32 * k.val, 0] := by
  unfold k0_off3
  show ![(BitVec.ofNat 32 (i 1).val).toNat, (IntOp.muli (Scf.iv (0#32) (1#32) k) (32#32)).toNat, 0] = _
  rw [col_nat, iv_nat _ (tlt1 k)]
theorem off4_eq (k : Fin k0_t1_loop.trips) : k0_off4 k = ![0, 32 * k.val, 0] := by
  unfold k0_off4
  show ![0, (IntOp.muli (Scf.iv (0#32) (1#32) k) (32#32)).toNat, 0] = _
  rw [iv_nat _ (tlt1 k)]
theorem off6_eq (i : grid0.Coords) (k : Fin k0_t2_loop.trips) (u : ℕ) (hu : u < 4) : k0_off6 i k (BitVec.ofNat 32 u) = ![(i 1).val, 32 * (4 * k.val + u), 0] := by
  unfold k0_off6
  show ![(BitVec.ofNat 32 (i 1).val).toNat, (IntOp.muli (IntOp.addi (IntOp.muli (Scf.iv (0#32) (1#32) k) (4#32)) (BitVec.ofNat 32 u)) (32#32)).toNat, 0] = _
  rw [col_nat, iv4_nat _ _ (tlt2 k) hu]
theorem off10_eq (i : grid0.Coords) (k : Fin k0_t3_loop.trips) (u : ℕ) (hu : u < 4) : k0_off10 i k (BitVec.ofNat 32 u) = ![(i 1).val, 32 * (4 * k.val + u), 0] := by
  unfold k0_off10
  show ![(BitVec.ofNat 32 (i 1).val).toNat, (IntOp.muli (IntOp.addi (IntOp.muli (Scf.iv (0#32) (1#32) k) (4#32)) (BitVec.ofNat 32 u)) (32#32)).toNat, 0] = _
  rw [col_nat, iv4_nat _ _ (tlt3 k) hu]
theorem off13_eq (i : grid0.Coords) (k : Fin k0_t4_loop.trips) (u : ℕ) (hu : u < 4) : k0_off13 i k (BitVec.ofNat 32 u) = ![(i 1).val, 32 * (4 * k.val + u), 0] := by
  unfold k0_off13
  show ![(BitVec.ofNat 32 (i 1).val).toNat, (IntOp.muli (IntOp.addi (IntOp.muli (Scf.iv (0#32) (1#32) k) (4#32)) (BitVec.ofNat 32 u)) (32#32)).toNat, 0] = _
  rw [col_nat, iv4_nat _ _ (tlt4 k) hu]
theorem off7_eq (k : Fin k0_t2_loop.trips) (u : ℕ) (hu : u < 4) : k0_off7 k (BitVec.ofNat 32 u) = ![0, 32 * (4 * k.val + u), 0] := by
  unfold k0_off7
  show ![0, (IntOp.muli (IntOp.addi (IntOp.muli (Scf.iv (0#32) (1#32) k) (4#32)) (BitVec.ofNat 32 u)) (32#32)).toNat, 0] = _
  rw [iv4_nat _ _ (tlt2 k) hu]
theorem off11_eq (k : Fin k0_t3_loop.trips) (u : ℕ) (hu : u < 4) : k0_off11 k (BitVec.ofNat 32 u) = ![0, 32 * (4 * k.val + u), 0] := by
  unfold k0_off11
  show ![0, (IntOp.muli (IntOp.addi (IntOp.muli (Scf.iv (0#32) (1#32) k) (4#32)) (BitVec.ofNat 32 u)) (32#32)).toNat, 0] = _
  rw [iv4_nat _ _ (tlt3 k) hu]
theorem off12_eq (k : Fin k0_t4_loop.trips) (u : ℕ) (hu : u < 4) : k0_off12 k (BitVec.ofNat 32 u) = ![0, 32 * (4 * k.val + u), 0] := by
  unfold k0_off12
  show ![0, (IntOp.muli (IntOp.addi (IntOp.muli (Scf.iv (0#32) (1#32) k) (4#32)) (BitVec.ofNat 32 u)) (32#32)).toNat, 0] = _
  rw [iv4_nat _ _ (tlt4 k) hu]
theorem off16_eq (k : Fin k0_t5_loop.trips) : k0_off16 k = ![0, 32 * k.val, 0] := by
  unfold k0_off16
  show ![0, (IntOp.muli (Scf.iv (0#32) (1#32) k) (32#32)).toNat, 0] = _
  rw [iv_nat _ (tlt5 k)]
theorem off17_eq (k : Fin k0_t6_loop.trips) : k0_off17 k = ![1, 32 * k.val, 0] := by
  unfold k0_off17
  show ![1, (IntOp.muli (Scf.iv (0#32) (1#32) k) (32#32)).toNat, 0] = _
  rw [iv_nat _ (tlt6 k)]
theorem off18_eq (k : Fin k0_t7_loop.trips) : k0_off18 k = ![2, 32 * k.val, 0] := by
  unfold k0_off18
  show ![2, (IntOp.muli (Scf.iv (0#32) (1#32) k) (32#32)).toNat, 0] = _
  rw [iv_nat _ (tlt7 k)]
theorem off19_eq (k : Fin k0_t8_loop.trips) : k0_off19 k = ![3, 32 * k.val, 0] := by
  unfold k0_off19
  show ![3, (IntOp.muli (Scf.iv (0#32) (1#32) k) (32#32)).toNat, 0] = _
  rw [iv_nat _ (tlt8 k)]
theorem off20_eq (k : Fin k0_t9_loop.trips) : k0_off20 k = ![4, 32 * k.val, 0] := by
  unfold k0_off20
  show ![4, (IntOp.muli (Scf.iv (0#32) (1#32) k) (32#32)).toNat, 0] = _
  rw [iv_nat _ (tlt9 k)]
theorem off21_eq (k : Fin k0_t10_loop.trips) : k0_off21 k = ![0, 32 * k.val, 0] := by
  unfold k0_off21
  show ![0, (IntOp.muli (Scf.iv (0#32) (1#32) k) (32#32)).toNat, 0] = _
  rw [iv_nat _ (tlt10 k)]
theorem off22_eq (k : Fin k0_t11_loop.trips) : k0_off22 k = ![1, 32 * k.val, 0] := by
  unfold k0_off22
  show ![1, (IntOp.muli (Scf.iv (0#32) (1#32) k) (32#32)).toNat, 0] = _
  rw [iv_nat _ (tlt11 k)]
theorem off23_eq (k : Fin k0_t12_loop.trips) : k0_off23 k = ![2, 32 * k.val, 0] := by
  unfold k0_off23
  show ![2, (IntOp.muli (Scf.iv (0#32) (1#32) k) (32#32)).toNat, 0] = _
  rw [iv_nat _ (tlt12 k)]
theorem off24_eq (k : Fin k0_t13_loop.trips) : k0_off24 k = ![3, 32 * k.val, 0] := by
  unfold k0_off24
  show ![3, (IntOp.muli (Scf.iv (0#32) (1#32) k) (32#32)).toNat, 0] = _
  rw [iv_nat _ (tlt13 k)]
theorem off25_eq (k : Fin k0_t14_loop.trips) : k0_off25 k = ![4, 32 * k.val, 0] := by
  unfold k0_off25
  show ![4, (IntOp.muli (Scf.iv (0#32) (1#32) k) (32#32)).toNat, 0] = _
  rw [iv_nat _ (tlt14 k)]
theorem off26_eq (i : grid0.Coords) : k0_off26 i = ![(i 0).val] := by
  unfold k0_off26
  show ![(BitVec.ofNat 32 (i 0).val).toNat] = _
  have : (i 0).val < 9 := (i 0).isLt
  rw [BitVec.toNat_ofNat, Nat.mod_eq_of_lt (by omega)]

/-- An element of a unit rectangle of rank three, by its coordinates. -/
theorem emb3 {n0 n1 n2 m0 m1 m2 : ℕ} (off : Fin 3 → ℕ) (inb : ∀ a, off a + (![m0, m1, m2] : Fin 3 → ℕ) a ≤ (⟨3, ![n0, n1, n2]⟩ : Shape).size a)
    {a b c : ℕ} (h : off = ![a, b, c]) (p : Fin m0) (q : Fin m1) (r : Fin m2) (hp : a + p.val < n0) (hq : b + q.val < n1) (hr : c + r.val < n2) :
    (Rect.unit (s := ⟨3, ![n0, n1, n2]⟩) off (![m0, m1, m2]) inb).emb (ix3 p q r) = ix3 ⟨a + p.val, hp⟩ ⟨b + q.val, hq⟩ ⟨c + r.val, hr⟩ := by
  subst h
  funext x
  apply Fin.ext
  match x with
  | ⟨0, _⟩ => simp [Rect.emb, Rect.unit, ix3]
  | ⟨1, _⟩ => simp [Rect.emb, Rect.unit, ix3]
  | ⟨2, _⟩ => simp [Rect.emb, Rect.unit, ix3]

end Cert.KernelIdeal.Hand

end
-- ==== Proof.Value.Pieces.lean ====
/-
  Hand-written, untrusted. lists of stored pieces: what they hold and which elements they cover; a load of a window, element by element.
-/
module

public import proofs.«01_k».proof.Proof.Value.Offs
public import proofs.«01_k».proof.Proof.Value.Spec
public import proofs.«01_k».proof.Proof.Value.Lift

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The pieces of `L` hold the values of `G`, and they cover exactly the elements satisfying `C`. -/
def Pcs {s : Shape} {e : EltTy} (G : s.Idx → Elt Ideal e) (C : s.Idx → Prop) (L : List (View.Piece (Elt Ideal) s e)) : Prop :=
  (∀ p ∈ L, ∀ x, p.2 x = G (p.1.emb x)) ∧ ∀ y, (∃ p ∈ L, y ∈ p.1.set) ↔ C y

theorem Pcs.nil {s : Shape} {e : EltTy} (G : s.Idx → Elt Ideal e) : Pcs G (fun _ => False) [] :=
  ⟨fun p hp => absurd hp List.not_mem_nil, fun y => ⟨fun ⟨p, hp, _⟩ => absurd hp List.not_mem_nil, fun h => h.elim⟩⟩

theorem Pcs.congr {s : Shape} {e : EltTy} {G : s.Idx → Elt Ideal e} {C D : s.Idx → Prop} {L} (h : Pcs G C L) (hD : ∀ y, C y ↔ D y) : Pcs G D L :=
  ⟨h.1, fun y => (h.2 y).trans (hD y)⟩

theorem Pcs.append {s : Shape} {e : EltTy} {G : s.Idx → Elt Ideal e} {C D : s.Idx → Prop} {L M} (h : Pcs G C L) (h' : Pcs G D M) :
    Pcs G (fun y => C y ∨ D y) (L ++ M) := by
  refine ⟨fun p hp => ?_, fun y => ⟨?_, ?_⟩⟩
  · rcases List.mem_append.mp hp with hp | hp
    · exact h.1 p hp
    · exact h'.1 p hp
  · rintro ⟨p, hp, hy⟩
    rcases List.mem_append.mp hp with hp | hp
    · exact Or.inl ((h.2 y).mp ⟨p, hp, hy⟩)
    · exact Or.inr ((h'.2 y).mp ⟨p, hp, hy⟩)
  · rintro (hc | hc)
    · obtain ⟨p, hp, hy⟩ := (h.2 y).mpr hc
      exact ⟨p, List.mem_append.mpr (Or.inl hp), hy⟩
    · obtain ⟨p, hp, hy⟩ := (h'.2 y).mpr hc
      exact ⟨p, List.mem_append.mpr (Or.inr hp), hy⟩

theorem Pcs.cons {s : Shape} {e : EltTy} {G : s.Idx → Elt Ideal e} {C D : s.Idx → Prop} {L} (h : Pcs G C L) (r : Rect s) (w)
    (hw : ∀ x, w x = G (r.emb x)) (hD : ∀ y, y ∈ r.set ↔ D y) : Pcs G (fun y => D y ∨ C y) (⟨r, w⟩ :: L) := by
  refine ⟨fun p hp => ?_, fun y => ⟨?_, ?_⟩⟩
  · rcases List.mem_cons.mp hp with rfl | hp
    · exact hw
    · exact h.1 p hp
  · rintro ⟨p, hp, hy⟩
    rcases List.mem_cons.mp hp with rfl | hp
    · exact Or.inl ((hD y).mp hy)
    · exact Or.inr ((h.2 y).mp ⟨p, hp, hy⟩)
  · rintro (hd | hc)
    · exact ⟨_, List.mem_cons_self, (hD y).mpr hd⟩
    · obtain ⟨p, hp, hy⟩ := (h.2 y).mpr hc
      exact ⟨p, List.mem_cons_of_mem _ hp, hy⟩

/-- The block at `(a, b, c)` of sizes `(m0, m1, m2)`. -/
def InBlk {n0 n1 n2 : ℕ} (a b c m0 m1 m2 : ℕ) (y : (⟨3, ![n0, n1, n2]⟩ : Shape).Idx) : Prop :=
  (a ≤ (y 0).val ∧ (y 0).val < a + m0) ∧ (b ≤ (y 1).val ∧ (y 1).val < b + m1) ∧ (c ≤ (y 2).val ∧ (y 2).val < c + m2)

theorem mem_blk {n0 n1 n2 m0 m1 m2 : ℕ} (off : Fin 3 → ℕ) (inb : ∀ a, off a + (![m0, m1, m2] : Fin 3 → ℕ) a ≤ (⟨3, ![n0, n1, n2]⟩ : Shape).size a)
    {a b c : ℕ} (h : off = ![a, b, c]) (y : (⟨3, ![n0, n1, n2]⟩ : Shape).Idx) :
    y ∈ (Rect.unit (s := ⟨3, ![n0, n1, n2]⟩) off (![m0, m1, m2]) inb).set ↔ InBlk a b c m0 m1 m2 y := by
  subst h
  rw [Rect.mem_set_unit]
  constructor
  · intro h
    exact ⟨h 0, h 1, h 2⟩
  · rintro ⟨h0, h1, h2⟩ x
    match x with
    | ⟨0, _⟩ => exact h0
    | ⟨1, _⟩ => exact h1
    | ⟨2, _⟩ => exact h2

/-- One more block in front of a list of pieces. -/
theorem Pcs.cons3 {n0 n1 n2 m0 m1 m2 : ℕ} {e : EltTy} {G : (⟨3, ![n0, n1, n2]⟩ : Shape).Idx → Elt Ideal e} {C} {L} (h : Pcs G C L)
    (off : Fin 3 → ℕ) (inb : ∀ a, off a + (![m0, m1, m2] : Fin 3 → ℕ) a ≤ (⟨3, ![n0, n1, n2]⟩ : Shape).size a)
    {a b c : ℕ} (ho : off = ![a, b, c]) (w : (Rect.unit (s := ⟨3, ![n0, n1, n2]⟩) off (![m0, m1, m2]) inb).shape.Idx → Elt Ideal e)
    (hw : ∀ (p : Fin m0) (q : Fin m1) (r : Fin m2) (hp : a + p.val < n0) (hq : b + q.val < n1) (hr : c + r.val < n2),
      w (ix3 p q r) = G (ix3 ⟨a + p.val, hp⟩ ⟨b + q.val, hq⟩ ⟨c + r.val, hr⟩)) :
    Pcs G (fun y => InBlk a b c m0 m1 m2 y ∨ C y) (⟨Rect.unit (s := ⟨3, ![n0, n1, n2]⟩) off (![m0, m1, m2]) inb, w⟩ :: L) := by
  refine h.cons _ w ?_ (mem_blk off inb ho)
  intro x
  have hx : x = ix3 (n0 := m0) (n1 := m1) (n2 := m2) (x 0) (x 1) (x 2) := eq_ix3 x
  have h0 : a + (x 0).val < n0 := by
    have h0 : (x 0).val < m0 := (x 0).isLt
    have h1 := inb 0
    rw [ho] at h1
    have h2 : a + m0 ≤ n0 := h1
    omega
  have h1 : b + (x 1).val < n1 := by
    have h0 : (x 1).val < m1 := (x 1).isLt
    have h1 := inb 1
    rw [ho] at h1
    have h2 : b + m1 ≤ n1 := h1
    omega
  have h2 : c + (x 2).val < n2 := by
    have h0 : (x 2).val < m2 := (x 2).isLt
    have h1 := inb 2
    rw [ho] at h1
    have h2 : c + m2 ≤ n2 := h1
    omega
  rw [hx]
  exact (hw _ _ _ h0 h1 h2).trans (congrArg G (emb3 off inb ho _ _ _ h0 h1 h2).symm)

/-- Under a list of pieces: a covered element holds its value, -/
theorem Pcs.read_in {sp : Space} {s : Shape} {e : EltTy} {G : s.Idx → Elt Ideal e} {C : s.Idx → Prop} {L} (h : Pcs G C L)
    (v : View sig .tc sp s e) (f : v.ty.Contents (Elt Ideal)) (y : s.Idx) (hy : C y) : v.read (Elt Ideal) (v.writes (Elt Ideal) f L) y = G y :=
  View.read_writes_apply_of_pieces (v := v) (f := f) G L h.1 y ((h.2 y).mpr hy)

/-- and any other what it held before. -/
theorem Pcs.read_out {sp : Space} {s : Shape} {e : EltTy} {G : s.Idx → Elt Ideal e} {C : s.Idx → Prop} {L} (h : Pcs G C L)
    (v : View sig .tc sp s e) (f : v.ty.Contents (Elt Ideal)) (y : s.Idx) (hy : ¬ C y) :
    v.read (Elt Ideal) (v.writes (Elt Ideal) f L) y = v.read (Elt Ideal) f y :=
  View.read_writes_apply_of_forall_not_mem (v := v) (f := f) y L fun p hp hm => hy ((h.2 y).mp ⟨p, hp, hm⟩)

/-- A load of a block, element by element. -/
theorem rd3 {sp : Space} {e : EltTy} {n0 n1 n2 m0 m1 m2 : ℕ} (v : View sig .tc sp ⟨3, ![n0, n1, n2]⟩ e) (f : v.ty.Contents (Elt Ideal))
    (off : Fin 3 → ℕ) (inb : ∀ a, off a + (![m0, m1, m2] : Fin 3 → ℕ) a ≤ (⟨3, ![n0, n1, n2]⟩ : Shape).size a)
    {a b c : ℕ} (h : off = ![a, b, c]) (p : Fin m0) (q : Fin m1) (r : Fin m2) (hp : a + p.val < n0) (hq : b + q.val < n1) (hr : c + r.val < n2) :
    v.readAt (Elt Ideal) (Rect.unit (s := ⟨3, ![n0, n1, n2]⟩) off (![m0, m1, m2]) inb).toLoadRect f (ix3 p q r)
      = v.read (Elt Ideal) f (ix3 ⟨a + p.val, hp⟩ ⟨b + q.val, hq⟩ ⟨c + r.val, hr⟩) :=
  congrArg (v.read (Elt Ideal) f) (emb3 off inb h p q r hp hq hr)

/-- A chunk of thirty-two rows of the window of one block of columns, whose elements are real. -/
theorem chunk1 {sp : Space} {e : EltTy} (v : View sig .tc sp S1x4096x256 e) (f : v.ty.Contents (Elt Ideal)) (x : ℕ → ℕ → ℝ) (g : EReal → Elt Ideal e)
    (hx : ∀ (r : Fin 4096) (l : Fin 256), v.read (Elt Ideal) f (ix3 0 r l) = g ((x r.val l.val : ℝ) : EReal))
    (off : Fin 3 → ℕ) (inb : ∀ a, off a + (![1, 32, 256] : Fin 3 → ℕ) a ≤ S1x4096x256.size a)
    {b : ℕ} (h : off = ![0, b, 0]) (R : Fin 32) (l : Fin 256) :
    v.readAt (Elt Ideal) (Rect.unit (s := S1x4096x256) off (![1, 32, 256]) inb).toLoadRect f (ix3 0 R l) = g ((x (b + R.val) l.val : ℝ) : EReal) := by
  have hb : b + 32 ≤ 4096 := by
    have := inb 1
    rw [h] at this
    exact this
  rw [rd3 v f off inb h 0 R l (by decide) (by omega) (by omega)]
  have := hx ⟨b + R.val, by omega⟩ l
  simpa using this

/-- The same of a column of the five-column buffer. -/
theorem chunk5 {sp : Space} {e : EltTy} (v : View sig .tc sp S5x4096x256 e) (f : v.ty.Contents (Elt Ideal)) (x : ℕ → ℕ → ℝ) (g : EReal → Elt Ideal e) (a : Fin 5) (b : ℕ)
    (hx : ∀ (r : Fin 4096) (l : Fin 256), b ≤ r.val → v.read (Elt Ideal) f (ix3 a r l) = g ((x r.val l.val : ℝ) : EReal))
    (off : Fin 3 → ℕ) (inb : ∀ a, off a + (![1, 32, 256] : Fin 3 → ℕ) a ≤ S5x4096x256.size a)
    (h : off = ![a.val, b, 0]) (R : Fin 32) (l : Fin 256) :
    v.readAt (Elt Ideal) (Rect.unit (s := S5x4096x256) off (![1, 32, 256]) inb).toLoadRect f (ix3 0 R l) = g ((x (b + R.val) l.val : ℝ) : EReal) := by
  have hb : b + 32 ≤ 4096 := by
    have := inb 1
    rw [h] at this
    exact this
  have ha := a.isLt
  rw [rd3 v f off inb h 0 R l (by simpa using ha) (by omega) (by omega)]
  have := hx ⟨b + R.val, by omega⟩ l (Nat.le_add_right _ _)
  simpa using this

end Cert.KernelIdeal.Hand

end
-- ==== Proof.Value.Word.lean ====
/-
  Hand-written, untrusted. The exponent the kernel reads off its table of thresholds, as a signed maximum of words.
-/
module

public import proofs.«01_k».proof.Proof.Value.Lift

@[expose] public section

set_option maxRecDepth 8192

noncomputable section

namespace Cert.Spec

open Idealize.ShloMosaic Finset

theorem maxsi_toInt (a b : BitVec 32) : (IntOp.maxsi a b).toInt = max a.toInt b.toInt := by
  unfold IntOp.maxsi
  rw [BitVec.slt_eq_decide]
  by_cases h : b.toInt < a.toInt
  · simp [h, max_eq_left h.le]
  · simp [h, max_eq_right (not_lt.1 h)]

instance : Std.Commutative (IntOp.maxsi (w := 32)) :=
  ⟨fun a b => BitVec.eq_of_toInt_eq (by rw [maxsi_toInt, maxsi_toInt, max_comm])⟩
instance : Std.Associative (IntOp.maxsi (w := 32)) :=
  ⟨fun a b c => BitVec.eq_of_toInt_eq (by simp only [maxsi_toInt, max_assoc])⟩

theorem fold_maxsi_le {ι : Type} [DecidableEq ι] (f : ι → BitVec 32) (init : BitVec 32) (s : Finset ι) (b : ℤ)
    (hi : init.toInt ≤ b) (h : ∀ x ∈ s, (f x).toInt ≤ b) (op : BitVec 32 → BitVec 32 → BitVec 32)
    (hop : op = IntOp.maxsi) [Std.Commutative op] [Std.Associative op] : (s.fold op init f).toInt ≤ b := by
  subst hop
  induction s using Finset.induction_on with
  | empty => simpa using hi
  | insert a s ha ih =>
    rw [fold_insert ha, maxsi_toInt]
    exact max_le (h a (mem_insert_self _ _)) (ih fun x hx => h x (mem_insert_of_mem hx))

theorem le_fold_maxsi {ι : Type} [DecidableEq ι] (f : ι → BitVec 32) (init : BitVec 32) (s : Finset ι) (x : ι) (hx : x ∈ s)
    (op : BitVec 32 → BitVec 32 → BitVec 32) (hop : op = IntOp.maxsi) [Std.Commutative op] [Std.Associative op] :
    (f x).toInt ≤ (s.fold op init f).toInt := by
  subst hop
  induction s using Finset.induction_on with
  | empty => simp at hx
  | insert a s ha ih =>
    rw [fold_insert ha, maxsi_toInt]
    rcases mem_insert.1 hx with rfl | h
    · exact le_max_left _ _
    · exact (ih h).trans (le_max_right _ _)

theorem minsi_255 (n : ℕ) (h : n < 2 ^ 31) : IntOp.minsi (BitVec.ofNat 32 n) 255#32 = BitVec.ofNat 32 (min n 255) := by
  unfold IntOp.minsi
  have h1 : (BitVec.ofNat 32 n).toInt = n := by
    rw [BitVec.toInt_ofNat']; simp only [Nat.reducePow] at *; exact Int.bmod_eq_of_le (by omega) (by omega)
  have h2 : (255#32).toInt = 255 := by decide
  rw [BitVec.slt_eq_decide, h1, h2]
  by_cases h : n < 255
  · rw [if_pos (by simpa using h), min_eq_left h.le]
  · rw [if_neg (by simpa using h), min_eq_right (by omega)]

/-- The table's index at a lane. -/
theorem lane_index (a : Fin 8) (b : Fin 128) :
    IntOp.minsi (IntOp.addi (IntOp.muli (BitVec.ofNat 32 a.val) 128#32) (BitVec.ofNat 32 b.val)) 255#32
      = BitVec.ofNat 32 (min (a.val * 128 + b.val) 255) := by
  rw [← minsi_255 _ (by omega)]
  congr 1
  unfold IntOp.addi IntOp.muli
  rw [← BitVec.ofNat_mul, ← BitVec.ofNat_add]

theorem shli23 (x : BitVec 32) : IntOp.shli ArithUnit.vector x 23#32 = x <<< 23 := by
  unfold IntOp.shli
  rw [if_pos (by decide)]
  rfl

/-- The threshold at index `n` lies at or below the scaled magnitude iff `n ≤ cnt`. -/
theorem thr_le (s : ℝ) (hs : 0 ≤ s) (n : ℕ) (hn : n ≤ 255) :
    Ideal.ofBits .f32 (BitVec.ofNat 32 n <<< 23) ≤ ((s * c448 : ℝ) : EReal) ↔ n ≤ cnt s := by
  rcases Nat.eq_zero_or_pos n with rfl | h0
  · rw [bits_shl_zero]
    simp only [Nat.zero_le, iff_true]
    exact_mod_cast mul_nonneg hs c448_pos.le
  · rcases Nat.lt_or_ge n 255 with h | h
    · rw [bits_shl n h0 h, EReal.coe_le_coe_iff]
      have := lt_cnt s (n - 1) (by omega)
      rw [show (((n - 1 : ℕ) : ℤ) - 126) = (n : ℤ) - 127 by omega] at this
      rw [← this]; omega
    · obtain rfl : n = 255 := by omega
      rw [bits_shl_255]
      have := cnt_le s
      constructor
      · intro h; exact absurd h (EReal.coe_lt_top _).not_ge
      · intro h; omega

theorem ofInt_toInt (z : ℤ) (h : -200 ≤ z) (h' : z ≤ 200) : (BitVec.ofInt 32 z).toInt = z := by
  rw [BitVec.toInt_ofInt]
  exact Int.bmod_eq_of_le (by norm_num; omega) (by norm_num; omega)

theorem sub126 (n : ℕ) : IntOp.subi (BitVec.ofNat 32 n) 126#32 = BitVec.ofInt 32 ((n : ℤ) - 126) := by
  unfold IntOp.subi
  rw [Int.sub_eq_add_neg, BitVec.ofInt_add, BitVec.ofInt_natCast, BitVec.sub_eq_add_neg]
  have : -(126#32) = BitVec.ofInt 32 (-126) := by decide
  rw [this]

/-- The exponent word: the signed maximum over the table of thresholds. -/
theorem exp_word (s : ℝ) (hs : 0 ≤ s) (f : Fin 8 × Fin 128 → BitVec 32)
    (hf : ∀ x, f x = if (s : EReal) = 0 then 0#32 else
      IntOp.subi (if Ideal.ofBits .f32 (IntOp.shli ArithUnit.vector (IntOp.minsi (IntOp.addi (IntOp.muli
          (BitVec.ofNat 32 x.1.val) 128#32) (BitVec.ofNat 32 x.2.val)) 255#32) 23#32) ≤ (s : EReal) * Ideal.ofBits .f32 0x3B124925#32
        then IntOp.minsi (IntOp.addi (IntOp.muli (BitVec.ofNat 32 x.1.val) 128#32) (BitVec.ofNat 32 x.2.val)) 255#32
        else 0#32) 126#32)
    (op : BitVec 32 → BitVec 32 → BitVec 32) (hop : op = IntOp.maxsi) [Std.Commutative op] [Std.Associative op] :
    Finset.univ.fold op (2147483648#32) f = BitVec.ofInt 32 (expo s) := by
  have hg : ∀ x, f x = BitVec.ofInt 32 (if s = 0 then 0 else
      (if min (x.1.val * 128 + x.2.val) 255 ≤ cnt s then ((min (x.1.val * 128 + x.2.val) 255 : ℕ) : ℤ) else 0) - 126) := by
    intro x
    rw [hf, lane_index, shli23, bits_c448, ← EReal.coe_mul]
    by_cases h : s = 0
    · simp [h]
    · rw [if_neg (by exact_mod_cast h), if_neg h]
      by_cases h2 : min (x.1.val * 128 + x.2.val) 255 ≤ cnt s
      · rw [if_pos ((thr_le s hs _ (by omega)).2 h2), if_pos h2, sub126]
      · rw [if_neg (fun h => h2 ((thr_le s hs _ (by omega)).1 h)), if_neg h2]; exact sub126 0
  have hc := cnt_le s
  have hx : ∀ x, (f x).toInt ≤ expo s := by
    intro x
    rw [hg]; unfold expo
    by_cases h : s = 0
    · rw [if_pos h, if_pos h, ofInt_toInt _ (by omega) (by omega)]
    · rw [if_neg h, if_neg h, ofInt_toInt _ (by split <;> omega) (by split <;> omega)]
      split <;> omega
  have he : -200 ≤ expo s ∧ expo s ≤ 200 := by unfold expo; split <;> constructor <;> omega
  apply BitVec.eq_of_toInt_eq
  rw [ofInt_toInt _ he.1 he.2]
  apply le_antisymm
  · exact fold_maxsi_le f _ _ _ (by have : (2147483648#32).toInt = -2147483648 := by decide
                                    omega) (fun x _ => hx x) op hop
  · refine le_trans ?_ (le_fold_maxsi f _ _ (⟨cnt s / 128, by omega⟩, ⟨cnt s % 128, by omega⟩) (mem_univ _) op hop)
    rw [hg]; unfold expo
    have e : min (cnt s / 128 * 128 + cnt s % 128) 255 = cnt s := by omega
    by_cases h : s = 0
    · rw [if_pos h, if_pos h, ofInt_toInt _ (by omega) (by omega)]
    · rw [if_neg h, if_neg h]
      simp only [e, le_refl, if_true]
      rw [ofInt_toInt _ (by omega) (by omega)]

end Cert.Spec

end
-- ==== Proof.Value.Code.lean ====
/-
  Hand-written, untrusted. the coefficients a normalise pass reads, the code of an entry in the two forms the kernel computes it, and the running statistics of a column.
-/
module

public import proofs.«01_k».proof.Proof.Value.Pieces
public import proofs.«01_k».proof.Proof.Value.Word

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

/-- The column of a grid point. -/
def col (i : grid0.Coords) : Fin 5 := ⟨(i 1).val, (i 1).isLt⟩

/-- What a normalise pass reads for a column of an image: half the slope, half the intercept, the mean and the reciprocal
    deviation of each channel, and the exponent's word. -/
structure Coef (x : ℕ → ℕ → ℝ) (γ β : ℕ → ℝ) (cl : ℕ) (v30 : Vec Ideal S1x8x256 .f32) (v32 : BitVec 32) : Prop where
  h0 : ∀ l : Fin 256, v30 (ix3 0 0 l) = ((1 / 2 * (rstd x ((256 * cl + l.val) / 40) * γ (256 * cl + l.val)) : ℝ) : EReal)
  h1 : ∀ l : Fin 256, v30 (ix3 0 1 l) = ((1 / 2 * (β (256 * cl + l.val) - mean x ((256 * cl + l.val) / 40) * (rstd x ((256 * cl + l.val) / 40) * γ (256 * cl + l.val))) : ℝ) : EReal)
  h2 : ∀ l : Fin 256, v30 (ix3 0 2 l) = ((mean x ((256 * cl + l.val) / 40) : ℝ) : EReal)
  h3 : ∀ l : Fin 256, v30 (ix3 0 3 l) = ((rstd x ((256 * cl + l.val) / 40) : ℝ) : EReal)
  hw : v32 = BitVec.ofInt 32 (expo (amax x γ β))
  lo : -126 ≤ expo (amax x γ β)
  hi : expo (amax x γ β) ≤ 126

theorem Coef.word {x γ β cl v30 v32} (h : Coef x γ β cl v30 v32) :
    Ideal.ofBits FTy.f32 (Scalar.shli (Scalar.addi (Scalar.subi (0#32) v32) 127#32) 23#32) = (((2 : ℝ) ^ (-(expo (amax x γ β))) : ℝ) : EReal) := by
  rw [h.hw]
  exact pow2_neg_word _ h.lo h.hi

/-- The tanh form. -/
theorem Coef.fast {x γ β cl v30 v32} (h : Coef x γ β cl v30 v32) (r : ℕ) (l : Fin 256) :
    min (Ideal.ofBits FTy.f32 1138753536#32)
      (max (Ideal.ofBits FTy.f32 3286237184#32)
        ((((x r (256 * cl + l.val) : ℝ) : EReal) * v30 (ix3 0 0 l) + v30 (ix3 0 1 l)) *
            Ideal.ofBits FTy.f32 (Scalar.shli (Scalar.addi (Scalar.subi (0#32) v32) 127#32) 23#32) *
          (1 + Ideal.tanh (((x r (256 * cl + l.val) : ℝ) : EReal) * v30 (ix3 0 0 l) + v30 (ix3 0 1 l)))))
      = ((code x γ β r (256 * cl + l.val) : ℝ) : EReal) := by
  rw [h.word, h.h0, h.h1, bits_448, bits_neg448, ← EReal.coe_mul, ← EReal.coe_add, tanh_coe, ← EReal.coe_one, ← EReal.coe_add,
    ← EReal.coe_mul, ← EReal.coe_mul, ← coe_max, ← coe_min]
  unfold code
  congr 3
  rw [mul_right_comm, silu_tanh]
  congr 2
  unfold aff
  ring

/-- The logistic form. -/
theorem Coef.slow {x γ β cl v30 v32} (h : Coef x γ β cl v30 v32) (v38 v41 : Vec Ideal S1x1x256 .f32) (r : ℕ) (l : Fin 256)
    (hg : v38 (ix3 0 0 l) = ((γ (256 * cl + l.val) : ℝ) : EReal)) (hb : v41 (ix3 0 0 l) = ((β (256 * cl + l.val) : ℝ) : EReal)) :
    min (Ideal.ofBits FTy.f32 1138753536#32)
      (max (Ideal.ofBits FTy.f32 3286237184#32)
        (((((x r (256 * cl + l.val) : ℝ) : EReal) - v30 (ix3 0 2 l)) * v30 (ix3 0 3 l) * v38 (ix3 0 0 l) + v41 (ix3 0 0 l)) *
            Ideal.div 1 (1 + Ideal.exp (0 - ((((x r (256 * cl + l.val) : ℝ) : EReal) - v30 (ix3 0 2 l)) * v30 (ix3 0 3 l) * v38 (ix3 0 0 l) + v41 (ix3 0 0 l)))) *
            Ideal.ofBits FTy.f32 (Scalar.shli (Scalar.addi (Scalar.subi (0#32) v32) 127#32) 23#32)))
      = ((code x γ β r (256 * cl + l.val) : ℝ) : EReal) := by
  rw [h.word, h.h2, h.h3, hg, hb, bits_448, bits_neg448, ← EReal.coe_sub, ← EReal.coe_mul, ← EReal.coe_mul, ← EReal.coe_add, silu_coe0,
    ← EReal.coe_mul, ← coe_max, ← coe_min]
  rfl

/-- The codes of a column of an image. -/
def codesG (x : ℕ → ℕ → ℝ) (γ β : ℕ → ℝ) (cl : ℕ) (y : S1x4096x256.Idx) : Elt Ideal .fp8e4m3 :=
  ((code x γ β (y 1).val (256 * cl + (y 2).val) : ℝ) : EReal)

/-- A column of an image. -/
def imgG (x : ℕ → ℕ → ℝ) (cl : ℕ) (y : S5x4096x256.Idx) : Elt Ideal .bf16 :=
  ((x (y 1).val (256 * cl + (y 2).val) : ℝ) : EReal)

/-- The running statistics after `128 n` rows of a block of columns. -/
structure Stats (x : ℕ → ℕ → ℝ) (n : ℕ) (a : FVec Ideal S8x256 .f32 × FVec Ideal S8x256 .f32 × FVec Ideal S16x256 .bf16 × FVec Ideal S16x256 .bf16) : Prop where
  s1 : ∀ (r : Fin 8) (l : Fin 256), a.1 (ix2 r l) = ((∑ m ∈ Finset.range (16 * n), x (8 * m + r.val) l.val : ℝ) : EReal)
  s2 : ∀ (r : Fin 8) (l : Fin 256), a.2.1 (ix2 r l) = ((∑ m ∈ Finset.range (16 * n), x (8 * m + r.val) l.val * x (8 * m + r.val) l.val : ℝ) : EReal)
  mx : ∀ (r : Fin 16) (l : Fin 256) (B : EReal), a.2.2.1 (ix2 r l) ≤ B ↔ ∀ m < 8 * n, ((x (16 * m + r.val) l.val : ℝ) : EReal) ≤ B
  mn : ∀ (r : Fin 16) (l : Fin 256) (B : EReal), B ≤ a.2.2.2 (ix2 r l) ↔ ∀ m < 8 * n, B ≤ ((x (16 * m + r.val) l.val : ℝ) : EReal)

theorem forall_split (P : ℕ → Prop) (k : ℕ) : (∀ m < 8 * (k + 1), P m) ↔ (∀ m < 8 * k, P m) ∧ ∀ m < 8, P (8 * k + m) := by
  constructor
  · intro h
    exact ⟨fun m hm => h m (by omega), fun m hm => h _ (by omega)⟩
  · rintro ⟨h1, h2⟩ m hm
    by_cases h : m < 8 * k
    · exact h1 m h
    · have := h2 (m - 8 * k) (by omega)
      rwa [Nat.add_sub_cancel' (by omega)] at this

theorem Stats.zero (x : ℕ → ℕ → ℝ) : Stats x 0 ((k0_pay1 (F := Ideal), k0_pay2 (F := Ideal), k0_pay3 (F := Ideal), k0_pay4 (F := Ideal))) where
  s1 := fun r l => by
    show (k0_pay1 (F := Ideal)) (ix2 r l) = _
    pointwise [k0_pay1]
    simp
  s2 := fun r l => by
    show (k0_pay2 (F := Ideal)) (ix2 r l) = _
    pointwise [k0_pay2]
    simp
  mx := fun r l B => by
    show (k0_pay3 (F := Ideal)) (ix2 r l) ≤ _ ↔ _
    pointwise [k0_pay3]
    simp [bits_bot16]
  mn := fun r l B => by
    show _ ≤ (k0_pay4 (F := Ideal)) (ix2 r l) ↔ _
    pointwise [k0_pay4]
    simp [bits_top16]

theorem Stats.step {x : ℕ → ℕ → ℝ} {n : ℕ} {a a'} (h : Stats x n a)
    (h1 : ∀ (r : Fin 8) (l : Fin 256) (A : ℝ), a.1 (ix2 r l) = ((A : ℝ) : EReal) → a'.1 (ix2 r l) = ((A + ∑ m ∈ Finset.range 16, (fun m => x (8 * m + r.val) l.val) (16 * n + m) : ℝ) : EReal))
    (h2 : ∀ (r : Fin 8) (l : Fin 256) (A : ℝ), a.2.1 (ix2 r l) = ((A : ℝ) : EReal) → a'.2.1 (ix2 r l) = ((A + ∑ m ∈ Finset.range 16, (fun m => x (8 * m + r.val) l.val * x (8 * m + r.val) l.val) (16 * n + m) : ℝ) : EReal))
    (h3 : ∀ (r : Fin 16) (l : Fin 256) (B : EReal), a'.2.2.1 (ix2 r l) ≤ B ↔ a.2.2.1 (ix2 r l) ≤ B ∧ ∀ m < 8, ((x (16 * (8 * n + m) + r.val) l.val : ℝ) : EReal) ≤ B)
    (h4 : ∀ (r : Fin 16) (l : Fin 256) (B : EReal), B ≤ a'.2.2.2 (ix2 r l) ↔ B ≤ a.2.2.2 (ix2 r l) ∧ ∀ m < 8, B ≤ ((x (16 * (8 * n + m) + r.val) l.val : ℝ) : EReal)) :
    Stats x (n + 1) a' where
  s1 := fun r l => by
    rw [h1 r l _ (h.s1 r l), Nat.mul_succ, Finset.sum_range_add]
  s2 := fun r l => by
    rw [h2 r l _ (h.s2 r l), Nat.mul_succ, Finset.sum_range_add]
  mx := fun r l B => by
    rw [h3, h.mx, forall_split (fun m => ((x (16 * m + r.val) l.val : ℝ) : EReal) ≤ B)]
  mn := fun r l B => by
    rw [h4, h.mn, forall_split (fun m => B ≤ ((x (16 * m + r.val) l.val : ℝ) : EReal))]

end Cert.KernelIdeal.Hand

end
-- ==== Proof.Value.State.lean ====
/-
  Hand-written, untrusted. what the buffers hold, and what each block of the body does to it.
-/
module

public import proofs.«01_k».proof.Proof.Value.Code
public import proofs.«01_k».proof.Proof.KernelIdeal.Blocks

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

local notation "𝕄" => MT nD τ sig Unit (Elt Ideal) ℕ (UR sig nD τ) ℕ

/-- What the thirteen buffers of the body hold. -/
structure St where
  x : Vec Ideal S1x4096x256 .bf16
  ga : Vec Ideal S5x1x256 .f32
  be : Vec Ideal S5x1x256 .f32
  co : Vec Ideal S1x4096x256 .fp8e4m3
  sc : Vec Ideal S8 .f32
  im : Vec Ideal S5x4096x256 .bf16
  s1 : Vec Ideal S5x8x256 .f32
  s2 : Vec Ideal S5x8x256 .f32
  mx : Vec Ideal S5x16x256 .bf16
  mn : Vec Ideal S5x16x256 .bf16
  cv : Vec Ideal S5x8x256 .f32
  ex : Vec Ideal S1 .i32
  fa : Vec Ideal S1 .i32

/-- The thirteen buffers held whole, at contents with a property. -/
def HeldP (c : Dev nD) (arg2 : Memref sig .tc .vmem S1x4096x256 .bf16) (arg3 : Memref sig .tc .vmem S5x1x256 .f32) (arg4 : Memref sig .tc .vmem S5x1x256 .f32) (arg5 : Memref sig .tc .vmem S1x4096x256 .fp8e4m3) (arg6 : Memref sig .tc .smem S8 .f32) (arg7 : Memref sig .tc .vmem S5x4096x256 .bf16) (arg8 : Memref sig .tc .vmem S5x8x256 .f32) (arg9 : Memref sig .tc .vmem S5x8x256 .f32) (arg10 : Memref sig .tc .vmem S5x16x256 .bf16) (arg11 : Memref sig .tc .vmem S5x16x256 .bf16) (arg12 : Memref sig .tc .vmem S5x8x256 .f32) (arg13 : Memref sig .tc .smem S1 .i32) (arg14 : Memref sig .tc .smem S1 .i32) (P : St → Prop) : sProp 𝕄 :=
  iprop(∃ d2 : Vec Ideal S1x4096x256 .bf16, ∃ d3 : Vec Ideal S5x1x256 .f32, ∃ d4 : Vec Ideal S5x1x256 .f32, ∃ d5 : Vec Ideal S1x4096x256 .fp8e4m3, ∃ d6 : Vec Ideal S8 .f32, ∃ d7 : Vec Ideal S5x4096x256 .bf16, ∃ d8 : Vec Ideal S5x8x256 .f32, ∃ d9 : Vec Ideal S5x8x256 .f32, ∃ d10 : Vec Ideal S5x16x256 .bf16, ∃ d11 : Vec Ideal S5x16x256 .bf16, ∃ d12 : Vec Ideal S5x8x256 .f32, ∃ d13 : Vec Ideal S1 .i32, ∃ d14 : Vec Ideal S1 .i32,
    (owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14) ∗ ⌜P ⟨d2, d3, d4, d5, d6, d7, d8, d9, d10, d11, d12, d13, d14⟩⌝)

/-- A block, then the rest of the body. -/
theorem seqP (c : Dev nD) (arg2 : Memref sig .tc .vmem S1x4096x256 .bf16) (arg3 : Memref sig .tc .vmem S5x1x256 .f32) (arg4 : Memref sig .tc .vmem S5x1x256 .f32) (arg5 : Memref sig .tc .vmem S1x4096x256 .fp8e4m3) (arg6 : Memref sig .tc .smem S8 .f32) (arg7 : Memref sig .tc .vmem S5x4096x256 .bf16) (arg8 : Memref sig .tc .vmem S5x8x256 .f32) (arg9 : Memref sig .tc .vmem S5x8x256 .f32) (arg10 : Memref sig .tc .vmem S5x16x256 .bf16) (arg11 : Memref sig .tc .vmem S5x16x256 .bf16) (arg12 : Memref sig .tc .vmem S5x8x256 .f32) (arg13 : Memref sig .tc .smem S1 .i32) (arg14 : Memref sig .tc .smem S1 .i32) {β : Type} (P Q : St → Prop)
    (p : Prog (TpuEff nD τ sig (Elt Ideal) Λ₀ .tc) PUnit) (k : PUnit → Prog (TpuEff nD τ sig (Elt Ideal) Λ₀ .tc) β) (K : β → sProp 𝕄)
    (hp : HeldP c arg2 arg3 arg4 arg5 arg6 arg7 arg8 arg9 arg10 arg11 arg12 arg13 arg14 P ⊢ wp frame (wpE (defs₀ (F := Ideal)) Variants.none c none) Set.univ p (fun _ => HeldP c arg2 arg3 arg4 arg5 arg6 arg7 arg8 arg9 arg10 arg11 arg12 arg13 arg14 Q))
    (hk : HeldP c arg2 arg3 arg4 arg5 arg6 arg7 arg8 arg9 arg10 arg11 arg12 arg13 arg14 Q ⊢ wp frame (wpE (defs₀ (F := Ideal)) Variants.none c none) Set.univ (k ⟨⟩) K) :
    HeldP c arg2 arg3 arg4 arg5 arg6 arg7 arg8 arg9 arg10 arg11 arg12 arg13 arg14 P ⊢ wp frame (wpE (defs₀ (F := Ideal)) Variants.none c none) Set.univ (p >>= k) K := by
  rw [wp_bind]
  iintro H
  iapply (wp_wand_r frame (wpE (defs₀ (F := Ideal)) Variants.none (c : Thread nD τ) none) Set.univ)
  isplitl [H]
  · iapply hp; iexact H
  · iintro %u H
    iapply hk; iexact H

/-- Doing nothing keeps the buffers. -/
theorem retP (c : Dev nD) (arg2 : Memref sig .tc .vmem S1x4096x256 .bf16) (arg3 : Memref sig .tc .vmem S5x1x256 .f32) (arg4 : Memref sig .tc .vmem S5x1x256 .f32) (arg5 : Memref sig .tc .vmem S1x4096x256 .fp8e4m3) (arg6 : Memref sig .tc .smem S8 .f32) (arg7 : Memref sig .tc .vmem S5x4096x256 .bf16) (arg8 : Memref sig .tc .vmem S5x8x256 .f32) (arg9 : Memref sig .tc .vmem S5x8x256 .f32) (arg10 : Memref sig .tc .vmem S5x16x256 .bf16) (arg11 : Memref sig .tc .vmem S5x16x256 .bf16) (arg12 : Memref sig .tc .vmem S5x8x256 .f32) (arg13 : Memref sig .tc .smem S1 .i32) (arg14 : Memref sig .tc .smem S1 .i32) (P Q : St → Prop) (h : ∀ s, P s → Q s) :
    HeldP c arg2 arg3 arg4 arg5 arg6 arg7 arg8 arg9 arg10 arg11 arg12 arg13 arg14 P ⊢ wp frame (wpE (defs₀ (F := Ideal)) Variants.none c none) Set.univ (pure ⟨⟩ : Prog (TpuEff nD τ sig (Elt Ideal) Λ₀ .tc) PUnit)
      (fun _ => HeldP c arg2 arg3 arg4 arg5 arg6 arg7 arg8 arg9 arg10 arg11 arg12 arg13 arg14 Q) := by
  unfold HeldP
  iintro ⟨%d2, %d3, %d4, %d5, %d6, %d7, %d8, %d9, %d10, %d11, %d12, %d13, %d14, H, %hP⟩
  sl_step
  iexists d2, d3, d4, d5, d6, d7, d8, d9, d10, d11, d12, d13, d14
  isplitl [H]
  · iexact H
  ipureintro
  exact h _ hP

/-- A column of a buffer of eight rows. -/
def sl8 (v : Vec Ideal S5x8x256 .f32) (k : Fin 5) : FVec Ideal S8x256 .f32 := fun y => v (ix3 k (y 0) (y 1))
/-- A column of a buffer of sixteen rows. -/
def sl16 (v : Vec Ideal S5x16x256 .bf16) (k : Fin 5) : FVec Ideal S16x256 .bf16 := fun y => v (ix3 k (y 0) (y 1))
/-- A column of the constants. -/
def cvcol (v : Vec Ideal S5x8x256 .f32) (k : Fin 5) : Vec Ideal S1x8x256 .f32 := fun y => v (ix3 k (y 1) (y 2))

/-- A column of the image kept. -/
def ImOk (s : St) (k : Fin 5) (x : ℕ → ℕ → ℝ) : Prop :=
  ∀ (r : Fin 4096) (l : Fin 256), s.im (ix3 k r l) = ((x r.val (256 * k.val + l.val) : ℝ) : EReal)

/-- A column's statistics. -/
def StOk (s : St) (k : Fin 5) (x : ℕ → ℕ → ℝ) : Prop :=
  Stats (fun r l => x r (256 * k.val + l)) 32 (sl8 s.s1 k, sl8 s.s2 k, sl16 s.mx k, sl16 s.mn k)

/-- The codes window holds a column's codes. -/
def CoOk (s : St) (k : Fin 5) (x : ℕ → ℕ → ℝ) (γ β : ℕ → ℝ) : Prop :=
  ∀ (r : Fin 4096) (l : Fin 256), s.co (ix3 0 r l) = ((code x γ β r.val (256 * k.val + l.val) : ℝ) : EReal)

/-- The scale and the shift windows. -/
structure GbOk (s : St) (γ β : ℕ → ℝ) : Prop where
  g : ∀ (k : Fin 5) (l : Fin 256), s.ga (ix3 k 0 l) = ((γ (256 * k.val + l.val) : ℝ) : EReal)
  b : ∀ (k : Fin 5) (l : Fin 256), s.be (ix3 k 0 l) = ((β (256 * k.val + l.val) : ℝ) : EReal)

/-- The constants of one image. -/
def CvOk (s : St) (x : ℕ → ℕ → ℝ) (γ β : ℕ → ℝ) : Prop :=
  ∀ k : Fin 5, Coef x γ β k.val (cvcol s.cv k) (s.ex (Shape.Idx.first (s := S1) (by decide)))

/-- The windows' contents that no block but the normalise pass and the last one changes. -/
structure Same (s s' : St) : Prop where
  x : s'.x = s.x
  ga : s'.ga = s.ga
  be : s'.be = s.be

/-- The passes over a column leave the constants alone. -/
structure SameCv (s s' : St) : Prop extends Same s s' where
  sc : s'.sc = s.sc
  cv : s'.cv = s.cv
  ex : s'.ex = s.ex
  fa : s'.fa = s.fa

/-- What a normalise pass does. -/
structure R13 (i : grid0.Coords) (s s' : St) : Prop extends SameCv s s' where
  im : s'.im = s.im
  s1 : s'.s1 = s.s1
  s2 : s'.s2 = s.s2
  mx : s'.mx = s.mx
  mn : s'.mn = s.mn
  co : ∀ x γ β, CvOk s x γ β → GbOk s γ β → ImOk s (col i) x → CoOk s' (col i) x γ β

/-- What a pass that takes in a column leaves alone. -/
structure Oth (i : grid0.Coords) (s s' : St) : Prop extends SameCv s s' where
  s1 : ∀ k, k ≠ col i → sl8 s'.s1 k = sl8 s.s1 k
  s2 : ∀ k, k ≠ col i → sl8 s'.s2 k = sl8 s.s2 k
  mx : ∀ k, k ≠ col i → sl16 s'.mx k = sl16 s.mx k
  mn : ∀ k, k ≠ col i → sl16 s'.mn k = sl16 s.mn k

/-- The window of the input holds a column. -/
def InOk (s : St) (k : Fin 5) (x : ℕ → ℕ → ℝ) : Prop :=
  ∀ (r : Fin 4096) (l : Fin 256), s.x (ix3 0 r l) = ((x r.val (256 * k.val + l.val) : ℝ) : EReal)

/-- The other columns of the image stay. -/
def ImOut (i : grid0.Coords) (s s' : St) : Prop :=
  ∀ k, k ≠ col i → ∀ (r : Fin 4096) (l : Fin 256), s'.im (ix3 k r l) = s.im (ix3 k r l)

/-- What a pass that takes in a column does. -/
structure R4 (i : grid0.Coords) (s s' : St) : Prop extends Oth i s s' where
  co : s'.co = s.co
  new : ∀ x, InOk s (col i) x → ImOut i s s' ∧ ImOk s' (col i) x ∧ StOk s' (col i) x

/-- What a pass that does both does. -/
structure R2 (i : grid0.Coords) (s s' : St) : Prop extends Oth i s s' where
  new : ∀ x x' γ β, InOk s (col i) x → CvOk s x' γ β → ImOk s (col i) x' →
    ImOut i s s' ∧ ImOk s' (col i) x ∧ StOk s' (col i) x ∧ CoOk s' (col i) x' γ β

/-- What the second look at an image does. -/
structure R6 (v51 v62 v112 : FVec Ideal S1x1280 .f32) (s s' : St) : Prop extends Same s s' where
  co : s'.co = s.co
  sc : s'.sc = s.sc
  im : s'.im = s.im
  cv : ∀ x γ β, amax x γ β ≤ 406 * 2 ^ 126 → (∀ j : Fin 1280, v51 (ix2 0 j) = ((γ j.val : ℝ) : EReal)) → (∀ j : Fin 1280, v62 (ix2 0 j) = ((β j.val : ℝ) : EReal)) →
    (∀ j : Fin 1280, v112 (ix2 0 j) = ((mean x (j.val / 40) : ℝ) : EReal)) → (∀ k, ImOk s k x) → CvOk s' x γ β

/-- What the last block does before it stores the scale. -/
structure R5a (s s' : St) : Prop extends Same s s' where
  co : s'.co = s.co
  sc : s'.sc = s.sc
  im : s'.im = s.im
  cv : ∀ x γ β, amax x γ β ≤ 406 * 2 ^ 126 → GbOk s γ β → (∀ k, ImOk s k x ∧ StOk s k x) → CvOk s' x γ β

/-- What the last block does. -/
structure R5 (i : grid0.Coords) (s s' : St) : Prop extends Same s s' where
  co : s'.co = s.co
  im : s'.im = s.im
  cv : ∀ x γ β, amax x γ β ≤ 406 * 2 ^ 126 → GbOk s γ β → (∀ k, ImOk s k x ∧ StOk s k x) → CvOk s' x γ β
    ∧ ∀ q : Fin 8, s'.sc (ix1 q) = if q.val = (i 0).val then (((2 : ℝ) ^ expo (amax x γ β) : ℝ) : EReal) else s.sc (ix1 q)

end Cert.KernelIdeal.Hand

end
-- ==== Proof.Value.Inv.lean ====
/-
  Hand-written, untrusted. what holds between the blocks of the body.
-/
module

public import proofs.«01_k».proof.Proof.Value.State

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

local notation "𝕄" => MT nD τ sig Unit (Elt Ideal) ℕ (UR sig nD τ) ℕ

/-- What the scratch buffers hold when the grid reaches column `q` of image `p`: the columns of this image already taken in,
    the columns of the image before still to be normalised, and that image's constants. -/
structure Inv (X : ℕ → ℕ → ℕ → ℝ) (γ β : ℕ → ℝ) (p q : ℕ) (s : St) : Prop where
  a : p < 8 → ∀ k : Fin 5, k.val < q → ImOk s k (X p) ∧ StOk s k (X p)
  b : 0 < p → p < 9 → ∀ k : Fin 5, q ≤ k.val → ImOk s k (X (p - 1))
  e : 0 < p → p < 9 → CvOk s (X (p - 1)) γ β

/-- The scales of the images finished before grid point `t`. -/
def ScOk (X : ℕ → ℕ → ℕ → ℝ) (γ β : ℕ → ℝ) (t : ℕ) (s : Vec Ideal S8 .f32) : Prop :=
  ∀ q : Fin 8, 5 * q.val + 4 < t → s (ix1 q) = (((2 : ℝ) ^ expo (amax (X q.val) γ β) : ℝ) : EReal)

/-- The input windows at a grid point. -/
structure Win (x0 : Vec Ideal S1x4096x256 .bf16) (g0 b0 : Vec Ideal S5x1x256 .f32) (s : St) : Prop where
  x : s.x = x0
  ga : s.ga = g0
  be : s.be = b0

/-- What holds when the body starts at a grid point. -/
structure Pre (X : ℕ → ℕ → ℕ → ℝ) (γ β : ℕ → ℝ) (x0 : Vec Ideal S1x4096x256 .bf16) (g0 b0 : Vec Ideal S5x1x256 .f32)
    (i : grid0.Coords) (s : St) : Prop extends Win x0 g0 b0 s where
  gb : GbOk s γ β
  inp : (i 0).val < 8 → InOk s (col i) (X (i 0).val)
  scl : ScOk X γ β (5 * (i 0).val + (i 1).val) s.sc
  inv : Inv X γ β (i 0).val (i 1).val s

/-- What holds when the column has been normalised. -/
structure Mid1 (X : ℕ → ℕ → ℕ → ℝ) (γ β : ℕ → ℝ) (x0 : Vec Ideal S1x4096x256 .bf16) (g0 b0 : Vec Ideal S5x1x256 .f32)
    (i : grid0.Coords) (s : St) : Prop extends Pre X γ β x0 g0 b0 i s where
  cod : 0 < (i 0).val → CoOk s (col i) (X ((i 0).val - 1)) γ β

/-- What holds when the column of the next image has been taken in as well. -/
structure Mid2 (X : ℕ → ℕ → ℕ → ℝ) (γ β : ℕ → ℝ) (x0 : Vec Ideal S1x4096x256 .bf16) (g0 b0 : Vec Ideal S5x1x256 .f32)
    (i : grid0.Coords) (s : St) : Prop extends Win x0 g0 b0 s where
  gb : GbOk s γ β
  scl : ScOk X γ β (5 * (i 0).val + (i 1).val) s.sc
  inv : Inv X γ β (i 0).val ((i 1).val + 1) s
  cod : 0 < (i 0).val → CoOk s (col i) (X ((i 0).val - 1)) γ β

/-- What holds when the body ends. -/
structure Post (X : ℕ → ℕ → ℕ → ℝ) (γ β : ℕ → ℝ) (x0 : Vec Ideal S1x4096x256 .bf16) (g0 b0 : Vec Ideal S5x1x256 .f32)
    (i : grid0.Coords) (s : St) : Prop extends Win x0 g0 b0 s where
  scl : ScOk X γ β (5 * (i 0).val + (i 1).val + 1) s.sc
  inv : Inv X γ β ((5 * (i 0).val + (i 1).val + 1) / 5) ((5 * (i 0).val + (i 1).val + 1) % 5) s
  cod : 0 < (i 0).val → CoOk s (col i) (X ((i 0).val - 1)) γ β

variable {X : ℕ → ℕ → ℕ → ℝ} {γ β : ℕ → ℝ} {x0 : Vec Ideal S1x4096x256 .bf16} {g0 b0 : Vec Ideal S5x1x256 .f32} {i : grid0.Coords}

theorem Same.win {s s' : St} (h : Same s s') (w : Win x0 g0 b0 s) : Win x0 g0 b0 s' := ⟨h.x.trans w.x, h.ga.trans w.ga, h.be.trans w.be⟩
theorem Same.gb {s s' : St} (h : Same s s') (w : GbOk s γ β) : GbOk s' γ β :=
  ⟨fun k l => by rw [h.ga]; exact w.g k l, fun k l => by rw [h.be]; exact w.b k l⟩
theorem Same.inp {s s' : St} (h : Same s s') {k : Fin 5} {x : ℕ → ℕ → ℝ} (w : InOk s k x) : InOk s' k x :=
  fun r l => by rw [h.x]; exact w r l
theorem im_of {s s' : St} (h : s'.im = s.im) {k : Fin 5} {x : ℕ → ℕ → ℝ} (w : ImOk s k x) : ImOk s' k x :=
  fun r l => by rw [h]; exact w r l
theorem co_of {s s' : St} (h : s'.co = s.co) {k : Fin 5} {x : ℕ → ℕ → ℝ} (w : CoOk s k x γ β) : CoOk s' k x γ β :=
  fun r l => by rw [h]; exact w r l
theorem SameCv.cvok {s s' : St} (h : SameCv s s') {x : ℕ → ℕ → ℝ} (w : CvOk s x γ β) : CvOk s' x γ β :=
  fun k => by rw [h.cv, h.ex]; exact w k
theorem st_of {s s' : St} {k : Fin 5} {x : ℕ → ℕ → ℝ} (h1 : sl8 s'.s1 k = sl8 s.s1 k) (h2 : sl8 s'.s2 k = sl8 s.s2 k)
    (h3 : sl16 s'.mx k = sl16 s.mx k) (h4 : sl16 s'.mn k = sl16 s.mn k) (w : StOk s k x) : StOk s' k x := by
  unfold StOk; rw [h1, h2, h3, h4]; exact w

/-- A normalise pass. -/
theorem step13 {s s' : St} (hp : 0 < (i 0).val) (h : Pre X γ β x0 g0 b0 i s) (r : R13 i s s') : Mid1 X γ β x0 g0 b0 i s' := by
  have h9 : (i 0).val < 9 := (i 0).isLt
  exact {
    toWin := r.toSame.win h.toWin
    gb := r.toSame.gb h.gb
    inp := fun h8 => r.toSame.inp (h.inp h8)
    scl := by rw [r.sc]; exact h.scl
    inv := {
      a := fun h8 k hk => ⟨im_of r.im (h.inv.a h8 k hk).1, st_of (by rw [r.s1]) (by rw [r.s2]) (by rw [r.mx]) (by rw [r.mn]) (h.inv.a h8 k hk).2⟩
      b := fun h0 h9 k hk => im_of r.im (h.inv.b h0 h9 k hk)
      e := fun h0 h9 => r.toSameCv.cvok (h.inv.e h0 h9) }
    cod := fun h0 => r.co _ _ _ (h.inv.e h0 h9) h.gb (h.inv.b h0 h9 (col i) le_rfl) }

/-- What is known of the columns when one more has been taken in. -/
theorem inv_succ {s s' : St} (hp8 : (i 0).val < 8) (h : Inv X γ β (i 0).val (i 1).val s) (o : Oth i s s') (him : ImOut i s s')
    (n1 : ImOk s' (col i) (X (i 0).val)) (n2 : StOk s' (col i) (X (i 0).val)) : Inv X γ β (i 0).val ((i 1).val + 1) s' where
  a := fun h8 k hk => by
    by_cases e : k = col i
    · subst e; exact ⟨n1, n2⟩
    · have hk' : k.val < (i 1).val := by
        have : k.val ≠ (i 1).val := fun hh => e (Fin.ext hh)
        omega
      exact ⟨fun r l => (him k e r l).trans ((h.a h8 k hk').1 r l), st_of (o.s1 k e) (o.s2 k e) (o.mx k e) (o.mn k e) (h.a h8 k hk').2⟩
  b := fun h0 h9 k hk r l => by
    have e : k ≠ col i := fun hh => by
      have : k.val = (i 1).val := congrArg Fin.val hh
      omega
    exact (him k e r l).trans (h.b h0 h9 k (by omega) r l)
  e := fun h0 h9 => o.toSameCv.cvok (h.e h0 h9)

/-- A pass that takes in a column. -/
theorem step4 {s s' : St} (hp8 : (i 0).val < 8) (h : Mid1 X γ β x0 g0 b0 i s) (r : R4 i s s') : Mid2 X γ β x0 g0 b0 i s' := by
  obtain ⟨n0, n1, n2⟩ := r.new _ (h.inp hp8)
  exact {
    toWin := r.toSame.win h.toWin
    gb := r.toSame.gb h.gb
    scl := by rw [r.sc]; exact h.scl
    inv := inv_succ hp8 h.inv r.toOth n0 n1 n2
    cod := fun h0 => co_of r.co (h.cod h0) }

/-- A pass that does both. -/
theorem step2 {s s' : St} (hp : 0 < (i 0).val) (hp8 : (i 0).val < 8) (h : Pre X γ β x0 g0 b0 i s) (r : R2 i s s') : Mid2 X γ β x0 g0 b0 i s' := by
  have h9 : (i 0).val < 9 := (i 0).isLt
  obtain ⟨n0, n1, n2, n3⟩ := r.new _ _ _ _ (h.inp hp8) (h.inv.e hp h9) (h.inv.b hp h9 (col i) le_rfl)
  exact {
    toWin := r.toSame.win h.toWin
    gb := r.toSame.gb h.gb
    scl := by rw [r.sc]; exact h.scl
    inv := inv_succ hp8 h.inv r.toOth n0 n1 n2
    cod := fun h0 => n3 }

/-- Past the last image nothing is taken in. -/
theorem step_last {s : St} (hp8 : ¬ (i 0).val < 8) (h : Mid1 X γ β x0 g0 b0 i s) : Mid2 X γ β x0 g0 b0 i s where
  toWin := h.toWin
  gb := h.gb
  scl := h.scl
  inv := ⟨fun h8 => absurd h8 hp8, fun h0 h9 k hk => h.inv.b h0 h9 k (by omega), h.inv.e⟩
  cod := h.cod

/-- The last column of an image: its constants and its scale. -/
theorem step5 {s s' : St} (hX : ∀ p, p < 8 → amax (X p) γ β ≤ 406 * 2 ^ 126) (hp8 : (i 0).val < 8) (hc : (i 1).val = 4)
    (h : Mid2 X γ β x0 g0 b0 i s) (r : R5 i s s') : Post X γ β x0 g0 b0 i s' := by
  have hall : ∀ k, ImOk s k (X (i 0).val) ∧ StOk s k (X (i 0).val) := fun k => h.inv.a hp8 k (by omega)
  obtain ⟨n1, n2⟩ := r.cv _ _ _ (hX _ hp8) h.gb hall
  have e1 : (5 * (i 0).val + (i 1).val + 1) / 5 = (i 0).val + 1 := by omega
  have e2 : (5 * (i 0).val + (i 1).val + 1) % 5 = 0 := by omega
  exact {
    toWin := r.toSame.win h.toWin
    scl := fun q hq => by
      rw [n2 q]
      split
      · next e => rw [e]
      · next e => exact h.scl q (by omega)
    inv := by
      rw [e1, e2]
      exact ⟨fun _ k hk => absurd hk (Nat.not_lt_zero _), fun _ _ k _ => by rw [Nat.add_sub_cancel]; exact im_of r.im (hall k).1, fun _ _ => by rw [Nat.add_sub_cancel]; exact n1⟩
    cod := fun h0 => co_of r.co (h.cod h0) }

/-- At the other points nothing more happens. -/
theorem step_end {s : St} (hc : ¬ ((i 0).val < 8 ∧ (i 1).val = 4)) (h : Mid2 X γ β x0 g0 b0 i s) : Post X γ β x0 g0 b0 i s := by
  have h9 : (i 0).val < 9 := (i 0).isLt
  have h5 : (i 1).val < 5 := (i 1).isLt
  exact {
    toWin := h.toWin
    scl := fun q hq => h.scl q (by have := q.isLt; omega)
    inv := by
      by_cases h4 : (i 1).val = 4
      · have e1 : (5 * (i 0).val + (i 1).val + 1) / 5 = (i 0).val + 1 := by omega
        rw [e1]
        exact ⟨fun h => absurd h (by omega), fun _ h => absurd h (by omega), fun _ h => absurd h (by omega)⟩
      · have e1 : (5 * (i 0).val + (i 1).val + 1) / 5 = (i 0).val := by omega
        have e2 : (5 * (i 0).val + (i 1).val + 1) % 5 = (i 1).val + 1 := by omega
        rw [e1, e2]; exact h.inv
    cod := h.cod }

end Cert.KernelIdeal.Hand

end
-- ==== Proof.Value.Put.lean ====
/-
  Hand-written, untrusted. columns stored and read whole.
-/
module

public import proofs.«01_k».proof.Proof.Value.State

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

theorem col_eq (i : grid0.Coords) (k : Fin 5) : k = col i ↔ k.val = (i 1).val := Fin.ext_iff

theorem pay37_at (u : FVec Ideal S8x256 .f32) (a : Fin 8) (l : Fin 256) : k0_pay37 (F := Ideal) u (ix3 0 a l) = u (ix2 a l) := by pointwise [k0_pay37]
theorem pay38_at (u : FVec Ideal S8x256 .f32) (a : Fin 8) (l : Fin 256) : k0_pay38 (F := Ideal) u (ix3 0 a l) = u (ix2 a l) := by pointwise [k0_pay38]
theorem pay39_at (u : FVec Ideal S16x256 .bf16) (a : Fin 16) (l : Fin 256) : k0_pay39 (F := Ideal) u (ix3 0 a l) = u (ix2 a l) := by pointwise [k0_pay39]
theorem pay40_at (u : FVec Ideal S16x256 .bf16) (a : Fin 16) (l : Fin 256) : k0_pay40 (F := Ideal) u (ix3 0 a l) = u (ix2 a l) := by pointwise [k0_pay40]
theorem pay11_at (u : FVec Ideal S8x256 .f32) (a : Fin 8) (l : Fin 256) : k0_pay11 (F := Ideal) u (ix3 0 a l) = u (ix2 a l) := by pointwise [k0_pay11]
theorem pay12_at (u : FVec Ideal S8x256 .f32) (a : Fin 8) (l : Fin 256) : k0_pay12 (F := Ideal) u (ix3 0 a l) = u (ix2 a l) := by pointwise [k0_pay12]
theorem pay13_at (u : FVec Ideal S16x256 .bf16) (a : Fin 16) (l : Fin 256) : k0_pay13 (F := Ideal) u (ix3 0 a l) = u (ix2 a l) := by pointwise [k0_pay13]
theorem pay14_at (u : FVec Ideal S16x256 .bf16) (a : Fin 16) (l : Fin 256) : k0_pay14 (F := Ideal) u (ix3 0 a l) = u (ix2 a l) := by pointwise [k0_pay14]

theorem putP8 (c : ℕ) (off : Fin 3 → ℕ) (inb : ∀ a, off a + (![1, 8, 256] : Fin 3 → ℕ) a ≤ S5x8x256.size a) (h : off = ![c, 0, 0])
    (w : Vec Ideal S1x8x256 .f32) (u : FVec Ideal S8x256 .f32) (hw : ∀ (a : Fin 8) (l : Fin 256), w (ix3 0 a l) = u (ix2 a l)) :
    Pcs (e := .f32) (fun y : S5x8x256.Idx => u (ix2 (y 1) (y 2))) (fun y => (y 0).val = c) [⟨Rect.unit (s := S5x8x256) off (![1, 8, 256]) inb, w⟩] := by
  refine Pcs.congr ((Pcs.nil _).cons3 off inb h w fun p q r hp hq hr => ?_) fun y => ?_
  · have hp0 : p = 0 := Subsingleton.elim _ _
    subst hp0
    rw [hw]
    show u (ix2 q r) = u (ix2 ⟨0 + q.val, _⟩ ⟨0 + r.val, _⟩)
    congr 2 <;> exact Fin.ext (Nat.zero_add _).symm
  · have b1 : (y 1).val < 8 := (y 1).isLt
    have b2 : (y 2).val < 256 := (y 2).isLt
    simp only [InBlk, or_false]
    constructor <;> intro h <;> omega

/-- A column stored whole is read back, -/
theorem put8_in (v : View sig .tc .vmem S5x8x256 .f32) (f : v.ty.Contents (Elt Ideal)) (i : grid0.Coords) (off : Fin 3 → ℕ) (inb : ∀ a, off a + (![1, 8, 256] : Fin 3 → ℕ) a ≤ S5x8x256.size a) (h : off = ![(i 1).val, 0, 0])
    (w : Vec Ideal S1x8x256 .f32) (u : FVec Ideal S8x256 .f32) (hw : ∀ (a : Fin 8) (l : Fin 256), w (ix3 0 a l) = u (ix2 a l)) :
    sl8 (v.read (Elt Ideal) (v.writes (Elt Ideal) f [⟨Rect.unit (s := S5x8x256) off (![1, 8, 256]) inb, w⟩])) (col i) = u := by
  funext y
  refine ((putP8 _ off inb h w u hw).read_in v f (ix3 (col i) (y 0) (y 1)) rfl).trans ?_
  exact congrArg u (eq_ix2 y).symm

/-- and the other columns stay. -/
theorem put8_out (v : View sig .tc .vmem S5x8x256 .f32) (f : v.ty.Contents (Elt Ideal)) (i : grid0.Coords) (off : Fin 3 → ℕ) (inb : ∀ a, off a + (![1, 8, 256] : Fin 3 → ℕ) a ≤ S5x8x256.size a) (h : off = ![(i 1).val, 0, 0])
    (w : Vec Ideal S1x8x256 .f32) (u : FVec Ideal S8x256 .f32) (hw : ∀ (a : Fin 8) (l : Fin 256), w (ix3 0 a l) = u (ix2 a l)) (k : Fin 5) (hk : k ≠ col i) :
    sl8 (v.read (Elt Ideal) (v.writes (Elt Ideal) f [⟨Rect.unit (s := S5x8x256) off (![1, 8, 256]) inb, w⟩])) k = sl8 (v.read (Elt Ideal) f) k := by
  funext y
  exact (putP8 _ off inb h w u hw).read_out v f (ix3 k (y 0) (y 1)) (fun e => hk ((col_eq i k).2 e))

theorem putP16 (c : ℕ) (off : Fin 3 → ℕ) (inb : ∀ a, off a + (![1, 16, 256] : Fin 3 → ℕ) a ≤ S5x16x256.size a) (h : off = ![c, 0, 0])
    (w : Vec Ideal S1x16x256 .bf16) (u : FVec Ideal S16x256 .bf16) (hw : ∀ (a : Fin 16) (l : Fin 256), w (ix3 0 a l) = u (ix2 a l)) :
    Pcs (e := .bf16) (fun y : S5x16x256.Idx => u (ix2 (y 1) (y 2))) (fun y => (y 0).val = c) [⟨Rect.unit (s := S5x16x256) off (![1, 16, 256]) inb, w⟩] := by
  refine Pcs.congr ((Pcs.nil _).cons3 off inb h w fun p q r hp hq hr => ?_) fun y => ?_
  · have hp0 : p = 0 := Subsingleton.elim _ _
    subst hp0
    rw [hw]
    show u (ix2 q r) = u (ix2 ⟨0 + q.val, _⟩ ⟨0 + r.val, _⟩)
    congr 2 <;> exact Fin.ext (Nat.zero_add _).symm
  · have b1 : (y 1).val < 16 := (y 1).isLt
    have b2 : (y 2).val < 256 := (y 2).isLt
    simp only [InBlk, or_false]
    constructor <;> intro h <;> omega

/-- A column stored whole is read back, -/
theorem put16_in (v : View sig .tc .vmem S5x16x256 .bf16) (f : v.ty.Contents (Elt Ideal)) (i : grid0.Coords) (off : Fin 3 → ℕ) (inb : ∀ a, off a + (![1, 16, 256] : Fin 3 → ℕ) a ≤ S5x16x256.size a) (h : off = ![(i 1).val, 0, 0])
    (w : Vec Ideal S1x16x256 .bf16) (u : FVec Ideal S16x256 .bf16) (hw : ∀ (a : Fin 16) (l : Fin 256), w (ix3 0 a l) = u (ix2 a l)) :
    sl16 (v.read (Elt Ideal) (v.writes (Elt Ideal) f [⟨Rect.unit (s := S5x16x256) off (![1, 16, 256]) inb, w⟩])) (col i) = u := by
  funext y
  refine ((putP16 _ off inb h w u hw).read_in v f (ix3 (col i) (y 0) (y 1)) rfl).trans ?_
  exact congrArg u (eq_ix2 y).symm

/-- and the other columns stay. -/
theorem put16_out (v : View sig .tc .vmem S5x16x256 .bf16) (f : v.ty.Contents (Elt Ideal)) (i : grid0.Coords) (off : Fin 3 → ℕ) (inb : ∀ a, off a + (![1, 16, 256] : Fin 3 → ℕ) a ≤ S5x16x256.size a) (h : off = ![(i 1).val, 0, 0])
    (w : Vec Ideal S1x16x256 .bf16) (u : FVec Ideal S16x256 .bf16) (hw : ∀ (a : Fin 16) (l : Fin 256), w (ix3 0 a l) = u (ix2 a l)) (k : Fin 5) (hk : k ≠ col i) :
    sl16 (v.read (Elt Ideal) (v.writes (Elt Ideal) f [⟨Rect.unit (s := S5x16x256) off (![1, 16, 256]) inb, w⟩])) k = sl16 (v.read (Elt Ideal) f) k := by
  funext y
  exact (putP16 _ off inb h w u hw).read_out v f (ix3 k (y 0) (y 1)) (fun e => hk ((col_eq i k).2 e))

/-- The constants a pass reads. -/
theorem coef_read (v : View sig .tc .vmem S5x8x256 .f32) (f : v.ty.Contents (Elt Ideal)) (i : grid0.Coords) (off : Fin 3 → ℕ) (inb : ∀ a, off a + (![1, 8, 256] : Fin 3 → ℕ) a ≤ S5x8x256.size a) (h : off = ![(i 1).val, 0, 0])
    (x : ℕ → ℕ → ℝ) (γ β : ℕ → ℝ) (w w' : BitVec 32) (e : w = w') (hc : Coef x γ β (i 1).val (cvcol (v.read (Elt Ideal) f) (col i)) w') :
    Coef x γ β (i 1).val (v.readAt (Elt Ideal) (Rect.unit (s := S5x8x256) off (![1, 8, 256]) inb).toLoadRect f) w := by
  subst e
  have hi : (i 1).val < 5 := (i 1).isLt
  have key : ∀ (q : Fin 8) (l : Fin 256), v.readAt (Elt Ideal) (Rect.unit (s := S5x8x256) off (![1, 8, 256]) inb).toLoadRect f (ix3 0 q l) = cvcol (v.read (Elt Ideal) f) (col i) (ix3 0 q l) := by
    intro q l
    rw [rd3 v f off inb h 0 q l (by simpa using hi) (by omega) (by omega)]
    show v.read (Elt Ideal) f _ = v.read (Elt Ideal) f (ix3 (col i) q l)
    congr 1
    refine congrFun (congrArg (fun z => ix3 (n1 := 8) (n2 := 256) (⟨(i 1).val + 0, by simpa using hi⟩ : Fin 5) z) (Fin.ext (Nat.zero_add _) : (⟨0 + q.val, by omega⟩ : Fin 8) = q)) _ |>.trans ?_
    exact congrArg (fun z => ix3 (n0 := 5) (n1 := 8) (n2 := 256) (col i) q z) (Fin.ext (Nat.zero_add _) : (⟨0 + l.val, by omega⟩ : Fin 256) = l)
  exact ⟨fun l => (key 0 l).trans (hc.h0 l), fun l => (key 1 l).trans (hc.h1 l), fun l => (key 2 l).trans (hc.h2 l), fun l => (key 3 l).trans (hc.h3 l), hc.hw, hc.lo, hc.hi⟩

theorem S1_sub (a b : S1.Idx) : a = b := by
  funext k
  match k with
  | ⟨0, _⟩ => exact Subsingleton.elim (α := Fin 1) _ _

/-- The word of the exponent. -/
theorem ex_read (v : View sig .tc .smem S1 .i32) (f : v.ty.Contents (Elt Ideal)) (inb : ∀ a, (![0] : Fin 1 → ℕ) a + S1.size a ≤ S1.size a) (q q' : S1.Idx) :
    v.readAt (Elt Ideal) (Rect.unit (s := S1) ![0] S1.size inb).toLoadRect f q = v.read (Elt Ideal) f q' :=
  congrArg (v.read (Elt Ideal) f) (S1_sub _ _)

/-- A column of the scale or of the shift. -/
theorem gb_read (v : View sig .tc .vmem S5x1x256 .f32) (f : v.ty.Contents (Elt Ideal)) (k : Fin 5) (off : Fin 3 → ℕ) (inb : ∀ a, off a + (![1, 1, 256] : Fin 3 → ℕ) a ≤ S5x1x256.size a) (h : off = ![k.val, 0, 0])
    (l : Fin 256) : v.readAt (Elt Ideal) (Rect.unit (s := S5x1x256) off (![1, 1, 256]) inb).toLoadRect f (ix3 0 0 l) = v.read (Elt Ideal) f (ix3 k 0 l) := by
  have hk := k.isLt
  rw [rd3 v f off inb h 0 0 l (by simpa using hk) (by decide) (by omega)]
  congr 1
  exact congrArg (fun z => ix3 (n0 := 5) (n1 := 1) (n2 := 256) k 0 z) (Fin.ext (Nat.zero_add _) : (⟨0 + l.val, by omega⟩ : Fin 256) = l)

/-- A column of the statistics. -/
theorem st8_read (v : View sig .tc .vmem S5x8x256 .f32) (f : v.ty.Contents (Elt Ideal)) (k : Fin 5) (off : Fin 3 → ℕ) (inb : ∀ a, off a + (![1, 8, 256] : Fin 3 → ℕ) a ≤ S5x8x256.size a) (h : off = ![k.val, 0, 0])
    (q : Fin 8) (l : Fin 256) : v.readAt (Elt Ideal) (Rect.unit (s := S5x8x256) off (![1, 8, 256]) inb).toLoadRect f (ix3 0 q l) = sl8 (v.read (Elt Ideal) f) k (ix2 q l) := by
  have hk := k.isLt
  rw [rd3 v f off inb h 0 q l (by simpa using hk) (by omega) (by omega)]
  show v.read (Elt Ideal) f _ = v.read (Elt Ideal) f (ix3 k q l)
  congr 1
  refine (congrArg (fun z => ix3 (n0 := 5) (n1 := 8) (n2 := 256) k z (⟨0 + l.val, by omega⟩ : Fin 256)) (Fin.ext (Nat.zero_add _) : (⟨0 + q.val, by omega⟩ : Fin 8) = q)).trans ?_
  exact congrArg (fun z => ix3 (n0 := 5) (n1 := 8) (n2 := 256) k q z) (Fin.ext (Nat.zero_add _) : (⟨0 + l.val, by omega⟩ : Fin 256) = l)

/-- A column of the statistics. -/
theorem st16_read (v : View sig .tc .vmem S5x16x256 .bf16) (f : v.ty.Contents (Elt Ideal)) (k : Fin 5) (off : Fin 3 → ℕ) (inb : ∀ a, off a + (![1, 16, 256] : Fin 3 → ℕ) a ≤ S5x16x256.size a) (h : off = ![k.val, 0, 0])
    (q : Fin 16) (l : Fin 256) : v.readAt (Elt Ideal) (Rect.unit (s := S5x16x256) off (![1, 16, 256]) inb).toLoadRect f (ix3 0 q l) = sl16 (v.read (Elt Ideal) f) k (ix2 q l) := by
  have hk := k.isLt
  rw [rd3 v f off inb h 0 q l (by simpa using hk) (by omega) (by omega)]
  show v.read (Elt Ideal) f _ = v.read (Elt Ideal) f (ix3 k q l)
  congr 1
  refine (congrArg (fun z => ix3 (n0 := 5) (n1 := 16) (n2 := 256) k z (⟨0 + l.val, by omega⟩ : Fin 256)) (Fin.ext (Nat.zero_add _) : (⟨0 + q.val, by omega⟩ : Fin 16) = q)).trans ?_
  exact congrArg (fun z => ix3 (n0 := 5) (n1 := 16) (n2 := 256) k q z) (Fin.ext (Nat.zero_add _) : (⟨0 + l.val, by omega⟩ : Fin 256) = l)

end Cert.KernelIdeal.Hand

end
-- ==== Proof.Value.T1.lean ====
/-
  Hand-written, untrusted. the loop that only writes codes in the logistic form.
-/
module

public import proofs.«01_k».proof.Proof.Value.Code

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

/-- The piece of one trip: thirty-two rows of codes. -/
theorem t1_co (𝒱 : Variants) (c : Dev nD) (bd : Option 𝒱.V) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (v30 : Vec Ideal S1x8x256 .f32) (v32 : Elt Ideal .i32) (v38 : Vec Ideal S1x1x256 .f32) (v41 : Vec Ideal S1x1x256 .f32) (X_arg7 : BufTy.Contents (Elt Ideal) arg7.view.ty) (k : Fin k0_t1_loop.trips) (x : ℕ → ℕ → ℝ) (γ β : ℕ → ℝ) (hc : Coef x γ β (i 1).val v30 v32)
    (hg : ∀ l : Fin 256, v38 (ix3 0 0 l) = ((γ (256 * (i 1).val + l.val) : ℝ) : EReal)) (hb : ∀ l : Fin 256, v41 (ix3 0 0 l) = ((β (256 * (i 1).val + l.val) : ℝ) : EReal))
    (hx : ∀ (r : Fin 4096) (l : Fin 256), arg7.view.read (Elt Ideal) X_arg7 (ix3 (col i) r l) = ((x r.val (256 * (i 1).val + l.val) : ℝ) : EReal)) :
    Pcs (codesG x γ β (i 1).val) (fun y => 32 * k.val ≤ (y 1).val ∧ (y 1).val < 32 * (k.val + 1))
      (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v30 v32 v38 v41 X_arg7 k).1 := by
  have d0 : ∀ (inb) (R : Fin 32) (l : Fin 256), arg7.view.readAt (Elt Ideal) (Rect.unit (s := S5x4096x256) (k0_off3 i k) (![1, 32, 256]) inb).toLoadRect X_arg7 (ix3 0 R l) = ((x (32 * k.val + R.val) (256 * (i 1).val + l.val) : ℝ) : EReal) :=
    fun inb R l => chunk5 arg7.view X_arg7 (fun r l => x r (256 * (i 1).val + l)) id (col i) (32 * k.val) (fun r l _ => hx r l) _ inb (off3_eq i k) R l
  unfold trip_k0_t1
  dsimp only
  refine Pcs.congr (((Pcs.nil _).cons3 _ _ (off4_eq k) _ ?_)) ?_
  · intro p q r hp hq hr
    obtain rfl : p = 0 := Subsingleton.elim _ _
    unfold codesG
    pointwise [k0_pay5]
    rw [d0]
    exact hc.slow v38 v41 (32 * k.val + q.val) r (hg r) (hb r)
  intro y
  have h1 : (y 2).val < 256 := (y 2).isLt
  have h0 : (y 0).val < 1 := (y 0).isLt
  simp only [InBlk, or_false]
  constructor <;> intro h <;> omega

/-- After `n` trips: the codes of `32 n` rows. -/
theorem t1_pb (𝒱 : Variants) (c : Dev nD) (bd : Option 𝒱.V) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (v30 : Vec Ideal S1x8x256 .f32) (v32 : Elt Ideal .i32) (v38 : Vec Ideal S1x1x256 .f32) (v41 : Vec Ideal S1x1x256 .f32) (X_arg7 : BufTy.Contents (Elt Ideal) arg7.view.ty) (x : ℕ → ℕ → ℝ) (γ β : ℕ → ℝ) (hc : Coef x γ β (i 1).val v30 v32)
    (hg : ∀ l : Fin 256, v38 (ix3 0 0 l) = ((γ (256 * (i 1).val + l.val) : ℝ) : EReal)) (hb : ∀ l : Fin 256, v41 (ix3 0 0 l) = ((β (256 * (i 1).val + l.val) : ℝ) : EReal))
    (hx : ∀ (r : Fin 4096) (l : Fin 256), arg7.view.read (Elt Ideal) X_arg7 (ix3 (col i) r l) = ((x r.val (256 * (i 1).val + l.val) : ℝ) : EReal)) :
    ∀ (n : ℕ) (hn : n ≤ 128), Pcs (codesG x γ β (i 1).val) (fun y => (y 1).val < 32 * n) (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v30 v32 v38 v41 X_arg7 n)
  | 0, _ => (Pcs.nil _).congr fun y => by simp
  | n + 1, hn => by
    have h3 := t1_pb 𝒱 c bd i arg2 harg2 arg3 harg3 arg4 harg4 arg5 harg5 arg6 harg6 arg7 harg7 arg8 harg8 arg9 harg9 arg10 harg10 arg11 harg11 arg12 harg12 arg13 harg13 arg14 harg14 v30 v32 v38 v41 X_arg7 x γ β hc hg hb hx n (by omega)
    have hk : n < k0_t1_loop.trips := lt_of_lt_of_eq (show n < 128 by omega) trips1.symm
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 v30 v32 v38 v41 X_arg7 ⟨n, hk⟩
    rw [show n + 1 = (⟨n, hk⟩ : Fin k0_t1_loop.trips).val + 1 from rfl, e]
    refine ((t1_co 𝒱 c bd i arg2 harg2 arg3 harg3 arg4 harg4 arg5 harg5 arg6 harg6 arg7 harg7 arg8 harg8 arg9 harg9 arg10 harg10 arg11 harg11 arg12 harg12 arg13 harg13 arg14 harg14 v30 v32 v38 v41 X_arg7 ⟨n, hk⟩ x γ β hc hg hb hx).append h3).congr fun y => ?_
    show _ ↔ _ < 32 * (n + 1)
    dsimp only
    constructor <;> intro h <;> omega

end Cert.KernelIdeal.Hand

end
-- ==== Proof.Value.Blk1.lean ====
/-
  Hand-written, untrusted. block 1 of the body run once.
-/
module

public import proofs.«01_k».proof.Proof.Value.Put
public import proofs.«01_k».proof.Proof.Value.T1

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

local notation "𝕄" => MT nD τ sig Unit (Elt Ideal) ℕ (UR sig nD τ) ℕ

/-- Block 1 run once. -/
theorem blk1_val (c : Dev nD) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (P Q : St → Prop) (hPQ : ∀ s s', P s → R13 i s s' → Q s') :
    HeldP c arg2 arg3 arg4 arg5 arg6 arg7 arg8 arg9 arg10 arg11 arg12 arg13 arg14 P
      ⊢ wp frame (wpE (defs₀ (F := Ideal)) Variants.none c none) Set.univ
          (blk1 (F := Ideal) i arg2 harg2 arg3 harg3 arg4 harg4 arg5 harg5 arg6 harg6 arg7 harg7 arg8 harg8 arg9 harg9 arg10 harg10 arg11 harg11 arg12 harg12 arg13 harg13 arg14 harg14) (fun _ => HeldP c arg2 arg3 arg4 arg5 arg6 arg7 arg8 arg9 arg10 arg11 arg12 arg13 arg14 Q) := by
  unfold blk1 HeldP owns
  iintro ⟨%d2, %d3, %d4, %d5, %d6, %d7, %d8, %d9, %d10, %d11, %d12, %d13, %d14, ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩, %hP⟩
  sl_exec
  sl_step
  iexists _, _, _, _, _, _, _, _, _, _, _, _, _
  isplitl [H2 H3 H4 H5 H6 H7 H8 H9 H10 H11 H12 H13 H14]
  · isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    iexists _; isplitr; swap; · iexact H14
    ipureintro; rfl
  ipureintro
  subst h2 h3 h4 h5 h6 h7 h8 h9 h10 h11 h12 h13 h14
  refine hPQ _ _ hP ?_
  have e : Scf.trips k0_t1_loop.lb k0_t1_loop.ub k0_t1_loop.st = 128 := trips1
  rw [e]
  refine {
    x := rfl, ga := rfl, be := rfl, sc := rfl, cv := rfl, ex := rfl, fa := rfl, im := rfl, s1 := rfl, s2 := rfl, mx := rfl, mn := rfl
    co := fun x γ β hc hgb him r l =>
      (t1_pb Variants.none c none i arg2 harg2 arg3 harg3 arg4 harg4 arg5 harg5 arg6 harg6 arg7 harg7 arg8 harg8 arg9 harg9 arg10 harg10 arg11 harg11 arg12 harg12 arg13 harg13 arg14 harg14 _ _ _ _ f7 x γ β (coef_read arg12.view f12 i _ (k0_off1_inb i) (off1_eq i) x γ β _ _ (ex_read arg13.view f13 _ _ _) (hc (col i)))
        (fun l => (gb_read arg3.view f3 (col i) _ (k0_off2_inb i) (off2_eq i) l).trans (hgb.g (col i) l))
        (fun l => (gb_read arg4.view f4 (col i) _ (k0_off2_inb i) (off2_eq i) l).trans (hgb.b (col i) l)) him 128 le_rfl).read_in arg5.view f5 (ix3 0 r l) r.isLt }

end Cert.KernelIdeal.Hand

end
-- ==== Proof.Value.T2a.lean ====
/-
  Hand-written, untrusted. the loop that writes codes and takes in the next image: what one trip does (sum).
-/
module

public import proofs.«01_k».proof.Proof.Value.Code

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

/-- One trip adds sixteen rows to the running sum. -/
theorem t2_s1 (𝒱 : Variants) (c : Dev nD) (bd : Option 𝒱.V) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (arg1 : BitVec 32) (v30 : Vec Ideal S1x8x256 .f32) (v32 : Elt Ideal .i32) (X_arg2 : BufTy.Contents (Elt Ideal) arg2.view.ty) (k : Fin k0_t2_loop.trips) (x : ℕ → ℕ → ℝ) (hx : ∀ (r : Fin 4096) (l : Fin 256), arg2.view.read (Elt Ideal) X_arg2 (ix3 0 r l) = ((x r.val l.val : ℝ) : EReal)) (acc) (f5 : BufTy.Contents (Elt Ideal) arg5.view.ty) (f7 : BufTy.Contents (Elt Ideal) arg7.view.ty) (r : Fin 8) (l : Fin 256) (A : ℝ) (hA : acc.1 (ix2 r l) = ((A : ℝ) : EReal)) :
    ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v30 v32 X_arg2 k).1 acc f5 f7).1 (ix2 r l) = ((A + ∑ m ∈ Finset.range 16, (fun m => x (8 * m + r.val) l.val) (16 * k.val + m) : ℝ) : EReal) := by
  have c0 : ∀ (inb) (R : Fin 32) (l : Fin 256), arg2.view.readAt (Elt Ideal) (Rect.unit (s := S1x4096x256) (k0_off7 k 0#32) (![1, 32, 256]) inb).toLoadRect X_arg2 (ix3 0 R l) = ((x (32 * (4 * k.val) + R.val) l.val : ℝ) : EReal) :=
    fun inb R l => chunk1 arg2.view X_arg2 x id hx _ inb (off7_eq k 0 (by decide)) R l
  have c1 : ∀ (inb) (R : Fin 32) (l : Fin 256), arg2.view.readAt (Elt Ideal) (Rect.unit (s := S1x4096x256) (k0_off7 k 1#32) (![1, 32, 256]) inb).toLoadRect X_arg2 (ix3 0 R l) = ((x (32 * (4 * k.val + 1) + R.val) l.val : ℝ) : EReal) :=
    fun inb R l => chunk1 arg2.view X_arg2 x id hx _ inb (off7_eq k 1 (by decide)) R l
  have c2 : ∀ (inb) (R : Fin 32) (l : Fin 256), arg2.view.readAt (Elt Ideal) (Rect.unit (s := S1x4096x256) (k0_off7 k 2#32) (![1, 32, 256]) inb).toLoadRect X_arg2 (ix3 0 R l) = ((x (32 * (4 * k.val + 2) + R.val) l.val : ℝ) : EReal) :=
    fun inb R l => chunk1 arg2.view X_arg2 x id hx _ inb (off7_eq k 2 (by decide)) R l
  have c3 : ∀ (inb) (R : Fin 32) (l : Fin 256), arg2.view.readAt (Elt Ideal) (Rect.unit (s := S1x4096x256) (k0_off7 k 3#32) (![1, 32, 256]) inb).toLoadRect X_arg2 (ix3 0 R l) = ((x (32 * (4 * k.val + 3) + R.val) l.val : ℝ) : EReal) :=
    fun inb R l => chunk1 arg2.view X_arg2 x id hx _ inb (off7_eq k 3 (by decide)) R l
  have e00 : 32 * (4 * k.val) + r.val = 8 * (16 * k.val) + r.val := by omega
  have e01 : 32 * (4 * k.val) + (8 + r.val) = 8 * (16 * k.val + 1) + r.val := by omega
  have e02 : 32 * (4 * k.val) + (16 + r.val) = 8 * (16 * k.val + 2) + r.val := by omega
  have e03 : 32 * (4 * k.val) + (16 + (8 + r.val)) = 8 * (16 * k.val + 3) + r.val := by omega
  have e10 : 32 * (4 * k.val + 1) + r.val = 8 * (16 * k.val + 4) + r.val := by omega
  have e11 : 32 * (4 * k.val + 1) + (8 + r.val) = 8 * (16 * k.val + 5) + r.val := by omega
  have e12 : 32 * (4 * k.val + 1) + (16 + r.val) = 8 * (16 * k.val + 6) + r.val := by omega
  have e13 : 32 * (4 * k.val + 1) + (16 + (8 + r.val)) = 8 * (16 * k.val + 7) + r.val := by omega
  have e20 : 32 * (4 * k.val + 2) + r.val = 8 * (16 * k.val + 8) + r.val := by omega
  have e21 : 32 * (4 * k.val + 2) + (8 + r.val) = 8 * (16 * k.val + 9) + r.val := by omega
  have e22 : 32 * (4 * k.val + 2) + (16 + r.val) = 8 * (16 * k.val + 10) + r.val := by omega
  have e23 : 32 * (4 * k.val + 2) + (16 + (8 + r.val)) = 8 * (16 * k.val + 11) + r.val := by omega
  have e30 : 32 * (4 * k.val + 3) + r.val = 8 * (16 * k.val + 12) + r.val := by omega
  have e31 : 32 * (4 * k.val + 3) + (8 + r.val) = 8 * (16 * k.val + 13) + r.val := by omega
  have e32 : 32 * (4 * k.val + 3) + (16 + r.val) = 8 * (16 * k.val + 14) + r.val := by omega
  have e33 : 32 * (4 * k.val + 3) + (16 + (8 + r.val)) = 8 * (16 * k.val + 15) + r.val := by omega
  unfold trip_k0_t2
  dsimp only
  pointwise [trip_k0_t2.sl.v294, trip_k0_t2.sl.v293, trip_k0_t2.sl.v288, trip_k0_t2.sl.v285, trip_k0_t2.sl.v267, trip_k0_t2.sl.v290, trip_k0_t2.sl.v289, trip_k0_t2.sl.v282, trip_k0_t2.sl.v281, trip_k0_t2.sl.v276, trip_k0_t2.sl.v273, trip_k0_t2.sl.v278, trip_k0_t2.sl.v277, trip_k0_t2.sl.v234, trip_k0_t2.sl.v233, trip_k0_t2.sl.v228, trip_k0_t2.sl.v225, trip_k0_t2.sl.v207, trip_k0_t2.sl.v230, trip_k0_t2.sl.v229, trip_k0_t2.sl.v222, trip_k0_t2.sl.v221, trip_k0_t2.sl.v216, trip_k0_t2.sl.v213, trip_k0_t2.sl.v218, trip_k0_t2.sl.v217, trip_k0_t2.sl.v174, trip_k0_t2.sl.v173, trip_k0_t2.sl.v168, trip_k0_t2.sl.v165, trip_k0_t2.sl.v147, trip_k0_t2.sl.v170, trip_k0_t2.sl.v169, trip_k0_t2.sl.v162, trip_k0_t2.sl.v161, trip_k0_t2.sl.v156, trip_k0_t2.sl.v153, trip_k0_t2.sl.v158, trip_k0_t2.sl.v157, trip_k0_t2.sl.v114, trip_k0_t2.sl.v113, trip_k0_t2.sl.v108, trip_k0_t2.sl.v105, trip_k0_t2.sl.v87, trip_k0_t2.sl.v110, trip_k0_t2.sl.v109, trip_k0_t2.sl.v102, trip_k0_t2.sl.v98, trip_k0_t2.sl.v97, trip_k0_t2.sl.v96, trip_k0_t2.sl.v93, trip_k0_t2.sl.v101]
  simp only [c0, c1, c2, c3, hA, e00, e01, e02, e03, e10, e11, e12, e13, e20, e21, e22, e23, e30, e31, e32, e33, Finset.sum_range_succ, Finset.sum_range_zero, zero_add, EReal.coe_add, EReal.coe_mul, add_assoc, add_zero]

end Cert.KernelIdeal.Hand

end
-- ==== Proof.Value.T2b.lean ====
/-
  Hand-written, untrusted. the loop that writes codes and takes in the next image: what one trip does (sum of squares).
-/
module

public import proofs.«01_k».proof.Proof.Value.Code

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

/-- One trip adds sixteen rows to the running sum of squares. -/
theorem t2_s2 (𝒱 : Variants) (c : Dev nD) (bd : Option 𝒱.V) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (arg1 : BitVec 32) (v30 : Vec Ideal S1x8x256 .f32) (v32 : Elt Ideal .i32) (X_arg2 : BufTy.Contents (Elt Ideal) arg2.view.ty) (k : Fin k0_t2_loop.trips) (x : ℕ → ℕ → ℝ) (hx : ∀ (r : Fin 4096) (l : Fin 256), arg2.view.read (Elt Ideal) X_arg2 (ix3 0 r l) = ((x r.val l.val : ℝ) : EReal)) (acc) (f5 : BufTy.Contents (Elt Ideal) arg5.view.ty) (f7 : BufTy.Contents (Elt Ideal) arg7.view.ty) (r : Fin 8) (l : Fin 256) (A : ℝ) (hA : acc.2.1 (ix2 r l) = ((A : ℝ) : EReal)) :
    ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v30 v32 X_arg2 k).1 acc f5 f7).2.1 (ix2 r l) = ((A + ∑ m ∈ Finset.range 16, (fun m => x (8 * m + r.val) l.val * x (8 * m + r.val) l.val) (16 * k.val + m) : ℝ) : EReal) := by
  have c0 : ∀ (inb) (R : Fin 32) (l : Fin 256), arg2.view.readAt (Elt Ideal) (Rect.unit (s := S1x4096x256) (k0_off7 k 0#32) (![1, 32, 256]) inb).toLoadRect X_arg2 (ix3 0 R l) = ((x (32 * (4 * k.val) + R.val) l.val : ℝ) : EReal) :=
    fun inb R l => chunk1 arg2.view X_arg2 x id hx _ inb (off7_eq k 0 (by decide)) R l
  have c1 : ∀ (inb) (R : Fin 32) (l : Fin 256), arg2.view.readAt (Elt Ideal) (Rect.unit (s := S1x4096x256) (k0_off7 k 1#32) (![1, 32, 256]) inb).toLoadRect X_arg2 (ix3 0 R l) = ((x (32 * (4 * k.val + 1) + R.val) l.val : ℝ) : EReal) :=
    fun inb R l => chunk1 arg2.view X_arg2 x id hx _ inb (off7_eq k 1 (by decide)) R l
  have c2 : ∀ (inb) (R : Fin 32) (l : Fin 256), arg2.view.readAt (Elt Ideal) (Rect.unit (s := S1x4096x256) (k0_off7 k 2#32) (![1, 32, 256]) inb).toLoadRect X_arg2 (ix3 0 R l) = ((x (32 * (4 * k.val + 2) + R.val) l.val : ℝ) : EReal) :=
    fun inb R l => chunk1 arg2.view X_arg2 x id hx _ inb (off7_eq k 2 (by decide)) R l
  have c3 : ∀ (inb) (R : Fin 32) (l : Fin 256), arg2.view.readAt (Elt Ideal) (Rect.unit (s := S1x4096x256) (k0_off7 k 3#32) (![1, 32, 256]) inb).toLoadRect X_arg2 (ix3 0 R l) = ((x (32 * (4 * k.val + 3) + R.val) l.val : ℝ) : EReal) :=
    fun inb R l => chunk1 arg2.view X_arg2 x id hx _ inb (off7_eq k 3 (by decide)) R l
  have e00 : 32 * (4 * k.val) + r.val = 8 * (16 * k.val) + r.val := by omega
  have e01 : 32 * (4 * k.val) + (8 + r.val) = 8 * (16 * k.val + 1) + r.val := by omega
  have e02 : 32 * (4 * k.val) + (16 + r.val) = 8 * (16 * k.val + 2) + r.val := by omega
  have e03 : 32 * (4 * k.val) + (16 + (8 + r.val)) = 8 * (16 * k.val + 3) + r.val := by omega
  have e10 : 32 * (4 * k.val + 1) + r.val = 8 * (16 * k.val + 4) + r.val := by omega
  have e11 : 32 * (4 * k.val + 1) + (8 + r.val) = 8 * (16 * k.val + 5) + r.val := by omega
  have e12 : 32 * (4 * k.val + 1) + (16 + r.val) = 8 * (16 * k.val + 6) + r.val := by omega
  have e13 : 32 * (4 * k.val + 1) + (16 + (8 + r.val)) = 8 * (16 * k.val + 7) + r.val := by omega
  have e20 : 32 * (4 * k.val + 2) + r.val = 8 * (16 * k.val + 8) + r.val := by omega
  have e21 : 32 * (4 * k.val + 2) + (8 + r.val) = 8 * (16 * k.val + 9) + r.val := by omega
  have e22 : 32 * (4 * k.val + 2) + (16 + r.val) = 8 * (16 * k.val + 10) + r.val := by omega
  have e23 : 32 * (4 * k.val + 2) + (16 + (8 + r.val)) = 8 * (16 * k.val + 11) + r.val := by omega
  have e30 : 32 * (4 * k.val + 3) + r.val = 8 * (16 * k.val + 12) + r.val := by omega
  have e31 : 32 * (4 * k.val + 3) + (8 + r.val) = 8 * (16 * k.val + 13) + r.val := by omega
  have e32 : 32 * (4 * k.val + 3) + (16 + r.val) = 8 * (16 * k.val + 14) + r.val := by omega
  have e33 : 32 * (4 * k.val + 3) + (16 + (8 + r.val)) = 8 * (16 * k.val + 15) + r.val := by omega
  unfold trip_k0_t2
  dsimp only
  pointwise [trip_k0_t2.sl.v292, trip_k0_t2.sl.v291, trip_k0_t2.sl.v289, trip_k0_t2.sl.v288, trip_k0_t2.sl.v285, trip_k0_t2.sl.v267, trip_k0_t2.sl.v284, trip_k0_t2.sl.v283, trip_k0_t2.sl.v281, trip_k0_t2.sl.v276, trip_k0_t2.sl.v273, trip_k0_t2.sl.v280, trip_k0_t2.sl.v279, trip_k0_t2.sl.v277, trip_k0_t2.sl.v236, trip_k0_t2.sl.v235, trip_k0_t2.sl.v233, trip_k0_t2.sl.v228, trip_k0_t2.sl.v225, trip_k0_t2.sl.v207, trip_k0_t2.sl.v232, trip_k0_t2.sl.v231, trip_k0_t2.sl.v229, trip_k0_t2.sl.v224, trip_k0_t2.sl.v223, trip_k0_t2.sl.v221, trip_k0_t2.sl.v216, trip_k0_t2.sl.v213, trip_k0_t2.sl.v220, trip_k0_t2.sl.v219, trip_k0_t2.sl.v217, trip_k0_t2.sl.v176, trip_k0_t2.sl.v175, trip_k0_t2.sl.v173, trip_k0_t2.sl.v168, trip_k0_t2.sl.v165, trip_k0_t2.sl.v147, trip_k0_t2.sl.v172, trip_k0_t2.sl.v171, trip_k0_t2.sl.v169, trip_k0_t2.sl.v164, trip_k0_t2.sl.v163, trip_k0_t2.sl.v161, trip_k0_t2.sl.v156, trip_k0_t2.sl.v153, trip_k0_t2.sl.v160, trip_k0_t2.sl.v159, trip_k0_t2.sl.v157, trip_k0_t2.sl.v116, trip_k0_t2.sl.v115, trip_k0_t2.sl.v113, trip_k0_t2.sl.v108, trip_k0_t2.sl.v105, trip_k0_t2.sl.v87, trip_k0_t2.sl.v112, trip_k0_t2.sl.v111, trip_k0_t2.sl.v109, trip_k0_t2.sl.v104, trip_k0_t2.sl.v103, trip_k0_t2.sl.v101, trip_k0_t2.sl.v96, trip_k0_t2.sl.v93, trip_k0_t2.sl.v100, trip_k0_t2.sl.v99, trip_k0_t2.sl.v97, trip_k0_t2.sl.v295, trip_k0_t2.sl.v293, k0_pay10]
  simp only [c0, c1, c2, c3, hA, e00, e01, e02, e03, e10, e11, e12, e13, e20, e21, e22, e23, e30, e31, e32, e33, Finset.sum_range_succ, Finset.sum_range_zero, zero_add, EReal.coe_add, EReal.coe_mul, add_assoc, add_zero]

end Cert.KernelIdeal.Hand

end
-- ==== Proof.Value.T2c.lean ====
/-
  Hand-written, untrusted. the loop that writes codes and takes in the next image: what one trip does (maximum).
-/
module

public import proofs.«01_k».proof.Proof.Value.Code

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

/-- One trip takes eight rows into the running maximum. -/
theorem t2_mx (𝒱 : Variants) (c : Dev nD) (bd : Option 𝒱.V) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (arg1 : BitVec 32) (v30 : Vec Ideal S1x8x256 .f32) (v32 : Elt Ideal .i32) (X_arg2 : BufTy.Contents (Elt Ideal) arg2.view.ty) (k : Fin k0_t2_loop.trips) (x : ℕ → ℕ → ℝ) (hx : ∀ (r : Fin 4096) (l : Fin 256), arg2.view.read (Elt Ideal) X_arg2 (ix3 0 r l) = ((x r.val l.val : ℝ) : EReal)) (acc) (f5 : BufTy.Contents (Elt Ideal) arg5.view.ty) (f7 : BufTy.Contents (Elt Ideal) arg7.view.ty) (r : Fin 16) (l : Fin 256) (B : EReal) :
    ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v30 v32 X_arg2 k).1 acc f5 f7).2.2.1 (ix2 r l) ≤ B ↔ acc.2.2.1 (ix2 r l) ≤ B ∧ ∀ m < 8, ((x (16 * (8 * k.val + m) + r.val) l.val : ℝ) : EReal) ≤ B := by
  have c0 : ∀ (inb) (R : Fin 32) (l : Fin 256), arg2.view.readAt (Elt Ideal) (Rect.unit (s := S1x4096x256) (k0_off7 k 0#32) (![1, 32, 256]) inb).toLoadRect X_arg2 (ix3 0 R l) = ((x (32 * (4 * k.val) + R.val) l.val : ℝ) : EReal) :=
    fun inb R l => chunk1 arg2.view X_arg2 x id hx _ inb (off7_eq k 0 (by decide)) R l
  have c1 : ∀ (inb) (R : Fin 32) (l : Fin 256), arg2.view.readAt (Elt Ideal) (Rect.unit (s := S1x4096x256) (k0_off7 k 1#32) (![1, 32, 256]) inb).toLoadRect X_arg2 (ix3 0 R l) = ((x (32 * (4 * k.val + 1) + R.val) l.val : ℝ) : EReal) :=
    fun inb R l => chunk1 arg2.view X_arg2 x id hx _ inb (off7_eq k 1 (by decide)) R l
  have c2 : ∀ (inb) (R : Fin 32) (l : Fin 256), arg2.view.readAt (Elt Ideal) (Rect.unit (s := S1x4096x256) (k0_off7 k 2#32) (![1, 32, 256]) inb).toLoadRect X_arg2 (ix3 0 R l) = ((x (32 * (4 * k.val + 2) + R.val) l.val : ℝ) : EReal) :=
    fun inb R l => chunk1 arg2.view X_arg2 x id hx _ inb (off7_eq k 2 (by decide)) R l
  have c3 : ∀ (inb) (R : Fin 32) (l : Fin 256), arg2.view.readAt (Elt Ideal) (Rect.unit (s := S1x4096x256) (k0_off7 k 3#32) (![1, 32, 256]) inb).toLoadRect X_arg2 (ix3 0 R l) = ((x (32 * (4 * k.val + 3) + R.val) l.val : ℝ) : EReal) :=
    fun inb R l => chunk1 arg2.view X_arg2 x id hx _ inb (off7_eq k 3 (by decide)) R l
  have e00 : 32 * (4 * k.val) + r.val = 16 * (8 * k.val) + r.val := by omega
  have e01 : 32 * (4 * k.val) + (16 + r.val) = 16 * (8 * k.val + 1) + r.val := by omega
  have e10 : 32 * (4 * k.val + 1) + r.val = 16 * (8 * k.val + 2) + r.val := by omega
  have e11 : 32 * (4 * k.val + 1) + (16 + r.val) = 16 * (8 * k.val + 3) + r.val := by omega
  have e20 : 32 * (4 * k.val + 2) + r.val = 16 * (8 * k.val + 4) + r.val := by omega
  have e21 : 32 * (4 * k.val + 2) + (16 + r.val) = 16 * (8 * k.val + 5) + r.val := by omega
  have e30 : 32 * (4 * k.val + 3) + r.val = 16 * (8 * k.val + 6) + r.val := by omega
  have e31 : 32 * (4 * k.val + 3) + (16 + r.val) = 16 * (8 * k.val + 7) + r.val := by omega
  unfold trip_k0_t2
  dsimp only
  pointwise [trip_k0_t2.sl.v286, trip_k0_t2.sl.v285, trip_k0_t2.sl.v267, trip_k0_t2.sl.v274, trip_k0_t2.sl.v273, trip_k0_t2.sl.v226, trip_k0_t2.sl.v225, trip_k0_t2.sl.v207, trip_k0_t2.sl.v214, trip_k0_t2.sl.v213, trip_k0_t2.sl.v166, trip_k0_t2.sl.v165, trip_k0_t2.sl.v147, trip_k0_t2.sl.v154, trip_k0_t2.sl.v153, trip_k0_t2.sl.v106, trip_k0_t2.sl.v94, trip_k0_t2.sl.v93, trip_k0_t2.sl.v87, trip_k0_t2.sl.v105]
  simp only [c0, c1, c2, c3, e00, e01, e10, e11, e20, e21, e30, e31, max_le_iff, Nat.forall_lt_succ_right, Nat.not_lt_zero, false_implies, forall_const, implies_true, true_and, and_assoc, add_zero]

end Cert.KernelIdeal.Hand

end
-- ==== Proof.Value.T2d.lean ====
/-
  Hand-written, untrusted. the loop that writes codes and takes in the next image: what one trip does (minimum).
-/
module

public import proofs.«01_k».proof.Proof.Value.Code

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

/-- One trip takes eight rows into the running minimum. -/
theorem t2_mn (𝒱 : Variants) (c : Dev nD) (bd : Option 𝒱.V) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (arg1 : BitVec 32) (v30 : Vec Ideal S1x8x256 .f32) (v32 : Elt Ideal .i32) (X_arg2 : BufTy.Contents (Elt Ideal) arg2.view.ty) (k : Fin k0_t2_loop.trips) (x : ℕ → ℕ → ℝ) (hx : ∀ (r : Fin 4096) (l : Fin 256), arg2.view.read (Elt Ideal) X_arg2 (ix3 0 r l) = ((x r.val l.val : ℝ) : EReal)) (acc) (f5 : BufTy.Contents (Elt Ideal) arg5.view.ty) (f7 : BufTy.Contents (Elt Ideal) arg7.view.ty) (r : Fin 16) (l : Fin 256) (B : EReal) :
    B ≤ ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v30 v32 X_arg2 k).1 acc f5 f7).2.2.2 (ix2 r l) ↔ B ≤ acc.2.2.2 (ix2 r l) ∧ ∀ m < 8, B ≤ ((x (16 * (8 * k.val + m) + r.val) l.val : ℝ) : EReal) := by
  have c0 : ∀ (inb) (R : Fin 32) (l : Fin 256), arg2.view.readAt (Elt Ideal) (Rect.unit (s := S1x4096x256) (k0_off7 k 0#32) (![1, 32, 256]) inb).toLoadRect X_arg2 (ix3 0 R l) = ((x (32 * (4 * k.val) + R.val) l.val : ℝ) : EReal) :=
    fun inb R l => chunk1 arg2.view X_arg2 x id hx _ inb (off7_eq k 0 (by decide)) R l
  have c1 : ∀ (inb) (R : Fin 32) (l : Fin 256), arg2.view.readAt (Elt Ideal) (Rect.unit (s := S1x4096x256) (k0_off7 k 1#32) (![1, 32, 256]) inb).toLoadRect X_arg2 (ix3 0 R l) = ((x (32 * (4 * k.val + 1) + R.val) l.val : ℝ) : EReal) :=
    fun inb R l => chunk1 arg2.view X_arg2 x id hx _ inb (off7_eq k 1 (by decide)) R l
  have c2 : ∀ (inb) (R : Fin 32) (l : Fin 256), arg2.view.readAt (Elt Ideal) (Rect.unit (s := S1x4096x256) (k0_off7 k 2#32) (![1, 32, 256]) inb).toLoadRect X_arg2 (ix3 0 R l) = ((x (32 * (4 * k.val + 2) + R.val) l.val : ℝ) : EReal) :=
    fun inb R l => chunk1 arg2.view X_arg2 x id hx _ inb (off7_eq k 2 (by decide)) R l
  have c3 : ∀ (inb) (R : Fin 32) (l : Fin 256), arg2.view.readAt (Elt Ideal) (Rect.unit (s := S1x4096x256) (k0_off7 k 3#32) (![1, 32, 256]) inb).toLoadRect X_arg2 (ix3 0 R l) = ((x (32 * (4 * k.val + 3) + R.val) l.val : ℝ) : EReal) :=
    fun inb R l => chunk1 arg2.view X_arg2 x id hx _ inb (off7_eq k 3 (by decide)) R l
  have e00 : 32 * (4 * k.val) + r.val = 16 * (8 * k.val) + r.val := by omega
  have e01 : 32 * (4 * k.val) + (16 + r.val) = 16 * (8 * k.val + 1) + r.val := by omega
  have e10 : 32 * (4 * k.val + 1) + r.val = 16 * (8 * k.val + 2) + r.val := by omega
  have e11 : 32 * (4 * k.val + 1) + (16 + r.val) = 16 * (8 * k.val + 3) + r.val := by omega
  have e20 : 32 * (4 * k.val + 2) + r.val = 16 * (8 * k.val + 4) + r.val := by omega
  have e21 : 32 * (4 * k.val + 2) + (16 + r.val) = 16 * (8 * k.val + 5) + r.val := by omega
  have e30 : 32 * (4 * k.val + 3) + r.val = 16 * (8 * k.val + 6) + r.val := by omega
  have e31 : 32 * (4 * k.val + 3) + (16 + r.val) = 16 * (8 * k.val + 7) + r.val := by omega
  unfold trip_k0_t2
  dsimp only
  pointwise [trip_k0_t2.sl.v287, trip_k0_t2.sl.v285, trip_k0_t2.sl.v267, trip_k0_t2.sl.v275, trip_k0_t2.sl.v273, trip_k0_t2.sl.v227, trip_k0_t2.sl.v225, trip_k0_t2.sl.v207, trip_k0_t2.sl.v215, trip_k0_t2.sl.v213, trip_k0_t2.sl.v167, trip_k0_t2.sl.v165, trip_k0_t2.sl.v147, trip_k0_t2.sl.v155, trip_k0_t2.sl.v153, trip_k0_t2.sl.v107, trip_k0_t2.sl.v95, trip_k0_t2.sl.v93, trip_k0_t2.sl.v87, trip_k0_t2.sl.v105]
  simp only [c0, c1, c2, c3, e00, e01, e10, e11, e20, e21, e30, e31, le_min_iff, Nat.forall_lt_succ_right, Nat.not_lt_zero, false_implies, forall_const, implies_true, true_and, and_assoc, add_zero]

end Cert.KernelIdeal.Hand

end
-- ==== Proof.Value.T2e.lean ====
/-
  Hand-written, untrusted. the loop that writes codes and takes in the next image: what one trip does (image).
-/
module

public import proofs.«01_k».proof.Proof.Value.Code

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

/-- The pieces of one trip: a hundred and twenty-eight rows of the image. -/
theorem t2_im (𝒱 : Variants) (c : Dev nD) (bd : Option 𝒱.V) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (arg1 : BitVec 32) (v30 : Vec Ideal S1x8x256 .f32) (v32 : Elt Ideal .i32) (X_arg2 : BufTy.Contents (Elt Ideal) arg2.view.ty) (k : Fin k0_t2_loop.trips) (x : ℕ → ℕ → ℝ) (hx : ∀ (r : Fin 4096) (l : Fin 256), arg2.view.read (Elt Ideal) X_arg2 (ix3 0 r l) = ((x r.val (256 * (i 1).val + l.val) : ℝ) : EReal)) (acc) (f5 : BufTy.Contents (Elt Ideal) arg5.view.ty) (f7 : BufTy.Contents (Elt Ideal) arg7.view.ty) :
    Pcs (imgG x (i 1).val) (fun y => (y 0).val = (i 1).val ∧ 128 * k.val ≤ (y 1).val ∧ (y 1).val < 128 * (k.val + 1))
      ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v30 v32 X_arg2 k).2.2.1 acc f5 f7) := by
  have c0 : ∀ (inb) (R : Fin 32) (l : Fin 256), arg2.view.readAt (Elt Ideal) (Rect.unit (s := S1x4096x256) (k0_off7 k 0#32) (![1, 32, 256]) inb).toLoadRect X_arg2 (ix3 0 R l) = ((x (32 * (4 * k.val) + R.val) (256 * (i 1).val + l.val) : ℝ) : EReal) :=
    fun inb R l => chunk1 arg2.view X_arg2 (fun r l => x r (256 * (i 1).val + l)) id hx _ inb (off7_eq k 0 (by decide)) R l
  have c1 : ∀ (inb) (R : Fin 32) (l : Fin 256), arg2.view.readAt (Elt Ideal) (Rect.unit (s := S1x4096x256) (k0_off7 k 1#32) (![1, 32, 256]) inb).toLoadRect X_arg2 (ix3 0 R l) = ((x (32 * (4 * k.val + 1) + R.val) (256 * (i 1).val + l.val) : ℝ) : EReal) :=
    fun inb R l => chunk1 arg2.view X_arg2 (fun r l => x r (256 * (i 1).val + l)) id hx _ inb (off7_eq k 1 (by decide)) R l
  have c2 : ∀ (inb) (R : Fin 32) (l : Fin 256), arg2.view.readAt (Elt Ideal) (Rect.unit (s := S1x4096x256) (k0_off7 k 2#32) (![1, 32, 256]) inb).toLoadRect X_arg2 (ix3 0 R l) = ((x (32 * (4 * k.val + 2) + R.val) (256 * (i 1).val + l.val) : ℝ) : EReal) :=
    fun inb R l => chunk1 arg2.view X_arg2 (fun r l => x r (256 * (i 1).val + l)) id hx _ inb (off7_eq k 2 (by decide)) R l
  have c3 : ∀ (inb) (R : Fin 32) (l : Fin 256), arg2.view.readAt (Elt Ideal) (Rect.unit (s := S1x4096x256) (k0_off7 k 3#32) (![1, 32, 256]) inb).toLoadRect X_arg2 (ix3 0 R l) = ((x (32 * (4 * k.val + 3) + R.val) (256 * (i 1).val + l.val) : ℝ) : EReal) :=
    fun inb R l => chunk1 arg2.view X_arg2 (fun r l => x r (256 * (i 1).val + l)) id hx _ inb (off7_eq k 3 (by decide)) R l
  unfold trip_k0_t2
  dsimp only
  refine Pcs.congr (((((Pcs.nil _).cons3 _ _ (off6_eq i k 0 (by decide)) _ ?_).cons3 _ _ (off6_eq i k 1 (by decide)) _ ?_).cons3 _ _ (off6_eq i k 2 (by decide)) _ ?_).cons3 _ _ (off6_eq i k 3 (by decide)) _ ?_) ?_
  · intro p q r hp hq hr
    obtain rfl : p = 0 := Subsingleton.elim _ _
    unfold imgG
    pointwise [trip_k0_t2.sl.v92, trip_k0_t2.sl.v87]
    exact c0 _ q r
  · intro p q r hp hq hr
    obtain rfl : p = 0 := Subsingleton.elim _ _
    unfold imgG
    pointwise [trip_k0_t2.sl.v152, trip_k0_t2.sl.v147]
    exact c1 _ q r
  · intro p q r hp hq hr
    obtain rfl : p = 0 := Subsingleton.elim _ _
    unfold imgG
    pointwise [trip_k0_t2.sl.v212, trip_k0_t2.sl.v207]
    exact c2 _ q r
  · intro p q r hp hq hr
    obtain rfl : p = 0 := Subsingleton.elim _ _
    unfold imgG
    pointwise [trip_k0_t2.sl.v272, trip_k0_t2.sl.v267]
    exact c3 _ q r
  intro y
  have h1 : (y 2).val < 256 := (y 2).isLt
  simp only [InBlk, or_false]
  constructor <;> intro h <;> omega

end Cert.KernelIdeal.Hand

end
-- ==== Proof.Value.T2f.lean ====
/-
  Hand-written, untrusted. the loop that writes codes and takes in the next image: what one trip does (codes).
-/
module

public import proofs.«01_k».proof.Proof.Value.Code

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

/-- The pieces of one trip: a hundred and twenty-eight rows of codes, read from rows of the image not yet written over. -/
theorem t2_co (𝒱 : Variants) (c : Dev nD) (bd : Option 𝒱.V) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (arg1 : BitVec 32) (v30 : Vec Ideal S1x8x256 .f32) (v32 : Elt Ideal .i32) (X_arg2 : BufTy.Contents (Elt Ideal) arg2.view.ty) (k : Fin k0_t2_loop.trips) (x : ℕ → ℕ → ℝ) (γ β : ℕ → ℝ) (hc : Coef x γ β (i 1).val v30 v32) (acc) (f5 : BufTy.Contents (Elt Ideal) arg5.view.ty) (f7 : BufTy.Contents (Elt Ideal) arg7.view.ty)
    (hx : ∀ (r : Fin 4096) (l : Fin 256), 128 * k.val ≤ r.val → arg7.view.read (Elt Ideal) f7 (ix3 (col i) r l) = ((x r.val (256 * (i 1).val + l.val) : ℝ) : EReal)) :
    Pcs (codesG x γ β (i 1).val) (fun y => 128 * k.val ≤ (y 1).val ∧ (y 1).val < 128 * (k.val + 1))
      ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v30 v32 X_arg2 k).2.1 acc f5 f7) := by
  have d0 : ∀ (inb) (R : Fin 32) (l : Fin 256), arg7.view.readAt (Elt Ideal) (Rect.unit (s := S5x4096x256) (k0_off6 i k 0#32) (![1, 32, 256]) inb).toLoadRect f7 (ix3 0 R l) = ((x (32 * (4 * k.val) + R.val) (256 * (i 1).val + l.val) : ℝ) : EReal) :=
    fun inb R l => chunk5 arg7.view f7 (fun r l => x r (256 * (i 1).val + l)) id (col i) (32 * (4 * k.val)) (fun r l h => hx r l (by omega)) _ inb (off6_eq i k 0 (by decide)) R l
  have d1 : ∀ (inb) (R : Fin 32) (l : Fin 256), arg7.view.readAt (Elt Ideal) (Rect.unit (s := S5x4096x256) (k0_off6 i k 1#32) (![1, 32, 256]) inb).toLoadRect f7 (ix3 0 R l) = ((x (32 * (4 * k.val + 1) + R.val) (256 * (i 1).val + l.val) : ℝ) : EReal) :=
    fun inb R l => chunk5 arg7.view f7 (fun r l => x r (256 * (i 1).val + l)) id (col i) (32 * (4 * k.val + 1)) (fun r l h => hx r l (by omega)) _ inb (off6_eq i k 1 (by decide)) R l
  have d2 : ∀ (inb) (R : Fin 32) (l : Fin 256), arg7.view.readAt (Elt Ideal) (Rect.unit (s := S5x4096x256) (k0_off6 i k 2#32) (![1, 32, 256]) inb).toLoadRect f7 (ix3 0 R l) = ((x (32 * (4 * k.val + 2) + R.val) (256 * (i 1).val + l.val) : ℝ) : EReal) :=
    fun inb R l => chunk5 arg7.view f7 (fun r l => x r (256 * (i 1).val + l)) id (col i) (32 * (4 * k.val + 2)) (fun r l h => hx r l (by omega)) _ inb (off6_eq i k 2 (by decide)) R l
  have d3 : ∀ (inb) (R : Fin 32) (l : Fin 256), arg7.view.readAt (Elt Ideal) (Rect.unit (s := S5x4096x256) (k0_off6 i k 3#32) (![1, 32, 256]) inb).toLoadRect f7 (ix3 0 R l) = ((x (32 * (4 * k.val + 3) + R.val) (256 * (i 1).val + l.val) : ℝ) : EReal) :=
    fun inb R l => chunk5 arg7.view f7 (fun r l => x r (256 * (i 1).val + l)) id (col i) (32 * (4 * k.val + 3)) (fun r l h => hx r l (by omega)) _ inb (off6_eq i k 3 (by decide)) R l
  unfold trip_k0_t2
  dsimp only
  refine Pcs.congr (((((Pcs.nil _).cons3 _ _ (off7_eq k 0 (by decide)) _ ?_).cons3 _ _ (off7_eq k 1 (by decide)) _ ?_).cons3 _ _ (off7_eq k 2 (by decide)) _ ?_).cons3 _ _ (off7_eq k 3 (by decide)) _ ?_) ?_
  · intro p q r hp hq hr
    obtain rfl : p = 0 := Subsingleton.elim _ _
    unfold codesG
    pointwise [trip_k0_t2.sl.v84, trip_k0_t2.sl.v80, trip_k0_t2.sl.v79, trip_k0_t2.sl.v78, trip_k0_t2.sl.cst_32, trip_k0_t2.sl.v77, trip_k0_t2.sl.v76, trip_k0_t2.sl.cst_31, trip_k0_t2.sl.v75, trip_k0_t2.sl.v74, trip_k0_t2.sl.v73, trip_k0_t2.sl.cst_30, trip_k0_t2.sl.v72, trip_k0_t2.sl.v69, trip_k0_t2.sl.v68, k0_pay9, trip_k0_t2.sl.v67, trip_k0_t2.sl.v66, k0_pay8, trip_k0_t2.sl.v65, trip_k0_t2.sl.v64, trip_k0_t2.sl.v71, trip_k0_t2.sl.v70, k0_pay7, k0_pay6]
    rw [d0]
    exact hc.fast (32 * (4 * k.val) + q.val) r
  · intro p q r hp hq hr
    obtain rfl : p = 0 := Subsingleton.elim _ _
    unfold codesG
    pointwise [trip_k0_t2.sl.v144, trip_k0_t2.sl.v140, trip_k0_t2.sl.v139, trip_k0_t2.sl.v78, trip_k0_t2.sl.cst_32, trip_k0_t2.sl.v137, trip_k0_t2.sl.v76, trip_k0_t2.sl.cst_31, trip_k0_t2.sl.v135, trip_k0_t2.sl.v134, trip_k0_t2.sl.v73, trip_k0_t2.sl.cst_30, trip_k0_t2.sl.v132, trip_k0_t2.sl.v129, trip_k0_t2.sl.v68, k0_pay9, trip_k0_t2.sl.v127, trip_k0_t2.sl.v66, k0_pay8, trip_k0_t2.sl.v125, trip_k0_t2.sl.v124, trip_k0_t2.sl.v123, trip_k0_t2.sl.v131, trip_k0_t2.sl.v70, k0_pay7, k0_pay6]
    rw [d1]
    exact hc.fast (32 * (4 * k.val + 1) + q.val) r
  · intro p q r hp hq hr
    obtain rfl : p = 0 := Subsingleton.elim _ _
    unfold codesG
    pointwise [trip_k0_t2.sl.v204, trip_k0_t2.sl.v200, trip_k0_t2.sl.v199, trip_k0_t2.sl.v78, trip_k0_t2.sl.cst_32, trip_k0_t2.sl.v197, trip_k0_t2.sl.v76, trip_k0_t2.sl.cst_31, trip_k0_t2.sl.v195, trip_k0_t2.sl.v194, trip_k0_t2.sl.v73, trip_k0_t2.sl.cst_30, trip_k0_t2.sl.v192, trip_k0_t2.sl.v189, trip_k0_t2.sl.v68, k0_pay9, trip_k0_t2.sl.v187, trip_k0_t2.sl.v66, k0_pay8, trip_k0_t2.sl.v185, trip_k0_t2.sl.v184, trip_k0_t2.sl.v183, trip_k0_t2.sl.v191, trip_k0_t2.sl.v70, k0_pay7, k0_pay6]
    rw [d2]
    exact hc.fast (32 * (4 * k.val + 2) + q.val) r
  · intro p q r hp hq hr
    obtain rfl : p = 0 := Subsingleton.elim _ _
    unfold codesG
    pointwise [trip_k0_t2.sl.v264, trip_k0_t2.sl.v260, trip_k0_t2.sl.v259, trip_k0_t2.sl.v78, trip_k0_t2.sl.cst_32, trip_k0_t2.sl.v257, trip_k0_t2.sl.v76, trip_k0_t2.sl.cst_31, trip_k0_t2.sl.v255, trip_k0_t2.sl.v254, trip_k0_t2.sl.v73, trip_k0_t2.sl.cst_30, trip_k0_t2.sl.v252, trip_k0_t2.sl.v249, trip_k0_t2.sl.v68, k0_pay9, trip_k0_t2.sl.v247, trip_k0_t2.sl.v66, k0_pay8, trip_k0_t2.sl.v245, trip_k0_t2.sl.v244, trip_k0_t2.sl.v243, trip_k0_t2.sl.v251, trip_k0_t2.sl.v70, k0_pay7, k0_pay6]
    rw [d3]
    exact hc.fast (32 * (4 * k.val + 3) + q.val) r
  intro y
  have h1 : (y 2).val < 256 := (y 2).isLt
  have h0 : (y 0).val < 1 := (y 0).isLt
  simp only [InBlk, or_false]
  constructor <;> intro h <;> omega

end Cert.KernelIdeal.Hand

end
-- ==== Proof.Value.T2.lean ====
/-
  Hand-written, untrusted. the loop that writes codes and takes in the next image, whole.
-/
module

public import proofs.«01_k».proof.Proof.Value.T2a
public import proofs.«01_k».proof.Proof.Value.T2b
public import proofs.«01_k».proof.Proof.Value.T2c
public import proofs.«01_k».proof.Proof.Value.T2d
public import proofs.«01_k».proof.Proof.Value.T2e
public import proofs.«01_k».proof.Proof.Value.T2f

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

/-- After `n` trips: the statistics of `128 n` rows of the new image, these rows stored, and the codes of as many rows of the old one. -/
theorem t2_st (𝒱 : Variants) (c : Dev nD) (bd : Option 𝒱.V) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (arg1 : BitVec 32) (v30 : Vec Ideal S1x8x256 .f32) (v32 : Elt Ideal .i32) (X_arg2 : BufTy.Contents (Elt Ideal) arg2.view.ty) (G_arg5 : BufTy.Contents (Elt Ideal) arg5.view.ty) (G_arg7 : BufTy.Contents (Elt Ideal) arg7.view.ty) (x : ℕ → ℕ → ℝ) (hx : ∀ (r : Fin 4096) (l : Fin 256), arg2.view.read (Elt Ideal) X_arg2 (ix3 0 r l) = ((x r.val (256 * (i 1).val + l.val) : ℝ) : EReal))
    (x' : ℕ → ℕ → ℝ) (γ β : ℕ → ℝ) (hc : Coef x' γ β (i 1).val v30 v32)
    (hx' : ∀ (r : Fin 4096) (l : Fin 256), arg7.view.read (Elt Ideal) G_arg7 (ix3 (col i) r l) = ((x' r.val (256 * (i 1).val + l.val) : ℝ) : EReal)) :
    ∀ (n : ℕ) (hn : n ≤ 32),
    Stats (fun r l => x r (256 * (i 1).val + l)) n (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v30 v32 X_arg2 G_arg5 G_arg7 (k0_pay1, k0_pay2, k0_pay3, k0_pay4) n).1 ∧ Pcs (codesG x' γ β (i 1).val) (fun y => (y 1).val < 128 * n) (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v30 v32 X_arg2 G_arg5 G_arg7 (k0_pay1, k0_pay2, k0_pay3, k0_pay4) n).2.1 ∧
      Pcs (imgG x (i 1).val) (fun y => (y 0).val = (i 1).val ∧ (y 1).val < 128 * n) (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v30 v32 X_arg2 G_arg5 G_arg7 (k0_pay1, k0_pay2, k0_pay3, k0_pay4) n).2.2
  | 0, _ => ⟨Stats.zero _, (Pcs.nil _).congr fun y => by simp, (Pcs.nil _).congr fun y => by simp⟩
  | n + 1, hn => by
    obtain ⟨h1, h3, h2⟩ := t2_st 𝒱 c bd i arg2 harg2 arg3 harg3 arg4 harg4 arg5 harg5 arg6 harg6 arg7 harg7 arg8 harg8 arg9 harg9 arg10 harg10 arg11 harg11 arg12 harg12 arg13 harg13 arg14 harg14 arg1 v30 v32 X_arg2 G_arg5 G_arg7 x hx x' γ β hc hx' n (by omega)
    have hk : n < k0_t2_loop.trips := lt_of_lt_of_eq (show n < 32 by omega) trips2.symm
    have e := st_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v30 v32 X_arg2 G_arg5 G_arg7 (k0_pay1, k0_pay2, k0_pay3, k0_pay4) ⟨n, hk⟩
    rw [show n + 1 = (⟨n, hk⟩ : Fin k0_t2_loop.trips).val + 1 from rfl, e]
    refine ⟨h1.step ?_ ?_ ?_ ?_, ?_, ?_⟩
    · exact fun r l A hA => t2_s1 𝒱 c bd i arg2 harg2 arg3 harg3 arg4 harg4 arg5 harg5 arg6 harg6 arg7 harg7 arg8 harg8 arg9 harg9 arg10 harg10 arg11 harg11 arg12 harg12 arg13 harg13 arg14 harg14 arg1 v30 v32 X_arg2 ⟨n, hk⟩ (fun r l => x r (256 * (i 1).val + l)) hx _ _ _ r l A hA
    · exact fun r l A hA => t2_s2 𝒱 c bd i arg2 harg2 arg3 harg3 arg4 harg4 arg5 harg5 arg6 harg6 arg7 harg7 arg8 harg8 arg9 harg9 arg10 harg10 arg11 harg11 arg12 harg12 arg13 harg13 arg14 harg14 arg1 v30 v32 X_arg2 ⟨n, hk⟩ (fun r l => x r (256 * (i 1).val + l)) hx _ _ _ r l A hA
    · exact fun r l B => t2_mx 𝒱 c bd i arg2 harg2 arg3 harg3 arg4 harg4 arg5 harg5 arg6 harg6 arg7 harg7 arg8 harg8 arg9 harg9 arg10 harg10 arg11 harg11 arg12 harg12 arg13 harg13 arg14 harg14 arg1 v30 v32 X_arg2 ⟨n, hk⟩ (fun r l => x r (256 * (i 1).val + l)) hx _ _ _ r l B
    · exact fun r l B => t2_mn 𝒱 c bd i arg2 harg2 arg3 harg3 arg4 harg4 arg5 harg5 arg6 harg6 arg7 harg7 arg8 harg8 arg9 harg9 arg10 harg10 arg11 harg11 arg12 harg12 arg13 harg13 arg14 harg14 arg1 v30 v32 X_arg2 ⟨n, hk⟩ (fun r l => x r (256 * (i 1).val + l)) hx _ _ _ r l B
    · refine ((t2_co 𝒱 c bd i arg2 harg2 arg3 harg3 arg4 harg4 arg5 harg5 arg6 harg6 arg7 harg7 arg8 harg8 arg9 harg9 arg10 harg10 arg11 harg11 arg12 harg12 arg13 harg13 arg14 harg14 arg1 v30 v32 X_arg2 ⟨n, hk⟩ x' γ β hc _ _ _ ?_).append h3).congr fun y => ?_
      · intro r l hr
        rw [← hx' r l]
        refine h2.read_out arg7.view G_arg7 _ ?_
        rintro ⟨_, h⟩
        have h : r.val < 128 * n := h
        have hr : 128 * n ≤ r.val := hr
        omega
      · show _ ↔ _ < 128 * (n + 1)
        dsimp only
        constructor <;> intro h <;> omega
    · refine ((t2_im 𝒱 c bd i arg2 harg2 arg3 harg3 arg4 harg4 arg5 harg5 arg6 harg6 arg7 harg7 arg8 harg8 arg9 harg9 arg10 harg10 arg11 harg11 arg12 harg12 arg13 harg13 arg14 harg14 arg1 v30 v32 X_arg2 ⟨n, hk⟩ x hx _ _ _).append h2).congr fun y => ?_
      show _ ↔ _ ∧ _ < 128 * (n + 1)
      dsimp only
      constructor <;> intro h <;> omega

end Cert.KernelIdeal.Hand

end
-- ==== Proof.Value.Blk2.lean ====
/-
  Hand-written, untrusted. block 2 of the body run once.
-/
module

public import proofs.«01_k».proof.Proof.Value.Put
public import proofs.«01_k».proof.Proof.Value.T2

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

local notation "𝕄" => MT nD τ sig Unit (Elt Ideal) ℕ (UR sig nD τ) ℕ

/-- Block 2 run once. -/
theorem blk2_val (c : Dev nD) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (P Q : St → Prop) (hPQ : ∀ s s', P s → R2 i s s' → Q s') :
    HeldP c arg2 arg3 arg4 arg5 arg6 arg7 arg8 arg9 arg10 arg11 arg12 arg13 arg14 P
      ⊢ wp frame (wpE (defs₀ (F := Ideal)) Variants.none c none) Set.univ
          (blk2 (F := Ideal) i arg2 harg2 arg3 harg3 arg4 harg4 arg5 harg5 arg6 harg6 arg7 harg7 arg8 harg8 arg9 harg9 arg10 harg10 arg11 harg11 arg12 harg12 arg13 harg13 arg14 harg14) (fun _ => HeldP c arg2 arg3 arg4 arg5 arg6 arg7 arg8 arg9 arg10 arg11 arg12 arg13 arg14 Q) := by
  unfold blk2 HeldP owns
  iintro ⟨%d2, %d3, %d4, %d5, %d6, %d7, %d8, %d9, %d10, %d11, %d12, %d13, %d14, ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩, %hP⟩
  sl_exec
  sl_step
  iexists _, _, _, _, _, _, _, _, _, _, _, _, _
  isplitl [H2 H3 H4 H5 H6 H7 H8 H9 H10 H11 H12 H13 H14]
  · isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    iexists _; isplitr; swap; · iexact H14
    ipureintro; rfl
  ipureintro
  subst h2 h3 h4 h5 h6 h7 h8 h9 h10 h11 h12 h13 h14
  refine hPQ _ _ hP ?_
  have h2 := fun x x' γ β hx hc hx' => t2_st Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (View.readAt (Elt Ideal) arg12.view (Rect.unit (s := S5x8x256) (k0_off5 i) S1x8x256.size (k0_off5_inb i)).toLoadRect f12) (blk2_val.sl.r c arg13 f13) f2 f5 f7 x hx x' γ β
    (coef_read arg12.view f12 i _ (k0_off5_inb i) (off5_eq i) x' γ β _ _ (ex_read arg13.view f13 _ _ (Shape.Idx.first (s := S1) (by decide)) : blk2_val.sl.r c arg13 f13 = _) hc) hx' 32 le_rfl
  have e : Scf.trips k0_t2_loop.lb k0_t2_loop.ub k0_t2_loop.st = 32 := trips2
  rw [e]
  generalize st_k0_t2 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (View.readAt (Elt Ideal) arg12.view (Rect.unit (s := S5x8x256) (k0_off5 i) S1x8x256.size (k0_off5_inb i)).toLoadRect f12) (blk2_val.sl.r c arg13 f13) f2 f5 f7 (k0_pay1, k0_pay2, k0_pay3, k0_pay4) 32 = st at h2 ⊢
  refine {
    x := rfl, ga := rfl, be := rfl, sc := rfl, cv := rfl, ex := rfl, fa := rfl
    s1 := fun k hk => put8_out arg8.view f8 i _ (k0_off5_inb i) (off5_eq i) _ _ (pay11_at _) k hk
    s2 := fun k hk => put8_out arg9.view f9 i _ (k0_off5_inb i) (off5_eq i) _ _ (pay12_at _) k hk
    mx := fun k hk => put16_out arg10.view f10 i _ (k0_off8_inb i) (off8_eq i) _ _ (pay13_at _) k hk
    mn := fun k hk => put16_out arg11.view f11 i _ (k0_off8_inb i) (off8_eq i) _ _ (pay14_at _) k hk
    new := fun x x' γ β hx hc hx' => ⟨fun k hk r l => (h2 x x' γ β hx (hc (col i)) hx').2.2.read_out arg7.view f7 (ix3 k r l) (fun e => hk ((col_eq i k).2 e.1)),
      fun r l => ((h2 x x' γ β hx (hc (col i)) hx').2.2.read_in arg7.view f7 (ix3 (col i) r l) ⟨rfl, r.isLt⟩), ?_,
      fun r l => ((h2 x x' γ β hx (hc (col i)) hx').2.1.read_in arg5.view f5 (ix3 0 r l) r.isLt)⟩ }
  · unfold StOk
    rw [put8_in arg8.view f8 i _ (k0_off5_inb i) (off5_eq i) _ _ (pay11_at _), put8_in arg9.view f9 i _ (k0_off5_inb i) (off5_eq i) _ _ (pay12_at _),
      put16_in arg10.view f10 i _ (k0_off8_inb i) (off8_eq i) _ _ (pay13_at _), put16_in arg11.view f11 i _ (k0_off8_inb i) (off8_eq i) _ _ (pay14_at _)]
    exact (h2 x x' γ β hx (hc (col i)) hx').1

end Cert.KernelIdeal.Hand

end
-- ==== Proof.Value.T3.lean ====
/-
  Hand-written, untrusted. the loop that only writes codes in the tanh form.
-/
module

public import proofs.«01_k».proof.Proof.Value.Code

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

/-- The pieces of one trip: a hundred and twenty-eight rows of codes, read from rows of the image not yet written over. -/
theorem t3_co (𝒱 : Variants) (c : Dev nD) (bd : Option 𝒱.V) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (arg1 : BitVec 32) (v30 : Vec Ideal S1x8x256 .f32) (v32 : Elt Ideal .i32) (X_arg7 : BufTy.Contents (Elt Ideal) arg7.view.ty) (k : Fin k0_t3_loop.trips) (x : ℕ → ℕ → ℝ) (γ β : ℕ → ℝ) (hc : Coef x γ β (i 1).val v30 v32)
    (hx : ∀ (r : Fin 4096) (l : Fin 256), 128 * k.val ≤ r.val → arg7.view.read (Elt Ideal) X_arg7 (ix3 (col i) r l) = ((x r.val (256 * (i 1).val + l.val) : ℝ) : EReal)) :
    Pcs (codesG x γ β (i 1).val) (fun y => 128 * k.val ≤ (y 1).val ∧ (y 1).val < 128 * (k.val + 1))
      ((trip_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v30 v32 X_arg7 k).1) := by
  have d0 : ∀ (inb) (R : Fin 32) (l : Fin 256), arg7.view.readAt (Elt Ideal) (Rect.unit (s := S5x4096x256) (k0_off10 i k 0#32) (![1, 32, 256]) inb).toLoadRect X_arg7 (ix3 0 R l) = ((x (32 * (4 * k.val) + R.val) (256 * (i 1).val + l.val) : ℝ) : EReal) :=
    fun inb R l => chunk5 arg7.view X_arg7 (fun r l => x r (256 * (i 1).val + l)) id (col i) (32 * (4 * k.val)) (fun r l h => hx r l (by omega)) _ inb (off10_eq i k 0 (by decide)) R l
  have d1 : ∀ (inb) (R : Fin 32) (l : Fin 256), arg7.view.readAt (Elt Ideal) (Rect.unit (s := S5x4096x256) (k0_off10 i k 1#32) (![1, 32, 256]) inb).toLoadRect X_arg7 (ix3 0 R l) = ((x (32 * (4 * k.val + 1) + R.val) (256 * (i 1).val + l.val) : ℝ) : EReal) :=
    fun inb R l => chunk5 arg7.view X_arg7 (fun r l => x r (256 * (i 1).val + l)) id (col i) (32 * (4 * k.val + 1)) (fun r l h => hx r l (by omega)) _ inb (off10_eq i k 1 (by decide)) R l
  have d2 : ∀ (inb) (R : Fin 32) (l : Fin 256), arg7.view.readAt (Elt Ideal) (Rect.unit (s := S5x4096x256) (k0_off10 i k 2#32) (![1, 32, 256]) inb).toLoadRect X_arg7 (ix3 0 R l) = ((x (32 * (4 * k.val + 2) + R.val) (256 * (i 1).val + l.val) : ℝ) : EReal) :=
    fun inb R l => chunk5 arg7.view X_arg7 (fun r l => x r (256 * (i 1).val + l)) id (col i) (32 * (4 * k.val + 2)) (fun r l h => hx r l (by omega)) _ inb (off10_eq i k 2 (by decide)) R l
  have d3 : ∀ (inb) (R : Fin 32) (l : Fin 256), arg7.view.readAt (Elt Ideal) (Rect.unit (s := S5x4096x256) (k0_off10 i k 3#32) (![1, 32, 256]) inb).toLoadRect X_arg7 (ix3 0 R l) = ((x (32 * (4 * k.val + 3) + R.val) (256 * (i 1).val + l.val) : ℝ) : EReal) :=
    fun inb R l => chunk5 arg7.view X_arg7 (fun r l => x r (256 * (i 1).val + l)) id (col i) (32 * (4 * k.val + 3)) (fun r l h => hx r l (by omega)) _ inb (off10_eq i k 3 (by decide)) R l
  unfold trip_k0_t3
  dsimp only
  refine Pcs.congr (((((Pcs.nil _).cons3 _ _ (off11_eq k 0 (by decide)) _ ?_).cons3 _ _ (off11_eq k 1 (by decide)) _ ?_).cons3 _ _ (off11_eq k 2 (by decide)) _ ?_).cons3 _ _ (off11_eq k 3 (by decide)) _ ?_) ?_
  · intro p q r hp hq hr
    obtain rfl : p = 0 := Subsingleton.elim _ _
    unfold codesG
    pointwise [trip_k0_t3.sl.v50, trip_k0_t3.sl.v80, trip_k0_t3.sl.v118, trip_k0_t3.sl.v59, trip_k0_t3.sl.v47, trip_k0_t3.sl.v66, trip_k0_t3.sl.v95, trip_k0_t3.sl.v122, trip_k0_t3.sl.v88, trip_k0_t3.sl.v113, trip_k0_t3.sl.v94, trip_k0_t3.sl.v60, trip_k0_t3.sl.v78, trip_k0_t3.sl.v51, trip_k0_t3.sl.v56, trip_k0_t3.sl.v121, trip_k0_t3.sl.v103, trip_k0_t3.sl.v110, trip_k0_t3.sl.v119, trip_k0_t3.sl.v111, trip_k0_t3.sl.v62, trip_k0_t3.sl.v83, trip_k0_t3.sl.v69, trip_k0_t3.sl.v116, trip_k0_t3.sl.v91, trip_k0_t3.sl.v67, trip_k0_t3.sl.v93, trip_k0_t3.sl.v52, trip_k0_t3.sl.arg15, trip_k0_t3.sl.cst_22, trip_k0_t3.sl.v104, trip_k0_t3.sl.v114, trip_k0_t3.sl.v76, trip_k0_t3.sl.v57, trip_k0_t3.sl.cst_23, trip_k0_t3.sl.v101, trip_k0_t3.sl.v48, trip_k0_t3.sl.v123, trip_k0_t3.sl.v53, trip_k0_t3.sl.v85, trip_k0_t3.sl.v55, trip_k0_t3.sl.v61, trip_k0_t3.sl.v45, trip_k0_t3.sl.v49, trip_k0_t3.sl.v82, trip_k0_t3.sl.v97, trip_k0_t3.sl.v106, trip_k0_t3.sl.v58, trip_k0_t3.sl.v42, trip_k0_t3.sl.v86, trip_k0_t3.sl.v75, trip_k0_t3.sl.v40, trip_k0_t3.sl.v125, trip_k0_t3.sl.v54, trip_k0_t3.sl.v90, trip_k0_t3.sl.v108, trip_k0_t3.sl.v98, trip_k0_t3.sl.v63, trip_k0_t3.sl.v73, trip_k0_t3.sl.cst_24, trip_k0_t3.sl.v70, trip_k0_t3.sl.v41, k0_pay15, k0_pay16, k0_pay17, k0_pay18, k0_pay19, k0_pay110, k0_pay111, k0_pay112, k0_pay113, k0_pay114, k0_pay115]
    rw [d0]
    exact hc.fast (32 * (4 * k.val) + q.val) r
  · intro p q r hp hq hr
    obtain rfl : p = 0 := Subsingleton.elim _ _
    unfold codesG
    pointwise [trip_k0_t3.sl.v50, trip_k0_t3.sl.v80, trip_k0_t3.sl.v118, trip_k0_t3.sl.v59, trip_k0_t3.sl.v47, trip_k0_t3.sl.v66, trip_k0_t3.sl.v95, trip_k0_t3.sl.v122, trip_k0_t3.sl.v88, trip_k0_t3.sl.v113, trip_k0_t3.sl.v94, trip_k0_t3.sl.v60, trip_k0_t3.sl.v78, trip_k0_t3.sl.v51, trip_k0_t3.sl.v56, trip_k0_t3.sl.v121, trip_k0_t3.sl.v103, trip_k0_t3.sl.v110, trip_k0_t3.sl.v119, trip_k0_t3.sl.v111, trip_k0_t3.sl.v62, trip_k0_t3.sl.v83, trip_k0_t3.sl.v69, trip_k0_t3.sl.v116, trip_k0_t3.sl.v91, trip_k0_t3.sl.v67, trip_k0_t3.sl.v93, trip_k0_t3.sl.v52, trip_k0_t3.sl.arg15, trip_k0_t3.sl.cst_22, trip_k0_t3.sl.v104, trip_k0_t3.sl.v114, trip_k0_t3.sl.v76, trip_k0_t3.sl.v57, trip_k0_t3.sl.cst_23, trip_k0_t3.sl.v101, trip_k0_t3.sl.v48, trip_k0_t3.sl.v123, trip_k0_t3.sl.v53, trip_k0_t3.sl.v85, trip_k0_t3.sl.v55, trip_k0_t3.sl.v61, trip_k0_t3.sl.v45, trip_k0_t3.sl.v49, trip_k0_t3.sl.v82, trip_k0_t3.sl.v97, trip_k0_t3.sl.v106, trip_k0_t3.sl.v58, trip_k0_t3.sl.v42, trip_k0_t3.sl.v86, trip_k0_t3.sl.v75, trip_k0_t3.sl.v40, trip_k0_t3.sl.v125, trip_k0_t3.sl.v54, trip_k0_t3.sl.v90, trip_k0_t3.sl.v108, trip_k0_t3.sl.v98, trip_k0_t3.sl.v63, trip_k0_t3.sl.v73, trip_k0_t3.sl.cst_24, trip_k0_t3.sl.v70, trip_k0_t3.sl.v41, k0_pay15, k0_pay16, k0_pay17, k0_pay18, k0_pay19, k0_pay110, k0_pay111, k0_pay112, k0_pay113, k0_pay114, k0_pay115]
    rw [d1]
    exact hc.fast (32 * (4 * k.val + 1) + q.val) r
  · intro p q r hp hq hr
    obtain rfl : p = 0 := Subsingleton.elim _ _
    unfold codesG
    pointwise [trip_k0_t3.sl.v50, trip_k0_t3.sl.v80, trip_k0_t3.sl.v118, trip_k0_t3.sl.v59, trip_k0_t3.sl.v47, trip_k0_t3.sl.v66, trip_k0_t3.sl.v95, trip_k0_t3.sl.v122, trip_k0_t3.sl.v88, trip_k0_t3.sl.v113, trip_k0_t3.sl.v94, trip_k0_t3.sl.v60, trip_k0_t3.sl.v78, trip_k0_t3.sl.v51, trip_k0_t3.sl.v56, trip_k0_t3.sl.v121, trip_k0_t3.sl.v103, trip_k0_t3.sl.v110, trip_k0_t3.sl.v119, trip_k0_t3.sl.v111, trip_k0_t3.sl.v62, trip_k0_t3.sl.v83, trip_k0_t3.sl.v69, trip_k0_t3.sl.v116, trip_k0_t3.sl.v91, trip_k0_t3.sl.v67, trip_k0_t3.sl.v93, trip_k0_t3.sl.v52, trip_k0_t3.sl.arg15, trip_k0_t3.sl.cst_22, trip_k0_t3.sl.v104, trip_k0_t3.sl.v114, trip_k0_t3.sl.v76, trip_k0_t3.sl.v57, trip_k0_t3.sl.cst_23, trip_k0_t3.sl.v101, trip_k0_t3.sl.v48, trip_k0_t3.sl.v123, trip_k0_t3.sl.v53, trip_k0_t3.sl.v85, trip_k0_t3.sl.v55, trip_k0_t3.sl.v61, trip_k0_t3.sl.v45, trip_k0_t3.sl.v49, trip_k0_t3.sl.v82, trip_k0_t3.sl.v97, trip_k0_t3.sl.v106, trip_k0_t3.sl.v58, trip_k0_t3.sl.v42, trip_k0_t3.sl.v86, trip_k0_t3.sl.v75, trip_k0_t3.sl.v40, trip_k0_t3.sl.v125, trip_k0_t3.sl.v54, trip_k0_t3.sl.v90, trip_k0_t3.sl.v108, trip_k0_t3.sl.v98, trip_k0_t3.sl.v63, trip_k0_t3.sl.v73, trip_k0_t3.sl.cst_24, trip_k0_t3.sl.v70, trip_k0_t3.sl.v41, k0_pay15, k0_pay16, k0_pay17, k0_pay18, k0_pay19, k0_pay110, k0_pay111, k0_pay112, k0_pay113, k0_pay114, k0_pay115]
    rw [d2]
    exact hc.fast (32 * (4 * k.val + 2) + q.val) r
  · intro p q r hp hq hr
    obtain rfl : p = 0 := Subsingleton.elim _ _
    unfold codesG
    pointwise [trip_k0_t3.sl.v50, trip_k0_t3.sl.v80, trip_k0_t3.sl.v118, trip_k0_t3.sl.v59, trip_k0_t3.sl.v47, trip_k0_t3.sl.v66, trip_k0_t3.sl.v95, trip_k0_t3.sl.v122, trip_k0_t3.sl.v88, trip_k0_t3.sl.v113, trip_k0_t3.sl.v94, trip_k0_t3.sl.v60, trip_k0_t3.sl.v78, trip_k0_t3.sl.v51, trip_k0_t3.sl.v56, trip_k0_t3.sl.v121, trip_k0_t3.sl.v103, trip_k0_t3.sl.v110, trip_k0_t3.sl.v119, trip_k0_t3.sl.v111, trip_k0_t3.sl.v62, trip_k0_t3.sl.v83, trip_k0_t3.sl.v69, trip_k0_t3.sl.v116, trip_k0_t3.sl.v91, trip_k0_t3.sl.v67, trip_k0_t3.sl.v93, trip_k0_t3.sl.v52, trip_k0_t3.sl.arg15, trip_k0_t3.sl.cst_22, trip_k0_t3.sl.v104, trip_k0_t3.sl.v114, trip_k0_t3.sl.v76, trip_k0_t3.sl.v57, trip_k0_t3.sl.cst_23, trip_k0_t3.sl.v101, trip_k0_t3.sl.v48, trip_k0_t3.sl.v123, trip_k0_t3.sl.v53, trip_k0_t3.sl.v85, trip_k0_t3.sl.v55, trip_k0_t3.sl.v61, trip_k0_t3.sl.v45, trip_k0_t3.sl.v49, trip_k0_t3.sl.v82, trip_k0_t3.sl.v97, trip_k0_t3.sl.v106, trip_k0_t3.sl.v58, trip_k0_t3.sl.v42, trip_k0_t3.sl.v86, trip_k0_t3.sl.v75, trip_k0_t3.sl.v40, trip_k0_t3.sl.v125, trip_k0_t3.sl.v54, trip_k0_t3.sl.v90, trip_k0_t3.sl.v108, trip_k0_t3.sl.v98, trip_k0_t3.sl.v63, trip_k0_t3.sl.v73, trip_k0_t3.sl.cst_24, trip_k0_t3.sl.v70, trip_k0_t3.sl.v41, k0_pay15, k0_pay16, k0_pay17, k0_pay18, k0_pay19, k0_pay110, k0_pay111, k0_pay112, k0_pay113, k0_pay114, k0_pay115]
    rw [d3]
    exact hc.fast (32 * (4 * k.val + 3) + q.val) r
  intro y
  have h1 : (y 2).val < 256 := (y 2).isLt
  have h0 : (y 0).val < 1 := (y 0).isLt
  simp only [InBlk, or_false]
  constructor <;> intro h <;> omega

/-- After `n` trips: the codes of `128 n` rows. -/
theorem t3_pb (𝒱 : Variants) (c : Dev nD) (bd : Option 𝒱.V) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (arg1 : BitVec 32) (v30 : Vec Ideal S1x8x256 .f32) (v32 : Elt Ideal .i32) (X_arg7 : BufTy.Contents (Elt Ideal) arg7.view.ty) (x : ℕ → ℕ → ℝ) (γ β : ℕ → ℝ) (hc : Coef x γ β (i 1).val v30 v32)
    (hx : ∀ (r : Fin 4096) (l : Fin 256), arg7.view.read (Elt Ideal) X_arg7 (ix3 (col i) r l) = ((x r.val (256 * (i 1).val + l.val) : ℝ) : EReal)) :
    ∀ (n : ℕ) (hn : n ≤ 32), Pcs (codesG x γ β (i 1).val) (fun y => (y 1).val < 128 * n) (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v30 v32 X_arg7 n)
  | 0, _ => (Pcs.nil _).congr fun y => by simp
  | n + 1, hn => by
    have h3 := t3_pb 𝒱 c bd i arg2 harg2 arg3 harg3 arg4 harg4 arg5 harg5 arg6 harg6 arg7 harg7 arg8 harg8 arg9 harg9 arg10 harg10 arg11 harg11 arg12 harg12 arg13 harg13 arg14 harg14 arg1 v30 v32 X_arg7 x γ β hc hx n (by omega)
    have hk : n < k0_t3_loop.trips := lt_of_lt_of_eq (show n < 32 by omega) trips3.symm
    have e := pb_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v30 v32 X_arg7 ⟨n, hk⟩
    rw [show n + 1 = (⟨n, hk⟩ : Fin k0_t3_loop.trips).val + 1 from rfl, e]
    refine ((t3_co 𝒱 c bd i arg2 harg2 arg3 harg3 arg4 harg4 arg5 harg5 arg6 harg6 arg7 harg7 arg8 harg8 arg9 harg9 arg10 harg10 arg11 harg11 arg12 harg12 arg13 harg13 arg14 harg14 arg1 v30 v32 X_arg7 ⟨n, hk⟩ x γ β hc fun r l _ => hx r l).append h3).congr fun y => ?_
    show _ ↔ _ < 128 * (n + 1)
    dsimp only
    constructor <;> intro h <;> omega

end Cert.KernelIdeal.Hand

end
-- ==== Proof.Value.Blk3.lean ====
/-
  Hand-written, untrusted. block 3 of the body run once.
-/
module

public import proofs.«01_k».proof.Proof.Value.Put
public import proofs.«01_k».proof.Proof.Value.T3

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

local notation "𝕄" => MT nD τ sig Unit (Elt Ideal) ℕ (UR sig nD τ) ℕ

/-- Block 3 run once. -/
theorem blk3_val (c : Dev nD) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (P Q : St → Prop) (hPQ : ∀ s s', P s → R13 i s s' → Q s') :
    HeldP c arg2 arg3 arg4 arg5 arg6 arg7 arg8 arg9 arg10 arg11 arg12 arg13 arg14 P
      ⊢ wp frame (wpE (defs₀ (F := Ideal)) Variants.none c none) Set.univ
          (blk3 (F := Ideal) i arg2 harg2 arg3 harg3 arg4 harg4 arg5 harg5 arg6 harg6 arg7 harg7 arg8 harg8 arg9 harg9 arg10 harg10 arg11 harg11 arg12 harg12 arg13 harg13 arg14 harg14) (fun _ => HeldP c arg2 arg3 arg4 arg5 arg6 arg7 arg8 arg9 arg10 arg11 arg12 arg13 arg14 Q) := by
  unfold blk3 HeldP owns
  iintro ⟨%d2, %d3, %d4, %d5, %d6, %d7, %d8, %d9, %d10, %d11, %d12, %d13, %d14, ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩, %hP⟩
  sl_exec
  sl_step
  iexists _, _, _, _, _, _, _, _, _, _, _, _, _
  isplitl [H2 H3 H4 H5 H6 H7 H8 H9 H10 H11 H12 H13 H14]
  · isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    iexists _; isplitr; swap; · iexact H14
    ipureintro; rfl
  ipureintro
  subst h2 h3 h4 h5 h6 h7 h8 h9 h10 h11 h12 h13 h14
  refine hPQ _ _ hP ?_
  have e : Scf.trips k0_t3_loop.lb k0_t3_loop.ub k0_t3_loop.st = 32 := trips3
  rw [e]
  refine {
    x := rfl, ga := rfl, be := rfl, sc := rfl, cv := rfl, ex := rfl, fa := rfl, im := rfl, s1 := rfl, s2 := rfl, mx := rfl, mn := rfl
    co := fun x γ β hc hgb him r l =>
      (t3_pb Variants.none c none i arg2 harg2 arg3 harg3 arg4 harg4 arg5 harg5 arg6 harg6 arg7 harg7 arg8 harg8 arg9 harg9 arg10 harg10 arg11 harg11 arg12 harg12 arg13 harg13 arg14 harg14 _ _ _ f7 x γ β (coef_read arg12.view f12 i _ (k0_off9_inb i) (off9_eq i) x γ β _ _ (ex_read arg13.view f13 _ _ _) (hc (col i))) him 32 le_rfl).read_in arg5.view f5 (ix3 0 r l) r.isLt }

end Cert.KernelIdeal.Hand

end
-- ==== Proof.Value.T4.lean ====
/-
  Hand-written, untrusted. the statistics loop without codes: what one trip does, and the whole loop.
-/
module

public import proofs.«01_k».proof.Proof.Value.Code

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

variable (𝒱 : Variants) (c : Dev nD) (bd : Option 𝒱.V) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole)

/-- One trip adds sixteen rows to the running sum. -/
theorem t4_s1 (arg1 : BitVec 32) (X_arg2 : BufTy.Contents (Elt Ideal) arg2.view.ty) (k : Fin k0_t4_loop.trips) (x : ℕ → ℕ → ℝ) (hx : ∀ (r : Fin 4096) (l : Fin 256), arg2.view.read (Elt Ideal) X_arg2 (ix3 0 r l) = ((x r.val l.val : ℝ) : EReal)) (acc) (r : Fin 8) (l : Fin 256) (A : ℝ) (hA : acc.1 (ix2 r l) = ((A : ℝ) : EReal)) :
    ((trip_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 X_arg2 k).1 acc).1 (ix2 r l) = ((A + ∑ m ∈ Finset.range 16, (fun m => x (8 * m + r.val) l.val) (16 * k.val + m) : ℝ) : EReal) := by
  have c0 : ∀ (inb) (R : Fin 32) (l : Fin 256), arg2.view.readAt (Elt Ideal) (Rect.unit (s := S1x4096x256) (k0_off12 k 0#32) (![1, 32, 256]) inb).toLoadRect X_arg2 (ix3 0 R l) = ((x (32 * (4 * k.val) + R.val) l.val : ℝ) : EReal) :=
    fun inb R l => chunk1 arg2.view X_arg2 x id hx _ inb (off12_eq k 0 (by decide)) R l
  have c1 : ∀ (inb) (R : Fin 32) (l : Fin 256), arg2.view.readAt (Elt Ideal) (Rect.unit (s := S1x4096x256) (k0_off12 k 1#32) (![1, 32, 256]) inb).toLoadRect X_arg2 (ix3 0 R l) = ((x (32 * (4 * k.val + 1) + R.val) l.val : ℝ) : EReal) :=
    fun inb R l => chunk1 arg2.view X_arg2 x id hx _ inb (off12_eq k 1 (by decide)) R l
  have c2 : ∀ (inb) (R : Fin 32) (l : Fin 256), arg2.view.readAt (Elt Ideal) (Rect.unit (s := S1x4096x256) (k0_off12 k 2#32) (![1, 32, 256]) inb).toLoadRect X_arg2 (ix3 0 R l) = ((x (32 * (4 * k.val + 2) + R.val) l.val : ℝ) : EReal) :=
    fun inb R l => chunk1 arg2.view X_arg2 x id hx _ inb (off12_eq k 2 (by decide)) R l
  have c3 : ∀ (inb) (R : Fin 32) (l : Fin 256), arg2.view.readAt (Elt Ideal) (Rect.unit (s := S1x4096x256) (k0_off12 k 3#32) (![1, 32, 256]) inb).toLoadRect X_arg2 (ix3 0 R l) = ((x (32 * (4 * k.val + 3) + R.val) l.val : ℝ) : EReal) :=
    fun inb R l => chunk1 arg2.view X_arg2 x id hx _ inb (off12_eq k 3 (by decide)) R l
  have e00 : 32 * (4 * k.val) + r.val = 8 * (16 * k.val) + r.val := by omega
  have e01 : 32 * (4 * k.val) + (8 + r.val) = 8 * (16 * k.val + 1) + r.val := by omega
  have e02 : 32 * (4 * k.val) + (16 + r.val) = 8 * (16 * k.val + 2) + r.val := by omega
  have e03 : 32 * (4 * k.val) + (16 + (8 + r.val)) = 8 * (16 * k.val + 3) + r.val := by omega
  have e10 : 32 * (4 * k.val + 1) + r.val = 8 * (16 * k.val + 4) + r.val := by omega
  have e11 : 32 * (4 * k.val + 1) + (8 + r.val) = 8 * (16 * k.val + 5) + r.val := by omega
  have e12 : 32 * (4 * k.val + 1) + (16 + r.val) = 8 * (16 * k.val + 6) + r.val := by omega
  have e13 : 32 * (4 * k.val + 1) + (16 + (8 + r.val)) = 8 * (16 * k.val + 7) + r.val := by omega
  have e20 : 32 * (4 * k.val + 2) + r.val = 8 * (16 * k.val + 8) + r.val := by omega
  have e21 : 32 * (4 * k.val + 2) + (8 + r.val) = 8 * (16 * k.val + 9) + r.val := by omega
  have e22 : 32 * (4 * k.val + 2) + (16 + r.val) = 8 * (16 * k.val + 10) + r.val := by omega
  have e23 : 32 * (4 * k.val + 2) + (16 + (8 + r.val)) = 8 * (16 * k.val + 11) + r.val := by omega
  have e30 : 32 * (4 * k.val + 3) + r.val = 8 * (16 * k.val + 12) + r.val := by omega
  have e31 : 32 * (4 * k.val + 3) + (8 + r.val) = 8 * (16 * k.val + 13) + r.val := by omega
  have e32 : 32 * (4 * k.val + 3) + (16 + r.val) = 8 * (16 * k.val + 14) + r.val := by omega
  have e33 : 32 * (4 * k.val + 3) + (16 + (8 + r.val)) = 8 * (16 * k.val + 15) + r.val := by omega
  unfold trip_k0_t4
  dsimp only
  pointwise [trip_k0_t4.sl.v81, trip_k0_t4.sl.v94, trip_k0_t4.sl.v117, trip_k0_t4.sl.v95, trip_k0_t4.sl.v131, trip_k0_t4.sl.v51, trip_k0_t4.sl.v136, trip_k0_t4.sl.v77, trip_k0_t4.sl.v115, trip_k0_t4.sl.v104, trip_k0_t4.sl.v99, trip_k0_t4.sl.v128, trip_k0_t4.sl.v60, trip_k0_t4.sl.v67, trip_k0_t4.sl.v82, trip_k0_t4.sl.v108, trip_k0_t4.sl.v143, trip_k0_t4.sl.v65, trip_k0_t4.sl.v74, trip_k0_t4.sl.v66, trip_k0_t4.sl.v89, trip_k0_t4.sl.v53, trip_k0_t4.sl.v92, trip_k0_t4.sl.v62, trip_k0_t4.sl.v85, trip_k0_t4.sl.v129, trip_k0_t4.sl.v139, trip_k0_t4.sl.v106, trip_k0_t4.sl.v57, trip_k0_t4.sl.v138, trip_k0_t4.sl.v72, trip_k0_t4.sl.v58, trip_k0_t4.sl.v71, trip_k0_t4.sl.v120, trip_k0_t4.sl.v101, trip_k0_t4.sl.v118, trip_k0_t4.sl.v96, trip_k0_t4.sl.v70, trip_k0_t4.sl.v123, trip_k0_t4.sl.v64, trip_k0_t4.sl.v84, trip_k0_t4.sl.v59, trip_k0_t4.sl.v93, trip_k0_t4.sl.v87, trip_k0_t4.sl.v80, trip_k0_t4.sl.v69, trip_k0_t4.sl.v97, trip_k0_t4.sl.v47, trip_k0_t4.sl.v116, trip_k0_t4.sl.v114, trip_k0_t4.sl.v100, trip_k0_t4.sl.v134, trip_k0_t4.sl.v79, trip_k0_t4.sl.v98, trip_k0_t4.sl.v68, trip_k0_t4.sl.v105, trip_k0_t4.sl.v75, trip_k0_t4.sl.v61, trip_k0_t4.sl.v130, trip_k0_t4.sl.v78, trip_k0_t4.sl.v137, trip_k0_t4.sl.v110, trip_k0_t4.sl.v135, trip_k0_t4.sl.v111, trip_k0_t4.sl.v49, trip_k0_t4.sl.v102, trip_k0_t4.sl.v73, trip_k0_t4.sl.v63, trip_k0_t4.sl.v121, trip_k0_t4.sl.v107, trip_k0_t4.sl.v76, trip_k0_t4.sl.v140, trip_k0_t4.sl.v125, trip_k0_t4.sl.v103, trip_k0_t4.sl.v109, trip_k0_t4.sl.v48, trip_k0_t4.sl.arg15, trip_k0_t4.sl.v132, trip_k0_t4.sl.v113, trip_k0_t4.sl.v141, trip_k0_t4.sl.v112, trip_k0_t4.sl.v144, trip_k0_t4.sl.v133, trip_k0_t4.sl.v142, k0_pay20, k0_pay21, k0_pay22, k0_pay23, k0_pay24, k0_pay25, k0_pay26, k0_pay27, k0_pay28, k0_pay29, k0_pay30, k0_pay31, k0_pay32, k0_pay33, k0_pay34, k0_pay35, k0_pay36]
  simp only [c0, c1, c2, c3, hA, e00, e01, e02, e03, e10, e11, e12, e13, e20, e21, e22, e23, e30, e31, e32, e33, Finset.sum_range_succ, Finset.sum_range_zero, zero_add, EReal.coe_add, EReal.coe_mul, add_assoc, add_zero]

/-- One trip adds sixteen rows to the running sum of squares. -/
theorem t4_s2 (arg1 : BitVec 32) (X_arg2 : BufTy.Contents (Elt Ideal) arg2.view.ty) (k : Fin k0_t4_loop.trips) (x : ℕ → ℕ → ℝ) (hx : ∀ (r : Fin 4096) (l : Fin 256), arg2.view.read (Elt Ideal) X_arg2 (ix3 0 r l) = ((x r.val l.val : ℝ) : EReal)) (acc) (r : Fin 8) (l : Fin 256) (A : ℝ) (hA : acc.2.1 (ix2 r l) = ((A : ℝ) : EReal)) :
    ((trip_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 X_arg2 k).1 acc).2.1 (ix2 r l) = ((A + ∑ m ∈ Finset.range 16, (fun m => x (8 * m + r.val) l.val * x (8 * m + r.val) l.val) (16 * k.val + m) : ℝ) : EReal) := by
  have c0 : ∀ (inb) (R : Fin 32) (l : Fin 256), arg2.view.readAt (Elt Ideal) (Rect.unit (s := S1x4096x256) (k0_off12 k 0#32) (![1, 32, 256]) inb).toLoadRect X_arg2 (ix3 0 R l) = ((x (32 * (4 * k.val) + R.val) l.val : ℝ) : EReal) :=
    fun inb R l => chunk1 arg2.view X_arg2 x id hx _ inb (off12_eq k 0 (by decide)) R l
  have c1 : ∀ (inb) (R : Fin 32) (l : Fin 256), arg2.view.readAt (Elt Ideal) (Rect.unit (s := S1x4096x256) (k0_off12 k 1#32) (![1, 32, 256]) inb).toLoadRect X_arg2 (ix3 0 R l) = ((x (32 * (4 * k.val + 1) + R.val) l.val : ℝ) : EReal) :=
    fun inb R l => chunk1 arg2.view X_arg2 x id hx _ inb (off12_eq k 1 (by decide)) R l
  have c2 : ∀ (inb) (R : Fin 32) (l : Fin 256), arg2.view.readAt (Elt Ideal) (Rect.unit (s := S1x4096x256) (k0_off12 k 2#32) (![1, 32, 256]) inb).toLoadRect X_arg2 (ix3 0 R l) = ((x (32 * (4 * k.val + 2) + R.val) l.val : ℝ) : EReal) :=
    fun inb R l => chunk1 arg2.view X_arg2 x id hx _ inb (off12_eq k 2 (by decide)) R l
  have c3 : ∀ (inb) (R : Fin 32) (l : Fin 256), arg2.view.readAt (Elt Ideal) (Rect.unit (s := S1x4096x256) (k0_off12 k 3#32) (![1, 32, 256]) inb).toLoadRect X_arg2 (ix3 0 R l) = ((x (32 * (4 * k.val + 3) + R.val) l.val : ℝ) : EReal) :=
    fun inb R l => chunk1 arg2.view X_arg2 x id hx _ inb (off12_eq k 3 (by decide)) R l
  have e00 : 32 * (4 * k.val) + r.val = 8 * (16 * k.val) + r.val := by omega
  have e01 : 32 * (4 * k.val) + (8 + r.val) = 8 * (16 * k.val + 1) + r.val := by omega
  have e02 : 32 * (4 * k.val) + (16 + r.val) = 8 * (16 * k.val + 2) + r.val := by omega
  have e03 : 32 * (4 * k.val) + (16 + (8 + r.val)) = 8 * (16 * k.val + 3) + r.val := by omega
  have e10 : 32 * (4 * k.val + 1) + r.val = 8 * (16 * k.val + 4) + r.val := by omega
  have e11 : 32 * (4 * k.val + 1) + (8 + r.val) = 8 * (16 * k.val + 5) + r.val := by omega
  have e12 : 32 * (4 * k.val + 1) + (16 + r.val) = 8 * (16 * k.val + 6) + r.val := by omega
  have e13 : 32 * (4 * k.val + 1) + (16 + (8 + r.val)) = 8 * (16 * k.val + 7) + r.val := by omega
  have e20 : 32 * (4 * k.val + 2) + r.val = 8 * (16 * k.val + 8) + r.val := by omega
  have e21 : 32 * (4 * k.val + 2) + (8 + r.val) = 8 * (16 * k.val + 9) + r.val := by omega
  have e22 : 32 * (4 * k.val + 2) + (16 + r.val) = 8 * (16 * k.val + 10) + r.val := by omega
  have e23 : 32 * (4 * k.val + 2) + (16 + (8 + r.val)) = 8 * (16 * k.val + 11) + r.val := by omega
  have e30 : 32 * (4 * k.val + 3) + r.val = 8 * (16 * k.val + 12) + r.val := by omega
  have e31 : 32 * (4 * k.val + 3) + (8 + r.val) = 8 * (16 * k.val + 13) + r.val := by omega
  have e32 : 32 * (4 * k.val + 3) + (16 + r.val) = 8 * (16 * k.val + 14) + r.val := by omega
  have e33 : 32 * (4 * k.val + 3) + (16 + (8 + r.val)) = 8 * (16 * k.val + 15) + r.val := by omega
  unfold trip_k0_t4
  dsimp only
  pointwise [trip_k0_t4.sl.v81, trip_k0_t4.sl.v94, trip_k0_t4.sl.v117, trip_k0_t4.sl.v95, trip_k0_t4.sl.v131, trip_k0_t4.sl.v51, trip_k0_t4.sl.v136, trip_k0_t4.sl.v77, trip_k0_t4.sl.v115, trip_k0_t4.sl.v104, trip_k0_t4.sl.v99, trip_k0_t4.sl.v128, trip_k0_t4.sl.v60, trip_k0_t4.sl.v67, trip_k0_t4.sl.v82, trip_k0_t4.sl.v108, trip_k0_t4.sl.v143, trip_k0_t4.sl.v65, trip_k0_t4.sl.v74, trip_k0_t4.sl.v66, trip_k0_t4.sl.v89, trip_k0_t4.sl.v53, trip_k0_t4.sl.v92, trip_k0_t4.sl.v62, trip_k0_t4.sl.v85, trip_k0_t4.sl.v129, trip_k0_t4.sl.v139, trip_k0_t4.sl.v106, trip_k0_t4.sl.v57, trip_k0_t4.sl.v138, trip_k0_t4.sl.v72, trip_k0_t4.sl.v58, trip_k0_t4.sl.v71, trip_k0_t4.sl.v120, trip_k0_t4.sl.v101, trip_k0_t4.sl.v118, trip_k0_t4.sl.v96, trip_k0_t4.sl.v70, trip_k0_t4.sl.v123, trip_k0_t4.sl.v64, trip_k0_t4.sl.v84, trip_k0_t4.sl.v59, trip_k0_t4.sl.v93, trip_k0_t4.sl.v87, trip_k0_t4.sl.v80, trip_k0_t4.sl.v69, trip_k0_t4.sl.v97, trip_k0_t4.sl.v47, trip_k0_t4.sl.v116, trip_k0_t4.sl.v114, trip_k0_t4.sl.v100, trip_k0_t4.sl.v134, trip_k0_t4.sl.v79, trip_k0_t4.sl.v98, trip_k0_t4.sl.v68, trip_k0_t4.sl.v105, trip_k0_t4.sl.v75, trip_k0_t4.sl.v61, trip_k0_t4.sl.v130, trip_k0_t4.sl.v78, trip_k0_t4.sl.v137, trip_k0_t4.sl.v110, trip_k0_t4.sl.v135, trip_k0_t4.sl.v111, trip_k0_t4.sl.v49, trip_k0_t4.sl.v102, trip_k0_t4.sl.v73, trip_k0_t4.sl.v63, trip_k0_t4.sl.v121, trip_k0_t4.sl.v107, trip_k0_t4.sl.v76, trip_k0_t4.sl.v140, trip_k0_t4.sl.v125, trip_k0_t4.sl.v103, trip_k0_t4.sl.v109, trip_k0_t4.sl.v48, trip_k0_t4.sl.arg15, trip_k0_t4.sl.v132, trip_k0_t4.sl.v113, trip_k0_t4.sl.v141, trip_k0_t4.sl.v112, trip_k0_t4.sl.v144, trip_k0_t4.sl.v133, trip_k0_t4.sl.v142, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay10]
  simp only [c0, c1, c2, c3, hA, e00, e01, e02, e03, e10, e11, e12, e13, e20, e21, e22, e23, e30, e31, e32, e33, Finset.sum_range_succ, Finset.sum_range_zero, zero_add, EReal.coe_add, EReal.coe_mul, add_assoc, add_zero]

/-- One trip takes eight rows into the running maximum. -/
theorem t4_mx (arg1 : BitVec 32) (X_arg2 : BufTy.Contents (Elt Ideal) arg2.view.ty) (k : Fin k0_t4_loop.trips) (x : ℕ → ℕ → ℝ) (hx : ∀ (r : Fin 4096) (l : Fin 256), arg2.view.read (Elt Ideal) X_arg2 (ix3 0 r l) = ((x r.val l.val : ℝ) : EReal)) (acc) (r : Fin 16) (l : Fin 256) (B : EReal) :
    ((trip_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 X_arg2 k).1 acc).2.2.1 (ix2 r l) ≤ B ↔ acc.2.2.1 (ix2 r l) ≤ B ∧ ∀ m < 8, ((x (16 * (8 * k.val + m) + r.val) l.val : ℝ) : EReal) ≤ B := by
  have c0 : ∀ (inb) (R : Fin 32) (l : Fin 256), arg2.view.readAt (Elt Ideal) (Rect.unit (s := S1x4096x256) (k0_off12 k 0#32) (![1, 32, 256]) inb).toLoadRect X_arg2 (ix3 0 R l) = ((x (32 * (4 * k.val) + R.val) l.val : ℝ) : EReal) :=
    fun inb R l => chunk1 arg2.view X_arg2 x id hx _ inb (off12_eq k 0 (by decide)) R l
  have c1 : ∀ (inb) (R : Fin 32) (l : Fin 256), arg2.view.readAt (Elt Ideal) (Rect.unit (s := S1x4096x256) (k0_off12 k 1#32) (![1, 32, 256]) inb).toLoadRect X_arg2 (ix3 0 R l) = ((x (32 * (4 * k.val + 1) + R.val) l.val : ℝ) : EReal) :=
    fun inb R l => chunk1 arg2.view X_arg2 x id hx _ inb (off12_eq k 1 (by decide)) R l
  have c2 : ∀ (inb) (R : Fin 32) (l : Fin 256), arg2.view.readAt (Elt Ideal) (Rect.unit (s := S1x4096x256) (k0_off12 k 2#32) (![1, 32, 256]) inb).toLoadRect X_arg2 (ix3 0 R l) = ((x (32 * (4 * k.val + 2) + R.val) l.val : ℝ) : EReal) :=
    fun inb R l => chunk1 arg2.view X_arg2 x id hx _ inb (off12_eq k 2 (by decide)) R l
  have c3 : ∀ (inb) (R : Fin 32) (l : Fin 256), arg2.view.readAt (Elt Ideal) (Rect.unit (s := S1x4096x256) (k0_off12 k 3#32) (![1, 32, 256]) inb).toLoadRect X_arg2 (ix3 0 R l) = ((x (32 * (4 * k.val + 3) + R.val) l.val : ℝ) : EReal) :=
    fun inb R l => chunk1 arg2.view X_arg2 x id hx _ inb (off12_eq k 3 (by decide)) R l
  have e00 : 32 * (4 * k.val) + r.val = 16 * (8 * k.val) + r.val := by omega
  have e01 : 32 * (4 * k.val) + (16 + r.val) = 16 * (8 * k.val + 1) + r.val := by omega
  have e10 : 32 * (4 * k.val + 1) + r.val = 16 * (8 * k.val + 2) + r.val := by omega
  have e11 : 32 * (4 * k.val + 1) + (16 + r.val) = 16 * (8 * k.val + 3) + r.val := by omega
  have e20 : 32 * (4 * k.val + 2) + r.val = 16 * (8 * k.val + 4) + r.val := by omega
  have e21 : 32 * (4 * k.val + 2) + (16 + r.val) = 16 * (8 * k.val + 5) + r.val := by omega
  have e30 : 32 * (4 * k.val + 3) + r.val = 16 * (8 * k.val + 6) + r.val := by omega
  have e31 : 32 * (4 * k.val + 3) + (16 + r.val) = 16 * (8 * k.val + 7) + r.val := by omega
  unfold trip_k0_t4
  dsimp only
  pointwise [trip_k0_t4.sl.v81, trip_k0_t4.sl.v94, trip_k0_t4.sl.v117, trip_k0_t4.sl.v95, trip_k0_t4.sl.v131, trip_k0_t4.sl.v51, trip_k0_t4.sl.v136, trip_k0_t4.sl.v77, trip_k0_t4.sl.v115, trip_k0_t4.sl.v104, trip_k0_t4.sl.v99, trip_k0_t4.sl.v128, trip_k0_t4.sl.v60, trip_k0_t4.sl.v67, trip_k0_t4.sl.v82, trip_k0_t4.sl.v108, trip_k0_t4.sl.v143, trip_k0_t4.sl.v65, trip_k0_t4.sl.v74, trip_k0_t4.sl.v66, trip_k0_t4.sl.v89, trip_k0_t4.sl.v53, trip_k0_t4.sl.v92, trip_k0_t4.sl.v62, trip_k0_t4.sl.v85, trip_k0_t4.sl.v129, trip_k0_t4.sl.v139, trip_k0_t4.sl.v106, trip_k0_t4.sl.v57, trip_k0_t4.sl.v138, trip_k0_t4.sl.v72, trip_k0_t4.sl.v58, trip_k0_t4.sl.v71, trip_k0_t4.sl.v120, trip_k0_t4.sl.v101, trip_k0_t4.sl.v118, trip_k0_t4.sl.v96, trip_k0_t4.sl.v70, trip_k0_t4.sl.v123, trip_k0_t4.sl.v64, trip_k0_t4.sl.v84, trip_k0_t4.sl.v59, trip_k0_t4.sl.v93, trip_k0_t4.sl.v87, trip_k0_t4.sl.v80, trip_k0_t4.sl.v69, trip_k0_t4.sl.v97, trip_k0_t4.sl.v47, trip_k0_t4.sl.v116, trip_k0_t4.sl.v114, trip_k0_t4.sl.v100, trip_k0_t4.sl.v134, trip_k0_t4.sl.v79, trip_k0_t4.sl.v98, trip_k0_t4.sl.v68, trip_k0_t4.sl.v105, trip_k0_t4.sl.v75, trip_k0_t4.sl.v61, trip_k0_t4.sl.v130, trip_k0_t4.sl.v78, trip_k0_t4.sl.v137, trip_k0_t4.sl.v110, trip_k0_t4.sl.v135, trip_k0_t4.sl.v111, trip_k0_t4.sl.v49, trip_k0_t4.sl.v102, trip_k0_t4.sl.v73, trip_k0_t4.sl.v63, trip_k0_t4.sl.v121, trip_k0_t4.sl.v107, trip_k0_t4.sl.v76, trip_k0_t4.sl.v140, trip_k0_t4.sl.v125, trip_k0_t4.sl.v103, trip_k0_t4.sl.v109, trip_k0_t4.sl.v48, trip_k0_t4.sl.arg15, trip_k0_t4.sl.v132, trip_k0_t4.sl.v113, trip_k0_t4.sl.v141, trip_k0_t4.sl.v112, trip_k0_t4.sl.v144, trip_k0_t4.sl.v133, trip_k0_t4.sl.v142, k0_pay20, k0_pay21, k0_pay22, k0_pay23, k0_pay24, k0_pay25, k0_pay26, k0_pay27, k0_pay28, k0_pay29, k0_pay30, k0_pay31, k0_pay32, k0_pay33, k0_pay34, k0_pay35, k0_pay36]
  simp only [c0, c1, c2, c3, e00, e01, e10, e11, e20, e21, e30, e31, max_le_iff, Nat.forall_lt_succ_right, Nat.not_lt_zero, false_implies, forall_const, implies_true, true_and, and_assoc, add_zero]

/-- One trip takes eight rows into the running minimum. -/
theorem t4_mn (arg1 : BitVec 32) (X_arg2 : BufTy.Contents (Elt Ideal) arg2.view.ty) (k : Fin k0_t4_loop.trips) (x : ℕ → ℕ → ℝ) (hx : ∀ (r : Fin 4096) (l : Fin 256), arg2.view.read (Elt Ideal) X_arg2 (ix3 0 r l) = ((x r.val l.val : ℝ) : EReal)) (acc) (r : Fin 16) (l : Fin 256) (B : EReal) :
    B ≤ ((trip_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 X_arg2 k).1 acc).2.2.2 (ix2 r l) ↔ B ≤ acc.2.2.2 (ix2 r l) ∧ ∀ m < 8, B ≤ ((x (16 * (8 * k.val + m) + r.val) l.val : ℝ) : EReal) := by
  have c0 : ∀ (inb) (R : Fin 32) (l : Fin 256), arg2.view.readAt (Elt Ideal) (Rect.unit (s := S1x4096x256) (k0_off12 k 0#32) (![1, 32, 256]) inb).toLoadRect X_arg2 (ix3 0 R l) = ((x (32 * (4 * k.val) + R.val) l.val : ℝ) : EReal) :=
    fun inb R l => chunk1 arg2.view X_arg2 x id hx _ inb (off12_eq k 0 (by decide)) R l
  have c1 : ∀ (inb) (R : Fin 32) (l : Fin 256), arg2.view.readAt (Elt Ideal) (Rect.unit (s := S1x4096x256) (k0_off12 k 1#32) (![1, 32, 256]) inb).toLoadRect X_arg2 (ix3 0 R l) = ((x (32 * (4 * k.val + 1) + R.val) l.val : ℝ) : EReal) :=
    fun inb R l => chunk1 arg2.view X_arg2 x id hx _ inb (off12_eq k 1 (by decide)) R l
  have c2 : ∀ (inb) (R : Fin 32) (l : Fin 256), arg2.view.readAt (Elt Ideal) (Rect.unit (s := S1x4096x256) (k0_off12 k 2#32) (![1, 32, 256]) inb).toLoadRect X_arg2 (ix3 0 R l) = ((x (32 * (4 * k.val + 2) + R.val) l.val : ℝ) : EReal) :=
    fun inb R l => chunk1 arg2.view X_arg2 x id hx _ inb (off12_eq k 2 (by decide)) R l
  have c3 : ∀ (inb) (R : Fin 32) (l : Fin 256), arg2.view.readAt (Elt Ideal) (Rect.unit (s := S1x4096x256) (k0_off12 k 3#32) (![1, 32, 256]) inb).toLoadRect X_arg2 (ix3 0 R l) = ((x (32 * (4 * k.val + 3) + R.val) l.val : ℝ) : EReal) :=
    fun inb R l => chunk1 arg2.view X_arg2 x id hx _ inb (off12_eq k 3 (by decide)) R l
  have e00 : 32 * (4 * k.val) + r.val = 16 * (8 * k.val) + r.val := by omega
  have e01 : 32 * (4 * k.val) + (16 + r.val) = 16 * (8 * k.val + 1) + r.val := by omega
  have e10 : 32 * (4 * k.val + 1) + r.val = 16 * (8 * k.val + 2) + r.val := by omega
  have e11 : 32 * (4 * k.val + 1) + (16 + r.val) = 16 * (8 * k.val + 3) + r.val := by omega
  have e20 : 32 * (4 * k.val + 2) + r.val = 16 * (8 * k.val + 4) + r.val := by omega
  have e21 : 32 * (4 * k.val + 2) + (16 + r.val) = 16 * (8 * k.val + 5) + r.val := by omega
  have e30 : 32 * (4 * k.val + 3) + r.val = 16 * (8 * k.val + 6) + r.val := by omega
  have e31 : 32 * (4 * k.val + 3) + (16 + r.val) = 16 * (8 * k.val + 7) + r.val := by omega
  unfold trip_k0_t4
  dsimp only
  pointwise [trip_k0_t4.sl.v81, trip_k0_t4.sl.v94, trip_k0_t4.sl.v117, trip_k0_t4.sl.v95, trip_k0_t4.sl.v131, trip_k0_t4.sl.v51, trip_k0_t4.sl.v136, trip_k0_t4.sl.v77, trip_k0_t4.sl.v115, trip_k0_t4.sl.v104, trip_k0_t4.sl.v99, trip_k0_t4.sl.v128, trip_k0_t4.sl.v60, trip_k0_t4.sl.v67, trip_k0_t4.sl.v82, trip_k0_t4.sl.v108, trip_k0_t4.sl.v143, trip_k0_t4.sl.v65, trip_k0_t4.sl.v74, trip_k0_t4.sl.v66, trip_k0_t4.sl.v89, trip_k0_t4.sl.v53, trip_k0_t4.sl.v92, trip_k0_t4.sl.v62, trip_k0_t4.sl.v85, trip_k0_t4.sl.v129, trip_k0_t4.sl.v139, trip_k0_t4.sl.v106, trip_k0_t4.sl.v57, trip_k0_t4.sl.v138, trip_k0_t4.sl.v72, trip_k0_t4.sl.v58, trip_k0_t4.sl.v71, trip_k0_t4.sl.v120, trip_k0_t4.sl.v101, trip_k0_t4.sl.v118, trip_k0_t4.sl.v96, trip_k0_t4.sl.v70, trip_k0_t4.sl.v123, trip_k0_t4.sl.v64, trip_k0_t4.sl.v84, trip_k0_t4.sl.v59, trip_k0_t4.sl.v93, trip_k0_t4.sl.v87, trip_k0_t4.sl.v80, trip_k0_t4.sl.v69, trip_k0_t4.sl.v97, trip_k0_t4.sl.v47, trip_k0_t4.sl.v116, trip_k0_t4.sl.v114, trip_k0_t4.sl.v100, trip_k0_t4.sl.v134, trip_k0_t4.sl.v79, trip_k0_t4.sl.v98, trip_k0_t4.sl.v68, trip_k0_t4.sl.v105, trip_k0_t4.sl.v75, trip_k0_t4.sl.v61, trip_k0_t4.sl.v130, trip_k0_t4.sl.v78, trip_k0_t4.sl.v137, trip_k0_t4.sl.v110, trip_k0_t4.sl.v135, trip_k0_t4.sl.v111, trip_k0_t4.sl.v49, trip_k0_t4.sl.v102, trip_k0_t4.sl.v73, trip_k0_t4.sl.v63, trip_k0_t4.sl.v121, trip_k0_t4.sl.v107, trip_k0_t4.sl.v76, trip_k0_t4.sl.v140, trip_k0_t4.sl.v125, trip_k0_t4.sl.v103, trip_k0_t4.sl.v109, trip_k0_t4.sl.v48, trip_k0_t4.sl.arg15, trip_k0_t4.sl.v132, trip_k0_t4.sl.v113, trip_k0_t4.sl.v141, trip_k0_t4.sl.v112, trip_k0_t4.sl.v144, trip_k0_t4.sl.v133, trip_k0_t4.sl.v142, k0_pay20, k0_pay21, k0_pay22, k0_pay23, k0_pay24, k0_pay25, k0_pay26, k0_pay27, k0_pay28, k0_pay29, k0_pay30, k0_pay31, k0_pay32, k0_pay33, k0_pay34, k0_pay35, k0_pay36]
  simp only [c0, c1, c2, c3, e00, e01, e10, e11, e20, e21, e30, e31, le_min_iff, Nat.forall_lt_succ_right, Nat.not_lt_zero, false_implies, forall_const, implies_true, true_and, and_assoc, add_zero]

/-- The pieces of one trip: a hundred and twenty-eight rows of the image. -/
theorem t4_im (arg1 : BitVec 32) (X_arg2 : BufTy.Contents (Elt Ideal) arg2.view.ty) (k : Fin k0_t4_loop.trips) (x : ℕ → ℕ → ℝ) (hx : ∀ (r : Fin 4096) (l : Fin 256), arg2.view.read (Elt Ideal) X_arg2 (ix3 0 r l) = ((x r.val (256 * (i 1).val + l.val) : ℝ) : EReal)) (acc) :
    Pcs (imgG x (i 1).val) (fun y => (y 0).val = (i 1).val ∧ 128 * k.val ≤ (y 1).val ∧ (y 1).val < 128 * (k.val + 1))
      ((trip_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 X_arg2 k).2.1 acc) := by
  have c0 : ∀ (inb) (R : Fin 32) (l : Fin 256), arg2.view.readAt (Elt Ideal) (Rect.unit (s := S1x4096x256) (k0_off12 k 0#32) (![1, 32, 256]) inb).toLoadRect X_arg2 (ix3 0 R l) = ((x (32 * (4 * k.val) + R.val) (256 * (i 1).val + l.val) : ℝ) : EReal) :=
    fun inb R l => chunk1 arg2.view X_arg2 (fun r l => x r (256 * (i 1).val + l)) id hx _ inb (off12_eq k 0 (by decide)) R l
  have c1 : ∀ (inb) (R : Fin 32) (l : Fin 256), arg2.view.readAt (Elt Ideal) (Rect.unit (s := S1x4096x256) (k0_off12 k 1#32) (![1, 32, 256]) inb).toLoadRect X_arg2 (ix3 0 R l) = ((x (32 * (4 * k.val + 1) + R.val) (256 * (i 1).val + l.val) : ℝ) : EReal) :=
    fun inb R l => chunk1 arg2.view X_arg2 (fun r l => x r (256 * (i 1).val + l)) id hx _ inb (off12_eq k 1 (by decide)) R l
  have c2 : ∀ (inb) (R : Fin 32) (l : Fin 256), arg2.view.readAt (Elt Ideal) (Rect.unit (s := S1x4096x256) (k0_off12 k 2#32) (![1, 32, 256]) inb).toLoadRect X_arg2 (ix3 0 R l) = ((x (32 * (4 * k.val + 2) + R.val) (256 * (i 1).val + l.val) : ℝ) : EReal) :=
    fun inb R l => chunk1 arg2.view X_arg2 (fun r l => x r (256 * (i 1).val + l)) id hx _ inb (off12_eq k 2 (by decide)) R l
  have c3 : ∀ (inb) (R : Fin 32) (l : Fin 256), arg2.view.readAt (Elt Ideal) (Rect.unit (s := S1x4096x256) (k0_off12 k 3#32) (![1, 32, 256]) inb).toLoadRect X_arg2 (ix3 0 R l) = ((x (32 * (4 * k.val + 3) + R.val) (256 * (i 1).val + l.val) : ℝ) : EReal) :=
    fun inb R l => chunk1 arg2.view X_arg2 (fun r l => x r (256 * (i 1).val + l)) id hx _ inb (off12_eq k 3 (by decide)) R l
  unfold trip_k0_t4
  dsimp only
  refine Pcs.congr (((((Pcs.nil _).cons3 _ _ (off13_eq i k 0 (by decide)) _ ?_).cons3 _ _ (off13_eq i k 1 (by decide)) _ ?_).cons3 _ _ (off13_eq i k 2 (by decide)) _ ?_).cons3 _ _ (off13_eq i k 3 (by decide)) _ ?_) ?_
  · intro p q r hp hq hr
    obtain rfl : p = 0 := Subsingleton.elim _ _
    unfold imgG
    pointwise [trip_k0_t4.sl.v81, trip_k0_t4.sl.v94, trip_k0_t4.sl.v117, trip_k0_t4.sl.v95, trip_k0_t4.sl.v131, trip_k0_t4.sl.v51, trip_k0_t4.sl.v136, trip_k0_t4.sl.v77, trip_k0_t4.sl.v115, trip_k0_t4.sl.v104, trip_k0_t4.sl.v99, trip_k0_t4.sl.v128, trip_k0_t4.sl.v60, trip_k0_t4.sl.v67, trip_k0_t4.sl.v82, trip_k0_t4.sl.v108, trip_k0_t4.sl.v143, trip_k0_t4.sl.v65, trip_k0_t4.sl.v74, trip_k0_t4.sl.v66, trip_k0_t4.sl.v89, trip_k0_t4.sl.v53, trip_k0_t4.sl.v92, trip_k0_t4.sl.v62, trip_k0_t4.sl.v85, trip_k0_t4.sl.v129, trip_k0_t4.sl.v139, trip_k0_t4.sl.v106, trip_k0_t4.sl.v57, trip_k0_t4.sl.v138, trip_k0_t4.sl.v72, trip_k0_t4.sl.v58, trip_k0_t4.sl.v71, trip_k0_t4.sl.v120, trip_k0_t4.sl.v101, trip_k0_t4.sl.v118, trip_k0_t4.sl.v96, trip_k0_t4.sl.v70, trip_k0_t4.sl.v123, trip_k0_t4.sl.v64, trip_k0_t4.sl.v84, trip_k0_t4.sl.v59, trip_k0_t4.sl.v93, trip_k0_t4.sl.v87, trip_k0_t4.sl.v80, trip_k0_t4.sl.v69, trip_k0_t4.sl.v97, trip_k0_t4.sl.v47, trip_k0_t4.sl.v116, trip_k0_t4.sl.v114, trip_k0_t4.sl.v100, trip_k0_t4.sl.v134, trip_k0_t4.sl.v79, trip_k0_t4.sl.v98, trip_k0_t4.sl.v68, trip_k0_t4.sl.v105, trip_k0_t4.sl.v75, trip_k0_t4.sl.v61, trip_k0_t4.sl.v130, trip_k0_t4.sl.v78, trip_k0_t4.sl.v137, trip_k0_t4.sl.v110, trip_k0_t4.sl.v135, trip_k0_t4.sl.v111, trip_k0_t4.sl.v49, trip_k0_t4.sl.v102, trip_k0_t4.sl.v73, trip_k0_t4.sl.v63, trip_k0_t4.sl.v121, trip_k0_t4.sl.v107, trip_k0_t4.sl.v76, trip_k0_t4.sl.v140, trip_k0_t4.sl.v125, trip_k0_t4.sl.v103, trip_k0_t4.sl.v109, trip_k0_t4.sl.v48, trip_k0_t4.sl.arg15, trip_k0_t4.sl.v132, trip_k0_t4.sl.v113, trip_k0_t4.sl.v141, trip_k0_t4.sl.v112, trip_k0_t4.sl.v144, trip_k0_t4.sl.v133, trip_k0_t4.sl.v142, k0_pay20, k0_pay21, k0_pay22, k0_pay23, k0_pay24, k0_pay25, k0_pay26, k0_pay27, k0_pay28, k0_pay29, k0_pay30, k0_pay31, k0_pay32, k0_pay33, k0_pay34, k0_pay35, k0_pay36]
    exact c0 _ q r
  · intro p q r hp hq hr
    obtain rfl : p = 0 := Subsingleton.elim _ _
    unfold imgG
    pointwise [trip_k0_t4.sl.v81, trip_k0_t4.sl.v94, trip_k0_t4.sl.v117, trip_k0_t4.sl.v95, trip_k0_t4.sl.v131, trip_k0_t4.sl.v51, trip_k0_t4.sl.v136, trip_k0_t4.sl.v77, trip_k0_t4.sl.v115, trip_k0_t4.sl.v104, trip_k0_t4.sl.v99, trip_k0_t4.sl.v128, trip_k0_t4.sl.v60, trip_k0_t4.sl.v67, trip_k0_t4.sl.v82, trip_k0_t4.sl.v108, trip_k0_t4.sl.v143, trip_k0_t4.sl.v65, trip_k0_t4.sl.v74, trip_k0_t4.sl.v66, trip_k0_t4.sl.v89, trip_k0_t4.sl.v53, trip_k0_t4.sl.v92, trip_k0_t4.sl.v62, trip_k0_t4.sl.v85, trip_k0_t4.sl.v129, trip_k0_t4.sl.v139, trip_k0_t4.sl.v106, trip_k0_t4.sl.v57, trip_k0_t4.sl.v138, trip_k0_t4.sl.v72, trip_k0_t4.sl.v58, trip_k0_t4.sl.v71, trip_k0_t4.sl.v120, trip_k0_t4.sl.v101, trip_k0_t4.sl.v118, trip_k0_t4.sl.v96, trip_k0_t4.sl.v70, trip_k0_t4.sl.v123, trip_k0_t4.sl.v64, trip_k0_t4.sl.v84, trip_k0_t4.sl.v59, trip_k0_t4.sl.v93, trip_k0_t4.sl.v87, trip_k0_t4.sl.v80, trip_k0_t4.sl.v69, trip_k0_t4.sl.v97, trip_k0_t4.sl.v47, trip_k0_t4.sl.v116, trip_k0_t4.sl.v114, trip_k0_t4.sl.v100, trip_k0_t4.sl.v134, trip_k0_t4.sl.v79, trip_k0_t4.sl.v98, trip_k0_t4.sl.v68, trip_k0_t4.sl.v105, trip_k0_t4.sl.v75, trip_k0_t4.sl.v61, trip_k0_t4.sl.v130, trip_k0_t4.sl.v78, trip_k0_t4.sl.v137, trip_k0_t4.sl.v110, trip_k0_t4.sl.v135, trip_k0_t4.sl.v111, trip_k0_t4.sl.v49, trip_k0_t4.sl.v102, trip_k0_t4.sl.v73, trip_k0_t4.sl.v63, trip_k0_t4.sl.v121, trip_k0_t4.sl.v107, trip_k0_t4.sl.v76, trip_k0_t4.sl.v140, trip_k0_t4.sl.v125, trip_k0_t4.sl.v103, trip_k0_t4.sl.v109, trip_k0_t4.sl.v48, trip_k0_t4.sl.arg15, trip_k0_t4.sl.v132, trip_k0_t4.sl.v113, trip_k0_t4.sl.v141, trip_k0_t4.sl.v112, trip_k0_t4.sl.v144, trip_k0_t4.sl.v133, trip_k0_t4.sl.v142, k0_pay20, k0_pay21, k0_pay22, k0_pay23, k0_pay24, k0_pay25, k0_pay26, k0_pay27, k0_pay28, k0_pay29, k0_pay30, k0_pay31, k0_pay32, k0_pay33, k0_pay34, k0_pay35, k0_pay36]
    exact c1 _ q r
  · intro p q r hp hq hr
    obtain rfl : p = 0 := Subsingleton.elim _ _
    unfold imgG
    pointwise [trip_k0_t4.sl.v81, trip_k0_t4.sl.v94, trip_k0_t4.sl.v117, trip_k0_t4.sl.v95, trip_k0_t4.sl.v131, trip_k0_t4.sl.v51, trip_k0_t4.sl.v136, trip_k0_t4.sl.v77, trip_k0_t4.sl.v115, trip_k0_t4.sl.v104, trip_k0_t4.sl.v99, trip_k0_t4.sl.v128, trip_k0_t4.sl.v60, trip_k0_t4.sl.v67, trip_k0_t4.sl.v82, trip_k0_t4.sl.v108, trip_k0_t4.sl.v143, trip_k0_t4.sl.v65, trip_k0_t4.sl.v74, trip_k0_t4.sl.v66, trip_k0_t4.sl.v89, trip_k0_t4.sl.v53, trip_k0_t4.sl.v92, trip_k0_t4.sl.v62, trip_k0_t4.sl.v85, trip_k0_t4.sl.v129, trip_k0_t4.sl.v139, trip_k0_t4.sl.v106, trip_k0_t4.sl.v57, trip_k0_t4.sl.v138, trip_k0_t4.sl.v72, trip_k0_t4.sl.v58, trip_k0_t4.sl.v71, trip_k0_t4.sl.v120, trip_k0_t4.sl.v101, trip_k0_t4.sl.v118, trip_k0_t4.sl.v96, trip_k0_t4.sl.v70, trip_k0_t4.sl.v123, trip_k0_t4.sl.v64, trip_k0_t4.sl.v84, trip_k0_t4.sl.v59, trip_k0_t4.sl.v93, trip_k0_t4.sl.v87, trip_k0_t4.sl.v80, trip_k0_t4.sl.v69, trip_k0_t4.sl.v97, trip_k0_t4.sl.v47, trip_k0_t4.sl.v116, trip_k0_t4.sl.v114, trip_k0_t4.sl.v100, trip_k0_t4.sl.v134, trip_k0_t4.sl.v79, trip_k0_t4.sl.v98, trip_k0_t4.sl.v68, trip_k0_t4.sl.v105, trip_k0_t4.sl.v75, trip_k0_t4.sl.v61, trip_k0_t4.sl.v130, trip_k0_t4.sl.v78, trip_k0_t4.sl.v137, trip_k0_t4.sl.v110, trip_k0_t4.sl.v135, trip_k0_t4.sl.v111, trip_k0_t4.sl.v49, trip_k0_t4.sl.v102, trip_k0_t4.sl.v73, trip_k0_t4.sl.v63, trip_k0_t4.sl.v121, trip_k0_t4.sl.v107, trip_k0_t4.sl.v76, trip_k0_t4.sl.v140, trip_k0_t4.sl.v125, trip_k0_t4.sl.v103, trip_k0_t4.sl.v109, trip_k0_t4.sl.v48, trip_k0_t4.sl.arg15, trip_k0_t4.sl.v132, trip_k0_t4.sl.v113, trip_k0_t4.sl.v141, trip_k0_t4.sl.v112, trip_k0_t4.sl.v144, trip_k0_t4.sl.v133, trip_k0_t4.sl.v142, k0_pay20, k0_pay21, k0_pay22, k0_pay23, k0_pay24, k0_pay25, k0_pay26, k0_pay27, k0_pay28, k0_pay29, k0_pay30, k0_pay31, k0_pay32, k0_pay33, k0_pay34, k0_pay35, k0_pay36]
    exact c2 _ q r
  · intro p q r hp hq hr
    obtain rfl : p = 0 := Subsingleton.elim _ _
    unfold imgG
    pointwise [trip_k0_t4.sl.v81, trip_k0_t4.sl.v94, trip_k0_t4.sl.v117, trip_k0_t4.sl.v95, trip_k0_t4.sl.v131, trip_k0_t4.sl.v51, trip_k0_t4.sl.v136, trip_k0_t4.sl.v77, trip_k0_t4.sl.v115, trip_k0_t4.sl.v104, trip_k0_t4.sl.v99, trip_k0_t4.sl.v128, trip_k0_t4.sl.v60, trip_k0_t4.sl.v67, trip_k0_t4.sl.v82, trip_k0_t4.sl.v108, trip_k0_t4.sl.v143, trip_k0_t4.sl.v65, trip_k0_t4.sl.v74, trip_k0_t4.sl.v66, trip_k0_t4.sl.v89, trip_k0_t4.sl.v53, trip_k0_t4.sl.v92, trip_k0_t4.sl.v62, trip_k0_t4.sl.v85, trip_k0_t4.sl.v129, trip_k0_t4.sl.v139, trip_k0_t4.sl.v106, trip_k0_t4.sl.v57, trip_k0_t4.sl.v138, trip_k0_t4.sl.v72, trip_k0_t4.sl.v58, trip_k0_t4.sl.v71, trip_k0_t4.sl.v120, trip_k0_t4.sl.v101, trip_k0_t4.sl.v118, trip_k0_t4.sl.v96, trip_k0_t4.sl.v70, trip_k0_t4.sl.v123, trip_k0_t4.sl.v64, trip_k0_t4.sl.v84, trip_k0_t4.sl.v59, trip_k0_t4.sl.v93, trip_k0_t4.sl.v87, trip_k0_t4.sl.v80, trip_k0_t4.sl.v69, trip_k0_t4.sl.v97, trip_k0_t4.sl.v47, trip_k0_t4.sl.v116, trip_k0_t4.sl.v114, trip_k0_t4.sl.v100, trip_k0_t4.sl.v134, trip_k0_t4.sl.v79, trip_k0_t4.sl.v98, trip_k0_t4.sl.v68, trip_k0_t4.sl.v105, trip_k0_t4.sl.v75, trip_k0_t4.sl.v61, trip_k0_t4.sl.v130, trip_k0_t4.sl.v78, trip_k0_t4.sl.v137, trip_k0_t4.sl.v110, trip_k0_t4.sl.v135, trip_k0_t4.sl.v111, trip_k0_t4.sl.v49, trip_k0_t4.sl.v102, trip_k0_t4.sl.v73, trip_k0_t4.sl.v63, trip_k0_t4.sl.v121, trip_k0_t4.sl.v107, trip_k0_t4.sl.v76, trip_k0_t4.sl.v140, trip_k0_t4.sl.v125, trip_k0_t4.sl.v103, trip_k0_t4.sl.v109, trip_k0_t4.sl.v48, trip_k0_t4.sl.arg15, trip_k0_t4.sl.v132, trip_k0_t4.sl.v113, trip_k0_t4.sl.v141, trip_k0_t4.sl.v112, trip_k0_t4.sl.v144, trip_k0_t4.sl.v133, trip_k0_t4.sl.v142, k0_pay20, k0_pay21, k0_pay22, k0_pay23, k0_pay24, k0_pay25, k0_pay26, k0_pay27, k0_pay28, k0_pay29, k0_pay30, k0_pay31, k0_pay32, k0_pay33, k0_pay34, k0_pay35, k0_pay36]
    exact c3 _ q r
  intro y
  have h1 : (y 2).val < 256 := (y 2).isLt
  simp only [InBlk, or_false]
  constructor <;> intro h <;> omega

/-- After `n` trips: the statistics of `128 n` rows, and these rows stored. -/
theorem t4_st (arg1 : BitVec 32) (X_arg2 : BufTy.Contents (Elt Ideal) arg2.view.ty) (x : ℕ → ℕ → ℝ) (hx : ∀ (r : Fin 4096) (l : Fin 256), arg2.view.read (Elt Ideal) X_arg2 (ix3 0 r l) = ((x r.val (256 * (i 1).val + l.val) : ℝ) : EReal)) : ∀ (n : ℕ) (hn : n ≤ 32),
    Stats (fun r l => x r (256 * (i 1).val + l)) n (st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 X_arg2 (k0_pay1, k0_pay2, k0_pay3, k0_pay4) n).1 ∧ Pcs (imgG x (i 1).val) (fun y => (y 0).val = (i 1).val ∧ (y 1).val < 128 * n) (st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 X_arg2 (k0_pay1, k0_pay2, k0_pay3, k0_pay4) n).2
  | 0, _ => ⟨Stats.zero _, (Pcs.nil _).congr fun y => by simp⟩
  | n + 1, hn => by
    obtain ⟨h1, h2⟩ := t4_st arg1 X_arg2 x hx n (by omega)
    have hk : n < k0_t4_loop.trips := lt_of_lt_of_eq (show n < 32 by omega) trips4.symm
    have e := st_k0_t4_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 X_arg2 (k0_pay1, k0_pay2, k0_pay3, k0_pay4) ⟨n, hk⟩
    rw [show n + 1 = (⟨n, hk⟩ : Fin k0_t4_loop.trips).val + 1 from rfl, e]
    refine ⟨h1.step ?_ ?_ ?_ ?_, ?_⟩
    · exact fun r l A hA => t4_s1 𝒱 c bd i arg2 harg2 arg3 harg3 arg4 harg4 arg5 harg5 arg6 harg6 arg7 harg7 arg8 harg8 arg9 harg9 arg10 harg10 arg11 harg11 arg12 harg12 arg13 harg13 arg14 harg14 arg1 X_arg2 ⟨n, hk⟩ (fun r l => x r (256 * (i 1).val + l)) hx _ r l A hA
    · exact fun r l A hA => t4_s2 𝒱 c bd i arg2 harg2 arg3 harg3 arg4 harg4 arg5 harg5 arg6 harg6 arg7 harg7 arg8 harg8 arg9 harg9 arg10 harg10 arg11 harg11 arg12 harg12 arg13 harg13 arg14 harg14 arg1 X_arg2 ⟨n, hk⟩ (fun r l => x r (256 * (i 1).val + l)) hx _ r l A hA
    · exact fun r l B => t4_mx 𝒱 c bd i arg2 harg2 arg3 harg3 arg4 harg4 arg5 harg5 arg6 harg6 arg7 harg7 arg8 harg8 arg9 harg9 arg10 harg10 arg11 harg11 arg12 harg12 arg13 harg13 arg14 harg14 arg1 X_arg2 ⟨n, hk⟩ (fun r l => x r (256 * (i 1).val + l)) hx _ r l B
    · exact fun r l B => t4_mn 𝒱 c bd i arg2 harg2 arg3 harg3 arg4 harg4 arg5 harg5 arg6 harg6 arg7 harg7 arg8 harg8 arg9 harg9 arg10 harg10 arg11 harg11 arg12 harg12 arg13 harg13 arg14 harg14 arg1 X_arg2 ⟨n, hk⟩ (fun r l => x r (256 * (i 1).val + l)) hx _ r l B
    · refine ((t4_im 𝒱 c bd i arg2 harg2 arg3 harg3 arg4 harg4 arg5 harg5 arg6 harg6 arg7 harg7 arg8 harg8 arg9 harg9 arg10 harg10 arg11 harg11 arg12 harg12 arg13 harg13 arg14 harg14 arg1 X_arg2 ⟨n, hk⟩ x hx _).append h2).congr fun y => ?_
      show _ ↔ _ ∧ _ < 128 * (n + 1)
      dsimp only
      constructor <;> intro h <;> omega

end Cert.KernelIdeal.Hand

end
-- ==== Proof.Value.Blk4.lean ====
/-
  Hand-written, untrusted. block 4 of the body run once.
-/
module

public import proofs.«01_k».proof.Proof.Value.Put
public import proofs.«01_k».proof.Proof.Value.T4

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

local notation "𝕄" => MT nD τ sig Unit (Elt Ideal) ℕ (UR sig nD τ) ℕ

/-- Block 4 run once. -/
theorem blk4_val (c : Dev nD) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (P Q : St → Prop) (hPQ : ∀ s s', P s → R4 i s s' → Q s') :
    HeldP c arg2 arg3 arg4 arg5 arg6 arg7 arg8 arg9 arg10 arg11 arg12 arg13 arg14 P
      ⊢ wp frame (wpE (defs₀ (F := Ideal)) Variants.none c none) Set.univ
          (blk4 (F := Ideal) i arg2 harg2 arg3 harg3 arg4 harg4 arg5 harg5 arg6 harg6 arg7 harg7 arg8 harg8 arg9 harg9 arg10 harg10 arg11 harg11 arg12 harg12 arg13 harg13 arg14 harg14) (fun _ => HeldP c arg2 arg3 arg4 arg5 arg6 arg7 arg8 arg9 arg10 arg11 arg12 arg13 arg14 Q) := by
  unfold blk4 HeldP owns
  iintro ⟨%d2, %d3, %d4, %d5, %d6, %d7, %d8, %d9, %d10, %d11, %d12, %d13, %d14, ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩, %hP⟩
  sl_exec
  sl_step
  iexists _, _, _, _, _, _, _, _, _, _, _, _, _
  isplitl [H2 H3 H4 H5 H6 H7 H8 H9 H10 H11 H12 H13 H14]
  · isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    iexists _; isplitr; swap; · iexact H14
    ipureintro; rfl
  ipureintro
  subst h2 h3 h4 h5 h6 h7 h8 h9 h10 h11 h12 h13 h14
  refine hPQ _ _ hP ?_
  have h4 := fun x hx => t4_st Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) f2 x hx 32 le_rfl
  have e : Scf.trips k0_t4_loop.lb k0_t4_loop.ub k0_t4_loop.st = 32 := trips4
  rw [e]
  generalize st_k0_t4 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) f2 (k0_pay1, k0_pay2, k0_pay3, k0_pay4) 32 = st at h4 ⊢
  refine {
    x := rfl, ga := rfl, be := rfl, sc := rfl, cv := rfl, ex := rfl, fa := rfl, co := rfl
    s1 := fun k hk => put8_out arg8.view f8 i _ (k0_off14_inb i) (off14_eq i) _ _ (pay37_at _) k hk
    s2 := fun k hk => put8_out arg9.view f9 i _ (k0_off14_inb i) (off14_eq i) _ _ (pay38_at _) k hk
    mx := fun k hk => put16_out arg10.view f10 i _ (k0_off15_inb i) (off15_eq i) _ _ (pay39_at _) k hk
    mn := fun k hk => put16_out arg11.view f11 i _ (k0_off15_inb i) (off15_eq i) _ _ (pay40_at _) k hk
    new := fun x hx => ⟨fun k hk r l => (h4 x hx).2.read_out arg7.view f7 (ix3 k r l) (fun e => hk ((col_eq i k).2 e.1)), fun r l => ((h4 x hx).2.read_in arg7.view f7 (ix3 (col i) r l) ⟨rfl, r.isLt⟩), ?_⟩ }
  · unfold StOk
    rw [put8_in arg8.view f8 i _ (k0_off14_inb i) (off14_eq i) _ _ (pay37_at _), put8_in arg9.view f9 i _ (k0_off14_inb i) (off14_eq i) _ _ (pay38_at _),
      put16_in arg10.view f10 i _ (k0_off15_inb i) (off15_eq i) _ _ (pay39_at _), put16_in arg11.view f11 i _ (k0_off15_inb i) (off15_eq i) _ _ (pay40_at _)]
    exact (h4 x hx).1

end Cert.KernelIdeal.Hand

end
-- ==== Proof.Value.FinA.lean ====
/-
  Hand-written, untrusted. the group sums and their spread back over the channels.
-/
module

public import proofs.«01_k».proof.Proof.Value.Code

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

/-- Membership of a channel in a group, as a number. -/
def ind (ch g : ℕ) : ℝ := if 40 * g ≤ ch ∧ ch < 40 * g + 40 then 1 else 0

/-- The sum over a lane's group, from the eight partial sums of each channel. -/
def gsum (f : ℕ → ℕ → ℝ) (g : ℕ) : ℝ := ∑ a : Fin 8, ∑ ch : Fin 1280, f a.val ch.val * ind ch.val g

theorem inv_n : (Named.named (F := Ideal) Cert.KernelIdeal.κ "inv_n" (φ := .f32) 919391437#32 : EReal) = ((1 / 163840 : ℝ) : EReal) := rfl

/-- The matrix of memberships. -/
theorem pay200_at (r : Fin 1280) (l : Fin 128) : (k0_pay200 (F := Ideal)) (ix2 r l) = ((ind r.val l.val : ℝ) : EReal) := by
  pointwise [k0_pay200]
  have e : IntOp.muli (BitVec.ofNat 32 l.val) 40#32 = BitVec.ofNat 32 (40 * l.val) := by
    unfold IntOp.muli
    apply BitVec.eq_of_toNat_eq
    simp only [BitVec.toNat_mul, BitVec.toNat_ofNat]
    omega
  have e2 : IntOp.addi (BitVec.ofNat 32 (40 * l.val)) 40#32 = BitVec.ofNat 32 (40 * l.val + 40) := by
    unfold IntOp.addi
    apply BitVec.eq_of_toNat_eq
    simp only [BitVec.toNat_add, BitVec.toNat_ofNat]
    omega
  have t : ∀ n : ℕ, n < 10000 → (BitVec.ofNat 32 n).toInt = (n : ℤ) := fun n hn => by
    rw [BitVec.toInt_eq_toNat_of_lt (by rw [BitVec.toNat_ofNat]; omega), BitVec.toNat_ofNat, Nat.mod_eq_of_lt (by omega)]
  have c1 : IntOp.cmpi .sge (BitVec.ofNat 32 r.val) (BitVec.ofNat 32 (40 * l.val)) = if 40 * l.val ≤ r.val then 1#1 else 0#1 := by
    have : (BitVec.ofNat 32 (40 * l.val)).sle (BitVec.ofNat 32 r.val) = decide (40 * l.val ≤ r.val) := by
      rw [BitVec.sle, t _ (by omega), t _ (by omega)]
      exact decide_eq_decide.2 (by omega)
    unfold IntOp.cmpi
    simp only [this]
    split <;> simp [*]
  have c2 : IntOp.cmpi .slt (BitVec.ofNat 32 r.val) (BitVec.ofNat 32 (40 * l.val + 40)) = if r.val < 40 * l.val + 40 then 1#1 else 0#1 := by
    have : (BitVec.ofNat 32 r.val).slt (BitVec.ofNat 32 (40 * l.val + 40)) = decide (r.val < 40 * l.val + 40) := by
      rw [BitVec.slt, t _ (by omega), t _ (by omega)]
      exact decide_eq_decide.2 (by omega)
    unfold IntOp.cmpi
    simp only [this]
    split <;> simp [*]
  rw [e, e2, c1, c2]
  unfold ind
  by_cases h1 : 40 * l.val ≤ r.val <;> by_cases h2 : r.val < 40 * l.val + 40 <;> simp [h1, h2, IntOp.andi, Scalar.select]

/-- Five blocks of 256 channels side by side. -/
theorem cat5 (f : ℕ → ℝ) (v0 v1 v2 v3 v4 : Fin 256 → EReal) (h0 : ∀ l : Fin 256, v0 l = ((f (256 * 0 + l.val) : ℝ) : EReal))
    (h1 : ∀ l : Fin 256, v1 l = ((f (256 * 1 + l.val) : ℝ) : EReal)) (h2 : ∀ l : Fin 256, v2 l = ((f (256 * 2 + l.val) : ℝ) : EReal))
    (h3 : ∀ l : Fin 256, v3 l = ((f (256 * 3 + l.val) : ℝ) : EReal)) (h4 : ∀ l : Fin 256, v4 l = ((f (256 * 4 + l.val) : ℝ) : EReal)) (j : Fin 1280) (p : j.val - 256 - 256 - 256 - 256 < 256) :
    (if h : j.val < 256 then v0 ⟨j.val, h⟩ else if h : j.val - 256 < 256 then v1 ⟨j.val - 256, h⟩
      else if h : j.val - 256 - 256 < 256 then v2 ⟨j.val - 256 - 256, h⟩ else if h : j.val - 256 - 256 - 256 < 256 then v3 ⟨j.val - 256 - 256 - 256, h⟩
      else v4 ⟨j.val - 256 - 256 - 256 - 256, p⟩) = ((f j.val : ℝ) : EReal) := by
  split_ifs with q0 q1 q2 q3
  · rw [h0]; congr 2; show 256 * 0 + j.val = j.val; omega
  · rw [h1]; congr 2; show 256 * 1 + (j.val - 256) = j.val; omega
  · rw [h2]; congr 2; show 256 * 2 + (j.val - 256 - 256) = j.val; omega
  · rw [h3]; congr 2; show 256 * 3 + (j.val - 256 - 256 - 256) = j.val; omega
  · rw [h4]; congr 2; show 256 * 4 + (j.val - 256 - 256 - 256 - 256) = j.val; omega

theorem gsum_coe (f : ℕ → ℕ → ℝ) (g : ℕ) (u : Fin 8 → Fin 1280 → EReal) (w : Fin 1280 → EReal)
    (hu : ∀ a ch, u a ch = ((f a.val ch.val : ℝ) : EReal)) (hw : ∀ ch, w ch = ((ind ch.val g : ℝ) : EReal)) :
    (∑ a : Fin 8, ∑ ch : Fin 1280, u a ch * w ch) = ((gsum f g : ℝ) : EReal) := by
  unfold gsum
  rw [coe_sum]
  refine Finset.sum_congr rfl fun a _ => ?_
  rw [coe_sum]
  refine Finset.sum_congr rfl fun ch _ => ?_
  rw [hu, hw, EReal.coe_mul]

theorem spread_coe (m : ℕ → ℝ) (j : Fin 1280) (u w : Fin 128 → EReal) (hu : ∀ g, u g = ((m g.val : ℝ) : EReal))
    (hw : ∀ g, w g = ((ind j.val g.val : ℝ) : EReal)) : (∑ g : Fin 128, u g * w g) = ((m (j.val / 40) : ℝ) : EReal) := by
  rw [← sum_spread m j.val j.isLt, coe_sum]
  refine Finset.sum_congr rfl fun g _ => ?_
  rw [hu, hw, EReal.coe_mul]
  rfl

/-- A lane's mean. -/
theorem pay206_at (f : ℕ → ℕ → ℝ) (u0 u1 u2 u3 u4 : Vec Ideal S1x8x256 .f32) (h0 : ∀ (a : Fin 8) (l : Fin 256), u0 (ix3 0 a l) = ((f a.val (256 * 0 + l.val) : ℝ) : EReal)) (h1 : ∀ (a : Fin 8) (l : Fin 256), u1 (ix3 0 a l) = ((f a.val (256 * 1 + l.val) : ℝ) : EReal)) (h2 : ∀ (a : Fin 8) (l : Fin 256), u2 (ix3 0 a l) = ((f a.val (256 * 2 + l.val) : ℝ) : EReal)) (h3 : ∀ (a : Fin 8) (l : Fin 256), u3 (ix3 0 a l) = ((f a.val (256 * 3 + l.val) : ℝ) : EReal)) (h4 : ∀ (a : Fin 8) (l : Fin 256), u4 (ix3 0 a l) = ((f a.val (256 * 4 + l.val) : ℝ) : EReal)) (g : Fin 128) :
    k0_pay206 (F := Ideal) (k0_pay200 (F := Ideal)) u0 u1 u2 u3 u4 (ix2 0 g) = ((gsum f g.val / 163840 : ℝ) : EReal) := by
  have key := gsum_coe f g.val _ (fun ch => (k0_pay200 (F := Ideal)) (ix2 ch g))
    (fun a ch => cat5 (f a.val) (fun l => u0 (ix3 0 a l)) (fun l => u1 (ix3 0 a l)) (fun l => u2 (ix3 0 a l)) (fun l => u3 (ix3 0 a l)) (fun l => u4 (ix3 0 a l)) (h0 a) (h1 a) (h2 a) (h3 a) (h4 a) ch (by omega))
    (fun ch => pay200_at ch g)
  have e : (gsum f g.val / 163840 : ℝ) = gsum f g.val * (1 / 163840) := by ring
  rw [e, EReal.coe_mul, ← key, ← inv_n]
  generalize (k0_pay200 (F := Ideal)) = M
  pointwise [k0_pay206]

/-- A lane's reciprocal deviation. -/
theorem pay210_at (f : ℕ → ℕ → ℝ) (m : ℕ → ℝ) (v78 : FVec Ideal S1x128 .f32) (hm : ∀ g : Fin 128, v78 (ix2 0 g) = ((m g.val : ℝ) : EReal)) (u0 u1 u2 u3 u4 : Vec Ideal S1x8x256 .f32) (h0 : ∀ (a : Fin 8) (l : Fin 256), u0 (ix3 0 a l) = ((f a.val (256 * 0 + l.val) : ℝ) : EReal)) (h1 : ∀ (a : Fin 8) (l : Fin 256), u1 (ix3 0 a l) = ((f a.val (256 * 1 + l.val) : ℝ) : EReal)) (h2 : ∀ (a : Fin 8) (l : Fin 256), u2 (ix3 0 a l) = ((f a.val (256 * 2 + l.val) : ℝ) : EReal)) (h3 : ∀ (a : Fin 8) (l : Fin 256), u3 (ix3 0 a l) = ((f a.val (256 * 3 + l.val) : ℝ) : EReal)) (h4 : ∀ (a : Fin 8) (l : Fin 256), u4 (ix3 0 a l) = ((f a.val (256 * 4 + l.val) : ℝ) : EReal)) (g : Fin 128) :
    k0_pay210 (F := Ideal) (k0_pay200 (F := Ideal)) v78 (k0_pay207 u0) (k0_pay208 u1) (k0_pay209 u2) u3 u4 (ix2 0 g)
      = (((Real.sqrt (max (gsum f g.val / 163840 - m g.val * m g.val) 0 + eps))⁻¹ : ℝ) : EReal) := by
  have key := gsum_coe f g.val _ (fun ch => (k0_pay200 (F := Ideal)) (ix2 ch g))
    (fun a ch => cat5 (f a.val) (fun l => u0 (ix3 0 a l)) (fun l => u1 (ix3 0 a l)) (fun l => u2 (ix3 0 a l)) (fun l => u3 (ix3 0 a l)) (fun l => u4 (ix3 0 a l)) (h0 a) (h1 a) (h2 a) (h3 a) (h4 a) ch (by omega))
    (fun ch => pay200_at ch g)
  have e : (gsum f g.val / 163840 : ℝ) = gsum f g.val * (1 / 163840) := by ring
  have hp : (0 : ℝ) < max (gsum f g.val / 163840 - m g.val * m g.val) 0 + eps := add_pos_of_nonneg_of_pos (le_max_right _ _) eps_pos
  rw [← rsqrt_coe _ hp, EReal.coe_add, coe_max, EReal.coe_sub, e, EReal.coe_mul, EReal.coe_mul, ← key, ← inv_n, ← hm g, ← bits_eps, EReal.coe_zero]
  generalize (k0_pay200 (F := Ideal)) = M
  pointwise [k0_pay210, k0_pay207, k0_pay208, k0_pay209]

theorem pay212_at (m : ℕ → ℝ) (v78 : FVec Ideal S1x128 .f32) (hm : ∀ g : Fin 128, v78 (ix2 0 g) = ((m g.val : ℝ) : EReal)) (j : Fin 1280) :
    k0_pay212 (F := Ideal) (k0_pay200 (F := Ideal)) v78 (ix2 0 j) = ((m (j.val / 40) : ℝ) : EReal) := by
  rw [← spread_coe m j _ (fun g => (k0_pay200 (F := Ideal)) (ix2 j g)) hm (fun g => pay200_at j g)]
  generalize (k0_pay200 (F := Ideal)) = M
  pointwise [k0_pay212]

theorem pay213_at (m : ℕ → ℝ) (v78 : FVec Ideal S1x128 .f32) (v80 v82 v84 : FVec Ideal S8x256 .f32) (v85 v87 : Vec Ideal S1x8x256 .f32)
    (hm : ∀ g : Fin 128, k0_pay210 (F := Ideal) (k0_pay200 (F := Ideal)) v78 v80 v82 v84 v85 v87 (ix2 0 g) = ((m g.val : ℝ) : EReal)) (j : Fin 1280) :
    k0_pay213 (F := Ideal) (k0_pay200 (F := Ideal)) v78 v80 v82 v84 v85 v87 (ix2 0 j) = ((m (j.val / 40) : ℝ) : EReal) := by
  rw [← spread_coe m j _ (fun g => (k0_pay200 (F := Ideal)) (ix2 j g)) hm (fun g => pay200_at j g)]
  generalize (k0_pay200 (F := Ideal)) = M
  pointwise [k0_pay213]

theorem pay201_at (f : ℕ → ℝ) (u0 u1 u2 u3 u4 : Vec Ideal S1x1x256 .f32) (h0 : ∀ l : Fin 256, u0 (ix3 0 0 l) = ((f (256 * 0 + l.val) : ℝ) : EReal)) (h1 : ∀ l : Fin 256, u1 (ix3 0 0 l) = ((f (256 * 1 + l.val) : ℝ) : EReal)) (h2 : ∀ l : Fin 256, u2 (ix3 0 0 l) = ((f (256 * 2 + l.val) : ℝ) : EReal)) (h3 : ∀ l : Fin 256, u3 (ix3 0 0 l) = ((f (256 * 3 + l.val) : ℝ) : EReal)) (h4 : ∀ l : Fin 256, u4 (ix3 0 0 l) = ((f (256 * 4 + l.val) : ℝ) : EReal)) (j : Fin 1280) : k0_pay201 (F := Ideal) u0 u1 u2 u3 u4 (ix2 0 j) = ((f j.val : ℝ) : EReal) := by
  rw [← cat5 f (fun l => u0 (ix3 0 0 l)) (fun l => u1 (ix3 0 0 l)) (fun l => u2 (ix3 0 0 l)) (fun l => u3 (ix3 0 0 l)) (fun l => u4 (ix3 0 0 l)) h0 h1 h2 h3 h4 j (by omega)]
  pointwise [k0_pay201]

theorem pay205_at (f : ℕ → ℝ) (u0 u1 u2 u3 u4 : Vec Ideal S1x1x256 .f32) (h0 : ∀ l : Fin 256, u0 (ix3 0 0 l) = ((f (256 * 0 + l.val) : ℝ) : EReal)) (h1 : ∀ l : Fin 256, u1 (ix3 0 0 l) = ((f (256 * 1 + l.val) : ℝ) : EReal)) (h2 : ∀ l : Fin 256, u2 (ix3 0 0 l) = ((f (256 * 2 + l.val) : ℝ) : EReal)) (h3 : ∀ l : Fin 256, u3 (ix3 0 0 l) = ((f (256 * 3 + l.val) : ℝ) : EReal)) (h4 : ∀ l : Fin 256, u4 (ix3 0 0 l) = ((f (256 * 4 + l.val) : ℝ) : EReal)) (j : Fin 1280) : k0_pay205 (F := Ideal) (k0_pay202 u0) (k0_pay203 u1) (k0_pay204 u2) u3 u4 (ix2 0 j) = ((f j.val : ℝ) : EReal) := by
  rw [← cat5 f (fun l => u0 (ix3 0 0 l)) (fun l => u1 (ix3 0 0 l)) (fun l => u2 (ix3 0 0 l)) (fun l => u3 (ix3 0 0 l)) (fun l => u4 (ix3 0 0 l)) h0 h1 h2 h3 h4 j (by omega)]
  pointwise [k0_pay205, k0_pay202, k0_pay203, k0_pay204]

end Cert.KernelIdeal.Hand

end
-- ==== Proof.Value.FinC.lean ====
/-
  Hand-written, untrusted. the rows the last block writes, entry by entry.
-/
module

public import proofs.«01_k».proof.Proof.Value.FinA

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

theorem fast00 (v40 : FVec Ideal S1280x128 .f32) (v51 : FVec Ideal S1x1280 .f32) (v78 : FVec Ideal S1x128 .f32) (v80 : FVec Ideal S8x256 .f32) (v82 : FVec Ideal S8x256 .f32) (v84 : FVec Ideal S8x256 .f32) (v85 : Vec Ideal S1x8x256 .f32) (v87 : Vec Ideal S1x8x256 .f32) (f : ℕ → ℝ) (h : ∀ j : Fin 1280, k0_pay214 (F := Ideal) v40 v51 v78 v80 v82 v84 v85 v87 (ix2 0 j) = ((f j.val : ℝ) : EReal)) (l : Fin 256) :
    k0_pay216 (F := Ideal) v40 v51 v78 v80 v82 v84 v85 v87 (ix3 0 0 l) = ((1 / 2 * f (256 * 0 + l.val) : ℝ) : EReal) := by
  have e := h ⟨256 * 0 + l.val, by omega⟩
  rw [EReal.coe_mul, ← bits_half]
  refine Eq.trans ?_ (congrArg (Ideal.ofBits .f32 0x3F000000#32 * ·) e)
  pointwise [k0_pay216]

theorem fast01 (v40 : FVec Ideal S1280x128 .f32) (v51 : FVec Ideal S1x1280 .f32) (v62 : FVec Ideal S1x1280 .f32) (v78 : FVec Ideal S1x128 .f32) (v80 : FVec Ideal S8x256 .f32) (v82 : FVec Ideal S8x256 .f32) (v84 : FVec Ideal S8x256 .f32) (v85 : Vec Ideal S1x8x256 .f32) (v87 : Vec Ideal S1x8x256 .f32) (f : ℕ → ℝ) (h : ∀ j : Fin 1280, k0_pay215 (F := Ideal) v40 v51 v62 v78 v80 v82 v84 v85 v87 (ix2 0 j) = ((f j.val : ℝ) : EReal)) (l : Fin 256) :
    k0_pay219 (F := Ideal) (k0_pay217 v40 v51 v62 v78 v80 v82 v84 v85 v87) (k0_pay218) (ix3 0 0 l) = ((1 / 2 * f (256 * 0 + l.val) : ℝ) : EReal) := by
  have e := h ⟨256 * 0 + l.val, by omega⟩
  rw [EReal.coe_mul, ← bits_half]
  refine Eq.trans ?_ (congrArg (Ideal.ofBits .f32 0x3F000000#32 * ·) e)
  pointwise [k0_pay219, k0_pay217, k0_pay218]

theorem fast02 (v112 : FVec Ideal S1x1280 .f32) (f : ℕ → ℝ) (h : ∀ j : Fin 1280, v112 (ix2 0 j) = ((f j.val : ℝ) : EReal)) (l : Fin 256) :
    k0_pay220 (F := Ideal) v112 (ix3 0 0 l) = ((f (256 * 0 + l.val) : ℝ) : EReal) := by
  have e := h ⟨256 * 0 + l.val, by omega⟩

  refine Eq.trans ?_ e
  pointwise [k0_pay220]

theorem fast03 (v116 : FVec Ideal S1x1280 .f32) (f : ℕ → ℝ) (h : ∀ j : Fin 1280, v116 (ix2 0 j) = ((f j.val : ℝ) : EReal)) (l : Fin 256) :
    k0_pay221 (F := Ideal) v116 (ix3 0 0 l) = ((f (256 * 0 + l.val) : ℝ) : EReal) := by
  have e := h ⟨256 * 0 + l.val, by omega⟩

  refine Eq.trans ?_ e
  pointwise [k0_pay221]

theorem fast10 (v117 : FVec Ideal S1x1280 .f32) (f : ℕ → ℝ) (h : ∀ j : Fin 1280, v117 (ix2 0 j) = ((f j.val : ℝ) : EReal)) (l : Fin 256) :
    k0_pay222 (F := Ideal) v117 (ix3 0 0 l) = ((1 / 2 * f (256 * 1 + l.val) : ℝ) : EReal) := by
  have e := h ⟨256 * 1 + l.val, by omega⟩
  rw [EReal.coe_mul, ← bits_half]
  refine Eq.trans ?_ (congrArg (Ideal.ofBits .f32 0x3F000000#32 * ·) e)
  pointwise [k0_pay222]

theorem fast11 (v119 : FVec Ideal S1x1280 .f32) (f : ℕ → ℝ) (h : ∀ j : Fin 1280, v119 (ix2 0 j) = ((f j.val : ℝ) : EReal)) (l : Fin 256) :
    k0_pay223 (F := Ideal) v119 (ix3 0 0 l) = ((1 / 2 * f (256 * 1 + l.val) : ℝ) : EReal) := by
  have e := h ⟨256 * 1 + l.val, by omega⟩
  rw [EReal.coe_mul, ← bits_half]
  refine Eq.trans ?_ (congrArg (Ideal.ofBits .f32 0x3F000000#32 * ·) e)
  pointwise [k0_pay223]

theorem fast12 (v112 : FVec Ideal S1x1280 .f32) (f : ℕ → ℝ) (h : ∀ j : Fin 1280, v112 (ix2 0 j) = ((f j.val : ℝ) : EReal)) (l : Fin 256) :
    k0_pay224 (F := Ideal) v112 (ix3 0 0 l) = ((f (256 * 1 + l.val) : ℝ) : EReal) := by
  have e := h ⟨256 * 1 + l.val, by omega⟩

  refine Eq.trans ?_ e
  pointwise [k0_pay224]

theorem fast13 (v116 : FVec Ideal S1x1280 .f32) (f : ℕ → ℝ) (h : ∀ j : Fin 1280, v116 (ix2 0 j) = ((f j.val : ℝ) : EReal)) (l : Fin 256) :
    k0_pay226 (F := Ideal) (k0_pay225 v116) (ix3 0 0 l) = ((f (256 * 1 + l.val) : ℝ) : EReal) := by
  have e := h ⟨256 * 1 + l.val, by omega⟩

  refine Eq.trans ?_ e
  pointwise [k0_pay226, k0_pay225]

theorem fast20 (v117 : FVec Ideal S1x1280 .f32) (f : ℕ → ℝ) (h : ∀ j : Fin 1280, v117 (ix2 0 j) = ((f j.val : ℝ) : EReal)) (l : Fin 256) :
    k0_pay227 (F := Ideal) v117 (ix3 0 0 l) = ((1 / 2 * f (256 * 2 + l.val) : ℝ) : EReal) := by
  have e := h ⟨256 * 2 + l.val, by omega⟩
  rw [EReal.coe_mul, ← bits_half]
  refine Eq.trans ?_ (congrArg (Ideal.ofBits .f32 0x3F000000#32 * ·) e)
  pointwise [k0_pay227]

theorem fast21 (v119 : FVec Ideal S1x1280 .f32) (f : ℕ → ℝ) (h : ∀ j : Fin 1280, v119 (ix2 0 j) = ((f j.val : ℝ) : EReal)) (l : Fin 256) :
    k0_pay228 (F := Ideal) v119 (ix3 0 0 l) = ((1 / 2 * f (256 * 2 + l.val) : ℝ) : EReal) := by
  have e := h ⟨256 * 2 + l.val, by omega⟩
  rw [EReal.coe_mul, ← bits_half]
  refine Eq.trans ?_ (congrArg (Ideal.ofBits .f32 0x3F000000#32 * ·) e)
  pointwise [k0_pay228]

theorem fast22 (v112 : FVec Ideal S1x1280 .f32) (f : ℕ → ℝ) (h : ∀ j : Fin 1280, v112 (ix2 0 j) = ((f j.val : ℝ) : EReal)) (l : Fin 256) :
    k0_pay229 (F := Ideal) v112 (ix3 0 0 l) = ((f (256 * 2 + l.val) : ℝ) : EReal) := by
  have e := h ⟨256 * 2 + l.val, by omega⟩

  refine Eq.trans ?_ e
  pointwise [k0_pay229]

theorem fast23 (v116 : FVec Ideal S1x1280 .f32) (f : ℕ → ℝ) (h : ∀ j : Fin 1280, v116 (ix2 0 j) = ((f j.val : ℝ) : EReal)) (l : Fin 256) :
    k0_pay230 (F := Ideal) v116 (ix3 0 0 l) = ((f (256 * 2 + l.val) : ℝ) : EReal) := by
  have e := h ⟨256 * 2 + l.val, by omega⟩

  refine Eq.trans ?_ e
  pointwise [k0_pay230]

theorem fast30 (v117 : FVec Ideal S1x1280 .f32) (f : ℕ → ℝ) (h : ∀ j : Fin 1280, v117 (ix2 0 j) = ((f j.val : ℝ) : EReal)) (l : Fin 256) :
    k0_pay231 (F := Ideal) v117 (ix3 0 0 l) = ((1 / 2 * f (256 * 3 + l.val) : ℝ) : EReal) := by
  have e := h ⟨256 * 3 + l.val, by omega⟩
  rw [EReal.coe_mul, ← bits_half]
  refine Eq.trans ?_ (congrArg (Ideal.ofBits .f32 0x3F000000#32 * ·) e)
  pointwise [k0_pay231]

theorem fast31 (v119 : FVec Ideal S1x1280 .f32) (f : ℕ → ℝ) (h : ∀ j : Fin 1280, v119 (ix2 0 j) = ((f j.val : ℝ) : EReal)) (l : Fin 256) :
    k0_pay233 (F := Ideal) (k0_pay232 v119) (ix3 0 0 l) = ((1 / 2 * f (256 * 3 + l.val) : ℝ) : EReal) := by
  have e := h ⟨256 * 3 + l.val, by omega⟩
  rw [EReal.coe_mul, ← bits_half]
  refine Eq.trans ?_ (congrArg (Ideal.ofBits .f32 0x3F000000#32 * ·) e)
  pointwise [k0_pay233, k0_pay232]

theorem fast32 (v112 : FVec Ideal S1x1280 .f32) (f : ℕ → ℝ) (h : ∀ j : Fin 1280, v112 (ix2 0 j) = ((f j.val : ℝ) : EReal)) (l : Fin 256) :
    k0_pay234 (F := Ideal) v112 (ix3 0 0 l) = ((f (256 * 3 + l.val) : ℝ) : EReal) := by
  have e := h ⟨256 * 3 + l.val, by omega⟩

  refine Eq.trans ?_ e
  pointwise [k0_pay234]

theorem fast33 (v116 : FVec Ideal S1x1280 .f32) (f : ℕ → ℝ) (h : ∀ j : Fin 1280, v116 (ix2 0 j) = ((f j.val : ℝ) : EReal)) (l : Fin 256) :
    k0_pay235 (F := Ideal) v116 (ix3 0 0 l) = ((f (256 * 3 + l.val) : ℝ) : EReal) := by
  have e := h ⟨256 * 3 + l.val, by omega⟩

  refine Eq.trans ?_ e
  pointwise [k0_pay235]

theorem fast40 (v117 : FVec Ideal S1x1280 .f32) (f : ℕ → ℝ) (h : ∀ j : Fin 1280, v117 (ix2 0 j) = ((f j.val : ℝ) : EReal)) (l : Fin 256) :
    k0_pay236 (F := Ideal) v117 (ix3 0 0 l) = ((1 / 2 * f (256 * 4 + l.val) : ℝ) : EReal) := by
  have e := h ⟨256 * 4 + l.val, by omega⟩
  rw [EReal.coe_mul, ← bits_half]
  refine Eq.trans ?_ (congrArg (Ideal.ofBits .f32 0x3F000000#32 * ·) e)
  pointwise [k0_pay236]

theorem fast41 (v119 : FVec Ideal S1x1280 .f32) (f : ℕ → ℝ) (h : ∀ j : Fin 1280, v119 (ix2 0 j) = ((f j.val : ℝ) : EReal)) (l : Fin 256) :
    k0_pay237 (F := Ideal) v119 (ix3 0 0 l) = ((1 / 2 * f (256 * 4 + l.val) : ℝ) : EReal) := by
  have e := h ⟨256 * 4 + l.val, by omega⟩
  rw [EReal.coe_mul, ← bits_half]
  refine Eq.trans ?_ (congrArg (Ideal.ofBits .f32 0x3F000000#32 * ·) e)
  pointwise [k0_pay237]

theorem fast42 (v112 : FVec Ideal S1x1280 .f32) (f : ℕ → ℝ) (h : ∀ j : Fin 1280, v112 (ix2 0 j) = ((f j.val : ℝ) : EReal)) (l : Fin 256) :
    k0_pay238 (F := Ideal) v112 (ix3 0 0 l) = ((f (256 * 4 + l.val) : ℝ) : EReal) := by
  have e := h ⟨256 * 4 + l.val, by omega⟩

  refine Eq.trans ?_ e
  pointwise [k0_pay238]

theorem fast43 (v116 : FVec Ideal S1x1280 .f32) (f : ℕ → ℝ) (h : ∀ j : Fin 1280, v116 (ix2 0 j) = ((f j.val : ℝ) : EReal)) (l : Fin 256) :
    k0_pay239 (F := Ideal) v116 (ix3 0 0 l) = ((f (256 * 4 + l.val) : ℝ) : EReal) := by
  have e := h ⟨256 * 4 + l.val, by omega⟩

  refine Eq.trans ?_ e
  pointwise [k0_pay239]

theorem slow00 (v40 : FVec Ideal S1280x128 .f32) (v51 : FVec Ideal S1x1280 .f32) (v363 : FVec Ideal S8x128 .f32) (f : ℕ → ℝ) (h : ∀ j : Fin 1280, k0_pay168 (F := Ideal) v40 v51 v363 (ix2 0 j) = ((f j.val : ℝ) : EReal)) (l : Fin 256) :
    k0_pay170 (F := Ideal) v40 v51 v363 (ix3 0 0 l) = ((1 / 2 * f (256 * 0 + l.val) : ℝ) : EReal) := by
  have e := h ⟨256 * 0 + l.val, by omega⟩
  rw [EReal.coe_mul, ← bits_half]
  refine Eq.trans ?_ (congrArg (Ideal.ofBits .f32 0x3F000000#32 * ·) e)
  pointwise [k0_pay170]

theorem slow01 (v40 : FVec Ideal S1280x128 .f32) (v51 : FVec Ideal S1x1280 .f32) (v62 : FVec Ideal S1x1280 .f32) (v112 : FVec Ideal S1x1280 .f32) (v363 : FVec Ideal S8x128 .f32) (f : ℕ → ℝ) (h : ∀ j : Fin 1280, k0_pay169 (F := Ideal) v40 v51 v62 v112 v363 (ix2 0 j) = ((f j.val : ℝ) : EReal)) (l : Fin 256) :
    k0_pay171 (F := Ideal) v40 v51 v62 v112 v363 (ix3 0 0 l) = ((1 / 2 * f (256 * 0 + l.val) : ℝ) : EReal) := by
  have e := h ⟨256 * 0 + l.val, by omega⟩
  rw [EReal.coe_mul, ← bits_half]
  refine Eq.trans ?_ (congrArg (Ideal.ofBits .f32 0x3F000000#32 * ·) e)
  pointwise [k0_pay171]

theorem slow02 (v112 : FVec Ideal S1x1280 .f32) (f : ℕ → ℝ) (h : ∀ j : Fin 1280, v112 (ix2 0 j) = ((f j.val : ℝ) : EReal)) (l : Fin 256) :
    k0_pay172 (F := Ideal) v112 (ix3 0 0 l) = ((f (256 * 0 + l.val) : ℝ) : EReal) := by
  have e := h ⟨256 * 0 + l.val, by omega⟩

  refine Eq.trans ?_ e
  pointwise [k0_pay172]

theorem slow03 (v40 : FVec Ideal S1280x128 .f32) (v363 : FVec Ideal S8x128 .f32) (f : ℕ → ℝ) (h : ∀ j : Fin 1280, k0_pay167 (F := Ideal) v40 v363 (ix2 0 j) = ((f j.val : ℝ) : EReal)) (l : Fin 256) :
    k0_pay173 (F := Ideal) v40 v363 (ix3 0 0 l) = ((f (256 * 0 + l.val) : ℝ) : EReal) := by
  have e := h ⟨256 * 0 + l.val, by omega⟩

  refine Eq.trans ?_ e
  pointwise [k0_pay173]

theorem slow10 (v40 : FVec Ideal S1280x128 .f32) (v51 : FVec Ideal S1x1280 .f32) (v363 : FVec Ideal S8x128 .f32) (f : ℕ → ℝ) (h : ∀ j : Fin 1280, k0_pay168 (F := Ideal) v40 v51 v363 (ix2 0 j) = ((f j.val : ℝ) : EReal)) (l : Fin 256) :
    k0_pay174 (F := Ideal) v40 v51 v363 (ix3 0 0 l) = ((1 / 2 * f (256 * 1 + l.val) : ℝ) : EReal) := by
  have e := h ⟨256 * 1 + l.val, by omega⟩
  rw [EReal.coe_mul, ← bits_half]
  refine Eq.trans ?_ (congrArg (Ideal.ofBits .f32 0x3F000000#32 * ·) e)
  pointwise [k0_pay174]

theorem slow11 (v40 : FVec Ideal S1280x128 .f32) (v51 : FVec Ideal S1x1280 .f32) (v62 : FVec Ideal S1x1280 .f32) (v112 : FVec Ideal S1x1280 .f32) (v363 : FVec Ideal S8x128 .f32) (f : ℕ → ℝ) (h : ∀ j : Fin 1280, k0_pay169 (F := Ideal) v40 v51 v62 v112 v363 (ix2 0 j) = ((f j.val : ℝ) : EReal)) (l : Fin 256) :
    k0_pay176 (F := Ideal) (k0_pay175 v40 v51 v62 v112 v363) (ix3 0 0 l) = ((1 / 2 * f (256 * 1 + l.val) : ℝ) : EReal) := by
  have e := h ⟨256 * 1 + l.val, by omega⟩
  rw [EReal.coe_mul, ← bits_half]
  refine Eq.trans ?_ (congrArg (Ideal.ofBits .f32 0x3F000000#32 * ·) e)
  pointwise [k0_pay176, k0_pay175]

theorem slow12 (v112 : FVec Ideal S1x1280 .f32) (f : ℕ → ℝ) (h : ∀ j : Fin 1280, v112 (ix2 0 j) = ((f j.val : ℝ) : EReal)) (l : Fin 256) :
    k0_pay177 (F := Ideal) v112 (ix3 0 0 l) = ((f (256 * 1 + l.val) : ℝ) : EReal) := by
  have e := h ⟨256 * 1 + l.val, by omega⟩

  refine Eq.trans ?_ e
  pointwise [k0_pay177]

theorem slow13 (v365 : FVec Ideal S1x1280 .f32) (f : ℕ → ℝ) (h : ∀ j : Fin 1280, v365 (ix2 0 j) = ((f j.val : ℝ) : EReal)) (l : Fin 256) :
    k0_pay178 (F := Ideal) v365 (ix3 0 0 l) = ((f (256 * 1 + l.val) : ℝ) : EReal) := by
  have e := h ⟨256 * 1 + l.val, by omega⟩

  refine Eq.trans ?_ e
  pointwise [k0_pay178]

theorem slow20 (v366 : FVec Ideal S1x1280 .f32) (f : ℕ → ℝ) (h : ∀ j : Fin 1280, v366 (ix2 0 j) = ((f j.val : ℝ) : EReal)) (l : Fin 256) :
    k0_pay179 (F := Ideal) v366 (ix3 0 0 l) = ((1 / 2 * f (256 * 2 + l.val) : ℝ) : EReal) := by
  have e := h ⟨256 * 2 + l.val, by omega⟩
  rw [EReal.coe_mul, ← bits_half]
  refine Eq.trans ?_ (congrArg (Ideal.ofBits .f32 0x3F000000#32 * ·) e)
  pointwise [k0_pay179]

theorem slow21 (v368 : FVec Ideal S1x1280 .f32) (f : ℕ → ℝ) (h : ∀ j : Fin 1280, v368 (ix2 0 j) = ((f j.val : ℝ) : EReal)) (l : Fin 256) :
    k0_pay180 (F := Ideal) v368 (ix3 0 0 l) = ((1 / 2 * f (256 * 2 + l.val) : ℝ) : EReal) := by
  have e := h ⟨256 * 2 + l.val, by omega⟩
  rw [EReal.coe_mul, ← bits_half]
  refine Eq.trans ?_ (congrArg (Ideal.ofBits .f32 0x3F000000#32 * ·) e)
  pointwise [k0_pay180]

theorem slow22 (v112 : FVec Ideal S1x1280 .f32) (f : ℕ → ℝ) (h : ∀ j : Fin 1280, v112 (ix2 0 j) = ((f j.val : ℝ) : EReal)) (l : Fin 256) :
    k0_pay181 (F := Ideal) v112 (ix3 0 0 l) = ((f (256 * 2 + l.val) : ℝ) : EReal) := by
  have e := h ⟨256 * 2 + l.val, by omega⟩

  refine Eq.trans ?_ e
  pointwise [k0_pay181]

theorem slow23 (v365 : FVec Ideal S1x1280 .f32) (f : ℕ → ℝ) (h : ∀ j : Fin 1280, v365 (ix2 0 j) = ((f j.val : ℝ) : EReal)) (l : Fin 256) :
    k0_pay182 (F := Ideal) v365 (ix3 0 0 l) = ((f (256 * 2 + l.val) : ℝ) : EReal) := by
  have e := h ⟨256 * 2 + l.val, by omega⟩

  refine Eq.trans ?_ e
  pointwise [k0_pay182]

theorem slow30 (v366 : FVec Ideal S1x1280 .f32) (f : ℕ → ℝ) (h : ∀ j : Fin 1280, v366 (ix2 0 j) = ((f j.val : ℝ) : EReal)) (l : Fin 256) :
    k0_pay183 (F := Ideal) v366 (ix3 0 0 l) = ((1 / 2 * f (256 * 3 + l.val) : ℝ) : EReal) := by
  have e := h ⟨256 * 3 + l.val, by omega⟩
  rw [EReal.coe_mul, ← bits_half]
  refine Eq.trans ?_ (congrArg (Ideal.ofBits .f32 0x3F000000#32 * ·) e)
  pointwise [k0_pay183]

theorem slow31 (v368 : FVec Ideal S1x1280 .f32) (f : ℕ → ℝ) (h : ∀ j : Fin 1280, v368 (ix2 0 j) = ((f j.val : ℝ) : EReal)) (l : Fin 256) :
    k0_pay184 (F := Ideal) v368 (ix3 0 0 l) = ((1 / 2 * f (256 * 3 + l.val) : ℝ) : EReal) := by
  have e := h ⟨256 * 3 + l.val, by omega⟩
  rw [EReal.coe_mul, ← bits_half]
  refine Eq.trans ?_ (congrArg (Ideal.ofBits .f32 0x3F000000#32 * ·) e)
  pointwise [k0_pay184]

theorem slow32 (v112 : FVec Ideal S1x1280 .f32) (f : ℕ → ℝ) (h : ∀ j : Fin 1280, v112 (ix2 0 j) = ((f j.val : ℝ) : EReal)) (l : Fin 256) :
    k0_pay185 (F := Ideal) v112 (ix3 0 0 l) = ((f (256 * 3 + l.val) : ℝ) : EReal) := by
  have e := h ⟨256 * 3 + l.val, by omega⟩

  refine Eq.trans ?_ e
  pointwise [k0_pay185]

theorem slow33 (v365 : FVec Ideal S1x1280 .f32) (f : ℕ → ℝ) (h : ∀ j : Fin 1280, v365 (ix2 0 j) = ((f j.val : ℝ) : EReal)) (l : Fin 256) :
    k0_pay186 (F := Ideal) v365 (ix3 0 0 l) = ((f (256 * 3 + l.val) : ℝ) : EReal) := by
  have e := h ⟨256 * 3 + l.val, by omega⟩

  refine Eq.trans ?_ e
  pointwise [k0_pay186]

theorem slow40 (v366 : FVec Ideal S1x1280 .f32) (f : ℕ → ℝ) (h : ∀ j : Fin 1280, v366 (ix2 0 j) = ((f j.val : ℝ) : EReal)) (l : Fin 256) :
    k0_pay187 (F := Ideal) v366 (ix3 0 0 l) = ((1 / 2 * f (256 * 4 + l.val) : ℝ) : EReal) := by
  have e := h ⟨256 * 4 + l.val, by omega⟩
  rw [EReal.coe_mul, ← bits_half]
  refine Eq.trans ?_ (congrArg (Ideal.ofBits .f32 0x3F000000#32 * ·) e)
  pointwise [k0_pay187]

theorem slow41 (v368 : FVec Ideal S1x1280 .f32) (f : ℕ → ℝ) (h : ∀ j : Fin 1280, v368 (ix2 0 j) = ((f j.val : ℝ) : EReal)) (l : Fin 256) :
    k0_pay188 (F := Ideal) v368 (ix3 0 0 l) = ((1 / 2 * f (256 * 4 + l.val) : ℝ) : EReal) := by
  have e := h ⟨256 * 4 + l.val, by omega⟩
  rw [EReal.coe_mul, ← bits_half]
  refine Eq.trans ?_ (congrArg (Ideal.ofBits .f32 0x3F000000#32 * ·) e)
  pointwise [k0_pay188]

theorem slow42 (v112 : FVec Ideal S1x1280 .f32) (f : ℕ → ℝ) (h : ∀ j : Fin 1280, v112 (ix2 0 j) = ((f j.val : ℝ) : EReal)) (l : Fin 256) :
    k0_pay189 (F := Ideal) v112 (ix3 0 0 l) = ((f (256 * 4 + l.val) : ℝ) : EReal) := by
  have e := h ⟨256 * 4 + l.val, by omega⟩

  refine Eq.trans ?_ e
  pointwise [k0_pay189]

theorem slow43 (v365 : FVec Ideal S1x1280 .f32) (f : ℕ → ℝ) (h : ∀ j : Fin 1280, v365 (ix2 0 j) = ((f j.val : ℝ) : EReal)) (l : Fin 256) :
    k0_pay190 (F := Ideal) v365 (ix3 0 0 l) = ((f (256 * 4 + l.val) : ℝ) : EReal) := by
  have e := h ⟨256 * 4 + l.val, by omega⟩

  refine Eq.trans ?_ e
  pointwise [k0_pay190]

end Cert.KernelIdeal.Hand

end
-- ==== Proof.Value.FinB.lean ====
/-
  Hand-written, untrusted. the largest and smallest entries, and the exponent word.
-/
module

public import proofs.«01_k».proof.Proof.Value.FinA
public import proofs.«01_k».proof.Proof.Value.Word

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

theorem eq_of_le_iff (a b : EReal) (h : ∀ B, a ≤ B ↔ b ≤ B) : a = b := le_antisymm ((h b).2 le_rfl) ((h a).1 le_rfl)
theorem eq_of_ge_iff (a b : EReal) (h : ∀ B, B ≤ a ↔ B ≤ b) : a = b := le_antisymm ((h a).1 le_rfl) ((h b).2 le_rfl)

/-- The largest of the first entries of a sequence. -/
def top (n : ℕ) (f : ℕ → ℝ) : ℝ := (Finset.range (n + 1)).sup' ⟨0, by simp⟩ f
/-- The smallest of the first entries of a sequence. -/
def bot (n : ℕ) (f : ℕ → ℝ) : ℝ := (Finset.range (n + 1)).inf' ⟨0, by simp⟩ f

theorem top_le (n : ℕ) (f : ℕ → ℝ) (B : EReal) : ((top n f : ℝ) : EReal) ≤ B ↔ ∀ m < n + 1, ((f m : ℝ) : EReal) ≤ B := by
  constructor
  · intro h m hm
    exact (EReal.coe_le_coe_iff.2 (Finset.le_sup' f (Finset.mem_range.2 hm))).trans h
  · intro h
    obtain ⟨r, hr, e⟩ := Finset.exists_mem_eq_sup' (s := Finset.range (n + 1)) ⟨0, by simp⟩ f
    unfold top
    rw [e]
    exact h r (Finset.mem_range.1 hr)

theorem le_bot' (n : ℕ) (f : ℕ → ℝ) (B : EReal) : B ≤ ((bot n f : ℝ) : EReal) ↔ ∀ m < n + 1, B ≤ ((f m : ℝ) : EReal) := by
  constructor
  · intro h m hm
    exact h.trans (EReal.coe_le_coe_iff.2 (Finset.inf'_le f (Finset.mem_range.2 hm)))
  · intro h
    obtain ⟨r, hr, e⟩ := Finset.exists_mem_eq_inf' (s := Finset.range (n + 1)) ⟨0, by simp⟩ f
    unfold bot
    rw [e]
    exact h r (Finset.mem_range.1 hr)

theorem top_mem (n : ℕ) (f : ℕ → ℝ) : ∃ r < n + 1, top n f = f r := by
  obtain ⟨r, hr, e⟩ := Finset.exists_mem_eq_sup' (s := Finset.range (n + 1)) ⟨0, by simp⟩ f
  exact ⟨r, Finset.mem_range.1 hr, e⟩
theorem bot_mem (n : ℕ) (f : ℕ → ℝ) : ∃ r < n + 1, bot n f = f r := by
  obtain ⟨r, hr, e⟩ := Finset.exists_mem_eq_inf' (s := Finset.range (n + 1)) ⟨0, by simp⟩ f
  exact ⟨r, Finset.mem_range.1 hr, e⟩
theorem le_top' (n : ℕ) (f : ℕ → ℝ) (r : ℕ) (h : r < n + 1) : f r ≤ top n f := Finset.le_sup' f (Finset.mem_range.2 h)
theorem bot_le' (n : ℕ) (f : ℕ → ℝ) (r : ℕ) (h : r < n + 1) : bot n f ≤ f r := Finset.inf'_le f (Finset.mem_range.2 h)

theorem fold_max_le (n : ℕ) (f : Fin n → EReal) (b B : EReal) : Finset.univ.fold max b f ≤ B ↔ b ≤ B ∧ ∀ x, f x ≤ B := by
  rw [Finset.fold_max_le]; simp
theorem le_fold_min (n : ℕ) (f : Fin n → EReal) (b B : EReal) : B ≤ Finset.univ.fold min b f ↔ B ≤ b ∧ ∀ x, B ≤ f x := by
  rw [Finset.le_fold_min]; simp

/-- The maximum over sixteen lanes of partial maxima is the maximum over the rows. -/
theorem fold_top (x : ℕ → ℕ → ℝ) (j : ℕ) (b : EReal) (hb : b = ⊥) :
    Finset.univ.fold max b (fun r : Fin 16 => ((top 255 (fun m => x (16 * m + r.val) j) : ℝ) : EReal)) = ((top 4095 (fun r => x r j) : ℝ) : EReal) := by
  subst hb
  refine eq_of_le_iff _ _ fun B => ?_
  rw [fold_max_le, top_le]
  simp only [top_le, bot_le, true_and]
  constructor
  · intro h r hr
    have := h ⟨r % 16, by omega⟩ (r / 16) (by omega)
    rwa [Nat.div_add_mod] at this
  · intro h r m hm
    exact h _ (by omega)

theorem fold_bot (x : ℕ → ℕ → ℝ) (j : ℕ) (b : EReal) (hb : b = ⊤) :
    Finset.univ.fold min b (fun r : Fin 16 => ((bot 255 (fun m => x (16 * m + r.val) j) : ℝ) : EReal)) = ((bot 4095 (fun r => x r j) : ℝ) : EReal) := by
  subst hb
  refine eq_of_ge_iff _ _ fun B => ?_
  rw [le_fold_min, le_bot']
  simp only [le_bot', le_top, true_and]
  constructor
  · intro h r hr
    have := h ⟨r % 16, by omega⟩ (r / 16) (by omega)
    rwa [Nat.div_add_mod] at this
  · intro h r m hm
    exact h _ (by omega)

/-- The largest (smallest) entry of a channel through the channel's line. -/
theorem pay240_at (x : ℕ → ℕ → ℝ) (A B : ℕ → ℝ) (v117 v119 : FVec Ideal S1x1280 .f32) (hA : ∀ j : Fin 1280, v117 (ix2 0 j) = ((A j.val : ℝ) : EReal))
    (hB : ∀ j : Fin 1280, v119 (ix2 0 j) = ((B j.val : ℝ) : EReal)) (u0 u1 u2 u3 u4 : Vec Ideal S1x16x256 .bf16) (h0 : ∀ (r : Fin 16) (l : Fin 256), u0 (ix3 0 r l) = (((fun r j => top 255 (fun m => x (16 * m + r) j)) r.val (256 * 0 + l.val) : ℝ) : EReal)) (h1 : ∀ (r : Fin 16) (l : Fin 256), u1 (ix3 0 r l) = (((fun r j => top 255 (fun m => x (16 * m + r) j)) r.val (256 * 1 + l.val) : ℝ) : EReal)) (h2 : ∀ (r : Fin 16) (l : Fin 256), u2 (ix3 0 r l) = (((fun r j => top 255 (fun m => x (16 * m + r) j)) r.val (256 * 2 + l.val) : ℝ) : EReal)) (h3 : ∀ (r : Fin 16) (l : Fin 256), u3 (ix3 0 r l) = (((fun r j => top 255 (fun m => x (16 * m + r) j)) r.val (256 * 3 + l.val) : ℝ) : EReal)) (h4 : ∀ (r : Fin 16) (l : Fin 256), u4 (ix3 0 r l) = (((fun r j => top 255 (fun m => x (16 * m + r) j)) r.val (256 * 4 + l.val) : ℝ) : EReal)) (j : Fin 1280) :
    k0_pay240 (F := Ideal) v117 v119 u0 u1 u2 u3 u4 (ix2 0 j) = ((top 4095 (fun r => x r j.val) * A j.val + B j.val : ℝ) : EReal) := by
  have key : ∀ r : Fin 16, _ = ((top 255 (fun m => x (16 * m + r.val) j.val) : ℝ) : EReal) := fun r =>
    cat5 ((fun r j => top 255 (fun m => x (16 * m + r) j)) r.val) (fun l => u0 (ix3 0 r l)) (fun l => u1 (ix3 0 r l)) (fun l => u2 (ix3 0 r l)) (fun l => u3 (ix3 0 r l)) (fun l => u4 (ix3 0 r l)) (h0 r) (h1 r) (h2 r) (h3 r) (h4 r) j (by omega)
  rw [EReal.coe_add, EReal.coe_mul, ← fold_top x j.val (Ideal.ofBits .f32 4286578688#32) bits_bot, ← hA, ← hB]
  simp only [← key]
  pointwise [k0_pay240]

/-- The largest (smallest) entry of a channel through the channel's line. -/
theorem pay241_at (x : ℕ → ℕ → ℝ) (A B : ℕ → ℝ) (v117 v119 : FVec Ideal S1x1280 .f32) (hA : ∀ j : Fin 1280, v117 (ix2 0 j) = ((A j.val : ℝ) : EReal))
    (hB : ∀ j : Fin 1280, v119 (ix2 0 j) = ((B j.val : ℝ) : EReal)) (u0 u1 u2 u3 u4 : Vec Ideal S1x16x256 .bf16) (h0 : ∀ (r : Fin 16) (l : Fin 256), u0 (ix3 0 r l) = (((fun r j => bot 255 (fun m => x (16 * m + r) j)) r.val (256 * 0 + l.val) : ℝ) : EReal)) (h1 : ∀ (r : Fin 16) (l : Fin 256), u1 (ix3 0 r l) = (((fun r j => bot 255 (fun m => x (16 * m + r) j)) r.val (256 * 1 + l.val) : ℝ) : EReal)) (h2 : ∀ (r : Fin 16) (l : Fin 256), u2 (ix3 0 r l) = (((fun r j => bot 255 (fun m => x (16 * m + r) j)) r.val (256 * 2 + l.val) : ℝ) : EReal)) (h3 : ∀ (r : Fin 16) (l : Fin 256), u3 (ix3 0 r l) = (((fun r j => bot 255 (fun m => x (16 * m + r) j)) r.val (256 * 3 + l.val) : ℝ) : EReal)) (h4 : ∀ (r : Fin 16) (l : Fin 256), u4 (ix3 0 r l) = (((fun r j => bot 255 (fun m => x (16 * m + r) j)) r.val (256 * 4 + l.val) : ℝ) : EReal)) (j : Fin 1280) :
    k0_pay241 (F := Ideal) v117 v119 u0 u1 u2 u3 u4 (ix2 0 j) = ((bot 4095 (fun r => x r j.val) * A j.val + B j.val : ℝ) : EReal) := by
  have key : ∀ r : Fin 16, _ = ((bot 255 (fun m => x (16 * m + r.val) j.val) : ℝ) : EReal) := fun r =>
    cat5 ((fun r j => bot 255 (fun m => x (16 * m + r) j)) r.val) (fun l => u0 (ix3 0 r l)) (fun l => u1 (ix3 0 r l)) (fun l => u2 (ix3 0 r l)) (fun l => u3 (ix3 0 r l)) (fun l => u4 (ix3 0 r l)) (h0 r) (h1 r) (h2 r) (h3 r) (h4 r) j (by omega)
  rw [EReal.coe_add, EReal.coe_mul, ← fold_bot x j.val (Ideal.ofBits .f32 2139095040#32) bits_top, ← hA, ← hB]
  simp only [← key]
  pointwise [k0_pay241]

/-- The largest of two rows' entries. -/
theorem pay242_le (v249 v251 : FVec Ideal S1x1280 .f32) (B : EReal) :
    k0_pay242 (F := Ideal) v249 v251 ≤ B ↔ ∀ j : Fin 1280, v249 (ix2 0 j) ≤ B ∧ v251 (ix2 0 j) ≤ B := by
  pointwise [k0_pay242]
  rw [Finset.fold_max_le, bits_bot]
  simp only [bot_le, true_and, Finset.mem_univ, forall_true_left, max_le_iff]
  exact ⟨fun h j => h (0, j), fun h y => h y.2⟩

theorem pay243_at (v249 v251 : FVec Ideal S1x1280 .f32) (v : ℝ) (hv : k0_pay242 (F := Ideal) v249 v251 = ((v : ℝ) : EReal)) (h : 0 ≤ silu v) (inp) :
    extractAt ![0, 0, 0] (k0_pay243 (F := Ideal) v249 v251) inp = BitVec.ofInt 32 (expo (silu v)) := by
  show (k0_pay243 (F := Ideal) v249 v251) (ix3 0 0 0) = _
  pointwise [k0_pay243]
  refine exp_word (silu v) h _ ?_ _ rfl
  intro y
  rw [hv]
  simp only [silu_coe0]

theorem pay41_at (v484 v486 : FVec Ideal S8x128 .f32) (v : ℝ) (hv : 0 ≤ v) (h4 : ∀ a b, v484 (ix2 a b) = ((v : ℝ) : EReal)) (h6 : ∀ a b, v486 (ix2 a b) = ((v : ℝ) : EReal) * Ideal.ofBits .f32 0x3B124925#32) (v487 : IVec S8x128 32)
    (h7 : ∀ a b, v487 (ix2 a b) = BitVec.ofNat 32 a.val) (inp) :
    extractAt ![0, 0, 0] (k0_pay41 (F := Ideal) v484 v486 v487 (k0_pay199)) inp = BitVec.ofInt 32 (expo v) := by
  show (k0_pay41 (F := Ideal) v484 v486 v487 (k0_pay199)) (ix3 0 0 0) = _
  pointwise [k0_pay41, k0_pay199]
  refine exp_word v hv _ ?_ _ rfl
  intro y
  simp only [h4, h6, h7]

end Cert.KernelIdeal.Hand

end
-- ==== Proof.Value.FinD.lean ====
/-
  Hand-written, untrusted. the recomputation, entry by entry.
-/
module

public import proofs.«01_k».proof.Proof.Value.FinB

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

theorem ind_nonneg (a b : ℕ) : 0 ≤ ind a b := by unfold ind; split <;> norm_num

theorem gsum_nonneg (f : ℕ → ℕ → ℝ) (hf : ∀ a b, 0 ≤ f a b) (g : ℕ) : 0 ≤ gsum f g :=
  Finset.sum_nonneg fun _ _ => Finset.sum_nonneg fun _ _ => mul_nonneg (hf _ _) (ind_nonneg _ _)

theorem gsum_gs (f : ℕ → ℕ → ℝ) (g : ℕ) (hg : g < 32) :
    gsum (fun a ch => ∑ i ∈ Finset.range 512, f (8 * i + a) ch) g = gs f g := group_sum f g hg

/-- The reciprocal deviation from the mean square. -/
theorem rstd_fast (x : ℕ → ℕ → ℝ) (g : ℕ) (hg : g < 32) :
    (Real.sqrt (max (gsum (fun a ch => ∑ i ∈ Finset.range 512, x (8 * i + a) ch * x (8 * i + a) ch) g / 163840
      - gsum (fun a ch => ∑ i ∈ Finset.range 512, x (8 * i + a) ch) g / 163840 * (gsum (fun a ch => ∑ i ∈ Finset.range 512, x (8 * i + a) ch) g / 163840)) 0 + eps))⁻¹ = rstd x g := by
  have e1 := gsum_gs (fun r j => x r j * x r j) g hg
  have e2 := gsum_gs x g hg
  have e3 := var_eq x g
  unfold mean at e3
  rw [e1, e2, e3, max_eq_left (var_nonneg x g)]
  rfl

/-- The reciprocal deviation from the squared deviations. -/
theorem rstd_slow (x : ℕ → ℕ → ℝ) (g : ℕ) (hg : g < 32) :
    (Real.sqrt (gsum (fun a ch => ∑ i ∈ Finset.range 512, (x (8 * i + a) ch - mean x (ch / 40)) * (x (8 * i + a) ch - mean x (ch / 40))) g / 163840 + eps))⁻¹ = rstd x g := by
  rw [gsum_gs (fun r ch => (x r ch - mean x (ch / 40)) * (x r ch - mean x (ch / 40))) g hg]
  unfold rstd var
  congr 4
  unfold gs
  refine Finset.sum_congr rfl fun r _ => Finset.sum_congr rfl fun k hk => ?_
  have := Finset.mem_range.1 hk
  dsimp only
  rw [show (40 * g + k) / 40 = g by omega]

theorem pay166_at (f : ℕ → ℕ → ℝ) (hf : ∀ a b, 0 ≤ f a b) (u0 u1 u2 u3 u4 : Vec Ideal S1x8x256 .f32) (h0 : ∀ (a : Fin 8) (l : Fin 256), u0 (ix3 0 a l) = ((f a.val (256 * 0 + l.val) : ℝ) : EReal)) (h1 : ∀ (a : Fin 8) (l : Fin 256), u1 (ix3 0 a l) = ((f a.val (256 * 1 + l.val) : ℝ) : EReal)) (h2 : ∀ (a : Fin 8) (l : Fin 256), u2 (ix3 0 a l) = ((f a.val (256 * 2 + l.val) : ℝ) : EReal)) (h3 : ∀ (a : Fin 8) (l : Fin 256), u3 (ix3 0 a l) = ((f a.val (256 * 3 + l.val) : ℝ) : EReal)) (h4 : ∀ (a : Fin 8) (l : Fin 256), u4 (ix3 0 a l) = ((f a.val (256 * 4 + l.val) : ℝ) : EReal)) (r : Fin 8) (g : Fin 128) :
    k0_pay166 (F := Ideal) (k0_pay200 (F := Ideal)) u0 u1 u2 u3 u4 (ix2 r g) = (((Real.sqrt (gsum f g.val / 163840 + eps))⁻¹ : ℝ) : EReal) := by
  have key := gsum_coe f g.val _ (fun ch => (k0_pay200 (F := Ideal)) (ix2 ch g))
    (fun a ch => cat5 (f a.val) (fun l => u0 (ix3 0 a l)) (fun l => u1 (ix3 0 a l)) (fun l => u2 (ix3 0 a l)) (fun l => u3 (ix3 0 a l)) (fun l => u4 (ix3 0 a l)) (h0 a) (h1 a) (h2 a) (h3 a) (h4 a) ch (by omega))
    (fun ch => pay200_at ch g)
  have e : (gsum f g.val / 163840 : ℝ) = gsum f g.val * (1 / 163840) := by ring
  have hp : (0 : ℝ) < gsum f g.val / 163840 + eps := add_pos_of_nonneg_of_pos (div_nonneg (gsum_nonneg f hf _) (by norm_num)) eps_pos
  rw [← rsqrt_coe _ hp, EReal.coe_add, e, EReal.coe_mul, ← key, ← inv_n, ← bits_eps]
  generalize (k0_pay200 (F := Ideal)) = M
  pointwise [k0_pay166]

theorem pay167_at (m : ℕ → ℝ) (v363 : FVec Ideal S8x128 .f32) (hm : ∀ g : Fin 128, v363 (ix2 0 g) = ((m g.val : ℝ) : EReal)) (j : Fin 1280) :
    k0_pay167 (F := Ideal) (k0_pay200 (F := Ideal)) v363 (ix2 0 j) = ((m (j.val / 40) : ℝ) : EReal) := by
  rw [← spread_coe m j _ (fun g => (k0_pay200 (F := Ideal)) (ix2 j g)) hm (fun g => pay200_at j g)]
  generalize (k0_pay200 (F := Ideal)) = M
  pointwise [k0_pay167]

theorem amax_le_iff (x : ℕ → ℕ → ℝ) (γ β : ℕ → ℝ) (C : EReal) :
    ((amax x γ β : ℝ) : EReal) ≤ C ↔ ∀ r < 4096, ∀ j < 1280, ((|silu (aff x γ β r j)| : ℝ) : EReal) ≤ C :=
  ⟨fun h r hr j hj => (EReal.coe_le_coe_iff.2 (le_amax x γ β r j hr hj)).trans h, amax_le_ereal x γ β C⟩

/-- The largest magnitude found by the recomputation. -/
theorem pay197_at (x : ℕ → ℕ → ℝ) (γ β : ℕ → ℝ) (v479 : FVec Ideal S8x256 .f32)
    (h : ∀ (r : Fin 8) (l : Fin 256) (C : EReal), v479 (ix2 r l) ≤ C ↔ 0 ≤ C ∧ ∀ k < 5, ∀ m < 512, ((|silu (aff x γ β (8 * m + r.val) (256 * k + l.val))| : ℝ) : EReal) ≤ C) (a : Fin 8) (b : Fin 128) :
    k0_pay197 (F := Ideal) v479 (ix2 a b) = ((amax x γ β : ℝ) : EReal) := by
  refine eq_of_le_iff _ _ fun C => ?_
  rw [amax_le_iff]
  pointwise [k0_pay197]
  rw [Finset.fold_max_le, bits_bot]
  simp only [bot_le, true_and, Finset.mem_univ, forall_true_left, h]
  constructor
  · intro H r hr j hj
    have := (H (⟨r % 8, by omega⟩, ⟨j % 256, by omega⟩)).2 (j / 256) (by omega) (r / 8) (by omega)
    simpa only [Nat.div_add_mod] using this
  · intro H y
    refine ⟨?_, fun k hk m hm => H _ (by have := y.1.isLt; omega) _ (by have := y.2.isLt; omega)⟩
    exact le_trans (EReal.coe_nonneg.2 (abs_nonneg _)) (H 0 (by norm_num) 0 (by norm_num))

theorem pay198_at (v479 : FVec Ideal S8x256 .f32) (v : EReal) (h : ∀ (a : Fin 8) (b : Fin 128), k0_pay197 (F := Ideal) v479 (ix2 a b) = v) (a : Fin 8) (b : Fin 128) :
    k0_pay198 (F := Ideal) v479 (ix2 a b) = v * Ideal.ofBits .f32 0x3B124925#32 := by
  rw [← h a b]
  pointwise [k0_pay198]

/-- What the last block knows of each channel. -/
structure Chan (x : ℕ → ℕ → ℝ) (γ β : ℕ → ℝ) (v51 v62 v112 v116 v117 v119 : FVec Ideal S1x1280 .f32) : Prop where
  g : ∀ j : Fin 1280, v51 (ix2 0 j) = ((γ j.val : ℝ) : EReal)
  b : ∀ j : Fin 1280, v62 (ix2 0 j) = ((β j.val : ℝ) : EReal)
  m : ∀ j : Fin 1280, v112 (ix2 0 j) = ((mean x (j.val / 40) : ℝ) : EReal)
  r : ∀ j : Fin 1280, v116 (ix2 0 j) = ((rstd x (j.val / 40) : ℝ) : EReal)
  s : ∀ j : Fin 1280, v117 (ix2 0 j) = ((rstd x (j.val / 40) * γ j.val : ℝ) : EReal)
  t : ∀ j : Fin 1280, v119 (ix2 0 j) = ((β j.val - mean x (j.val / 40) * (rstd x (j.val / 40) * γ j.val) : ℝ) : EReal)

end Cert.KernelIdeal.Hand

end
-- ==== Proof.Value.FinE.lean ====
/-
  Hand-written, untrusted. the channels, the exponent of the fast form, and the rows written.
-/
module

public import proofs.«01_k».proof.Proof.Value.FinC
public import proofs.«01_k».proof.Proof.Value.FinD

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

theorem Chan.mk' {x : ℕ → ℕ → ℝ} {γ β : ℕ → ℝ} {v51 v62 v112 v116 v117 v119 : FVec Ideal S1x1280 .f32}
    (hg : ∀ j : Fin 1280, v51 (ix2 0 j) = ((γ j.val : ℝ) : EReal)) (hb : ∀ j : Fin 1280, v62 (ix2 0 j) = ((β j.val : ℝ) : EReal))
    (hm : ∀ j : Fin 1280, v112 (ix2 0 j) = ((mean x (j.val / 40) : ℝ) : EReal)) (hr : ∀ j : Fin 1280, v116 (ix2 0 j) = ((rstd x (j.val / 40) : ℝ) : EReal))
    (h7 : ∀ j : Fin 1280, v117 (ix2 0 j) = v116 (ix2 0 j) * v51 (ix2 0 j)) (h9 : ∀ j : Fin 1280, v119 (ix2 0 j) = v62 (ix2 0 j) - v112 (ix2 0 j) * v117 (ix2 0 j)) :
    Chan x γ β v51 v62 v112 v116 v117 v119 where
  g := hg
  b := hb
  m := hm
  r := hr
  s := fun j => by rw [h7, hr, hg, EReal.coe_mul]
  t := fun j => by rw [h9, h7, hr, hg, hb, hm, EReal.coe_sub, EReal.coe_mul, EReal.coe_mul]

/-- The channels from the sums of the image and of its squares. -/
theorem chan_fast (x : ℕ → ℕ → ℝ) (γ β : ℕ → ℝ) (g0 g1 g2 g3 g4 : Vec Ideal S1x1x256 .f32) (b0 b1 b2 b3 b4 : Vec Ideal S1x1x256 .f32) (u0 u1 u2 u3 u4 : Vec Ideal S1x8x256 .f32) (w0 w1 w2 w3 w4 : Vec Ideal S1x8x256 .f32) (hg0 : ∀ l : Fin 256, g0 (ix3 0 0 l) = ((γ (256 * 0 + l.val) : ℝ) : EReal)) (hg1 : ∀ l : Fin 256, g1 (ix3 0 0 l) = ((γ (256 * 1 + l.val) : ℝ) : EReal)) (hg2 : ∀ l : Fin 256, g2 (ix3 0 0 l) = ((γ (256 * 2 + l.val) : ℝ) : EReal)) (hg3 : ∀ l : Fin 256, g3 (ix3 0 0 l) = ((γ (256 * 3 + l.val) : ℝ) : EReal)) (hg4 : ∀ l : Fin 256, g4 (ix3 0 0 l) = ((γ (256 * 4 + l.val) : ℝ) : EReal)) (hb0 : ∀ l : Fin 256, b0 (ix3 0 0 l) = ((β (256 * 0 + l.val) : ℝ) : EReal)) (hb1 : ∀ l : Fin 256, b1 (ix3 0 0 l) = ((β (256 * 1 + l.val) : ℝ) : EReal)) (hb2 : ∀ l : Fin 256, b2 (ix3 0 0 l) = ((β (256 * 2 + l.val) : ℝ) : EReal)) (hb3 : ∀ l : Fin 256, b3 (ix3 0 0 l) = ((β (256 * 3 + l.val) : ℝ) : EReal)) (hb4 : ∀ l : Fin 256, b4 (ix3 0 0 l) = ((β (256 * 4 + l.val) : ℝ) : EReal)) (hu0 : ∀ (a : Fin 8) (l : Fin 256), u0 (ix3 0 a l) = (((fun a ch => ∑ i ∈ Finset.range 512, x (8 * i + a) ch) a.val (256 * 0 + l.val) : ℝ) : EReal)) (hu1 : ∀ (a : Fin 8) (l : Fin 256), u1 (ix3 0 a l) = (((fun a ch => ∑ i ∈ Finset.range 512, x (8 * i + a) ch) a.val (256 * 1 + l.val) : ℝ) : EReal)) (hu2 : ∀ (a : Fin 8) (l : Fin 256), u2 (ix3 0 a l) = (((fun a ch => ∑ i ∈ Finset.range 512, x (8 * i + a) ch) a.val (256 * 2 + l.val) : ℝ) : EReal)) (hu3 : ∀ (a : Fin 8) (l : Fin 256), u3 (ix3 0 a l) = (((fun a ch => ∑ i ∈ Finset.range 512, x (8 * i + a) ch) a.val (256 * 3 + l.val) : ℝ) : EReal)) (hu4 : ∀ (a : Fin 8) (l : Fin 256), u4 (ix3 0 a l) = (((fun a ch => ∑ i ∈ Finset.range 512, x (8 * i + a) ch) a.val (256 * 4 + l.val) : ℝ) : EReal)) (hw0 : ∀ (a : Fin 8) (l : Fin 256), w0 (ix3 0 a l) = (((fun a ch => ∑ i ∈ Finset.range 512, x (8 * i + a) ch * x (8 * i + a) ch) a.val (256 * 0 + l.val) : ℝ) : EReal)) (hw1 : ∀ (a : Fin 8) (l : Fin 256), w1 (ix3 0 a l) = (((fun a ch => ∑ i ∈ Finset.range 512, x (8 * i + a) ch * x (8 * i + a) ch) a.val (256 * 1 + l.val) : ℝ) : EReal)) (hw2 : ∀ (a : Fin 8) (l : Fin 256), w2 (ix3 0 a l) = (((fun a ch => ∑ i ∈ Finset.range 512, x (8 * i + a) ch * x (8 * i + a) ch) a.val (256 * 2 + l.val) : ℝ) : EReal)) (hw3 : ∀ (a : Fin 8) (l : Fin 256), w3 (ix3 0 a l) = (((fun a ch => ∑ i ∈ Finset.range 512, x (8 * i + a) ch * x (8 * i + a) ch) a.val (256 * 3 + l.val) : ℝ) : EReal)) (hw4 : ∀ (a : Fin 8) (l : Fin 256), w4 (ix3 0 a l) = (((fun a ch => ∑ i ∈ Finset.range 512, x (8 * i + a) ch * x (8 * i + a) ch) a.val (256 * 4 + l.val) : ℝ) : EReal)) :
    Chan x γ β (k0_pay201 (F := Ideal) g0 g1 g2 g3 g4) (k0_pay205 (F := Ideal) (k0_pay202 b0) (k0_pay203 b1) (k0_pay204 b2) b3 b4) (k0_pay212 (k0_pay200 (F := Ideal)) (k0_pay206 (F := Ideal) (k0_pay200 (F := Ideal)) u0 u1 u2 u3 u4)) (k0_pay213 (k0_pay200 (F := Ideal)) (k0_pay206 (F := Ideal) (k0_pay200 (F := Ideal)) u0 u1 u2 u3 u4) (k0_pay207 w0) (k0_pay208 w1) (k0_pay209 w2) w3 w4) (k0_pay214 (k0_pay200 (F := Ideal)) (k0_pay201 (F := Ideal) g0 g1 g2 g3 g4) (k0_pay206 (F := Ideal) (k0_pay200 (F := Ideal)) u0 u1 u2 u3 u4) (k0_pay207 w0) (k0_pay208 w1) (k0_pay209 w2) w3 w4) (k0_pay215 (k0_pay200 (F := Ideal)) (k0_pay201 (F := Ideal) g0 g1 g2 g3 g4) (k0_pay205 (F := Ideal) (k0_pay202 b0) (k0_pay203 b1) (k0_pay204 b2) b3 b4) (k0_pay206 (F := Ideal) (k0_pay200 (F := Ideal)) u0 u1 u2 u3 u4) (k0_pay207 w0) (k0_pay208 w1) (k0_pay209 w2) w3 w4) := by
  have hm := pay206_at (fun a ch => ∑ i ∈ Finset.range 512, x (8 * i + a) ch) u0 u1 u2 u3 u4 hu0 hu1 hu2 hu3 hu4
  have hr := pay210_at (fun a ch => ∑ i ∈ Finset.range 512, x (8 * i + a) ch * x (8 * i + a) ch) (fun g => gsum (fun a ch => ∑ i ∈ Finset.range 512, x (8 * i + a) ch) g / 163840) (k0_pay206 (F := Ideal) (k0_pay200 (F := Ideal)) u0 u1 u2 u3 u4) hm w0 w1 w2 w3 w4 hw0 hw1 hw2 hw3 hw4
  refine Chan.mk' (pay201_at γ g0 g1 g2 g3 g4 hg0 hg1 hg2 hg3 hg4) (pay205_at β b0 b1 b2 b3 b4 hb0 hb1 hb2 hb3 hb4) (fun j => ?_) (fun j => ?_) (fun j => ?_) (fun j => ?_)
  · rw [pay212_at (fun g => gsum (fun a ch => ∑ i ∈ Finset.range 512, x (8 * i + a) ch) g / 163840) _ hm j]
    rw [gsum_gs x (j.val / 40) (by have := j.isLt; omega)]
    rfl
  · rw [pay213_at (fun g => (Real.sqrt (max (gsum (fun a ch => ∑ i ∈ Finset.range 512, x (8 * i + a) ch * x (8 * i + a) ch) g / 163840 - gsum (fun a ch => ∑ i ∈ Finset.range 512, x (8 * i + a) ch) g / 163840 * (gsum (fun a ch => ∑ i ∈ Finset.range 512, x (8 * i + a) ch) g / 163840)) 0 + eps))⁻¹) _ _ _ _ _ _ hr j]
    rw [rstd_fast x (j.val / 40) (by have := j.isLt; omega)]
  · pointwise [k0_pay214]
  · pointwise [k0_pay215]

/-- The channels from the squared deviations. -/
theorem chan_slow (x : ℕ → ℕ → ℝ) (γ β : ℕ → ℝ) (v51 v62 v112 : FVec Ideal S1x1280 .f32)
    (hg : ∀ j : Fin 1280, v51 (ix2 0 j) = ((γ j.val : ℝ) : EReal)) (hb : ∀ j : Fin 1280, v62 (ix2 0 j) = ((β j.val : ℝ) : EReal))
    (hm : ∀ j : Fin 1280, v112 (ix2 0 j) = ((mean x (j.val / 40) : ℝ) : EReal)) (u0 u1 u2 u3 u4 : Vec Ideal S1x8x256 .f32) (hu0 : ∀ (a : Fin 8) (l : Fin 256), u0 (ix3 0 a l) = (((fun a ch => ∑ i ∈ Finset.range 512, (x (8 * i + a) ch - mean x (ch / 40)) * (x (8 * i + a) ch - mean x (ch / 40))) a.val (256 * 0 + l.val) : ℝ) : EReal)) (hu1 : ∀ (a : Fin 8) (l : Fin 256), u1 (ix3 0 a l) = (((fun a ch => ∑ i ∈ Finset.range 512, (x (8 * i + a) ch - mean x (ch / 40)) * (x (8 * i + a) ch - mean x (ch / 40))) a.val (256 * 1 + l.val) : ℝ) : EReal)) (hu2 : ∀ (a : Fin 8) (l : Fin 256), u2 (ix3 0 a l) = (((fun a ch => ∑ i ∈ Finset.range 512, (x (8 * i + a) ch - mean x (ch / 40)) * (x (8 * i + a) ch - mean x (ch / 40))) a.val (256 * 2 + l.val) : ℝ) : EReal)) (hu3 : ∀ (a : Fin 8) (l : Fin 256), u3 (ix3 0 a l) = (((fun a ch => ∑ i ∈ Finset.range 512, (x (8 * i + a) ch - mean x (ch / 40)) * (x (8 * i + a) ch - mean x (ch / 40))) a.val (256 * 3 + l.val) : ℝ) : EReal)) (hu4 : ∀ (a : Fin 8) (l : Fin 256), u4 (ix3 0 a l) = (((fun a ch => ∑ i ∈ Finset.range 512, (x (8 * i + a) ch - mean x (ch / 40)) * (x (8 * i + a) ch - mean x (ch / 40))) a.val (256 * 4 + l.val) : ℝ) : EReal)) :
    Chan x γ β v51 v62 v112 (k0_pay167 (k0_pay200 (F := Ideal)) (k0_pay166 (k0_pay200 (F := Ideal)) u0 u1 u2 u3 u4)) (k0_pay168 (k0_pay200 (F := Ideal)) v51 (k0_pay166 (k0_pay200 (F := Ideal)) u0 u1 u2 u3 u4)) (k0_pay169 (k0_pay200 (F := Ideal)) v51 v62 v112 (k0_pay166 (k0_pay200 (F := Ideal)) u0 u1 u2 u3 u4)) := by
  have hr := pay166_at (fun a ch => ∑ i ∈ Finset.range 512, (x (8 * i + a) ch - mean x (ch / 40)) * (x (8 * i + a) ch - mean x (ch / 40))) (fun a b => Finset.sum_nonneg fun _ _ => mul_self_nonneg _) u0 u1 u2 u3 u4 hu0 hu1 hu2 hu3 hu4 0
  refine Chan.mk' hg hb hm (fun j => ?_) (fun j => ?_) (fun j => ?_)
  · rw [pay167_at (fun g => (Real.sqrt (gsum (fun a ch => ∑ i ∈ Finset.range 512, (x (8 * i + a) ch - mean x (ch / 40)) * (x (8 * i + a) ch - mean x (ch / 40))) g / 163840 + eps))⁻¹) _ hr j]
    rw [rstd_slow x (j.val / 40) (by have := j.isLt; omega)]
  · pointwise [k0_pay168]
  · pointwise [k0_pay169]

theorem expo_small (a : ℝ) : -126 ≤ expo a ∧ expo a ≤ 128 := by
  have := cnt_le a
  unfold expo
  split <;> constructor <;> omega

/-- The exponent of the fast form. -/
theorem fast_word (x : ℕ → ℕ → ℝ) (γ β : ℕ → ℝ) {v51 v62 v112 v116 v117 v119 : FVec Ideal S1x1280 .f32} (hc : Chan x γ β v51 v62 v112 v116 v117 v119)
    (p0 p1 p2 p3 p4 : Vec Ideal S1x16x256 .bf16) (q0 q1 q2 q3 q4 : Vec Ideal S1x16x256 .bf16) (hp0 : ∀ (r : Fin 16) (l : Fin 256), p0 (ix3 0 r l) = (((fun r j => top 255 (fun m => x (16 * m + r) j)) r.val (256 * 0 + l.val) : ℝ) : EReal)) (hp1 : ∀ (r : Fin 16) (l : Fin 256), p1 (ix3 0 r l) = (((fun r j => top 255 (fun m => x (16 * m + r) j)) r.val (256 * 1 + l.val) : ℝ) : EReal)) (hp2 : ∀ (r : Fin 16) (l : Fin 256), p2 (ix3 0 r l) = (((fun r j => top 255 (fun m => x (16 * m + r) j)) r.val (256 * 2 + l.val) : ℝ) : EReal)) (hp3 : ∀ (r : Fin 16) (l : Fin 256), p3 (ix3 0 r l) = (((fun r j => top 255 (fun m => x (16 * m + r) j)) r.val (256 * 3 + l.val) : ℝ) : EReal)) (hp4 : ∀ (r : Fin 16) (l : Fin 256), p4 (ix3 0 r l) = (((fun r j => top 255 (fun m => x (16 * m + r) j)) r.val (256 * 4 + l.val) : ℝ) : EReal)) (hq0 : ∀ (r : Fin 16) (l : Fin 256), q0 (ix3 0 r l) = (((fun r j => bot 255 (fun m => x (16 * m + r) j)) r.val (256 * 0 + l.val) : ℝ) : EReal)) (hq1 : ∀ (r : Fin 16) (l : Fin 256), q1 (ix3 0 r l) = (((fun r j => bot 255 (fun m => x (16 * m + r) j)) r.val (256 * 1 + l.val) : ℝ) : EReal)) (hq2 : ∀ (r : Fin 16) (l : Fin 256), q2 (ix3 0 r l) = (((fun r j => bot 255 (fun m => x (16 * m + r) j)) r.val (256 * 2 + l.val) : ℝ) : EReal)) (hq3 : ∀ (r : Fin 16) (l : Fin 256), q3 (ix3 0 r l) = (((fun r j => bot 255 (fun m => x (16 * m + r) j)) r.val (256 * 3 + l.val) : ℝ) : EReal)) (hq4 : ∀ (r : Fin 16) (l : Fin 256), q4 (ix3 0 r l) = (((fun r j => bot 255 (fun m => x (16 * m + r) j)) r.val (256 * 4 + l.val) : ℝ) : EReal)) (w : BitVec 1) (inp)
    (hflag : Scalar.andi (Scalar.andi (Scalar.cmpf (F := Ideal) (φ := .f32) .ogt (k0_pay242 (k0_pay240 v117 v119 p0 p1 p2 p3 p4) (k0_pay241 v117 v119 q0 q1 q2 q3 q4)) (FloatOps.ofBits .f32 0#32))
      (Scalar.cmpi .sge (extractAt ![0, 0, 0] (k0_pay243 (F := Ideal) (k0_pay240 v117 v119 p0 p1 p2 p3 p4) (k0_pay241 v117 v119 q0 q1 q2 q3 q4)) inp) 4294967291#32)) w = 1#1) :
    extractAt ![0, 0, 0] (k0_pay243 (F := Ideal) (k0_pay240 v117 v119 p0 p1 p2 p3 p4) (k0_pay241 v117 v119 q0 q1 q2 q3 q4)) inp = BitVec.ofInt 32 (expo (amax x γ β)) := by
  have e1 := pay240_at x (fun j => rstd x (j / 40) * γ j) (fun j => β j - mean x (j / 40) * (rstd x (j / 40) * γ j)) v117 v119 hc.s hc.t p0 p1 p2 p3 p4 hp0 hp1 hp2 hp3 hp4
  have e2 := pay241_at x (fun j => rstd x (j / 40) * γ j) (fun j => β j - mean x (j / 40) * (rstd x (j / 40) * γ j)) v117 v119 hc.s hc.t q0 q1 q2 q3 q4 hq0 hq1 hq2 hq3 hq4
  generalize k0_pay240 v117 v119 p0 p1 p2 p3 p4 = v249 at *
  generalize k0_pay241 v117 v119 q0 q1 q2 q3 q4 = v251 at *
  have haff : ∀ r j, aff x γ β r j = x r j * (rstd x (j / 40) * γ j) + (β j - mean x (j / 40) * (rstd x (j / 40) * γ j)) := fun r j => by unfold aff; ring
  obtain ⟨v, hv, hle, hex⟩ : ∃ v : ℝ, k0_pay242 (F := Ideal) v249 v251 = ((v : ℝ) : EReal) ∧ (∀ r < 4096, ∀ j < 1280, aff x γ β r j ≤ v) ∧ ∃ r < 4096, ∃ j < 1280, aff x γ β r j = v := by
    obtain ⟨y, hy, hmax⟩ := Finset.exists_max_image (Finset.range 4096 ×ˢ Finset.range 1280) (fun p => aff x γ β p.1 p.2) ⟨(0, 0), by simp⟩
    simp only [Finset.mem_product, Finset.mem_range, Prod.forall] at hy hmax
    refine ⟨aff x γ β y.1 y.2, ?_, fun r hr j hj => hmax r j ⟨hr, hj⟩, y.1, hy.1, y.2, hy.2, rfl⟩
    apply le_antisymm
    · rw [pay242_le]
      intro j
      rw [e1, e2]
      obtain ⟨r1, hr1, t1⟩ := top_mem 4095 (fun r => x r j.val)
      obtain ⟨r2, hr2, t2⟩ := bot_mem 4095 (fun r => x r j.val)
      rw [t1, t2]
      rw [← haff, ← haff]
      exact ⟨EReal.coe_le_coe_iff.2 (hmax _ _ ⟨hr1, j.isLt⟩), EReal.coe_le_coe_iff.2 (hmax _ _ ⟨hr2, j.isLt⟩)⟩
    · have h := (pay242_le v249 v251 (k0_pay242 (F := Ideal) v249 v251)).1 le_rfl ⟨y.2, hy.2⟩
      rw [e1, e2] at h
      have a1 := le_top' 4095 (fun r => x r y.2) y.1 hy.1
      have a2 := bot_le' 4095 (fun r => x r y.2) y.1 hy.1
      rw [haff]
      by_cases hs : 0 ≤ rstd x (y.2 / 40) * γ y.2
      · refine le_trans (EReal.coe_le_coe_iff.2 ?_) h.1
        have := mul_le_mul_of_nonneg_right a1 hs
        linarith
      · refine le_trans (EReal.coe_le_coe_iff.2 ?_) h.2
        have := mul_le_mul_of_nonpos_right a2 (le_of_not_ge hs)
        linarith
  have fl : Scalar.cmpf (F := Ideal) (φ := .f32) .ogt (k0_pay242 v249 v251) (FloatOps.ofBits .f32 0#32) = 1#1
      ∧ Scalar.cmpi .sge (extractAt ![0, 0, 0] (k0_pay243 (F := Ideal) v249 v251) inp) 4294967291#32 = 1#1 := by
    revert hflag
    generalize Scalar.cmpf (F := Ideal) (φ := .f32) .ogt (k0_pay242 v249 v251) (FloatOps.ofBits .f32 0#32) = a
    generalize Scalar.cmpi .sge (extractAt ![0, 0, 0] (k0_pay243 (F := Ideal) v249 v251) inp) 4294967291#32 = b
    unfold Scalar.andi IntOp.andi
    revert a b w
    decide
  have hpos : 0 < v := by
    have h := fl.1
    rw [hv] at h
    by_contra hn
    have hz : (FloatOps.ofBits (F := Ideal) .f32 0#32 : EReal) = 0 := by
      show Ideal.ofBits .f32 0#32 = 0
      simp [Ideal.ofBits, Ideal.ieee]
    have hn' : ¬ ((0 : EReal) < ((v : ℝ) : EReal)) := by
      rw [← EReal.coe_zero, EReal.coe_lt_coe_iff]; exact hn
    revert h
    unfold Scalar.cmpf
    rw [hz]
    show ¬ (BitVec.ofBool (decide ((0 : EReal) < ((v : ℝ) : EReal))) = 1#1)
    rw [decide_eq_false hn']
    decide
  have hw := pay243_at v249 v251 v hv (silu_pos v hpos).le inp
  have hb := expo_small (silu v)
  have h5 : -5 ≤ expo (silu v) := by
    have h := fl.2
    rw [hw] at h
    by_contra hn
    revert h
    unfold Scalar.cmpi IntOp.cmpi
    have : (4294967291#32).sle (BitVec.ofInt 32 (expo (silu v))) = false := by
      rw [BitVec.sle, BitVec.toInt_ofInt, Int.bmod_eq_of_le (by omega) (by omega)]
      have : (4294967291#32).toInt = -5 := by decide
      rw [this]
      exact decide_eq_false hn
    simp [this]
  rw [hw, fast_amax x γ β v hle hex hpos h5]

/-- The rows of constants the normalise pass reads. -/
def cvG (x : ℕ → ℕ → ℝ) (γ β : ℕ → ℝ) (y : S5x8x256.Idx) : Elt Ideal .f32 :=
  if (y 1).val = 0 then ((1 / 2 * (rstd x ((256 * (y 0).val + (y 2).val) / 40) * γ (256 * (y 0).val + (y 2).val)) : ℝ) : EReal)
  else if (y 1).val = 1 then ((1 / 2 * (β (256 * (y 0).val + (y 2).val) - mean x ((256 * (y 0).val + (y 2).val) / 40) * (rstd x ((256 * (y 0).val + (y 2).val) / 40) * γ (256 * (y 0).val + (y 2).val))) : ℝ) : EReal)
  else if (y 1).val = 2 then ((mean x ((256 * (y 0).val + (y 2).val) / 40) : ℝ) : EReal)
  else ((rstd x ((256 * (y 0).val + (y 2).val) / 40) : ℝ) : EReal)

theorem row_eq (x : ℕ → ℕ → ℝ) (γ β : ℕ → ℝ) (k r : ℕ) (w : Vec Ideal S1x1x256 .f32) (hk : k < 5) (hr : r < 8)
    (h : ∀ l : Fin 256, w (ix3 0 0 l) = cvG x γ β (ix3 ⟨k, hk⟩ ⟨r, hr⟩ l)) (p : Fin 1) (q : Fin 1) (t : Fin 256) (hp : k + p.val < 5) (hq : r + q.val < 8) (ht : 0 + t.val < 256) :
    w (ix3 p q t) = cvG x γ β (ix3 ⟨k + p.val, hp⟩ ⟨r + q.val, hq⟩ ⟨0 + t.val, ht⟩) := by
  have hp0 : p = 0 := Subsingleton.elim _ _
  have hq0 : q = 0 := Subsingleton.elim _ _
  subst hp0 hq0
  rw [h]
  congr 2
  exact Fin.ext (Nat.zero_add _).symm

/-- The twenty stores of the last block. -/
theorem rows20 (x : ℕ → ℕ → ℝ) (γ β : ℕ → ℝ) (w00 w01 w02 w03 w10 w11 w12 w13 w20 w21 w22 w23 w30 w31 w32 w33 w40 w41 w42 w43 : Vec Ideal S1x1x256 .f32)
    (h00 : ∀ l : Fin 256, w00 (ix3 0 0 l) = ((1 / 2 * (rstd x ((256 * 0 + l.val) / 40) * γ (256 * 0 + l.val)) : ℝ) : EReal))
    (h01 : ∀ l : Fin 256, w01 (ix3 0 0 l) = ((1 / 2 * (β (256 * 0 + l.val) - mean x ((256 * 0 + l.val) / 40) * (rstd x ((256 * 0 + l.val) / 40) * γ (256 * 0 + l.val))) : ℝ) : EReal))
    (h02 : ∀ l : Fin 256, w02 (ix3 0 0 l) = ((mean x ((256 * 0 + l.val) / 40) : ℝ) : EReal))
    (h03 : ∀ l : Fin 256, w03 (ix3 0 0 l) = ((rstd x ((256 * 0 + l.val) / 40) : ℝ) : EReal))
    (h10 : ∀ l : Fin 256, w10 (ix3 0 0 l) = ((1 / 2 * (rstd x ((256 * 1 + l.val) / 40) * γ (256 * 1 + l.val)) : ℝ) : EReal))
    (h11 : ∀ l : Fin 256, w11 (ix3 0 0 l) = ((1 / 2 * (β (256 * 1 + l.val) - mean x ((256 * 1 + l.val) / 40) * (rstd x ((256 * 1 + l.val) / 40) * γ (256 * 1 + l.val))) : ℝ) : EReal))
    (h12 : ∀ l : Fin 256, w12 (ix3 0 0 l) = ((mean x ((256 * 1 + l.val) / 40) : ℝ) : EReal))
    (h13 : ∀ l : Fin 256, w13 (ix3 0 0 l) = ((rstd x ((256 * 1 + l.val) / 40) : ℝ) : EReal))
    (h20 : ∀ l : Fin 256, w20 (ix3 0 0 l) = ((1 / 2 * (rstd x ((256 * 2 + l.val) / 40) * γ (256 * 2 + l.val)) : ℝ) : EReal))
    (h21 : ∀ l : Fin 256, w21 (ix3 0 0 l) = ((1 / 2 * (β (256 * 2 + l.val) - mean x ((256 * 2 + l.val) / 40) * (rstd x ((256 * 2 + l.val) / 40) * γ (256 * 2 + l.val))) : ℝ) : EReal))
    (h22 : ∀ l : Fin 256, w22 (ix3 0 0 l) = ((mean x ((256 * 2 + l.val) / 40) : ℝ) : EReal))
    (h23 : ∀ l : Fin 256, w23 (ix3 0 0 l) = ((rstd x ((256 * 2 + l.val) / 40) : ℝ) : EReal))
    (h30 : ∀ l : Fin 256, w30 (ix3 0 0 l) = ((1 / 2 * (rstd x ((256 * 3 + l.val) / 40) * γ (256 * 3 + l.val)) : ℝ) : EReal))
    (h31 : ∀ l : Fin 256, w31 (ix3 0 0 l) = ((1 / 2 * (β (256 * 3 + l.val) - mean x ((256 * 3 + l.val) / 40) * (rstd x ((256 * 3 + l.val) / 40) * γ (256 * 3 + l.val))) : ℝ) : EReal))
    (h32 : ∀ l : Fin 256, w32 (ix3 0 0 l) = ((mean x ((256 * 3 + l.val) / 40) : ℝ) : EReal))
    (h33 : ∀ l : Fin 256, w33 (ix3 0 0 l) = ((rstd x ((256 * 3 + l.val) / 40) : ℝ) : EReal))
    (h40 : ∀ l : Fin 256, w40 (ix3 0 0 l) = ((1 / 2 * (rstd x ((256 * 4 + l.val) / 40) * γ (256 * 4 + l.val)) : ℝ) : EReal))
    (h41 : ∀ l : Fin 256, w41 (ix3 0 0 l) = ((1 / 2 * (β (256 * 4 + l.val) - mean x ((256 * 4 + l.val) / 40) * (rstd x ((256 * 4 + l.val) / 40) * γ (256 * 4 + l.val))) : ℝ) : EReal))
    (h42 : ∀ l : Fin 256, w42 (ix3 0 0 l) = ((mean x ((256 * 4 + l.val) / 40) : ℝ) : EReal))
    (h43 : ∀ l : Fin 256, w43 (ix3 0 0 l) = ((rstd x ((256 * 4 + l.val) / 40) : ℝ) : EReal)) :
    Pcs (e := .f32) (cvG x γ β) (fun y => (y 1).val < 4) [⟨Rect.unit (s := S5x8x256) ![4, 3, 0] ![1, 1, 256] inb_S5x8x256_S1x1x256_4_3_0, w43⟩, ⟨Rect.unit (s := S5x8x256) ![4, 2, 0] ![1, 1, 256] inb_S5x8x256_S1x1x256_4_2_0, w42⟩, ⟨Rect.unit (s := S5x8x256) ![4, 1, 0] ![1, 1, 256] inb_S5x8x256_S1x1x256_4_1_0, w41⟩, ⟨Rect.unit (s := S5x8x256) ![4, 0, 0] ![1, 1, 256] inb_S5x8x256_S1x1x256_4_0_0, w40⟩, ⟨Rect.unit (s := S5x8x256) ![3, 3, 0] ![1, 1, 256] inb_S5x8x256_S1x1x256_3_3_0, w33⟩, ⟨Rect.unit (s := S5x8x256) ![3, 2, 0] ![1, 1, 256] inb_S5x8x256_S1x1x256_3_2_0, w32⟩, ⟨Rect.unit (s := S5x8x256) ![3, 1, 0] ![1, 1, 256] inb_S5x8x256_S1x1x256_3_1_0, w31⟩, ⟨Rect.unit (s := S5x8x256) ![3, 0, 0] ![1, 1, 256] inb_S5x8x256_S1x1x256_3_0_0, w30⟩, ⟨Rect.unit (s := S5x8x256) ![2, 3, 0] ![1, 1, 256] inb_S5x8x256_S1x1x256_2_3_0, w23⟩, ⟨Rect.unit (s := S5x8x256) ![2, 2, 0] ![1, 1, 256] inb_S5x8x256_S1x1x256_2_2_0, w22⟩, ⟨Rect.unit (s := S5x8x256) ![2, 1, 0] ![1, 1, 256] inb_S5x8x256_S1x1x256_2_1_0, w21⟩, ⟨Rect.unit (s := S5x8x256) ![2, 0, 0] ![1, 1, 256] inb_S5x8x256_S1x1x256_2_0_0, w20⟩, ⟨Rect.unit (s := S5x8x256) ![1, 3, 0] ![1, 1, 256] inb_S5x8x256_S1x1x256_1_3_0, w13⟩, ⟨Rect.unit (s := S5x8x256) ![1, 2, 0] ![1, 1, 256] inb_S5x8x256_S1x1x256_1_2_0, w12⟩, ⟨Rect.unit (s := S5x8x256) ![1, 1, 0] ![1, 1, 256] inb_S5x8x256_S1x1x256_1_1_0, w11⟩, ⟨Rect.unit (s := S5x8x256) ![1, 0, 0] ![1, 1, 256] inb_S5x8x256_S1x1x256_1_0_0, w10⟩, ⟨Rect.unit (s := S5x8x256) ![0, 3, 0] ![1, 1, 256] inb_S5x8x256_S1x1x256_0_3_0, w03⟩, ⟨Rect.unit (s := S5x8x256) ![0, 2, 0] ![1, 1, 256] inb_S5x8x256_S1x1x256_0_2_0, w02⟩, ⟨Rect.unit (s := S5x8x256) ![0, 1, 0] ![1, 1, 256] inb_S5x8x256_S1x1x256_0_1_0, w01⟩, ⟨Rect.unit (s := S5x8x256) ![0, 0, 0] ![1, 1, 256] inb_S5x8x256_S1x1x256_0_0_0, w00⟩] := by
  refine Pcs.congr ((((((((((((((((((((((((((((((((((((((((Pcs.nil _).cons3 ![0, 0, 0] inb_S5x8x256_S1x1x256_0_0_0 rfl w00 (row_eq x γ β 0 0 w00 (by decide) (by decide) h00))).cons3 ![0, 1, 0] inb_S5x8x256_S1x1x256_0_1_0 rfl w01 (row_eq x γ β 0 1 w01 (by decide) (by decide) h01))).cons3 ![0, 2, 0] inb_S5x8x256_S1x1x256_0_2_0 rfl w02 (row_eq x γ β 0 2 w02 (by decide) (by decide) h02))).cons3 ![0, 3, 0] inb_S5x8x256_S1x1x256_0_3_0 rfl w03 (row_eq x γ β 0 3 w03 (by decide) (by decide) h03))).cons3 ![1, 0, 0] inb_S5x8x256_S1x1x256_1_0_0 rfl w10 (row_eq x γ β 1 0 w10 (by decide) (by decide) h10))).cons3 ![1, 1, 0] inb_S5x8x256_S1x1x256_1_1_0 rfl w11 (row_eq x γ β 1 1 w11 (by decide) (by decide) h11))).cons3 ![1, 2, 0] inb_S5x8x256_S1x1x256_1_2_0 rfl w12 (row_eq x γ β 1 2 w12 (by decide) (by decide) h12))).cons3 ![1, 3, 0] inb_S5x8x256_S1x1x256_1_3_0 rfl w13 (row_eq x γ β 1 3 w13 (by decide) (by decide) h13))).cons3 ![2, 0, 0] inb_S5x8x256_S1x1x256_2_0_0 rfl w20 (row_eq x γ β 2 0 w20 (by decide) (by decide) h20))).cons3 ![2, 1, 0] inb_S5x8x256_S1x1x256_2_1_0 rfl w21 (row_eq x γ β 2 1 w21 (by decide) (by decide) h21))).cons3 ![2, 2, 0] inb_S5x8x256_S1x1x256_2_2_0 rfl w22 (row_eq x γ β 2 2 w22 (by decide) (by decide) h22))).cons3 ![2, 3, 0] inb_S5x8x256_S1x1x256_2_3_0 rfl w23 (row_eq x γ β 2 3 w23 (by decide) (by decide) h23))).cons3 ![3, 0, 0] inb_S5x8x256_S1x1x256_3_0_0 rfl w30 (row_eq x γ β 3 0 w30 (by decide) (by decide) h30))).cons3 ![3, 1, 0] inb_S5x8x256_S1x1x256_3_1_0 rfl w31 (row_eq x γ β 3 1 w31 (by decide) (by decide) h31))).cons3 ![3, 2, 0] inb_S5x8x256_S1x1x256_3_2_0 rfl w32 (row_eq x γ β 3 2 w32 (by decide) (by decide) h32))).cons3 ![3, 3, 0] inb_S5x8x256_S1x1x256_3_3_0 rfl w33 (row_eq x γ β 3 3 w33 (by decide) (by decide) h33))).cons3 ![4, 0, 0] inb_S5x8x256_S1x1x256_4_0_0 rfl w40 (row_eq x γ β 4 0 w40 (by decide) (by decide) h40))).cons3 ![4, 1, 0] inb_S5x8x256_S1x1x256_4_1_0 rfl w41 (row_eq x γ β 4 1 w41 (by decide) (by decide) h41))).cons3 ![4, 2, 0] inb_S5x8x256_S1x1x256_4_2_0 rfl w42 (row_eq x γ β 4 2 w42 (by decide) (by decide) h42))).cons3 ![4, 3, 0] inb_S5x8x256_S1x1x256_4_3_0 rfl w43 (row_eq x γ β 4 3 w43 (by decide) (by decide) h43)) ?_
  intro y
  have a0 : (y 0).val < 5 := (y 0).isLt
  simp only [InBlk, or_false]
  constructor
  · intro h; omega
  · intro h
    have b0 : (y 2).val < 256 := (y 2).isLt
    have c0 : (y 0).val = 0 ∨ (y 0).val = 1 ∨ (y 0).val = 2 ∨ (y 0).val = 3 ∨ (y 0).val = 4 := by omega
    have c1 : (y 1).val = 0 ∨ (y 1).val = 1 ∨ (y 1).val = 2 ∨ (y 1).val = 3 := by omega
    rcases c0 with c0 | c0 | c0 | c0 | c0 <;> rcases c1 with c1 | c1 | c1 | c1 <;> simp [c0, c1, b0]

end Cert.KernelIdeal.Hand

end
-- ==== Proof.Value.Fin6.lean ====
/-
  Hand-written, untrusted. the rows and the word of the last block.
-/
module

public import proofs.«01_k».proof.Proof.Value.FinE
public import proofs.«01_k».proof.Proof.Value.Put

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

/-- The twenty rows stored, from the second look. -/
theorem slow_rows (x : ℕ → ℕ → ℝ) (γ β : ℕ → ℝ) (v40 : FVec Ideal S1280x128 .f32) (v51 : FVec Ideal S1x1280 .f32) (v62 : FVec Ideal S1x1280 .f32) (v112 : FVec Ideal S1x1280 .f32) (v363 : FVec Ideal S8x128 .f32)
    (H : Chan x γ β v51 v62 v112 (k0_pay167 v40 v363) (k0_pay168 v40 v51 v363) (k0_pay169 v40 v51 v62 v112 v363)) :
    Pcs (e := .f32) (cvG x γ β) (fun y => (y 1).val < 4) [⟨Rect.unit (s := S5x8x256) ![4, 3, 0] ![1, 1, 256] inb_S5x8x256_S1x1x256_4_3_0, k0_pay190 (k0_pay167 v40 v363)⟩,
      ⟨Rect.unit (s := S5x8x256) ![4, 2, 0] ![1, 1, 256] inb_S5x8x256_S1x1x256_4_2_0, k0_pay189 v112⟩,
      ⟨Rect.unit (s := S5x8x256) ![4, 1, 0] ![1, 1, 256] inb_S5x8x256_S1x1x256_4_1_0, k0_pay188 (k0_pay169 v40 v51 v62 v112 v363)⟩,
      ⟨Rect.unit (s := S5x8x256) ![4, 0, 0] ![1, 1, 256] inb_S5x8x256_S1x1x256_4_0_0, k0_pay187 (k0_pay168 v40 v51 v363)⟩,
      ⟨Rect.unit (s := S5x8x256) ![3, 3, 0] ![1, 1, 256] inb_S5x8x256_S1x1x256_3_3_0, k0_pay186 (k0_pay167 v40 v363)⟩,
      ⟨Rect.unit (s := S5x8x256) ![3, 2, 0] ![1, 1, 256] inb_S5x8x256_S1x1x256_3_2_0, k0_pay185 v112⟩,
      ⟨Rect.unit (s := S5x8x256) ![3, 1, 0] ![1, 1, 256] inb_S5x8x256_S1x1x256_3_1_0, k0_pay184 (k0_pay169 v40 v51 v62 v112 v363)⟩,
      ⟨Rect.unit (s := S5x8x256) ![3, 0, 0] ![1, 1, 256] inb_S5x8x256_S1x1x256_3_0_0, k0_pay183 (k0_pay168 v40 v51 v363)⟩,
      ⟨Rect.unit (s := S5x8x256) ![2, 3, 0] ![1, 1, 256] inb_S5x8x256_S1x1x256_2_3_0, k0_pay182 (k0_pay167 v40 v363)⟩,
      ⟨Rect.unit (s := S5x8x256) ![2, 2, 0] ![1, 1, 256] inb_S5x8x256_S1x1x256_2_2_0, k0_pay181 v112⟩,
      ⟨Rect.unit (s := S5x8x256) ![2, 1, 0] ![1, 1, 256] inb_S5x8x256_S1x1x256_2_1_0, k0_pay180 (k0_pay169 v40 v51 v62 v112 v363)⟩,
      ⟨Rect.unit (s := S5x8x256) ![2, 0, 0] ![1, 1, 256] inb_S5x8x256_S1x1x256_2_0_0, k0_pay179 (k0_pay168 v40 v51 v363)⟩,
      ⟨Rect.unit (s := S5x8x256) ![1, 3, 0] ![1, 1, 256] inb_S5x8x256_S1x1x256_1_3_0, k0_pay178 (k0_pay167 v40 v363)⟩,
      ⟨Rect.unit (s := S5x8x256) ![1, 2, 0] ![1, 1, 256] inb_S5x8x256_S1x1x256_1_2_0, k0_pay177 v112⟩,
      ⟨Rect.unit (s := S5x8x256) ![1, 1, 0] ![1, 1, 256] inb_S5x8x256_S1x1x256_1_1_0, k0_pay176 (k0_pay175 v40 v51 v62 v112 v363)⟩,
      ⟨Rect.unit (s := S5x8x256) ![1, 0, 0] ![1, 1, 256] inb_S5x8x256_S1x1x256_1_0_0, k0_pay174 v40 v51 v363⟩,
      ⟨Rect.unit (s := S5x8x256) ![0, 3, 0] ![1, 1, 256] inb_S5x8x256_S1x1x256_0_3_0, k0_pay173 v40 v363⟩,
      ⟨Rect.unit (s := S5x8x256) ![0, 2, 0] ![1, 1, 256] inb_S5x8x256_S1x1x256_0_2_0, k0_pay172 v112⟩,
      ⟨Rect.unit (s := S5x8x256) ![0, 1, 0] ![1, 1, 256] inb_S5x8x256_S1x1x256_0_1_0, k0_pay171 v40 v51 v62 v112 v363⟩,
      ⟨Rect.unit (s := S5x8x256) ![0, 0, 0] ![1, 1, 256] inb_S5x8x256_S1x1x256_0_0_0, k0_pay170 v40 v51 v363⟩] :=
  rows20 x γ β _ _ _ _ _ _ _ _ _ _ _ _ _ _ _ _ _ _ _ _
    (fun l => slow00 v40 v51 v363 (fun j => rstd x (j / 40) * γ j) H.s l)
    (fun l => slow01 v40 v51 v62 v112 v363 (fun j => β j - mean x (j / 40) * (rstd x (j / 40) * γ j)) H.t l)
    (fun l => slow02 v112 (fun j => mean x (j / 40)) H.m l)
    (fun l => slow03 v40 v363 (fun j => rstd x (j / 40)) H.r l)
    (fun l => slow10 v40 v51 v363 (fun j => rstd x (j / 40) * γ j) H.s l)
    (fun l => slow11 v40 v51 v62 v112 v363 (fun j => β j - mean x (j / 40) * (rstd x (j / 40) * γ j)) H.t l)
    (fun l => slow12 v112 (fun j => mean x (j / 40)) H.m l)
    (fun l => slow13 (k0_pay167 v40 v363) (fun j => rstd x (j / 40)) H.r l)
    (fun l => slow20 (k0_pay168 v40 v51 v363) (fun j => rstd x (j / 40) * γ j) H.s l)
    (fun l => slow21 (k0_pay169 v40 v51 v62 v112 v363) (fun j => β j - mean x (j / 40) * (rstd x (j / 40) * γ j)) H.t l)
    (fun l => slow22 v112 (fun j => mean x (j / 40)) H.m l)
    (fun l => slow23 (k0_pay167 v40 v363) (fun j => rstd x (j / 40)) H.r l)
    (fun l => slow30 (k0_pay168 v40 v51 v363) (fun j => rstd x (j / 40) * γ j) H.s l)
    (fun l => slow31 (k0_pay169 v40 v51 v62 v112 v363) (fun j => β j - mean x (j / 40) * (rstd x (j / 40) * γ j)) H.t l)
    (fun l => slow32 v112 (fun j => mean x (j / 40)) H.m l)
    (fun l => slow33 (k0_pay167 v40 v363) (fun j => rstd x (j / 40)) H.r l)
    (fun l => slow40 (k0_pay168 v40 v51 v363) (fun j => rstd x (j / 40) * γ j) H.s l)
    (fun l => slow41 (k0_pay169 v40 v51 v62 v112 v363) (fun j => β j - mean x (j / 40) * (rstd x (j / 40) * γ j)) H.t l)
    (fun l => slow42 v112 (fun j => mean x (j / 40)) H.m l)
    (fun l => slow43 (k0_pay167 v40 v363) (fun j => rstd x (j / 40)) H.r l)

/-- The twenty rows stored, from the running sums. -/
theorem fast_rows (x : ℕ → ℕ → ℝ) (γ β : ℕ → ℝ) (v40 : FVec Ideal S1280x128 .f32) (v51 : FVec Ideal S1x1280 .f32) (v62 : FVec Ideal S1x1280 .f32) (v78 : FVec Ideal S1x128 .f32) (v80 : FVec Ideal S8x256 .f32) (v82 : FVec Ideal S8x256 .f32) (v84 : FVec Ideal S8x256 .f32) (v85 : Vec Ideal S1x8x256 .f32) (v87 : Vec Ideal S1x8x256 .f32)
    (H : Chan x γ β v51 v62 (k0_pay212 v40 v78) (k0_pay213 v40 v78 v80 v82 v84 v85 v87) (k0_pay214 v40 v51 v78 v80 v82 v84 v85 v87) (k0_pay215 v40 v51 v62 v78 v80 v82 v84 v85 v87)) :
    Pcs (e := .f32) (cvG x γ β) (fun y => (y 1).val < 4) [⟨Rect.unit (s := S5x8x256) ![4, 3, 0] ![1, 1, 256] inb_S5x8x256_S1x1x256_4_3_0, k0_pay239 (k0_pay213 v40 v78 v80 v82 v84 v85 v87)⟩,
      ⟨Rect.unit (s := S5x8x256) ![4, 2, 0] ![1, 1, 256] inb_S5x8x256_S1x1x256_4_2_0, k0_pay238 (k0_pay212 v40 v78)⟩,
      ⟨Rect.unit (s := S5x8x256) ![4, 1, 0] ![1, 1, 256] inb_S5x8x256_S1x1x256_4_1_0, k0_pay237 (k0_pay215 v40 v51 v62 v78 v80 v82 v84 v85 v87)⟩,
      ⟨Rect.unit (s := S5x8x256) ![4, 0, 0] ![1, 1, 256] inb_S5x8x256_S1x1x256_4_0_0, k0_pay236 (k0_pay214 v40 v51 v78 v80 v82 v84 v85 v87)⟩,
      ⟨Rect.unit (s := S5x8x256) ![3, 3, 0] ![1, 1, 256] inb_S5x8x256_S1x1x256_3_3_0, k0_pay235 (k0_pay213 v40 v78 v80 v82 v84 v85 v87)⟩,
      ⟨Rect.unit (s := S5x8x256) ![3, 2, 0] ![1, 1, 256] inb_S5x8x256_S1x1x256_3_2_0, k0_pay234 (k0_pay212 v40 v78)⟩,
      ⟨Rect.unit (s := S5x8x256) ![3, 1, 0] ![1, 1, 256] inb_S5x8x256_S1x1x256_3_1_0, k0_pay233 (k0_pay232 (k0_pay215 v40 v51 v62 v78 v80 v82 v84 v85 v87))⟩,
      ⟨Rect.unit (s := S5x8x256) ![3, 0, 0] ![1, 1, 256] inb_S5x8x256_S1x1x256_3_0_0, k0_pay231 (k0_pay214 v40 v51 v78 v80 v82 v84 v85 v87)⟩,
      ⟨Rect.unit (s := S5x8x256) ![2, 3, 0] ![1, 1, 256] inb_S5x8x256_S1x1x256_2_3_0, k0_pay230 (k0_pay213 v40 v78 v80 v82 v84 v85 v87)⟩,
      ⟨Rect.unit (s := S5x8x256) ![2, 2, 0] ![1, 1, 256] inb_S5x8x256_S1x1x256_2_2_0, k0_pay229 (k0_pay212 v40 v78)⟩,
      ⟨Rect.unit (s := S5x8x256) ![2, 1, 0] ![1, 1, 256] inb_S5x8x256_S1x1x256_2_1_0, k0_pay228 (k0_pay215 v40 v51 v62 v78 v80 v82 v84 v85 v87)⟩,
      ⟨Rect.unit (s := S5x8x256) ![2, 0, 0] ![1, 1, 256] inb_S5x8x256_S1x1x256_2_0_0, k0_pay227 (k0_pay214 v40 v51 v78 v80 v82 v84 v85 v87)⟩,
      ⟨Rect.unit (s := S5x8x256) ![1, 3, 0] ![1, 1, 256] inb_S5x8x256_S1x1x256_1_3_0, k0_pay226 (k0_pay225 (k0_pay213 v40 v78 v80 v82 v84 v85 v87))⟩,
      ⟨Rect.unit (s := S5x8x256) ![1, 2, 0] ![1, 1, 256] inb_S5x8x256_S1x1x256_1_2_0, k0_pay224 (k0_pay212 v40 v78)⟩,
      ⟨Rect.unit (s := S5x8x256) ![1, 1, 0] ![1, 1, 256] inb_S5x8x256_S1x1x256_1_1_0, k0_pay223 (k0_pay215 v40 v51 v62 v78 v80 v82 v84 v85 v87)⟩,
      ⟨Rect.unit (s := S5x8x256) ![1, 0, 0] ![1, 1, 256] inb_S5x8x256_S1x1x256_1_0_0, k0_pay222 (k0_pay214 v40 v51 v78 v80 v82 v84 v85 v87)⟩,
      ⟨Rect.unit (s := S5x8x256) ![0, 3, 0] ![1, 1, 256] inb_S5x8x256_S1x1x256_0_3_0, k0_pay221 (k0_pay213 v40 v78 v80 v82 v84 v85 v87)⟩,
      ⟨Rect.unit (s := S5x8x256) ![0, 2, 0] ![1, 1, 256] inb_S5x8x256_S1x1x256_0_2_0, k0_pay220 (k0_pay212 v40 v78)⟩,
      ⟨Rect.unit (s := S5x8x256) ![0, 1, 0] ![1, 1, 256] inb_S5x8x256_S1x1x256_0_1_0, k0_pay219 (k0_pay217 v40 v51 v62 v78 v80 v82 v84 v85 v87) (k0_pay218)⟩,
      ⟨Rect.unit (s := S5x8x256) ![0, 0, 0] ![1, 1, 256] inb_S5x8x256_S1x1x256_0_0_0, k0_pay216 v40 v51 v78 v80 v82 v84 v85 v87⟩] :=
  rows20 x γ β _ _ _ _ _ _ _ _ _ _ _ _ _ _ _ _ _ _ _ _
    (fun l => fast00 v40 v51 v78 v80 v82 v84 v85 v87 (fun j => rstd x (j / 40) * γ j) H.s l)
    (fun l => fast01 v40 v51 v62 v78 v80 v82 v84 v85 v87 (fun j => β j - mean x (j / 40) * (rstd x (j / 40) * γ j)) H.t l)
    (fun l => fast02 (k0_pay212 v40 v78) (fun j => mean x (j / 40)) H.m l)
    (fun l => fast03 (k0_pay213 v40 v78 v80 v82 v84 v85 v87) (fun j => rstd x (j / 40)) H.r l)
    (fun l => fast10 (k0_pay214 v40 v51 v78 v80 v82 v84 v85 v87) (fun j => rstd x (j / 40) * γ j) H.s l)
    (fun l => fast11 (k0_pay215 v40 v51 v62 v78 v80 v82 v84 v85 v87) (fun j => β j - mean x (j / 40) * (rstd x (j / 40) * γ j)) H.t l)
    (fun l => fast12 (k0_pay212 v40 v78) (fun j => mean x (j / 40)) H.m l)
    (fun l => fast13 (k0_pay213 v40 v78 v80 v82 v84 v85 v87) (fun j => rstd x (j / 40)) H.r l)
    (fun l => fast20 (k0_pay214 v40 v51 v78 v80 v82 v84 v85 v87) (fun j => rstd x (j / 40) * γ j) H.s l)
    (fun l => fast21 (k0_pay215 v40 v51 v62 v78 v80 v82 v84 v85 v87) (fun j => β j - mean x (j / 40) * (rstd x (j / 40) * γ j)) H.t l)
    (fun l => fast22 (k0_pay212 v40 v78) (fun j => mean x (j / 40)) H.m l)
    (fun l => fast23 (k0_pay213 v40 v78 v80 v82 v84 v85 v87) (fun j => rstd x (j / 40)) H.r l)
    (fun l => fast30 (k0_pay214 v40 v51 v78 v80 v82 v84 v85 v87) (fun j => rstd x (j / 40) * γ j) H.s l)
    (fun l => fast31 (k0_pay215 v40 v51 v62 v78 v80 v82 v84 v85 v87) (fun j => β j - mean x (j / 40) * (rstd x (j / 40) * γ j)) H.t l)
    (fun l => fast32 (k0_pay212 v40 v78) (fun j => mean x (j / 40)) H.m l)
    (fun l => fast33 (k0_pay213 v40 v78 v80 v82 v84 v85 v87) (fun j => rstd x (j / 40)) H.r l)
    (fun l => fast40 (k0_pay214 v40 v51 v78 v80 v82 v84 v85 v87) (fun j => rstd x (j / 40) * γ j) H.s l)
    (fun l => fast41 (k0_pay215 v40 v51 v62 v78 v80 v82 v84 v85 v87) (fun j => β j - mean x (j / 40) * (rstd x (j / 40) * γ j)) H.t l)
    (fun l => fast42 (k0_pay212 v40 v78) (fun j => mean x (j / 40)) H.m l)
    (fun l => fast43 (k0_pay213 v40 v78 v80 v82 v84 v85 v87) (fun j => rstd x (j / 40)) H.r l)

/-- The constants read back. -/
theorem cv_rows (x : ℕ → ℕ → ℝ) (γ β : ℕ → ℝ) (hb : amax x γ β ≤ 406 * 2 ^ 126) (v : View sig .tc .vmem S5x8x256 .f32) (f : v.ty.Contents (Elt Ideal))
    (L : List (View.Piece (Elt Ideal) S5x8x256 .f32)) (hL : Pcs (e := .f32) (cvG x γ β) (fun y => (y 1).val < 4) L) (w : BitVec 32) (hw : w = BitVec.ofInt 32 (expo (amax x γ β))) (k : Fin 5) :
    Coef x γ β k.val (cvcol (v.read (Elt Ideal) (v.writes (Elt Ideal) f L)) k) w := by
  have hx := expo_bounds _ hb
  refine ⟨fun l => ?_, fun l => ?_, fun l => ?_, fun l => ?_, hw, hx.1, hx.2⟩
  · exact (hL.read_in v f (ix3 k 0 l) (by show (0 : ℕ) < 4; omega)).trans (if_pos rfl)
  · exact (hL.read_in v f (ix3 k 1 l) (by show (1 : ℕ) < 4; omega)).trans ((if_neg (by show ¬((1 : ℕ) = 0); omega)).trans (if_pos rfl))
  · exact (hL.read_in v f (ix3 k 2 l) (by show (2 : ℕ) < 4; omega)).trans ((if_neg (by show ¬((2 : ℕ) = 0); omega)).trans ((if_neg (by show ¬((2 : ℕ) = 1); omega)).trans (if_pos rfl)))
  · exact (hL.read_in v f (ix3 k 3 l) (by show (3 : ℕ) < 4; omega)).trans ((if_neg (by show ¬((3 : ℕ) = 0); omega)).trans ((if_neg (by show ¬((3 : ℕ) = 1); omega)).trans (if_neg (by show ¬((3 : ℕ) = 2); omega))))

/-- The word of the second look. -/
theorem slow_word (x : ℕ → ℕ → ℝ) (γ β : ℕ → ℝ) (v479 : FVec Ideal S8x256 .f32)
    (h : ∀ (r : Fin 8) (l : Fin 256) (C : EReal), v479 (ix2 r l) ≤ C ↔ 0 ≤ C ∧ ∀ k < 5, ∀ m < 512, ((|silu (aff x γ β (8 * m + r.val) (256 * k + l.val))| : ℝ) : EReal) ≤ C)
    (v487 : IVec S8x128 32) (h7 : ∀ (a : Fin 8) (b : Fin 128), v487 (ix2 a b) = BitVec.ofNat 32 a.val) inp :
    extractAt ![0, 0, 0] (k0_pay41 (F := Ideal) (k0_pay197 v479) (k0_pay198 v479) v487 k0_pay199) inp = BitVec.ofInt 32 (expo (amax x γ β)) :=
  pay41_at _ _ (amax x γ β) (amax_nonneg x γ β) (pay197_at x γ β v479 h) (pay198_at v479 _ (pay197_at x γ β v479 h)) v487 h7 inp

theorem iota_at (a : Fin 8) (b : Fin 128) : iota Kind.tc S8x128 32 [0] iota_S8x128_d0_w32 (ix2 a b) = BitVec.ofNat 32 a.val := by pointwise

def devG (D : ℕ → ℕ → ℝ) (y : S5x8x256.Idx) : Elt Ideal .f32 := ((D (y 1).val (256 * (y 0).val + (y 2).val) : ℝ) : EReal)

theorem pay153_at (u : FVec Ideal S8x256 .f32) (a : Fin 8) (l : Fin 256) : k0_pay153 (F := Ideal) u (ix3 0 a l) = u (ix2 a l) := by pointwise [k0_pay153]
theorem pay156_at (u : FVec Ideal S8x256 .f32) (a : Fin 8) (l : Fin 256) : k0_pay156 (F := Ideal) u (ix3 0 a l) = u (ix2 a l) := by pointwise [k0_pay156]
theorem pay159_at (u : FVec Ideal S8x256 .f32) (a : Fin 8) (l : Fin 256) : k0_pay159 (F := Ideal) u (ix3 0 a l) = u (ix2 a l) := by pointwise [k0_pay159]
theorem pay162_at (u : FVec Ideal S8x256 .f32) (a : Fin 8) (l : Fin 256) : k0_pay162 (F := Ideal) u (ix3 0 a l) = u (ix2 a l) := by pointwise [k0_pay162]
theorem pay165_at (u : FVec Ideal S8x256 .f32) (a : Fin 8) (l : Fin 256) : k0_pay165 (F := Ideal) u (ix3 0 a l) = u (ix2 a l) := by pointwise [k0_pay165]
theorem pay151_zero (a : Fin 8) (l : Fin 256) : k0_pay151 (F := Ideal) (ix2 a l) = 0 := by pointwise [k0_pay151]
theorem pay154_zero (a : Fin 8) (l : Fin 256) : k0_pay154 (F := Ideal) (ix2 a l) = 0 := by pointwise [k0_pay154]
theorem pay157_zero (a : Fin 8) (l : Fin 256) : k0_pay157 (F := Ideal) (ix2 a l) = 0 := by pointwise [k0_pay157]
theorem pay160_zero (a : Fin 8) (l : Fin 256) : k0_pay160 (F := Ideal) (ix2 a l) = 0 := by pointwise [k0_pay160]
theorem pay163_zero (a : Fin 8) (l : Fin 256) : k0_pay163 (F := Ideal) (ix2 a l) = 0 := by pointwise [k0_pay163]
theorem pay191_zero (a : Fin 8) (l : Fin 256) : k0_pay191 (F := Ideal) (ix2 a l) = 0 := by pointwise [k0_pay191]

/-- The sums of squared deviations, stored. -/
theorem dev_pcs (D : ℕ → ℕ → ℝ) (u0 u1 u2 u3 u4 : FVec Ideal S8x256 .f32) (h0 : ∀ (a : Fin 8) (l : Fin 256), u0 (ix2 a l) = ((D a.val (256 * 0 + l.val) : ℝ) : EReal)) (h1 : ∀ (a : Fin 8) (l : Fin 256), u1 (ix2 a l) = ((D a.val (256 * 1 + l.val) : ℝ) : EReal)) (h2 : ∀ (a : Fin 8) (l : Fin 256), u2 (ix2 a l) = ((D a.val (256 * 2 + l.val) : ℝ) : EReal)) (h3 : ∀ (a : Fin 8) (l : Fin 256), u3 (ix2 a l) = ((D a.val (256 * 3 + l.val) : ℝ) : EReal)) (h4 : ∀ (a : Fin 8) (l : Fin 256), u4 (ix2 a l) = ((D a.val (256 * 4 + l.val) : ℝ) : EReal)) :
    Pcs (e := .f32) (devG D) (fun _ => True) [⟨Rect.unit (s := S5x8x256) ![4, 0, 0] ![1, 8, 256] inb_S5x8x256_S1x8x256_4_0_0, k0_pay165 (F := Ideal) u4⟩, ⟨Rect.unit (s := S5x8x256) ![3, 0, 0] ![1, 8, 256] inb_S5x8x256_S1x8x256_3_0_0, k0_pay162 (F := Ideal) u3⟩, ⟨Rect.unit (s := S5x8x256) ![2, 0, 0] ![1, 8, 256] inb_S5x8x256_S1x8x256_2_0_0, k0_pay159 (F := Ideal) u2⟩, ⟨Rect.unit (s := S5x8x256) ![1, 0, 0] ![1, 8, 256] inb_S5x8x256_S1x8x256_1_0_0, k0_pay156 (F := Ideal) u1⟩, ⟨Rect.unit (s := S5x8x256) ![0, 0, 0] ![1, 8, 256] inb_S5x8x256_S1x8x256_0_0_0, k0_pay153 (F := Ideal) u0⟩] := by
  have key : ∀ (k : Fin 5) (w : Vec Ideal S1x8x256 .f32), (∀ (a : Fin 8) (l : Fin 256), w (ix3 0 a l) = ((D a.val (256 * k.val + l.val) : ℝ) : EReal)) →
      ∀ (p : Fin 1) (q : Fin 8) (r : Fin 256) (hp : k.val + p.val < 5) (hq : 0 + q.val < 8) (hr : 0 + r.val < 256), w (ix3 p q r) = devG D (ix3 ⟨k.val + p.val, hp⟩ ⟨0 + q.val, hq⟩ ⟨0 + r.val, hr⟩) := by
    intro k w hw p q r hp hq hr
    have hp0 : p = 0 := Subsingleton.elim _ _
    subst hp0
    rw [hw]
    show _ = ((D (0 + q.val) (256 * (k.val + 0) + (0 + r.val)) : ℝ) : EReal)
    rw [Nat.zero_add, Nat.zero_add, Nat.add_zero]
  refine Pcs.congr ((((((Pcs.nil _).cons3 _ inb_S5x8x256_S1x8x256_0_0_0 rfl _ (key 0 _ fun a l => (pay153_at u0 a l).trans (h0 a l))).cons3 _ inb_S5x8x256_S1x8x256_1_0_0 rfl _ (key 1 _ fun a l => (pay156_at u1 a l).trans (h1 a l))).cons3 _ inb_S5x8x256_S1x8x256_2_0_0 rfl _
    (key 2 _ fun a l => (pay159_at u2 a l).trans (h2 a l))).cons3 _ inb_S5x8x256_S1x8x256_3_0_0 rfl _ (key 3 _ fun a l => (pay162_at u3 a l).trans (h3 a l))).cons3 _ inb_S5x8x256_S1x8x256_4_0_0 rfl _ (key 4 _ fun a l => (pay165_at u4 a l).trans (h4 a l))) fun y => ?_
  have b0 : (y 0).val < 5 := (y 0).isLt
  have b1 : (y 1).val < 8 := (y 1).isLt
  have b2 : (y 2).val < 256 := (y 2).isLt
  simp only [InBlk, or_false]
  constructor
  · intro _; trivial
  · intro _; omega

/-- One column of them read back. -/
theorem dev_read (D : ℕ → ℕ → ℝ) (v : View sig .tc .vmem S5x8x256 .f32) (L : List (View.Piece (Elt Ideal) S5x8x256 .f32)) (hL : Pcs (e := .f32) (devG D) (fun _ => True) L) (k : Fin 5)
    (off : Fin 3 → ℕ) (inb : ∀ a, off a + (![1, 8, 256] : Fin 3 → ℕ) a ≤ S5x8x256.size a) (h : off = ![k.val, 0, 0]) (a : Fin 8) (l : Fin 256) :
    v.readCov L (Rect.unit (s := S5x8x256) off (![1, 8, 256]) inb).toLoadRect (ix3 0 a l) = ((D a.val (256 * k.val + l.val) : ℝ) : EReal) :=
  (st8_read v _ k off inb h a l).trans (hL.read_in v _ (ix3 k a l) trivial)

end Cert.KernelIdeal.Hand

end
-- ==== Proof.Value.T5.lean ====
/-
  Hand-written, untrusted. the loops that sum squared deviations from the channel means.
-/
module

public import proofs.«01_k».proof.Proof.Value.Code

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

variable (𝒱 : Variants) (c : Dev nD) (bd : Option 𝒱.V) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole)

/-- Block 0: one trip adds four rows of squared deviations. -/
theorem t5_trip (k0_h5 : k0_cond5 i = 1#1) (v112 : FVec Ideal S1x1280 .f32) (X_arg7 : BufTy.Contents (Elt Ideal) arg7.view.ty) (k : Fin k0_t5_loop.trips) (x : ℕ → ℕ → ℝ) (M : ℕ → ℝ)
    (hM : ∀ j : Fin 1280, v112 (ix2 0 j) = ((M j.val : ℝ) : EReal))
    (hx : ∀ (r : Fin 4096) (l : Fin 256), arg7.view.read (Elt Ideal) X_arg7 (ix3 0 r l) = ((x r.val (256 * 0 + l.val) : ℝ) : EReal))
    (acc : FVec Ideal S8x256 .f32) (r : Fin 8) (l : Fin 256) (A : ℝ) (hA : acc (ix2 r l) = ((A : ℝ) : EReal)) :
    tripR_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v112 X_arg7 k acc (ix2 r l)
      = ((A + ∑ m ∈ Finset.range 4, (fun m => (x (8 * m + r.val) (256 * 0 + l.val) - M (256 * 0 + l.val)) * (x (8 * m + r.val) (256 * 0 + l.val) - M (256 * 0 + l.val))) (4 * k.val + m) : ℝ) : EReal) := by
    have d : ∀ (inb) (R : Fin 32) (l : Fin 256), arg7.view.readAt (Elt Ideal) (Rect.unit (s := S5x4096x256) (k0_off16 k) (![1, 32, 256]) inb).toLoadRect X_arg7 (ix3 0 R l) = ((x (32 * k.val + R.val) (256 * 0 + l.val) : ℝ) : EReal) :=
      fun inb R l => chunk5 arg7.view X_arg7 (fun r l => x r (256 * 0 + l)) id 0 (32 * k.val) (fun r l _ => hx r l) _ inb (off16_eq k) R l
    unfold tripR_k0_t5 trip_k0_t5
    dsimp only
    have e0 : 32 * k.val + r.val = 8 * (4 * k.val) + r.val := by omega
    have e1 : 32 * k.val + (8 + r.val) = 8 * (4 * k.val + 1) + r.val := by omega
    have e2 : 32 * k.val + (16 + r.val) = 8 * (4 * k.val + 2) + r.val := by omega
    have e3 : 32 * k.val + (24 + r.val) = 8 * (4 * k.val + 3) + r.val := by omega
    pointwise [k0_pay152]
    simp only [d, hM, hA, e0, e1, e2, e3, Finset.sum_range_succ, Finset.sum_range_zero, EReal.coe_add, EReal.coe_mul, EReal.coe_sub, add_assoc, add_zero, zero_add, Nat.mul_zero]

/-- Block 0: after `n` trips, the squared deviations of `32 n` rows. -/
theorem t5_st (k0_h5 : k0_cond5 i = 1#1) (v112 : FVec Ideal S1x1280 .f32) (X_arg7 : BufTy.Contents (Elt Ideal) arg7.view.ty) (x : ℕ → ℕ → ℝ) (M : ℕ → ℝ)
    (hM : ∀ j : Fin 1280, v112 (ix2 0 j) = ((M j.val : ℝ) : EReal))
    (hx : ∀ (r : Fin 4096) (l : Fin 256), arg7.view.read (Elt Ideal) X_arg7 (ix3 0 r l) = ((x r.val (256 * 0 + l.val) : ℝ) : EReal))
    (init : FVec Ideal S8x256 .f32) (h0 : ∀ (r : Fin 8) (l : Fin 256), init (ix2 r l) = 0) (r : Fin 8) (l : Fin 256) :
    ∀ (n : ℕ) (hn : n ≤ 128), st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v112 X_arg7 init n (ix2 r l)
      = ((∑ m ∈ Finset.range (4 * n), (x (8 * m + r.val) (256 * 0 + l.val) - M (256 * 0 + l.val)) * (x (8 * m + r.val) (256 * 0 + l.val) - M (256 * 0 + l.val)) : ℝ) : EReal)
  | 0, _ => by
    show init (ix2 r l) = _
    rw [h0]; simp
  | n + 1, hn => by
    have ih := t5_st k0_h5 v112 X_arg7 x M hM hx init h0 r l n (by omega)
    have hk : n < k0_t5_loop.trips := lt_of_lt_of_eq (show n < 128 by omega) trips5.symm
    have e := st_k0_t5_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v112 X_arg7 init ⟨n, hk⟩
    refine (congrFun e (ix2 r l)).trans ?_
    rw [t5_trip 𝒱 c bd i arg2 harg2 arg3 harg3 arg4 harg4 arg5 harg5 arg6 harg6 arg7 harg7 arg8 harg8 arg9 harg9 arg10 harg10 arg11 harg11 arg12 harg12 arg13 harg13 arg14 harg14 k0_h5 v112 X_arg7 ⟨n, hk⟩ x M hM hx _ r l _ ih, show 4 * (n + 1) = 4 * n + 4 from rfl, Finset.sum_range_add]

/-- Block 1: one trip adds four rows of squared deviations. -/
theorem t6_trip (k0_h5 : k0_cond5 i = 1#1) (v112 : FVec Ideal S1x1280 .f32) (X_arg7 : BufTy.Contents (Elt Ideal) arg7.view.ty) (k : Fin k0_t6_loop.trips) (x : ℕ → ℕ → ℝ) (M : ℕ → ℝ)
    (hM : ∀ j : Fin 1280, v112 (ix2 0 j) = ((M j.val : ℝ) : EReal))
    (hx : ∀ (r : Fin 4096) (l : Fin 256), arg7.view.read (Elt Ideal) X_arg7 (ix3 1 r l) = ((x r.val (256 * 1 + l.val) : ℝ) : EReal))
    (acc : FVec Ideal S8x256 .f32) (r : Fin 8) (l : Fin 256) (A : ℝ) (hA : acc (ix2 r l) = ((A : ℝ) : EReal)) :
    tripR_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v112 X_arg7 k acc (ix2 r l)
      = ((A + ∑ m ∈ Finset.range 4, (fun m => (x (8 * m + r.val) (256 * 1 + l.val) - M (256 * 1 + l.val)) * (x (8 * m + r.val) (256 * 1 + l.val) - M (256 * 1 + l.val))) (4 * k.val + m) : ℝ) : EReal) := by
    have d : ∀ (inb) (R : Fin 32) (l : Fin 256), arg7.view.readAt (Elt Ideal) (Rect.unit (s := S5x4096x256) (k0_off17 k) (![1, 32, 256]) inb).toLoadRect X_arg7 (ix3 0 R l) = ((x (32 * k.val + R.val) (256 * 1 + l.val) : ℝ) : EReal) :=
      fun inb R l => chunk5 arg7.view X_arg7 (fun r l => x r (256 * 1 + l)) id 1 (32 * k.val) (fun r l _ => hx r l) _ inb (off17_eq k) R l
    unfold tripR_k0_t6 trip_k0_t6
    dsimp only
    have e0 : 32 * k.val + r.val = 8 * (4 * k.val) + r.val := by omega
    have e1 : 32 * k.val + (8 + r.val) = 8 * (4 * k.val + 1) + r.val := by omega
    have e2 : 32 * k.val + (16 + r.val) = 8 * (4 * k.val + 2) + r.val := by omega
    have e3 : 32 * k.val + (24 + r.val) = 8 * (4 * k.val + 3) + r.val := by omega
    pointwise [k0_pay155]
    simp only [d, hM, hA, e0, e1, e2, e3, Finset.sum_range_succ, Finset.sum_range_zero, EReal.coe_add, EReal.coe_mul, EReal.coe_sub, add_assoc, add_zero, zero_add, Nat.mul_zero]

/-- Block 1: after `n` trips, the squared deviations of `32 n` rows. -/
theorem t6_st (k0_h5 : k0_cond5 i = 1#1) (v112 : FVec Ideal S1x1280 .f32) (X_arg7 : BufTy.Contents (Elt Ideal) arg7.view.ty) (x : ℕ → ℕ → ℝ) (M : ℕ → ℝ)
    (hM : ∀ j : Fin 1280, v112 (ix2 0 j) = ((M j.val : ℝ) : EReal))
    (hx : ∀ (r : Fin 4096) (l : Fin 256), arg7.view.read (Elt Ideal) X_arg7 (ix3 1 r l) = ((x r.val (256 * 1 + l.val) : ℝ) : EReal))
    (init : FVec Ideal S8x256 .f32) (h0 : ∀ (r : Fin 8) (l : Fin 256), init (ix2 r l) = 0) (r : Fin 8) (l : Fin 256) :
    ∀ (n : ℕ) (hn : n ≤ 128), st_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v112 X_arg7 init n (ix2 r l)
      = ((∑ m ∈ Finset.range (4 * n), (x (8 * m + r.val) (256 * 1 + l.val) - M (256 * 1 + l.val)) * (x (8 * m + r.val) (256 * 1 + l.val) - M (256 * 1 + l.val)) : ℝ) : EReal)
  | 0, _ => by
    show init (ix2 r l) = _
    rw [h0]; simp
  | n + 1, hn => by
    have ih := t6_st k0_h5 v112 X_arg7 x M hM hx init h0 r l n (by omega)
    have hk : n < k0_t6_loop.trips := lt_of_lt_of_eq (show n < 128 by omega) trips6.symm
    have e := st_k0_t6_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v112 X_arg7 init ⟨n, hk⟩
    refine (congrFun e (ix2 r l)).trans ?_
    rw [t6_trip 𝒱 c bd i arg2 harg2 arg3 harg3 arg4 harg4 arg5 harg5 arg6 harg6 arg7 harg7 arg8 harg8 arg9 harg9 arg10 harg10 arg11 harg11 arg12 harg12 arg13 harg13 arg14 harg14 k0_h5 v112 X_arg7 ⟨n, hk⟩ x M hM hx _ r l _ ih, show 4 * (n + 1) = 4 * n + 4 from rfl, Finset.sum_range_add]

/-- Block 2: one trip adds four rows of squared deviations. -/
theorem t7_trip (k0_h5 : k0_cond5 i = 1#1) (v112 : FVec Ideal S1x1280 .f32) (X_arg7 : BufTy.Contents (Elt Ideal) arg7.view.ty) (k : Fin k0_t7_loop.trips) (x : ℕ → ℕ → ℝ) (M : ℕ → ℝ)
    (hM : ∀ j : Fin 1280, v112 (ix2 0 j) = ((M j.val : ℝ) : EReal))
    (hx : ∀ (r : Fin 4096) (l : Fin 256), arg7.view.read (Elt Ideal) X_arg7 (ix3 2 r l) = ((x r.val (256 * 2 + l.val) : ℝ) : EReal))
    (acc : FVec Ideal S8x256 .f32) (r : Fin 8) (l : Fin 256) (A : ℝ) (hA : acc (ix2 r l) = ((A : ℝ) : EReal)) :
    tripR_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v112 X_arg7 k acc (ix2 r l)
      = ((A + ∑ m ∈ Finset.range 4, (fun m => (x (8 * m + r.val) (256 * 2 + l.val) - M (256 * 2 + l.val)) * (x (8 * m + r.val) (256 * 2 + l.val) - M (256 * 2 + l.val))) (4 * k.val + m) : ℝ) : EReal) := by
    have d : ∀ (inb) (R : Fin 32) (l : Fin 256), arg7.view.readAt (Elt Ideal) (Rect.unit (s := S5x4096x256) (k0_off18 k) (![1, 32, 256]) inb).toLoadRect X_arg7 (ix3 0 R l) = ((x (32 * k.val + R.val) (256 * 2 + l.val) : ℝ) : EReal) :=
      fun inb R l => chunk5 arg7.view X_arg7 (fun r l => x r (256 * 2 + l)) id 2 (32 * k.val) (fun r l _ => hx r l) _ inb (off18_eq k) R l
    unfold tripR_k0_t7 trip_k0_t7
    dsimp only
    have e0 : 32 * k.val + r.val = 8 * (4 * k.val) + r.val := by omega
    have e1 : 32 * k.val + (8 + r.val) = 8 * (4 * k.val + 1) + r.val := by omega
    have e2 : 32 * k.val + (16 + r.val) = 8 * (4 * k.val + 2) + r.val := by omega
    have e3 : 32 * k.val + (24 + r.val) = 8 * (4 * k.val + 3) + r.val := by omega
    pointwise [k0_pay158]
    simp only [d, hM, hA, e0, e1, e2, e3, Finset.sum_range_succ, Finset.sum_range_zero, EReal.coe_add, EReal.coe_mul, EReal.coe_sub, add_assoc, add_zero, zero_add, Nat.mul_zero]

/-- Block 2: after `n` trips, the squared deviations of `32 n` rows. -/
theorem t7_st (k0_h5 : k0_cond5 i = 1#1) (v112 : FVec Ideal S1x1280 .f32) (X_arg7 : BufTy.Contents (Elt Ideal) arg7.view.ty) (x : ℕ → ℕ → ℝ) (M : ℕ → ℝ)
    (hM : ∀ j : Fin 1280, v112 (ix2 0 j) = ((M j.val : ℝ) : EReal))
    (hx : ∀ (r : Fin 4096) (l : Fin 256), arg7.view.read (Elt Ideal) X_arg7 (ix3 2 r l) = ((x r.val (256 * 2 + l.val) : ℝ) : EReal))
    (init : FVec Ideal S8x256 .f32) (h0 : ∀ (r : Fin 8) (l : Fin 256), init (ix2 r l) = 0) (r : Fin 8) (l : Fin 256) :
    ∀ (n : ℕ) (hn : n ≤ 128), st_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v112 X_arg7 init n (ix2 r l)
      = ((∑ m ∈ Finset.range (4 * n), (x (8 * m + r.val) (256 * 2 + l.val) - M (256 * 2 + l.val)) * (x (8 * m + r.val) (256 * 2 + l.val) - M (256 * 2 + l.val)) : ℝ) : EReal)
  | 0, _ => by
    show init (ix2 r l) = _
    rw [h0]; simp
  | n + 1, hn => by
    have ih := t7_st k0_h5 v112 X_arg7 x M hM hx init h0 r l n (by omega)
    have hk : n < k0_t7_loop.trips := lt_of_lt_of_eq (show n < 128 by omega) trips7.symm
    have e := st_k0_t7_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v112 X_arg7 init ⟨n, hk⟩
    refine (congrFun e (ix2 r l)).trans ?_
    rw [t7_trip 𝒱 c bd i arg2 harg2 arg3 harg3 arg4 harg4 arg5 harg5 arg6 harg6 arg7 harg7 arg8 harg8 arg9 harg9 arg10 harg10 arg11 harg11 arg12 harg12 arg13 harg13 arg14 harg14 k0_h5 v112 X_arg7 ⟨n, hk⟩ x M hM hx _ r l _ ih, show 4 * (n + 1) = 4 * n + 4 from rfl, Finset.sum_range_add]

/-- Block 3: one trip adds four rows of squared deviations. -/
theorem t8_trip (k0_h5 : k0_cond5 i = 1#1) (v112 : FVec Ideal S1x1280 .f32) (X_arg7 : BufTy.Contents (Elt Ideal) arg7.view.ty) (k : Fin k0_t8_loop.trips) (x : ℕ → ℕ → ℝ) (M : ℕ → ℝ)
    (hM : ∀ j : Fin 1280, v112 (ix2 0 j) = ((M j.val : ℝ) : EReal))
    (hx : ∀ (r : Fin 4096) (l : Fin 256), arg7.view.read (Elt Ideal) X_arg7 (ix3 3 r l) = ((x r.val (256 * 3 + l.val) : ℝ) : EReal))
    (acc : FVec Ideal S8x256 .f32) (r : Fin 8) (l : Fin 256) (A : ℝ) (hA : acc (ix2 r l) = ((A : ℝ) : EReal)) :
    tripR_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v112 X_arg7 k acc (ix2 r l)
      = ((A + ∑ m ∈ Finset.range 4, (fun m => (x (8 * m + r.val) (256 * 3 + l.val) - M (256 * 3 + l.val)) * (x (8 * m + r.val) (256 * 3 + l.val) - M (256 * 3 + l.val))) (4 * k.val + m) : ℝ) : EReal) := by
    have d : ∀ (inb) (R : Fin 32) (l : Fin 256), arg7.view.readAt (Elt Ideal) (Rect.unit (s := S5x4096x256) (k0_off19 k) (![1, 32, 256]) inb).toLoadRect X_arg7 (ix3 0 R l) = ((x (32 * k.val + R.val) (256 * 3 + l.val) : ℝ) : EReal) :=
      fun inb R l => chunk5 arg7.view X_arg7 (fun r l => x r (256 * 3 + l)) id 3 (32 * k.val) (fun r l _ => hx r l) _ inb (off19_eq k) R l
    unfold tripR_k0_t8 trip_k0_t8
    dsimp only
    have e0 : 32 * k.val + r.val = 8 * (4 * k.val) + r.val := by omega
    have e1 : 32 * k.val + (8 + r.val) = 8 * (4 * k.val + 1) + r.val := by omega
    have e2 : 32 * k.val + (16 + r.val) = 8 * (4 * k.val + 2) + r.val := by omega
    have e3 : 32 * k.val + (24 + r.val) = 8 * (4 * k.val + 3) + r.val := by omega
    pointwise [k0_pay161]
    simp only [d, hM, hA, e0, e1, e2, e3, Finset.sum_range_succ, Finset.sum_range_zero, EReal.coe_add, EReal.coe_mul, EReal.coe_sub, add_assoc, add_zero, zero_add, Nat.mul_zero]

/-- Block 3: after `n` trips, the squared deviations of `32 n` rows. -/
theorem t8_st (k0_h5 : k0_cond5 i = 1#1) (v112 : FVec Ideal S1x1280 .f32) (X_arg7 : BufTy.Contents (Elt Ideal) arg7.view.ty) (x : ℕ → ℕ → ℝ) (M : ℕ → ℝ)
    (hM : ∀ j : Fin 1280, v112 (ix2 0 j) = ((M j.val : ℝ) : EReal))
    (hx : ∀ (r : Fin 4096) (l : Fin 256), arg7.view.read (Elt Ideal) X_arg7 (ix3 3 r l) = ((x r.val (256 * 3 + l.val) : ℝ) : EReal))
    (init : FVec Ideal S8x256 .f32) (h0 : ∀ (r : Fin 8) (l : Fin 256), init (ix2 r l) = 0) (r : Fin 8) (l : Fin 256) :
    ∀ (n : ℕ) (hn : n ≤ 128), st_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v112 X_arg7 init n (ix2 r l)
      = ((∑ m ∈ Finset.range (4 * n), (x (8 * m + r.val) (256 * 3 + l.val) - M (256 * 3 + l.val)) * (x (8 * m + r.val) (256 * 3 + l.val) - M (256 * 3 + l.val)) : ℝ) : EReal)
  | 0, _ => by
    show init (ix2 r l) = _
    rw [h0]; simp
  | n + 1, hn => by
    have ih := t8_st k0_h5 v112 X_arg7 x M hM hx init h0 r l n (by omega)
    have hk : n < k0_t8_loop.trips := lt_of_lt_of_eq (show n < 128 by omega) trips8.symm
    have e := st_k0_t8_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v112 X_arg7 init ⟨n, hk⟩
    refine (congrFun e (ix2 r l)).trans ?_
    rw [t8_trip 𝒱 c bd i arg2 harg2 arg3 harg3 arg4 harg4 arg5 harg5 arg6 harg6 arg7 harg7 arg8 harg8 arg9 harg9 arg10 harg10 arg11 harg11 arg12 harg12 arg13 harg13 arg14 harg14 k0_h5 v112 X_arg7 ⟨n, hk⟩ x M hM hx _ r l _ ih, show 4 * (n + 1) = 4 * n + 4 from rfl, Finset.sum_range_add]

/-- Block 4: one trip adds four rows of squared deviations. -/
theorem t9_trip (k0_h5 : k0_cond5 i = 1#1) (v40 : FVec Ideal S1280x128 .f32) (v112 : FVec Ideal S1x1280 .f32) (v332 : FVec Ideal S8x256 .f32) (X_arg7 : BufTy.Contents (Elt Ideal) arg7.view.ty) (k : Fin k0_t9_loop.trips) (x : ℕ → ℕ → ℝ) (M : ℕ → ℝ)
    (hM : ∀ j : Fin 1280, v112 (ix2 0 j) = ((M j.val : ℝ) : EReal))
    (hx : ∀ (r : Fin 4096) (l : Fin 256), arg7.view.read (Elt Ideal) X_arg7 (ix3 4 r l) = ((x r.val (256 * 4 + l.val) : ℝ) : EReal))
    (acc : FVec Ideal S8x256 .f32) (r : Fin 8) (l : Fin 256) (A : ℝ) (hA : acc (ix2 r l) = ((A : ℝ) : EReal)) :
    tripR_k0_t9 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v40 v112 v332 X_arg7 k acc (ix2 r l)
      = ((A + ∑ m ∈ Finset.range 4, (fun m => (x (8 * m + r.val) (256 * 4 + l.val) - M (256 * 4 + l.val)) * (x (8 * m + r.val) (256 * 4 + l.val) - M (256 * 4 + l.val))) (4 * k.val + m) : ℝ) : EReal) := by
    have d : ∀ (inb) (R : Fin 32) (l : Fin 256), arg7.view.readAt (Elt Ideal) (Rect.unit (s := S5x4096x256) (k0_off20 k) (![1, 32, 256]) inb).toLoadRect X_arg7 (ix3 0 R l) = ((x (32 * k.val + R.val) (256 * 4 + l.val) : ℝ) : EReal) :=
      fun inb R l => chunk5 arg7.view X_arg7 (fun r l => x r (256 * 4 + l)) id 4 (32 * k.val) (fun r l _ => hx r l) _ inb (off20_eq k) R l
    unfold tripR_k0_t9 trip_k0_t9
    dsimp only
    have e0 : 32 * k.val + r.val = 8 * (4 * k.val) + r.val := by omega
    have e1 : 32 * k.val + (8 + r.val) = 8 * (4 * k.val + 1) + r.val := by omega
    have e2 : 32 * k.val + (16 + r.val) = 8 * (4 * k.val + 2) + r.val := by omega
    have e3 : 32 * k.val + (24 + r.val) = 8 * (4 * k.val + 3) + r.val := by omega
    pointwise [k0_pay164]
    simp only [d, hM, hA, e0, e1, e2, e3, Finset.sum_range_succ, Finset.sum_range_zero, EReal.coe_add, EReal.coe_mul, EReal.coe_sub, add_assoc, add_zero, zero_add, Nat.mul_zero]

/-- Block 4: after `n` trips, the squared deviations of `32 n` rows. -/
theorem t9_st (k0_h5 : k0_cond5 i = 1#1) (v40 : FVec Ideal S1280x128 .f32) (v112 : FVec Ideal S1x1280 .f32) (v332 : FVec Ideal S8x256 .f32) (X_arg7 : BufTy.Contents (Elt Ideal) arg7.view.ty) (x : ℕ → ℕ → ℝ) (M : ℕ → ℝ)
    (hM : ∀ j : Fin 1280, v112 (ix2 0 j) = ((M j.val : ℝ) : EReal))
    (hx : ∀ (r : Fin 4096) (l : Fin 256), arg7.view.read (Elt Ideal) X_arg7 (ix3 4 r l) = ((x r.val (256 * 4 + l.val) : ℝ) : EReal))
    (init : FVec Ideal S8x256 .f32) (h0 : ∀ (r : Fin 8) (l : Fin 256), init (ix2 r l) = 0) (r : Fin 8) (l : Fin 256) :
    ∀ (n : ℕ) (hn : n ≤ 128), st_k0_t9 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v40 v112 v332 X_arg7 init n (ix2 r l)
      = ((∑ m ∈ Finset.range (4 * n), (x (8 * m + r.val) (256 * 4 + l.val) - M (256 * 4 + l.val)) * (x (8 * m + r.val) (256 * 4 + l.val) - M (256 * 4 + l.val)) : ℝ) : EReal)
  | 0, _ => by
    show init (ix2 r l) = _
    rw [h0]; simp
  | n + 1, hn => by
    have ih := t9_st k0_h5 v40 v112 v332 X_arg7 x M hM hx init h0 r l n (by omega)
    have hk : n < k0_t9_loop.trips := lt_of_lt_of_eq (show n < 128 by omega) trips9.symm
    have e := st_k0_t9_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v40 v112 v332 X_arg7 init ⟨n, hk⟩
    refine (congrFun e (ix2 r l)).trans ?_
    rw [t9_trip 𝒱 c bd i arg2 harg2 arg3 harg3 arg4 harg4 arg5 harg5 arg6 harg6 arg7 harg7 arg8 harg8 arg9 harg9 arg10 harg10 arg11 harg11 arg12 harg12 arg13 harg13 arg14 harg14 k0_h5 v40 v112 v332 X_arg7 ⟨n, hk⟩ x M hM hx _ r l _ ih, show 4 * (n + 1) = 4 * n + 4 from rfl, Finset.sum_range_add]

end Cert.KernelIdeal.Hand

end
-- ==== Proof.Value.T10.lean ====
/-
  Hand-written, untrusted. the loops that take the largest magnitude.
-/
module

public import proofs.«01_k».proof.Proof.Value.Code

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

theorem forall_split4 (P : ℕ → Prop) (k : ℕ) : (∀ m < 4 * (k + 1), P m) ↔ (∀ m < 4 * k, P m) ∧ ∀ m < 4, P (4 * k + m) := by
  constructor
  · intro h
    exact ⟨fun m hm => h m (by omega), fun m hm => h _ (by omega)⟩
  · rintro ⟨h1, h2⟩ m hm
    by_cases h : m < 4 * k
    · exact h1 m h
    · have := h2 (m - 4 * k) (by omega)
      rwa [Nat.add_sub_cancel' (by omega)] at this

variable (𝒱 : Variants) (c : Dev nD) (bd : Option 𝒱.V) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole)

/-- Block 0: one trip takes in four rows. -/
theorem t10_trip (k0_h5 : k0_cond5 i = 1#1) (v51 : FVec Ideal S1x1280 .f32) (v62 : FVec Ideal S1x1280 .f32) (v112 : FVec Ideal S1x1280 .f32) (v365 : FVec Ideal S1x1280 .f32) (X_arg7 : BufTy.Contents (Elt Ideal) arg7.view.ty) (k : Fin k0_t10_loop.trips) (x : ℕ → ℕ → ℝ) (γ β : ℕ → ℝ)
    (hg : ∀ j : Fin 1280, v51 (ix2 0 j) = ((γ j.val : ℝ) : EReal)) (hb : ∀ j : Fin 1280, v62 (ix2 0 j) = ((β j.val : ℝ) : EReal))
    (hm : ∀ j : Fin 1280, v112 (ix2 0 j) = ((mean x (j.val / 40) : ℝ) : EReal)) (hr : ∀ j : Fin 1280, v365 (ix2 0 j) = ((rstd x (j.val / 40) : ℝ) : EReal))
    (hx : ∀ (r : Fin 4096) (l : Fin 256), arg7.view.read (Elt Ideal) X_arg7 (ix3 0 r l) = ((x r.val (256 * 0 + l.val) : ℝ) : EReal))
    (acc : FVec Ideal S8x256 .f32) (r : Fin 8) (l : Fin 256) (C : EReal) :
    tripR_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v51 v62 v112 v365 X_arg7 k acc (ix2 r l) ≤ C
      ↔ acc (ix2 r l) ≤ C ∧ ∀ m < 4, ((|silu (aff x γ β (8 * (4 * k.val + m) + r.val) (256 * 0 + l.val))| : ℝ) : EReal) ≤ C := by
    have d : ∀ (inb) (R : Fin 32) (l : Fin 256), arg7.view.readAt (Elt Ideal) (Rect.unit (s := S5x4096x256) (k0_off21 k) (![1, 32, 256]) inb).toLoadRect X_arg7 (ix3 0 R l) = ((x (32 * k.val + R.val) (256 * 0 + l.val) : ℝ) : EReal) :=
      fun inb R l => chunk5 arg7.view X_arg7 (fun r l => x r (256 * 0 + l)) id 0 (32 * k.val) (fun r l _ => hx r l) _ inb (off21_eq k) R l
    unfold tripR_k0_t10 trip_k0_t10
    dsimp only
    have e0 : 32 * k.val + r.val = 8 * (4 * k.val) + r.val := by omega
    have e1 : 32 * k.val + (8 + r.val) = 8 * (4 * k.val + 1) + r.val := by omega
    have e2 : 32 * k.val + (16 + r.val) = 8 * (4 * k.val + 2) + r.val := by omega
    have e3 : 32 * k.val + (24 + r.val) = 8 * (4 * k.val + 3) + r.val := by omega
    have hs : ∀ r' j : ℕ, |silu ((x r' j - mean x (j / 40)) * rstd x (j / 40) * γ j + β j)| = |silu (aff x γ β r' j)| := fun _ _ => rfl
    pointwise [k0_pay192]
    simp only [d, hm, hr, hg, hb, ← EReal.coe_sub, ← EReal.coe_mul, ← EReal.coe_add, silu_coe0, abs_coe]
    simp only [Nat.mul_zero, Nat.zero_add]
    simp only [hs, max_le_iff, e0, e1, e2, e3, Nat.forall_lt_succ_right, and_assoc, add_zero, Nat.not_lt_zero, false_implies, forall_const, implies_true, true_and]

/-- Block 0: after `n` trips, the largest magnitude in `32 n` rows. -/
theorem t10_st (k0_h5 : k0_cond5 i = 1#1) (v51 : FVec Ideal S1x1280 .f32) (v62 : FVec Ideal S1x1280 .f32) (v112 : FVec Ideal S1x1280 .f32) (v365 : FVec Ideal S1x1280 .f32) (X_arg7 : BufTy.Contents (Elt Ideal) arg7.view.ty) (x : ℕ → ℕ → ℝ) (γ β : ℕ → ℝ)
    (hg : ∀ j : Fin 1280, v51 (ix2 0 j) = ((γ j.val : ℝ) : EReal)) (hb : ∀ j : Fin 1280, v62 (ix2 0 j) = ((β j.val : ℝ) : EReal))
    (hm : ∀ j : Fin 1280, v112 (ix2 0 j) = ((mean x (j.val / 40) : ℝ) : EReal)) (hr : ∀ j : Fin 1280, v365 (ix2 0 j) = ((rstd x (j.val / 40) : ℝ) : EReal))
    (hx : ∀ (r : Fin 4096) (l : Fin 256), arg7.view.read (Elt Ideal) X_arg7 (ix3 0 r l) = ((x r.val (256 * 0 + l.val) : ℝ) : EReal))
    (init : FVec Ideal S8x256 .f32) (r : Fin 8) (l : Fin 256) (C : EReal) :
    ∀ (n : ℕ) (hn : n ≤ 128), st_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v51 v62 v112 v365 X_arg7 init n (ix2 r l) ≤ C
      ↔ init (ix2 r l) ≤ C ∧ ∀ m < 4 * n, ((|silu (aff x γ β (8 * m + r.val) (256 * 0 + l.val))| : ℝ) : EReal) ≤ C
  | 0, _ => by
    show init (ix2 r l) ≤ C ↔ _
    simp
  | n + 1, hn => by
    have ih := t10_st k0_h5 v51 v62 v112 v365 X_arg7 x γ β hg hb hm hr hx init r l C n (by omega)
    have hk : n < k0_t10_loop.trips := lt_of_lt_of_eq (show n < 128 by omega) trips10.symm
    have e := st_k0_t10_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v51 v62 v112 v365 X_arg7 init ⟨n, hk⟩
    refine (iff_of_eq (congrArg (· ≤ C) (congrFun e (ix2 r l)))).trans ?_
    refine (t10_trip 𝒱 c bd i arg2 harg2 arg3 harg3 arg4 harg4 arg5 harg5 arg6 harg6 arg7 harg7 arg8 harg8 arg9 harg9 arg10 harg10 arg11 harg11 arg12 harg12 arg13 harg13 arg14 harg14 k0_h5 v51 v62 v112 v365 X_arg7 ⟨n, hk⟩ x γ β hg hb hm hr hx _ r l C).trans ?_
    refine (and_congr_left' ih).trans ?_
    rw [and_assoc, forall_split4 (fun m => ((|silu (aff x γ β (8 * m + r.val) (256 * 0 + l.val))| : ℝ) : EReal) ≤ C)]

/-- Block 1: one trip takes in four rows. -/
theorem t11_trip (k0_h5 : k0_cond5 i = 1#1) (v51 : FVec Ideal S1x1280 .f32) (v62 : FVec Ideal S1x1280 .f32) (v112 : FVec Ideal S1x1280 .f32) (v365 : FVec Ideal S1x1280 .f32) (X_arg7 : BufTy.Contents (Elt Ideal) arg7.view.ty) (k : Fin k0_t11_loop.trips) (x : ℕ → ℕ → ℝ) (γ β : ℕ → ℝ)
    (hg : ∀ j : Fin 1280, v51 (ix2 0 j) = ((γ j.val : ℝ) : EReal)) (hb : ∀ j : Fin 1280, v62 (ix2 0 j) = ((β j.val : ℝ) : EReal))
    (hm : ∀ j : Fin 1280, v112 (ix2 0 j) = ((mean x (j.val / 40) : ℝ) : EReal)) (hr : ∀ j : Fin 1280, v365 (ix2 0 j) = ((rstd x (j.val / 40) : ℝ) : EReal))
    (hx : ∀ (r : Fin 4096) (l : Fin 256), arg7.view.read (Elt Ideal) X_arg7 (ix3 1 r l) = ((x r.val (256 * 1 + l.val) : ℝ) : EReal))
    (acc : FVec Ideal S8x256 .f32) (r : Fin 8) (l : Fin 256) (C : EReal) :
    tripR_k0_t11 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v51 v62 v112 v365 X_arg7 k acc (ix2 r l) ≤ C
      ↔ acc (ix2 r l) ≤ C ∧ ∀ m < 4, ((|silu (aff x γ β (8 * (4 * k.val + m) + r.val) (256 * 1 + l.val))| : ℝ) : EReal) ≤ C := by
    have d : ∀ (inb) (R : Fin 32) (l : Fin 256), arg7.view.readAt (Elt Ideal) (Rect.unit (s := S5x4096x256) (k0_off22 k) (![1, 32, 256]) inb).toLoadRect X_arg7 (ix3 0 R l) = ((x (32 * k.val + R.val) (256 * 1 + l.val) : ℝ) : EReal) :=
      fun inb R l => chunk5 arg7.view X_arg7 (fun r l => x r (256 * 1 + l)) id 1 (32 * k.val) (fun r l _ => hx r l) _ inb (off22_eq k) R l
    unfold tripR_k0_t11 trip_k0_t11
    dsimp only
    have e0 : 32 * k.val + r.val = 8 * (4 * k.val) + r.val := by omega
    have e1 : 32 * k.val + (8 + r.val) = 8 * (4 * k.val + 1) + r.val := by omega
    have e2 : 32 * k.val + (16 + r.val) = 8 * (4 * k.val + 2) + r.val := by omega
    have e3 : 32 * k.val + (24 + r.val) = 8 * (4 * k.val + 3) + r.val := by omega
    have hs : ∀ r' j : ℕ, |silu ((x r' j - mean x (j / 40)) * rstd x (j / 40) * γ j + β j)| = |silu (aff x γ β r' j)| := fun _ _ => rfl
    pointwise [k0_pay193]
    simp only [d, hm, hr, hg, hb, ← EReal.coe_sub, ← EReal.coe_mul, ← EReal.coe_add, silu_coe0, abs_coe]
    simp only [Nat.reduceMul]
    simp only [hs, max_le_iff, e0, e1, e2, e3, Nat.forall_lt_succ_right, and_assoc, add_zero, Nat.not_lt_zero, false_implies, forall_const, implies_true, true_and]

/-- Block 1: after `n` trips, the largest magnitude in `32 n` rows. -/
theorem t11_st (k0_h5 : k0_cond5 i = 1#1) (v51 : FVec Ideal S1x1280 .f32) (v62 : FVec Ideal S1x1280 .f32) (v112 : FVec Ideal S1x1280 .f32) (v365 : FVec Ideal S1x1280 .f32) (X_arg7 : BufTy.Contents (Elt Ideal) arg7.view.ty) (x : ℕ → ℕ → ℝ) (γ β : ℕ → ℝ)
    (hg : ∀ j : Fin 1280, v51 (ix2 0 j) = ((γ j.val : ℝ) : EReal)) (hb : ∀ j : Fin 1280, v62 (ix2 0 j) = ((β j.val : ℝ) : EReal))
    (hm : ∀ j : Fin 1280, v112 (ix2 0 j) = ((mean x (j.val / 40) : ℝ) : EReal)) (hr : ∀ j : Fin 1280, v365 (ix2 0 j) = ((rstd x (j.val / 40) : ℝ) : EReal))
    (hx : ∀ (r : Fin 4096) (l : Fin 256), arg7.view.read (Elt Ideal) X_arg7 (ix3 1 r l) = ((x r.val (256 * 1 + l.val) : ℝ) : EReal))
    (init : FVec Ideal S8x256 .f32) (r : Fin 8) (l : Fin 256) (C : EReal) :
    ∀ (n : ℕ) (hn : n ≤ 128), st_k0_t11 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v51 v62 v112 v365 X_arg7 init n (ix2 r l) ≤ C
      ↔ init (ix2 r l) ≤ C ∧ ∀ m < 4 * n, ((|silu (aff x γ β (8 * m + r.val) (256 * 1 + l.val))| : ℝ) : EReal) ≤ C
  | 0, _ => by
    show init (ix2 r l) ≤ C ↔ _
    simp
  | n + 1, hn => by
    have ih := t11_st k0_h5 v51 v62 v112 v365 X_arg7 x γ β hg hb hm hr hx init r l C n (by omega)
    have hk : n < k0_t11_loop.trips := lt_of_lt_of_eq (show n < 128 by omega) trips11.symm
    have e := st_k0_t11_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v51 v62 v112 v365 X_arg7 init ⟨n, hk⟩
    refine (iff_of_eq (congrArg (· ≤ C) (congrFun e (ix2 r l)))).trans ?_
    refine (t11_trip 𝒱 c bd i arg2 harg2 arg3 harg3 arg4 harg4 arg5 harg5 arg6 harg6 arg7 harg7 arg8 harg8 arg9 harg9 arg10 harg10 arg11 harg11 arg12 harg12 arg13 harg13 arg14 harg14 k0_h5 v51 v62 v112 v365 X_arg7 ⟨n, hk⟩ x γ β hg hb hm hr hx _ r l C).trans ?_
    refine (and_congr_left' ih).trans ?_
    rw [and_assoc, forall_split4 (fun m => ((|silu (aff x γ β (8 * m + r.val) (256 * 1 + l.val))| : ℝ) : EReal) ≤ C)]

/-- Block 2: one trip takes in four rows. -/
theorem t12_trip (k0_h5 : k0_cond5 i = 1#1) (v51 : FVec Ideal S1x1280 .f32) (v62 : FVec Ideal S1x1280 .f32) (v112 : FVec Ideal S1x1280 .f32) (v365 : FVec Ideal S1x1280 .f32) (X_arg7 : BufTy.Contents (Elt Ideal) arg7.view.ty) (k : Fin k0_t12_loop.trips) (x : ℕ → ℕ → ℝ) (γ β : ℕ → ℝ)
    (hg : ∀ j : Fin 1280, v51 (ix2 0 j) = ((γ j.val : ℝ) : EReal)) (hb : ∀ j : Fin 1280, v62 (ix2 0 j) = ((β j.val : ℝ) : EReal))
    (hm : ∀ j : Fin 1280, v112 (ix2 0 j) = ((mean x (j.val / 40) : ℝ) : EReal)) (hr : ∀ j : Fin 1280, v365 (ix2 0 j) = ((rstd x (j.val / 40) : ℝ) : EReal))
    (hx : ∀ (r : Fin 4096) (l : Fin 256), arg7.view.read (Elt Ideal) X_arg7 (ix3 2 r l) = ((x r.val (256 * 2 + l.val) : ℝ) : EReal))
    (acc : FVec Ideal S8x256 .f32) (r : Fin 8) (l : Fin 256) (C : EReal) :
    tripR_k0_t12 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v51 v62 v112 v365 X_arg7 k acc (ix2 r l) ≤ C
      ↔ acc (ix2 r l) ≤ C ∧ ∀ m < 4, ((|silu (aff x γ β (8 * (4 * k.val + m) + r.val) (256 * 2 + l.val))| : ℝ) : EReal) ≤ C := by
    have d : ∀ (inb) (R : Fin 32) (l : Fin 256), arg7.view.readAt (Elt Ideal) (Rect.unit (s := S5x4096x256) (k0_off23 k) (![1, 32, 256]) inb).toLoadRect X_arg7 (ix3 0 R l) = ((x (32 * k.val + R.val) (256 * 2 + l.val) : ℝ) : EReal) :=
      fun inb R l => chunk5 arg7.view X_arg7 (fun r l => x r (256 * 2 + l)) id 2 (32 * k.val) (fun r l _ => hx r l) _ inb (off23_eq k) R l
    unfold tripR_k0_t12 trip_k0_t12
    dsimp only
    have e0 : 32 * k.val + r.val = 8 * (4 * k.val) + r.val := by omega
    have e1 : 32 * k.val + (8 + r.val) = 8 * (4 * k.val + 1) + r.val := by omega
    have e2 : 32 * k.val + (16 + r.val) = 8 * (4 * k.val + 2) + r.val := by omega
    have e3 : 32 * k.val + (24 + r.val) = 8 * (4 * k.val + 3) + r.val := by omega
    have hs : ∀ r' j : ℕ, |silu ((x r' j - mean x (j / 40)) * rstd x (j / 40) * γ j + β j)| = |silu (aff x γ β r' j)| := fun _ _ => rfl
    pointwise [k0_pay194]
    simp only [d, hm, hr, hg, hb, ← EReal.coe_sub, ← EReal.coe_mul, ← EReal.coe_add, silu_coe0, abs_coe]
    simp only [Nat.reduceMul]
    simp only [hs, max_le_iff, e0, e1, e2, e3, Nat.forall_lt_succ_right, and_assoc, add_zero, Nat.not_lt_zero, false_implies, forall_const, implies_true, true_and]

/-- Block 2: after `n` trips, the largest magnitude in `32 n` rows. -/
theorem t12_st (k0_h5 : k0_cond5 i = 1#1) (v51 : FVec Ideal S1x1280 .f32) (v62 : FVec Ideal S1x1280 .f32) (v112 : FVec Ideal S1x1280 .f32) (v365 : FVec Ideal S1x1280 .f32) (X_arg7 : BufTy.Contents (Elt Ideal) arg7.view.ty) (x : ℕ → ℕ → ℝ) (γ β : ℕ → ℝ)
    (hg : ∀ j : Fin 1280, v51 (ix2 0 j) = ((γ j.val : ℝ) : EReal)) (hb : ∀ j : Fin 1280, v62 (ix2 0 j) = ((β j.val : ℝ) : EReal))
    (hm : ∀ j : Fin 1280, v112 (ix2 0 j) = ((mean x (j.val / 40) : ℝ) : EReal)) (hr : ∀ j : Fin 1280, v365 (ix2 0 j) = ((rstd x (j.val / 40) : ℝ) : EReal))
    (hx : ∀ (r : Fin 4096) (l : Fin 256), arg7.view.read (Elt Ideal) X_arg7 (ix3 2 r l) = ((x r.val (256 * 2 + l.val) : ℝ) : EReal))
    (init : FVec Ideal S8x256 .f32) (r : Fin 8) (l : Fin 256) (C : EReal) :
    ∀ (n : ℕ) (hn : n ≤ 128), st_k0_t12 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v51 v62 v112 v365 X_arg7 init n (ix2 r l) ≤ C
      ↔ init (ix2 r l) ≤ C ∧ ∀ m < 4 * n, ((|silu (aff x γ β (8 * m + r.val) (256 * 2 + l.val))| : ℝ) : EReal) ≤ C
  | 0, _ => by
    show init (ix2 r l) ≤ C ↔ _
    simp
  | n + 1, hn => by
    have ih := t12_st k0_h5 v51 v62 v112 v365 X_arg7 x γ β hg hb hm hr hx init r l C n (by omega)
    have hk : n < k0_t12_loop.trips := lt_of_lt_of_eq (show n < 128 by omega) trips12.symm
    have e := st_k0_t12_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v51 v62 v112 v365 X_arg7 init ⟨n, hk⟩
    refine (iff_of_eq (congrArg (· ≤ C) (congrFun e (ix2 r l)))).trans ?_
    refine (t12_trip 𝒱 c bd i arg2 harg2 arg3 harg3 arg4 harg4 arg5 harg5 arg6 harg6 arg7 harg7 arg8 harg8 arg9 harg9 arg10 harg10 arg11 harg11 arg12 harg12 arg13 harg13 arg14 harg14 k0_h5 v51 v62 v112 v365 X_arg7 ⟨n, hk⟩ x γ β hg hb hm hr hx _ r l C).trans ?_
    refine (and_congr_left' ih).trans ?_
    rw [and_assoc, forall_split4 (fun m => ((|silu (aff x γ β (8 * m + r.val) (256 * 2 + l.val))| : ℝ) : EReal) ≤ C)]

/-- Block 3: one trip takes in four rows. -/
theorem t13_trip (k0_h5 : k0_cond5 i = 1#1) (v51 : FVec Ideal S1x1280 .f32) (v62 : FVec Ideal S1x1280 .f32) (v112 : FVec Ideal S1x1280 .f32) (v365 : FVec Ideal S1x1280 .f32) (X_arg7 : BufTy.Contents (Elt Ideal) arg7.view.ty) (k : Fin k0_t13_loop.trips) (x : ℕ → ℕ → ℝ) (γ β : ℕ → ℝ)
    (hg : ∀ j : Fin 1280, v51 (ix2 0 j) = ((γ j.val : ℝ) : EReal)) (hb : ∀ j : Fin 1280, v62 (ix2 0 j) = ((β j.val : ℝ) : EReal))
    (hm : ∀ j : Fin 1280, v112 (ix2 0 j) = ((mean x (j.val / 40) : ℝ) : EReal)) (hr : ∀ j : Fin 1280, v365 (ix2 0 j) = ((rstd x (j.val / 40) : ℝ) : EReal))
    (hx : ∀ (r : Fin 4096) (l : Fin 256), arg7.view.read (Elt Ideal) X_arg7 (ix3 3 r l) = ((x r.val (256 * 3 + l.val) : ℝ) : EReal))
    (acc : FVec Ideal S8x256 .f32) (r : Fin 8) (l : Fin 256) (C : EReal) :
    tripR_k0_t13 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v51 v62 v112 v365 X_arg7 k acc (ix2 r l) ≤ C
      ↔ acc (ix2 r l) ≤ C ∧ ∀ m < 4, ((|silu (aff x γ β (8 * (4 * k.val + m) + r.val) (256 * 3 + l.val))| : ℝ) : EReal) ≤ C := by
    have d : ∀ (inb) (R : Fin 32) (l : Fin 256), arg7.view.readAt (Elt Ideal) (Rect.unit (s := S5x4096x256) (k0_off24 k) (![1, 32, 256]) inb).toLoadRect X_arg7 (ix3 0 R l) = ((x (32 * k.val + R.val) (256 * 3 + l.val) : ℝ) : EReal) :=
      fun inb R l => chunk5 arg7.view X_arg7 (fun r l => x r (256 * 3 + l)) id 3 (32 * k.val) (fun r l _ => hx r l) _ inb (off24_eq k) R l
    unfold tripR_k0_t13 trip_k0_t13
    dsimp only
    have e0 : 32 * k.val + r.val = 8 * (4 * k.val) + r.val := by omega
    have e1 : 32 * k.val + (8 + r.val) = 8 * (4 * k.val + 1) + r.val := by omega
    have e2 : 32 * k.val + (16 + r.val) = 8 * (4 * k.val + 2) + r.val := by omega
    have e3 : 32 * k.val + (24 + r.val) = 8 * (4 * k.val + 3) + r.val := by omega
    have hs : ∀ r' j : ℕ, |silu ((x r' j - mean x (j / 40)) * rstd x (j / 40) * γ j + β j)| = |silu (aff x γ β r' j)| := fun _ _ => rfl
    pointwise [k0_pay195]
    simp only [d, hm, hr, hg, hb, ← EReal.coe_sub, ← EReal.coe_mul, ← EReal.coe_add, silu_coe0, abs_coe]
    simp only [Nat.reduceMul]
    simp only [hs, max_le_iff, e0, e1, e2, e3, Nat.forall_lt_succ_right, and_assoc, add_zero, Nat.not_lt_zero, false_implies, forall_const, implies_true, true_and]

/-- Block 3: after `n` trips, the largest magnitude in `32 n` rows. -/
theorem t13_st (k0_h5 : k0_cond5 i = 1#1) (v51 : FVec Ideal S1x1280 .f32) (v62 : FVec Ideal S1x1280 .f32) (v112 : FVec Ideal S1x1280 .f32) (v365 : FVec Ideal S1x1280 .f32) (X_arg7 : BufTy.Contents (Elt Ideal) arg7.view.ty) (x : ℕ → ℕ → ℝ) (γ β : ℕ → ℝ)
    (hg : ∀ j : Fin 1280, v51 (ix2 0 j) = ((γ j.val : ℝ) : EReal)) (hb : ∀ j : Fin 1280, v62 (ix2 0 j) = ((β j.val : ℝ) : EReal))
    (hm : ∀ j : Fin 1280, v112 (ix2 0 j) = ((mean x (j.val / 40) : ℝ) : EReal)) (hr : ∀ j : Fin 1280, v365 (ix2 0 j) = ((rstd x (j.val / 40) : ℝ) : EReal))
    (hx : ∀ (r : Fin 4096) (l : Fin 256), arg7.view.read (Elt Ideal) X_arg7 (ix3 3 r l) = ((x r.val (256 * 3 + l.val) : ℝ) : EReal))
    (init : FVec Ideal S8x256 .f32) (r : Fin 8) (l : Fin 256) (C : EReal) :
    ∀ (n : ℕ) (hn : n ≤ 128), st_k0_t13 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v51 v62 v112 v365 X_arg7 init n (ix2 r l) ≤ C
      ↔ init (ix2 r l) ≤ C ∧ ∀ m < 4 * n, ((|silu (aff x γ β (8 * m + r.val) (256 * 3 + l.val))| : ℝ) : EReal) ≤ C
  | 0, _ => by
    show init (ix2 r l) ≤ C ↔ _
    simp
  | n + 1, hn => by
    have ih := t13_st k0_h5 v51 v62 v112 v365 X_arg7 x γ β hg hb hm hr hx init r l C n (by omega)
    have hk : n < k0_t13_loop.trips := lt_of_lt_of_eq (show n < 128 by omega) trips13.symm
    have e := st_k0_t13_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v51 v62 v112 v365 X_arg7 init ⟨n, hk⟩
    refine (iff_of_eq (congrArg (· ≤ C) (congrFun e (ix2 r l)))).trans ?_
    refine (t13_trip 𝒱 c bd i arg2 harg2 arg3 harg3 arg4 harg4 arg5 harg5 arg6 harg6 arg7 harg7 arg8 harg8 arg9 harg9 arg10 harg10 arg11 harg11 arg12 harg12 arg13 harg13 arg14 harg14 k0_h5 v51 v62 v112 v365 X_arg7 ⟨n, hk⟩ x γ β hg hb hm hr hx _ r l C).trans ?_
    refine (and_congr_left' ih).trans ?_
    rw [and_assoc, forall_split4 (fun m => ((|silu (aff x γ β (8 * m + r.val) (256 * 3 + l.val))| : ℝ) : EReal) ≤ C)]

/-- Block 4: one trip takes in four rows. -/
theorem t14_trip (k0_h5 : k0_cond5 i = 1#1) (v51 : FVec Ideal S1x1280 .f32) (v62 : FVec Ideal S1x1280 .f32) (v112 : FVec Ideal S1x1280 .f32) (v365 : FVec Ideal S1x1280 .f32) (X_arg7 : BufTy.Contents (Elt Ideal) arg7.view.ty) (k : Fin k0_t14_loop.trips) (x : ℕ → ℕ → ℝ) (γ β : ℕ → ℝ)
    (hg : ∀ j : Fin 1280, v51 (ix2 0 j) = ((γ j.val : ℝ) : EReal)) (hb : ∀ j : Fin 1280, v62 (ix2 0 j) = ((β j.val : ℝ) : EReal))
    (hm : ∀ j : Fin 1280, v112 (ix2 0 j) = ((mean x (j.val / 40) : ℝ) : EReal)) (hr : ∀ j : Fin 1280, v365 (ix2 0 j) = ((rstd x (j.val / 40) : ℝ) : EReal))
    (hx : ∀ (r : Fin 4096) (l : Fin 256), arg7.view.read (Elt Ideal) X_arg7 (ix3 4 r l) = ((x r.val (256 * 4 + l.val) : ℝ) : EReal))
    (acc : FVec Ideal S8x256 .f32) (r : Fin 8) (l : Fin 256) (C : EReal) :
    tripR_k0_t14 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v51 v62 v112 v365 X_arg7 k acc (ix2 r l) ≤ C
      ↔ acc (ix2 r l) ≤ C ∧ ∀ m < 4, ((|silu (aff x γ β (8 * (4 * k.val + m) + r.val) (256 * 4 + l.val))| : ℝ) : EReal) ≤ C := by
    have d : ∀ (inb) (R : Fin 32) (l : Fin 256), arg7.view.readAt (Elt Ideal) (Rect.unit (s := S5x4096x256) (k0_off25 k) (![1, 32, 256]) inb).toLoadRect X_arg7 (ix3 0 R l) = ((x (32 * k.val + R.val) (256 * 4 + l.val) : ℝ) : EReal) :=
      fun inb R l => chunk5 arg7.view X_arg7 (fun r l => x r (256 * 4 + l)) id 4 (32 * k.val) (fun r l _ => hx r l) _ inb (off25_eq k) R l
    unfold tripR_k0_t14 trip_k0_t14
    dsimp only
    have e0 : 32 * k.val + r.val = 8 * (4 * k.val) + r.val := by omega
    have e1 : 32 * k.val + (8 + r.val) = 8 * (4 * k.val + 1) + r.val := by omega
    have e2 : 32 * k.val + (16 + r.val) = 8 * (4 * k.val + 2) + r.val := by omega
    have e3 : 32 * k.val + (24 + r.val) = 8 * (4 * k.val + 3) + r.val := by omega
    have hs : ∀ r' j : ℕ, |silu ((x r' j - mean x (j / 40)) * rstd x (j / 40) * γ j + β j)| = |silu (aff x γ β r' j)| := fun _ _ => rfl
    pointwise [k0_pay196]
    simp only [d, hm, hr, hg, hb, ← EReal.coe_sub, ← EReal.coe_mul, ← EReal.coe_add, silu_coe0, abs_coe]
    simp only [Nat.reduceMul]
    simp only [hs, max_le_iff, e0, e1, e2, e3, Nat.forall_lt_succ_right, and_assoc, add_zero, Nat.not_lt_zero, false_implies, forall_const, implies_true, true_and]

/-- Block 4: after `n` trips, the largest magnitude in `32 n` rows. -/
theorem t14_st (k0_h5 : k0_cond5 i = 1#1) (v51 : FVec Ideal S1x1280 .f32) (v62 : FVec Ideal S1x1280 .f32) (v112 : FVec Ideal S1x1280 .f32) (v365 : FVec Ideal S1x1280 .f32) (X_arg7 : BufTy.Contents (Elt Ideal) arg7.view.ty) (x : ℕ → ℕ → ℝ) (γ β : ℕ → ℝ)
    (hg : ∀ j : Fin 1280, v51 (ix2 0 j) = ((γ j.val : ℝ) : EReal)) (hb : ∀ j : Fin 1280, v62 (ix2 0 j) = ((β j.val : ℝ) : EReal))
    (hm : ∀ j : Fin 1280, v112 (ix2 0 j) = ((mean x (j.val / 40) : ℝ) : EReal)) (hr : ∀ j : Fin 1280, v365 (ix2 0 j) = ((rstd x (j.val / 40) : ℝ) : EReal))
    (hx : ∀ (r : Fin 4096) (l : Fin 256), arg7.view.read (Elt Ideal) X_arg7 (ix3 4 r l) = ((x r.val (256 * 4 + l.val) : ℝ) : EReal))
    (init : FVec Ideal S8x256 .f32) (r : Fin 8) (l : Fin 256) (C : EReal) :
    ∀ (n : ℕ) (hn : n ≤ 128), st_k0_t14 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v51 v62 v112 v365 X_arg7 init n (ix2 r l) ≤ C
      ↔ init (ix2 r l) ≤ C ∧ ∀ m < 4 * n, ((|silu (aff x γ β (8 * m + r.val) (256 * 4 + l.val))| : ℝ) : EReal) ≤ C
  | 0, _ => by
    show init (ix2 r l) ≤ C ↔ _
    simp
  | n + 1, hn => by
    have ih := t14_st k0_h5 v51 v62 v112 v365 X_arg7 x γ β hg hb hm hr hx init r l C n (by omega)
    have hk : n < k0_t14_loop.trips := lt_of_lt_of_eq (show n < 128 by omega) trips14.symm
    have e := st_k0_t14_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h5 v51 v62 v112 v365 X_arg7 init ⟨n, hk⟩
    refine (iff_of_eq (congrArg (· ≤ C) (congrFun e (ix2 r l)))).trans ?_
    refine (t14_trip 𝒱 c bd i arg2 harg2 arg3 harg3 arg4 harg4 arg5 harg5 arg6 harg6 arg7 harg7 arg8 harg8 arg9 harg9 arg10 harg10 arg11 harg11 arg12 harg12 arg13 harg13 arg14 harg14 k0_h5 v51 v62 v112 v365 X_arg7 ⟨n, hk⟩ x γ β hg hb hm hr hx _ r l C).trans ?_
    refine (and_congr_left' ih).trans ?_
    rw [and_assoc, forall_split4 (fun m => ((|silu (aff x γ β (8 * m + r.val) (256 * 4 + l.val))| : ℝ) : EReal) ≤ C)]

end Cert.KernelIdeal.Hand

end
-- ==== Proof.Value.Blk6.lean ====
/-
  Hand-written, untrusted. block 6 of the body run once.
-/
module

public import proofs.«01_k».proof.Proof.Value.Fin6
public import proofs.«01_k».proof.Proof.Value.T5
public import proofs.«01_k».proof.Proof.Value.T10
public import Idealize.ShloMosaic.Lib.VecWindow

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

local notation "𝕄" => MT nD τ sig Unit (Elt Ideal) ℕ (UR sig nD τ) ℕ

/-- Block 6 run once. -/
theorem blk6_val (c : Dev nD) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (k0_h5 : k0_cond5 i = 1#1) (v51 v62 v112 : FVec Ideal S1x1280 .f32) (P Q : St → Prop) (hPQ : ∀ s s', P s → R6 v51 v62 v112 s s' → Q s') :
    HeldP c arg2 arg3 arg4 arg5 arg6 arg7 arg8 arg9 arg10 arg11 arg12 arg13 arg14 P
      ⊢ wp frame (wpE (defs₀ (F := Ideal)) Variants.none c none) Set.univ
          (blk6 (F := Ideal) i arg2 harg2 arg3 harg3 arg4 harg4 arg5 harg5 arg6 harg6 arg7 harg7 arg8 harg8 arg9 harg9 arg10 harg10 arg11 harg11 arg12 harg12 arg13 harg13 arg14 harg14 k0_h5 (k0_pay200 (F := Ideal)) v51 v62 v112) (fun _ => HeldP c arg2 arg3 arg4 arg5 arg6 arg7 arg8 arg9 arg10 arg11 arg12 arg13 arg14 Q) := by
  unfold blk6 HeldP owns
  simp only [k0_part10_eq_skeleton, k0_part11_eq_skeleton, k0_part12_eq_skeleton, k0_part13_eq_skeleton, k0_part14_eq_skeleton, k0_part15_eq_skeleton]
  unfold k0_part10_skel k0_part11_skel k0_part12_skel k0_part13_skel k0_part14_skel k0_part15_skel
  simp only [bind_assoc, pure_bind]
  iintro ⟨%d2, %d3, %d4, %d5, %d6, %d7, %d8, %d9, %d10, %d11, %d12, %d13, %d14, ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩, %hP⟩
  sl_exec
  sl_step
  iexists _, _, _, _, _, _, _, _, _, _, _, _, _
  isplitl [H2 H3 H4 H5 H6 H7 H8 H9 H10 H11 H12 H13 H14]
  · isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    iexists _; isplitr; swap; · iexact H14
    ipureintro; rfl
  ipureintro
  subst h2 h3 h4 h5 h6 h7 h8 h9 h10 h11 h12 h13 h14
  refine hPQ _ _ hP ?_
  refine { x := rfl, ga := rfl, be := rfl, co := rfl, sc := rfl, im := rfl, cv := fun x γ β hb hg hbt hm him k => ?_ }
  have h5 : ∀ (a : Fin 8) (l : Fin 256), st_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 k0_h5 v112 f7 k0_pay151 (Scf.trips k0_t5_loop.lb k0_t5_loop.ub k0_t5_loop.st) (ix2 a l)
      = (((fun a ch => ∑ i ∈ Finset.range 512, (x (8 * i + a) ch - mean x (ch / 40)) * (x (8 * i + a) ch - mean x (ch / 40))) a.val (256 * 0 + l.val) : ℝ) : EReal) := by
    rw [show Scf.trips k0_t5_loop.lb k0_t5_loop.ub k0_t5_loop.st = 128 from trips5]
    exact fun a l => t5_st Variants.none c none i arg2 harg2 arg3 harg3 arg4 harg4 arg5 harg5 arg6 harg6 arg7 harg7 arg8 harg8 arg9 harg9 arg10 harg10 arg11 harg11 arg12 harg12 arg13 harg13 arg14 harg14 k0_h5 v112 f7 x (fun j => mean x (j / 40)) hm (fun r l => him 0 r l) k0_pay151 pay151_zero a l 128 le_rfl
  have h6 : ∀ (a : Fin 8) (l : Fin 256), st_k0_t6 (F := Ideal) Variants.none c none i arg2 harg2 arg3 harg3 arg4 harg4 arg5 harg5 arg6 harg6 arg7 harg7 arg8 harg8 arg9 harg9 arg10 harg10 arg11 harg11 arg12 harg12 arg13 harg13 arg14 harg14 k0_h5 v112 f7 k0_pay154 (Scf.trips k0_t6_loop.lb k0_t6_loop.ub k0_t6_loop.st) (ix2 a l)
      = (((fun a ch => ∑ i ∈ Finset.range 512, (x (8 * i + a) ch - mean x (ch / 40)) * (x (8 * i + a) ch - mean x (ch / 40))) a.val (256 * 1 + l.val) : ℝ) : EReal) := by
    rw [show Scf.trips k0_t6_loop.lb k0_t6_loop.ub k0_t6_loop.st = 128 from trips6]
    exact fun a l => t6_st Variants.none c none i arg2 harg2 arg3 harg3 arg4 harg4 arg5 harg5 arg6 harg6 arg7 harg7 arg8 harg8 arg9 harg9 arg10 harg10 arg11 harg11 arg12 harg12 arg13 harg13 arg14 harg14 k0_h5 v112 f7 x (fun j => mean x (j / 40)) hm (fun r l => him 1 r l) k0_pay154 pay154_zero a l 128 le_rfl
  have h7 : ∀ (a : Fin 8) (l : Fin 256), st_k0_t7 (F := Ideal) Variants.none c none i arg2 harg2 arg3 harg3 arg4 harg4 arg5 harg5 arg6 harg6 arg7 harg7 arg8 harg8 arg9 harg9 arg10 harg10 arg11 harg11 arg12 harg12 arg13 harg13 arg14 harg14 k0_h5 v112 f7 k0_pay157 (Scf.trips k0_t7_loop.lb k0_t7_loop.ub k0_t7_loop.st) (ix2 a l)
      = (((fun a ch => ∑ i ∈ Finset.range 512, (x (8 * i + a) ch - mean x (ch / 40)) * (x (8 * i + a) ch - mean x (ch / 40))) a.val (256 * 2 + l.val) : ℝ) : EReal) := by
    rw [show Scf.trips k0_t7_loop.lb k0_t7_loop.ub k0_t7_loop.st = 128 from trips7]
    exact fun a l => t7_st Variants.none c none i arg2 harg2 arg3 harg3 arg4 harg4 arg5 harg5 arg6 harg6 arg7 harg7 arg8 harg8 arg9 harg9 arg10 harg10 arg11 harg11 arg12 harg12 arg13 harg13 arg14 harg14 k0_h5 v112 f7 x (fun j => mean x (j / 40)) hm (fun r l => him 2 r l) k0_pay157 pay157_zero a l 128 le_rfl
  have h8 : ∀ (a : Fin 8) (l : Fin 256), st_k0_t8 (F := Ideal) Variants.none c none i arg2 harg2 arg3 harg3 arg4 harg4 arg5 harg5 arg6 harg6 arg7 harg7 arg8 harg8 arg9 harg9 arg10 harg10 arg11 harg11 arg12 harg12 arg13 harg13 arg14 harg14 k0_h5 v112 f7 k0_pay160 (Scf.trips k0_t8_loop.lb k0_t8_loop.ub k0_t8_loop.st) (ix2 a l)
      = (((fun a ch => ∑ i ∈ Finset.range 512, (x (8 * i + a) ch - mean x (ch / 40)) * (x (8 * i + a) ch - mean x (ch / 40))) a.val (256 * 3 + l.val) : ℝ) : EReal) := by
    rw [show Scf.trips k0_t8_loop.lb k0_t8_loop.ub k0_t8_loop.st = 128 from trips8]
    exact fun a l => t8_st Variants.none c none i arg2 harg2 arg3 harg3 arg4 harg4 arg5 harg5 arg6 harg6 arg7 harg7 arg8 harg8 arg9 harg9 arg10 harg10 arg11 harg11 arg12 harg12 arg13 harg13 arg14 harg14 k0_h5 v112 f7 x (fun j => mean x (j / 40)) hm (fun r l => him 3 r l) k0_pay160 pay160_zero a l 128 le_rfl
  have h9 : ∀ (a : Fin 8) (l : Fin 256), st_k0_t9 (F := Ideal) Variants.none c none i arg2 harg2 arg3 harg3 arg4 harg4 arg5 harg5 arg6 harg6 arg7 harg7 arg8 harg8 arg9 harg9 arg10 harg10 arg11 harg11 arg12 harg12 arg13 harg13 arg14 harg14 k0_h5 (k0_pay200 (F := Ideal)) v112 (st_k0_t8 (F := Ideal) Variants.none c none i arg2 harg2 arg3 harg3 arg4 harg4 arg5 harg5 arg6 harg6 arg7 harg7 arg8 harg8 arg9 harg9 arg10 harg10 arg11 harg11 arg12 harg12 arg13 harg13 arg14 harg14 k0_h5 v112 f7 k0_pay160 (Scf.trips k0_t8_loop.lb k0_t8_loop.ub k0_t8_loop.st)) f7 k0_pay163 (Scf.trips k0_t9_loop.lb k0_t9_loop.ub k0_t9_loop.st) (ix2 a l)
      = (((fun a ch => ∑ i ∈ Finset.range 512, (x (8 * i + a) ch - mean x (ch / 40)) * (x (8 * i + a) ch - mean x (ch / 40))) a.val (256 * 4 + l.val) : ℝ) : EReal) := by
    rw [show Scf.trips k0_t9_loop.lb k0_t9_loop.ub k0_t9_loop.st = 128 from trips9]
    exact fun a l => t9_st Variants.none c none i arg2 harg2 arg3 harg3 arg4 harg4 arg5 harg5 arg6 harg6 arg7 harg7 arg8 harg8 arg9 harg9 arg10 harg10 arg11 harg11 arg12 harg12 arg13 harg13 arg14 harg14 k0_h5 (k0_pay200 (F := Ideal)) v112 _ f7 x (fun j => mean x (j / 40)) hm (fun r l => him 4 r l) k0_pay163 pay163_zero a l 128 le_rfl
  have hD := dev_pcs (fun a ch => ∑ i ∈ Finset.range 512, (x (8 * i + a) ch - mean x (ch / 40)) * (x (8 * i + a) ch - mean x (ch / 40))) _ _ _ _ _ h5 h6 h7 h8 h9
  have d0 : ∀ (a : Fin 8) (l : Fin 256), blk6_val.sl.x c i arg2 harg2 arg3 harg3 arg4 harg4 arg5 harg5 arg6 harg6 arg7 harg7 arg8 harg8 arg9 harg9 arg10 harg10 arg11 harg11 arg12 harg12 arg13 harg13 arg14 harg14 k0_h5 v112 f7 (ix3 0 a l) = _ := fun a l => dev_read _ arg9.view _ hD 0 ![0, 0, 0] inb_S5x8x256_S1x8x256_0_0_0 rfl a l
  have d1 : ∀ (a : Fin 8) (l : Fin 256), blk6_val.sl.x_1 c i arg2 harg2 arg3 harg3 arg4 harg4 arg5 harg5 arg6 harg6 arg7 harg7 arg8 harg8 arg9 harg9 arg10 harg10 arg11 harg11 arg12 harg12 arg13 harg13 arg14 harg14 k0_h5 v112 f7 (ix3 0 a l) = _ := fun a l => dev_read _ arg9.view _ hD 1 ![1, 0, 0] inb_S5x8x256_S1x8x256_1_0_0 rfl a l
  have d2 : ∀ (a : Fin 8) (l : Fin 256), blk6_val.sl.x_2 c i arg2 harg2 arg3 harg3 arg4 harg4 arg5 harg5 arg6 harg6 arg7 harg7 arg8 harg8 arg9 harg9 arg10 harg10 arg11 harg11 arg12 harg12 arg13 harg13 arg14 harg14 k0_h5 v112 f7 (ix3 0 a l) = _ := fun a l => dev_read _ arg9.view _ hD 2 ![2, 0, 0] inb_S5x8x256_S1x8x256_2_0_0 rfl a l
  have d3 : ∀ (a : Fin 8) (l : Fin 256), blk6_val.sl.x_3 c i arg2 harg2 arg3 harg3 arg4 harg4 arg5 harg5 arg6 harg6 arg7 harg7 arg8 harg8 arg9 harg9 arg10 harg10 arg11 harg11 arg12 harg12 arg13 harg13 arg14 harg14 k0_h5 v112 f7 (ix3 0 a l) = _ := fun a l => dev_read _ arg9.view _ hD 3 ![3, 0, 0] inb_S5x8x256_S1x8x256_3_0_0 rfl a l
  have d4 : ∀ (a : Fin 8) (l : Fin 256), blk6_val.sl.x_4 c i arg2 harg2 arg3 harg3 arg4 harg4 arg5 harg5 arg6 harg6 arg7 harg7 arg8 harg8 arg9 harg9 arg10 harg10 arg11 harg11 arg12 harg12 arg13 harg13 arg14 harg14 k0_h5 v112 f7 (ix3 0 a l) = _ := fun a l => dev_read _ arg9.view _ hD 4 ![4, 0, 0] inb_S5x8x256_S1x8x256_4_0_0 rfl a l
  have H := chan_slow x γ β v51 v62 v112 hg hbt hm _ _ _ _ _ d0 d1 d2 d3 d4
  refine cv_rows x γ β hb arg12.view f12 _ (slow_rows x γ β _ v51 v62 v112 _ H) _ ((congrFun (View.read_writes_full arg13.view f13 inb_S1_S1_0 _ []) _).trans (slow_word x γ β _ ?_ _ iota_at _)) k
  intro r l C
  refine ((t14_st Variants.none c none i arg2 harg2 arg3 harg3 arg4 harg4 arg5 harg5 arg6 harg6 arg7 harg7 arg8 harg8 arg9 harg9 arg10 harg10 arg11 harg11 arg12 harg12 arg13 harg13 arg14 harg14 k0_h5 v51 v62 v112 _ f7 x γ β hg hbt hm H.r (fun r l => him 4 r l) _ r l C _ (le_of_eq trips14)).trans (and_congr ((t13_st Variants.none c none i arg2 harg2 arg3 harg3 arg4 harg4 arg5 harg5 arg6 harg6 arg7 harg7 arg8 harg8 arg9 harg9 arg10 harg10 arg11 harg11 arg12 harg12 arg13 harg13 arg14 harg14 k0_h5 v51 v62 v112 _ f7 x γ β hg hbt hm H.r (fun r l => him 3 r l) _ r l C _ (le_of_eq trips13)).trans (and_congr ((t12_st Variants.none c none i arg2 harg2 arg3 harg3 arg4 harg4 arg5 harg5 arg6 harg6 arg7 harg7 arg8 harg8 arg9 harg9 arg10 harg10 arg11 harg11 arg12 harg12 arg13 harg13 arg14 harg14 k0_h5 v51 v62 v112 _ f7 x γ β hg hbt hm H.r (fun r l => him 2 r l) _ r l C _ (le_of_eq trips12)).trans (and_congr ((t11_st Variants.none c none i arg2 harg2 arg3 harg3 arg4 harg4 arg5 harg5 arg6 harg6 arg7 harg7 arg8 harg8 arg9 harg9 arg10 harg10 arg11 harg11 arg12 harg12 arg13 harg13 arg14 harg14 k0_h5 v51 v62 v112 _ f7 x γ β hg hbt hm H.r (fun r l => him 1 r l) _ r l C _ (le_of_eq trips11)).trans (and_congr (t10_st Variants.none c none i arg2 harg2 arg3 harg3 arg4 harg4 arg5 harg5 arg6 harg6 arg7 harg7 arg8 harg8 arg9 harg9 arg10 harg10 arg11 harg11 arg12 harg12 arg13 harg13 arg14 harg14 k0_h5 v51 v62 v112 _ f7 x γ β hg hbt hm H.r (fun r l => him 0 r l) _ r l C _ (le_of_eq trips10)) Iff.rfl)) Iff.rfl)) Iff.rfl)) Iff.rfl)).trans ?_
  rw [pay191_zero]
  have e10 : k0_t10_loop.trips = 128 := trips10
  have e11 : k0_t11_loop.trips = 128 := trips11
  have e12 : k0_t12_loop.trips = 128 := trips12
  have e13 : k0_t13_loop.trips = 128 := trips13
  have e14 : k0_t14_loop.trips = 128 := trips14
  have e : ∀ n, n = 128 → ∀ m, m < 512 ↔ m < 4 * n := fun n hn m => by subst hn; rfl
  constructor
  · rintro ⟨⟨⟨⟨⟨h, a0⟩, a1⟩, a2⟩, a3⟩, a4⟩
    refine ⟨h, fun k hk m hm => ?_⟩
    interval_cases k
    · exact a0 m ((e _ e10 m).1 hm)
    · exact a1 m ((e _ e11 m).1 hm)
    · exact a2 m ((e _ e12 m).1 hm)
    · exact a3 m ((e _ e13 m).1 hm)
    · exact a4 m ((e _ e14 m).1 hm)
  · rintro ⟨h, a⟩
    exact ⟨⟨⟨⟨⟨h, fun m hm => a 0 (by omega) m ((e _ e10 m).2 hm)⟩, fun m hm => a 1 (by omega) m ((e _ e11 m).2 hm)⟩, fun m hm => a 2 (by omega) m ((e _ e12 m).2 hm)⟩, fun m hm => a 3 (by omega) m ((e _ e13 m).2 hm)⟩, fun m hm => a 4 (by omega) m ((e _ e14 m).2 hm)⟩

end Cert.KernelIdeal.Hand

end
-- ==== Proof.Value.Fin5.lean ====
/-
  Hand-written, untrusted. the parts of the last block that do not read the statistics.
-/
module

public import proofs.«01_k».proof.Proof.Value.Blk6

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

local notation "𝕄" => MT nD τ sig Unit (Elt Ideal) ℕ (UR sig nD τ) ℕ

/-- The buffers before the second look is decided on. -/
def X5 (P : St → Prop) (v : BitVec 1) (v51 v62 v112 : FVec Ideal S1x1280 .f32) (s : St) : Prop :=
  ∃ s0, P s0 ∧ Same s0 s ∧ s.co = s0.co ∧ s.sc = s0.sc ∧ s.im = s0.im ∧ ∀ x γ β, amax x γ β ≤ 406 * 2 ^ 126 → GbOk s0 γ β → (∀ k, ImOk s0 k x ∧ StOk s0 k x) →
    ((∀ j : Fin 1280, v51 (ix2 0 j) = ((γ j.val : ℝ) : EReal)) ∧ (∀ j : Fin 1280, v62 (ix2 0 j) = ((β j.val : ℝ) : EReal)) ∧
      (∀ j : Fin 1280, v112 (ix2 0 j) = ((mean x (j.val / 40) : ℝ) : EReal))) ∧ (v ≠ 1#1 → CvOk s x γ β)

/-- The buffers after it. -/
def M5 (P : St → Prop) (s : St) : Prop := ∃ s0, P s0 ∧ R5a s0 s

/-- The second look, or not. -/
theorem if6 (c : Dev nD) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (k0_h5 : k0_cond5 i = 1#1) (P : St → Prop) (v : BitVec 1) (v51 v62 v112 : FVec Ideal S1x1280 .f32) :
    HeldP c arg2 arg3 arg4 arg5 arg6 arg7 arg8 arg9 arg10 arg11 arg12 arg13 arg14 (X5 P v v51 v62 v112)
      ⊢ wp frame (wpE (defs₀ (F := Ideal)) Variants.none c none) Set.univ
          (if v = 1#1 then blk6 (F := Ideal) i arg2 harg2 arg3 harg3 arg4 harg4 arg5 harg5 arg6 harg6 arg7 harg7 arg8 harg8 arg9 harg9 arg10 harg10 arg11 harg11 arg12 harg12 arg13 harg13 arg14 harg14 k0_h5 (k0_pay200 (F := Ideal)) v51 v62 v112 else pure ⟨⟩) (fun _ => HeldP c arg2 arg3 arg4 arg5 arg6 arg7 arg8 arg9 arg10 arg11 arg12 arg13 arg14 (M5 P)) := by
  split
  · refine blk6_val c i arg2 harg2 arg3 harg3 arg4 harg4 arg5 harg5 arg6 harg6 arg7 harg7 arg8 harg8 arg9 harg9 arg10 harg10 arg11 harg11 arg12 harg12 arg13 harg13 arg14 harg14 k0_h5 v51 v62 v112 _ _ ?_
    rintro s s' ⟨s0, h0, hs, hco, hsc, him, h⟩ r
    refine ⟨s0, h0, { x := r.x.trans hs.x, ga := r.ga.trans hs.ga, be := r.be.trans hs.be, co := r.co.trans hco, sc := r.sc.trans hsc, im := r.im.trans him, cv := fun x γ β hb hg hi => ?_ }⟩
    obtain ⟨⟨h1, h2, h3⟩, -⟩ := h x γ β hb hg hi
    refine r.cv x γ β hb h1 h2 h3 fun k => ?_
    unfold ImOk
    rw [him]
    exact (hi k).1
  · next hv =>
    refine retP c arg2 arg3 arg4 arg5 arg6 arg7 arg8 arg9 arg10 arg11 arg12 arg13 arg14 _ _ ?_
    rintro s ⟨s0, h0, hs, hco, hsc, him, h⟩
    exact ⟨s0, h0, { x := hs.x, ga := hs.ga, be := hs.be, co := hco, sc := hsc, im := him, cv := fun x γ β hb hg hi => (h x γ β hb hg hi).2 hv }⟩

/-- One scale stored. -/
theorem sc_write (i : grid0.Coords) (hp : (i 0).val < 8) (v : View sig .tc .smem S8 .f32) (f : v.ty.Contents (Elt Ideal)) (inb : ∀ a, k0_off26 i a + S1.size a ≤ S8.size a) (w : EReal) (q : Fin 8) :
    v.read (Elt Ideal) (v.writes (Elt Ideal) f [⟨Rect.unit (s := S8) (k0_off26 i) S1.size inb, fun _ => w⟩]) (ix1 q) = if q.val = (i 0).val then w else v.read (Elt Ideal) f (ix1 q) := by
  have hP : Pcs (e := .f32) (fun _ : S8.Idx => w) (fun y => (y 0).val = (i 0).val ∨ False) [⟨Rect.unit (s := S8) (k0_off26 i) S1.size inb, fun _ => w⟩] := by
    refine (Pcs.nil _).cons _ _ (fun _ => rfl) fun y => ?_
    rw [Rect.mem_set_unit]
    have e : k0_off26 i 0 = (i 0).val := congrFun (off26_eq i) 0
    constructor
    · intro h
      have h0 := h 0
      rw [e] at h0
      have h1 : (y 0).val < (i 0).val + 1 := h0.2
      have h2 := h0.1
      omega
    · intro h a
      match a with
      | ⟨0, _⟩ =>
        show k0_off26 i 0 ≤ (y 0).val ∧ (y 0).val < k0_off26 i 0 + 1
        rw [e]; omega
  split
  · next h => exact hP.read_in v f (ix1 q) (Or.inl h)
  · next h => exact hP.read_out v f (ix1 q) (by rintro (h' | h'); exacts [h h', h'])

theorem pay42_at (w : BitVec 32) : k0_pay42 (F := Ideal) w = Ideal.ofBits .f32 ((w + 127#32) <<< 23) := rfl

theorem flag_of (v : BitVec 1) (h : Scalar.cmpi .ne (Scalar.extui (Scalar.xori v 1#1) : BitVec 32) 0#32 ≠ 1#1) : v = 1#1 := by
  revert h
  revert v
  decide

theorem top_of (v : EReal) (f : ℕ → ℝ) (h : ∀ B, v ≤ B ↔ ∀ m < 8 * 32, ((f m : ℝ) : EReal) ≤ B) : v = ((top 255 f : ℝ) : EReal) :=
  eq_of_le_iff _ _ fun B => (h B).trans (top_le 255 f B).symm

theorem bot_of (v : EReal) (f : ℕ → ℝ) (h : ∀ B, B ≤ v ↔ ∀ m < 8 * 32, B ≤ ((f m : ℝ) : EReal)) : v = ((bot 255 f : ℝ) : EReal) :=
  eq_of_ge_iff _ _ fun B => (h B).trans (le_bot' 255 f B).symm

end Cert.KernelIdeal.Hand

end
-- ==== Proof.Value.Blk5.lean ====
/-
  Hand-written, untrusted. the last block of the body run once.
-/
module

public import proofs.«01_k».proof.Proof.Value.Fin5

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

local notation "𝕄" => MT nD τ sig Unit (Elt Ideal) ℕ (UR sig nD τ) ℕ

/-- Block 5 run once. -/
theorem blk5_val (c : Dev nD) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (k0_h5 : k0_cond5 i = 1#1) (hp8 : (i 0).val < 8) (P Q : St → Prop) (hPQ : ∀ s s', P s → R5 i s s' → Q s') :
    HeldP c arg2 arg3 arg4 arg5 arg6 arg7 arg8 arg9 arg10 arg11 arg12 arg13 arg14 P
      ⊢ wp frame (wpE (defs₀ (F := Ideal)) Variants.none c none) Set.univ
          (blk5 (F := Ideal) i arg2 harg2 arg3 harg3 arg4 harg4 arg5 harg5 arg6 harg6 arg7 harg7 arg8 harg8 arg9 harg9 arg10 harg10 arg11 harg11 arg12 harg12 arg13 harg13 arg14 harg14 k0_h5) (fun _ => HeldP c arg2 arg3 arg4 arg5 arg6 arg7 arg8 arg9 arg10 arg11 arg12 arg13 arg14 Q) := by
  unfold blk5 HeldP owns
  simp only [k0_part16_eq_skeleton, k0_part17_eq_skeleton, k0_part18_eq_skeleton, k0_part19_eq_skeleton, k0_part20_eq_skeleton, k0_part21_eq_skeleton, k0_part22_eq_skeleton, k0_part23_eq_skeleton]
  unfold k0_part16_skel k0_part17_skel k0_part18_skel k0_part19_skel k0_part20_skel k0_part21_skel k0_part22_skel k0_part23_skel
  simp only [bind_assoc, pure_bind]
  iintro ⟨%d2, %d3, %d4, %d5, %d6, %d7, %d8, %d9, %d10, %d11, %d12, %d13, %d14, ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩, %hP⟩
  sl_exec
  iapply (seqP c arg2 arg3 arg4 arg5 arg6 arg7 arg8 arg9 arg10 arg11 arg12 arg13 arg14 (X5 P _ _ _ _) (M5 P) _ _ _ (if6 c i arg2 harg2 arg3 harg3 arg4 harg4 arg5 harg5 arg6 harg6 arg7 harg7 arg8 harg8 arg9 harg9 arg10 harg10 arg11 harg11 arg12 harg12 arg13 harg13 arg14 harg14 k0_h5 P _ _ _ _) ?hk)
  case hk =>
    unfold HeldP owns
    iintro ⟨%d2, %d3, %d4, %d5, %d6, %d7, %d8, %d9, %d10, %d11, %d12, %d13, %d14, ⟨⟨%g2, %k2, H2⟩, ⟨%g3, %k3, H3⟩, ⟨%g4, %k4, H4⟩, ⟨%g5, %k5, H5⟩, ⟨%g6, %k6, H6⟩, ⟨%g7, %k7, H7⟩, ⟨%g8, %k8, H8⟩, ⟨%g9, %k9, H9⟩, ⟨%g10, %k10, H10⟩, ⟨%g11, %k11, H11⟩, ⟨%g12, %k12, H12⟩, ⟨%g13, %k13, H13⟩, ⟨%g14, %k14, H14⟩⟩, %hM⟩
    sl_exec
    sl_step
    iexists _, _, _, _, _, _, _, _, _, _, _, _, _
    isplitl [H2 H3 H4 H5 H6 H7 H8 H9 H10 H11 H12 H13 H14]
    · isplitl [H2]
      · iexists _; isplitr; swap; · iexact H2
        ipureintro; rfl
      isplitl [H3]
      · iexists _; isplitr; swap; · iexact H3
        ipureintro; rfl
      isplitl [H4]
      · iexists _; isplitr; swap; · iexact H4
        ipureintro; rfl
      isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      isplitl [H8]
      · iexists _; isplitr; swap; · iexact H8
        ipureintro; rfl
      isplitl [H9]
      · iexists _; isplitr; swap; · iexact H9
        ipureintro; rfl
      isplitl [H10]
      · iexists _; isplitr; swap; · iexact H10
        ipureintro; rfl
      isplitl [H11]
      · iexists _; isplitr; swap; · iexact H11
        ipureintro; rfl
      isplitl [H12]
      · iexists _; isplitr; swap; · iexact H12
        ipureintro; rfl
      isplitl [H13]
      · iexists _; isplitr; swap; · iexact H13
        ipureintro; rfl
      iexists _; isplitr; swap; · iexact H14
      ipureintro; rfl
    ipureintro
    subst k2 k3 k4 k5 k6 k7 k8 k9 k10 k11 k12 k13 k14
    obtain ⟨s0, h0, hr⟩ := hM
    refine hPQ s0 _ h0 { x := hr.x, ga := hr.ga, be := hr.be, co := hr.co, im := hr.im, cv := fun x γ β hb hg hi => ⟨hr.cv x γ β hb hg hi, fun q => ?_⟩ }
    have hc := hr.cv x γ β hb hg hi 0
    refine (sc_write i hp8 arg6.view g6 (k0_off26_inb i k0_h5) _ q).trans ?_
    have hw : k0_pay42 (F := Ideal) (View.readAt (Elt Ideal) arg13.view (Rect.unit (s := S1) ![0] S1.size inb_S1_S1_0).toLoadRect g13 (Shape.Idx.first (by decide))) = (((2 : ℝ) ^ expo (amax x γ β) : ℝ) : EReal) := by
      rw [pay42_at, ex_read arg13.view g13 _ _ (Shape.Idx.first (s := S1) (by decide))]
      refine (congrArg (fun z : BitVec 32 => Ideal.ofBits .f32 ((z + 127#32) <<< 23)) hc.hw).trans (pow2_word _ hc.lo hc.hi)
    split
    · exact hw
    · exact congrFun hr.sc (ix1 q)
  unfold HeldP owns
  iexists _, _, _, _, _, _, _, _, _, _, _, _, _
  isplitl [H2 H3 H4 H5 H6 H7 H8 H9 H10 H11 H12 H13 H14]
  · isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    iexists _; isplitr; swap; · iexact H14
    ipureintro; rfl
  ipureintro
  subst h2 h3 h4 h5 h6 h7 h8 h9 h10 h11 h12 h13 h14
  refine ⟨_, hP, ⟨rfl, rfl, rfl⟩, rfl, rfl, rfl, fun x γ β hb hg hi => ?_⟩
  have H := chan_fast x γ β _ _ _ _ _ _ _ _ _ _ _ _ _ _ _ _ _ _ _ _
      (fun l => (gb_read arg3.view f3 0 ![0, 0, 0] inb_S5x1x256_S1x1x256_0_0_0 rfl l).trans (hg.g 0 l))
      (fun l => (gb_read arg3.view f3 1 ![1, 0, 0] inb_S5x1x256_S1x1x256_1_0_0 rfl l).trans (hg.g 1 l))
      (fun l => (gb_read arg3.view f3 2 ![2, 0, 0] inb_S5x1x256_S1x1x256_2_0_0 rfl l).trans (hg.g 2 l))
      (fun l => (gb_read arg3.view f3 3 ![3, 0, 0] inb_S5x1x256_S1x1x256_3_0_0 rfl l).trans (hg.g 3 l))
      (fun l => (gb_read arg3.view f3 4 ![4, 0, 0] inb_S5x1x256_S1x1x256_4_0_0 rfl l).trans (hg.g 4 l))
      (fun l => (gb_read arg4.view f4 0 ![0, 0, 0] inb_S5x1x256_S1x1x256_0_0_0 rfl l).trans (hg.b 0 l))
      (fun l => (gb_read arg4.view f4 1 ![1, 0, 0] inb_S5x1x256_S1x1x256_1_0_0 rfl l).trans (hg.b 1 l))
      (fun l => (gb_read arg4.view f4 2 ![2, 0, 0] inb_S5x1x256_S1x1x256_2_0_0 rfl l).trans (hg.b 2 l))
      (fun l => (gb_read arg4.view f4 3 ![3, 0, 0] inb_S5x1x256_S1x1x256_3_0_0 rfl l).trans (hg.b 3 l))
      (fun l => (gb_read arg4.view f4 4 ![4, 0, 0] inb_S5x1x256_S1x1x256_4_0_0 rfl l).trans (hg.b 4 l))
      (fun a l => (st8_read arg8.view f8 0 ![0, 0, 0] inb_S5x8x256_S1x8x256_0_0_0 rfl a l).trans ((hi 0).2.s1 a l))
      (fun a l => (st8_read arg8.view f8 1 ![1, 0, 0] inb_S5x8x256_S1x8x256_1_0_0 rfl a l).trans ((hi 1).2.s1 a l))
      (fun a l => (st8_read arg8.view f8 2 ![2, 0, 0] inb_S5x8x256_S1x8x256_2_0_0 rfl a l).trans ((hi 2).2.s1 a l))
      (fun a l => (st8_read arg8.view f8 3 ![3, 0, 0] inb_S5x8x256_S1x8x256_3_0_0 rfl a l).trans ((hi 3).2.s1 a l))
      (fun a l => (st8_read arg8.view f8 4 ![4, 0, 0] inb_S5x8x256_S1x8x256_4_0_0 rfl a l).trans ((hi 4).2.s1 a l))
      (fun a l => (st8_read arg9.view f9 0 ![0, 0, 0] inb_S5x8x256_S1x8x256_0_0_0 rfl a l).trans ((hi 0).2.s2 a l))
      (fun a l => (st8_read arg9.view f9 1 ![1, 0, 0] inb_S5x8x256_S1x8x256_1_0_0 rfl a l).trans ((hi 1).2.s2 a l))
      (fun a l => (st8_read arg9.view f9 2 ![2, 0, 0] inb_S5x8x256_S1x8x256_2_0_0 rfl a l).trans ((hi 2).2.s2 a l))
      (fun a l => (st8_read arg9.view f9 3 ![3, 0, 0] inb_S5x8x256_S1x8x256_3_0_0 rfl a l).trans ((hi 3).2.s2 a l))
      (fun a l => (st8_read arg9.view f9 4 ![4, 0, 0] inb_S5x8x256_S1x8x256_4_0_0 rfl a l).trans ((hi 4).2.s2 a l))
  refine ⟨⟨H.g, H.b, H.m⟩, fun hv k => ?_⟩
  refine cv_rows x γ β hb arg12.view f12 _ (fast_rows x γ β _ _ _ _ _ _ _ _ _ H) _ ((congrFun (View.read_writes_full arg13.view f13 inb_S1_S1_0 _ []) _).trans ?_) k
  exact fast_word x γ β H _ _ _ _ _ _ _ _ _ _
      (fun a l => (st16_read arg10.view f10 0 ![0, 0, 0] inb_S5x16x256_S1x16x256_0_0_0 rfl a l).trans (top_of _ (fun m => x (16 * m + a.val) (256 * 0 + l.val)) ((hi 0).2.mx a l)))
      (fun a l => (st16_read arg10.view f10 1 ![1, 0, 0] inb_S5x16x256_S1x16x256_1_0_0 rfl a l).trans (top_of _ (fun m => x (16 * m + a.val) (256 * 1 + l.val)) ((hi 1).2.mx a l)))
      (fun a l => (st16_read arg10.view f10 2 ![2, 0, 0] inb_S5x16x256_S1x16x256_2_0_0 rfl a l).trans (top_of _ (fun m => x (16 * m + a.val) (256 * 2 + l.val)) ((hi 2).2.mx a l)))
      (fun a l => (st16_read arg10.view f10 3 ![3, 0, 0] inb_S5x16x256_S1x16x256_3_0_0 rfl a l).trans (top_of _ (fun m => x (16 * m + a.val) (256 * 3 + l.val)) ((hi 3).2.mx a l)))
      (fun a l => (st16_read arg10.view f10 4 ![4, 0, 0] inb_S5x16x256_S1x16x256_4_0_0 rfl a l).trans (top_of _ (fun m => x (16 * m + a.val) (256 * 4 + l.val)) ((hi 4).2.mx a l)))
      (fun a l => (st16_read arg11.view f11 0 ![0, 0, 0] inb_S5x16x256_S1x16x256_0_0_0 rfl a l).trans (bot_of _ (fun m => x (16 * m + a.val) (256 * 0 + l.val)) ((hi 0).2.mn a l)))
      (fun a l => (st16_read arg11.view f11 1 ![1, 0, 0] inb_S5x16x256_S1x16x256_1_0_0 rfl a l).trans (bot_of _ (fun m => x (16 * m + a.val) (256 * 1 + l.val)) ((hi 1).2.mn a l)))
      (fun a l => (st16_read arg11.view f11 2 ![2, 0, 0] inb_S5x16x256_S1x16x256_2_0_0 rfl a l).trans (bot_of _ (fun m => x (16 * m + a.val) (256 * 2 + l.val)) ((hi 2).2.mn a l)))
      (fun a l => (st16_read arg11.view f11 3 ![3, 0, 0] inb_S5x16x256_S1x16x256_3_0_0 rfl a l).trans (bot_of _ (fun m => x (16 * m + a.val) (256 * 3 + l.val)) ((hi 3).2.mn a l)))
      (fun a l => (st16_read arg11.view f11 4 ![4, 0, 0] inb_S5x16x256_S1x16x256_4_0_0 rfl a l).trans (bot_of _ (fun m => x (16 * m + a.val) (256 * 4 + l.val)) ((hi 4).2.mn a l))) _ _ (flag_of _ hv)

end Cert.KernelIdeal.Hand

end
-- ==== Proof.Value.Body.lean ====
/-
  Hand-written, untrusted. the whole body run once.
-/
module

public import proofs.«01_k».proof.Proof.Value.Inv
public import proofs.«01_k».proof.Proof.Value.Blk1
public import proofs.«01_k».proof.Proof.Value.Blk2
public import proofs.«01_k».proof.Proof.Value.Blk3
public import proofs.«01_k».proof.Proof.Value.Blk4
public import proofs.«01_k».proof.Proof.Value.Blk5

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

local notation "𝕄" => MT nD τ sig Unit (Elt Ideal) ℕ (UR sig nD τ) ℕ

theorem guard_iff : ∀ a b : BitVec 1, Scalar.cmpi .ne (Scalar.extui (Scalar.andi a b) : BitVec 32) 0#32 = 1#1 ↔ a = 1#1 ∧ b = 1#1 := by decide
theorem not_iff1 : ∀ a : BitVec 1, Scalar.xori a 1#1 = 1#1 ↔ ¬ a = 1#1 := by decide
theorem and_left1 : ∀ a b : BitVec 1, Scalar.andi a b = 1#1 → a = 1#1 := by decide
theorem lt8_iff : ∀ p : Fin 9, Scalar.cmpi .slt (BitVec.ofNat 32 p.val) 8#32 = 1#1 ↔ p.val < 8 := by decide
theorem gt0_iff : ∀ p : Fin 9, Scalar.cmpi .sgt (BitVec.ofNat 32 p.val) 0#32 = 1#1 ↔ 0 < p.val := by decide
theorem eq4_iff : ∀ p : Fin 5, Scalar.cmpi .eq (BitVec.ofNat 32 p.val) 4#32 = 1#1 ↔ p.val = 4 := by decide
theorem cond5_iff (i : grid0.Coords) : k0_cond5 i = 1#1 ↔ (i 0).val < 8 ∧ (i 1).val = 4 :=
  (guard_iff _ _).trans (and_congr (lt8_iff (i 0)) (eq4_iff (i 1)))
theorem h8 (i : grid0.Coords) : Scalar.cmpi .slt (BitVec.ofNat 32 (i 0).val) 8#32 = 1#1 ↔ (i 0).val < 8 := lt8_iff (i 0)
theorem h0 (i : grid0.Coords) : Scalar.cmpi .sgt (BitVec.ofNat 32 (i 0).val) 0#32 = 1#1 ↔ 0 < (i 0).val := gt0_iff (i 0)

/-- A block under a condition. -/
theorem iteP (c : Dev nD) (arg2 : Memref sig .tc .vmem S1x4096x256 .bf16) (arg3 : Memref sig .tc .vmem S5x1x256 .f32) (arg4 : Memref sig .tc .vmem S5x1x256 .f32) (arg5 : Memref sig .tc .vmem S1x4096x256 .fp8e4m3) (arg6 : Memref sig .tc .smem S8 .f32) (arg7 : Memref sig .tc .vmem S5x4096x256 .bf16) (arg8 : Memref sig .tc .vmem S5x8x256 .f32) (arg9 : Memref sig .tc .vmem S5x8x256 .f32) (arg10 : Memref sig .tc .vmem S5x16x256 .bf16) (arg11 : Memref sig .tc .vmem S5x16x256 .bf16) (arg12 : Memref sig .tc .vmem S5x8x256 .f32) (arg13 : Memref sig .tc .smem S1 .i32) (arg14 : Memref sig .tc .smem S1 .i32) (P Q : St → Prop) {g : Prop} [Decidable g]
    (p : Prog (TpuEff nD τ sig (Elt Ideal) Λ₀ .tc) PUnit)
    (h1 : g → (HeldP c arg2 arg3 arg4 arg5 arg6 arg7 arg8 arg9 arg10 arg11 arg12 arg13 arg14 P ⊢ wp frame (wpE (defs₀ (F := Ideal)) Variants.none c none) Set.univ p (fun _ => HeldP c arg2 arg3 arg4 arg5 arg6 arg7 arg8 arg9 arg10 arg11 arg12 arg13 arg14 Q))) (h2 : ¬ g → ∀ s, P s → Q s) :
    HeldP c arg2 arg3 arg4 arg5 arg6 arg7 arg8 arg9 arg10 arg11 arg12 arg13 arg14 P ⊢ wp frame (wpE (defs₀ (F := Ideal)) Variants.none c none) Set.univ (if g then p else pure ⟨⟩) (fun _ => HeldP c arg2 arg3 arg4 arg5 arg6 arg7 arg8 arg9 arg10 arg11 arg12 arg13 arg14 Q) := by
  split
  · next g => exact h1 g
  · next g => exact retP c arg2 arg3 arg4 arg5 arg6 arg7 arg8 arg9 arg10 arg11 arg12 arg13 arg14 P Q (h2 g)

/-- The last block under its condition. -/
theorem last_val (c : Dev nD) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (X : ℕ → ℕ → ℕ → ℝ) (γ β : ℕ → ℝ) (x0 : Vec Ideal S1x4096x256 .bf16) (g0 b0 : Vec Ideal S5x1x256 .f32)
    (hX : ∀ p, p < 8 → amax (X p) γ β ≤ 406 * 2 ^ 126) :
    HeldP c arg2 arg3 arg4 arg5 arg6 arg7 arg8 arg9 arg10 arg11 arg12 arg13 arg14 (Mid2 X γ β x0 g0 b0 i) ⊢ wp frame (wpE (defs₀ (F := Ideal)) Variants.none c none) Set.univ (if k0_h5 : k0_cond5 i = 1#1 then blk5 (F := Ideal) i arg2 harg2 arg3 harg3 arg4 harg4 arg5 harg5 arg6 harg6 arg7 harg7 arg8 harg8 arg9 harg9 arg10 harg10 arg11 harg11 arg12 harg12 arg13 harg13 arg14 harg14 k0_h5 else pure ⟨⟩) (fun _ => HeldP c arg2 arg3 arg4 arg5 arg6 arg7 arg8 arg9 arg10 arg11 arg12 arg13 arg14 (Post X γ β x0 g0 b0 i)) := by
  split
  · next g => exact blk5_val c i arg2 harg2 arg3 harg3 arg4 harg4 arg5 harg5 arg6 harg6 arg7 harg7 arg8 harg8 arg9 harg9 arg10 harg10 arg11 harg11 arg12 harg12 arg13 harg13 arg14 harg14 g ((cond5_iff i).1 g).1 _ _ (fun s s' h r => step5 hX ((cond5_iff i).1 g).1 ((cond5_iff i).1 g).2 h r)
  · next g => exact retP c arg2 arg3 arg4 arg5 arg6 arg7 arg8 arg9 arg10 arg11 arg12 arg13 arg14 _ _ (fun s h => step_end (fun hh => g ((cond5_iff i).2 hh)) h)

/-- The five blocks, at any word of the flag. -/
theorem blocks_val (c : Dev nD) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (X : ℕ → ℕ → ℕ → ℝ) (γ β : ℕ → ℝ) (x0 : Vec Ideal S1x4096x256 .bf16) (g0 b0 : Vec Ideal S5x1x256 .f32)
    (hX : ∀ p, p < 8 → amax (X p) γ β ≤ 406 * 2 ^ 126) (v9 : BitVec 1) (hv : v9 = 1#1 → 0 < (i 0).val) :
    HeldP c arg2 arg3 arg4 arg5 arg6 arg7 arg8 arg9 arg10 arg11 arg12 arg13 arg14 (Pre X γ β x0 g0 b0 i) ⊢ wp frame (wpE (defs₀ (F := Ideal)) Variants.none c none) Set.univ (do
      (if Scalar.cmpi .ne (Scalar.extui (Scalar.andi (Scalar.cmpi .sgt (BitVec.ofNat 32 (i 0).val) 0#32) (Scalar.xori v9 1#1)) : BitVec 32) 0#32 = 1#1 then blk1 (F := Ideal) i arg2 harg2 arg3 harg3 arg4 harg4 arg5 harg5 arg6 harg6 arg7 harg7 arg8 harg8 arg9 harg9 arg10 harg10 arg11 harg11 arg12 harg12 arg13 harg13 arg14 harg14 else pure ⟨⟩)
      (if Scalar.cmpi .ne (Scalar.extui (Scalar.andi v9 (Scalar.cmpi .slt (BitVec.ofNat 32 (i 0).val) 8#32)) : BitVec 32) 0#32 = 1#1 then blk2 (F := Ideal) i arg2 harg2 arg3 harg3 arg4 harg4 arg5 harg5 arg6 harg6 arg7 harg7 arg8 harg8 arg9 harg9 arg10 harg10 arg11 harg11 arg12 harg12 arg13 harg13 arg14 harg14 else pure ⟨⟩)
      (if Scalar.cmpi .ne (Scalar.extui (Scalar.andi v9 (Scalar.xori (Scalar.cmpi .slt (BitVec.ofNat 32 (i 0).val) 8#32) 1#1)) : BitVec 32) 0#32 = 1#1 then blk3 (F := Ideal) i arg2 harg2 arg3 harg3 arg4 harg4 arg5 harg5 arg6 harg6 arg7 harg7 arg8 harg8 arg9 harg9 arg10 harg10 arg11 harg11 arg12 harg12 arg13 harg13 arg14 harg14 else pure ⟨⟩)
      (if Scalar.cmpi .ne (Scalar.extui (Scalar.andi (Scalar.cmpi .slt (BitVec.ofNat 32 (i 0).val) 8#32) (Scalar.xori v9 1#1)) : BitVec 32) 0#32 = 1#1 then blk4 (F := Ideal) i arg2 harg2 arg3 harg3 arg4 harg4 arg5 harg5 arg6 harg6 arg7 harg7 arg8 harg8 arg9 harg9 arg10 harg10 arg11 harg11 arg12 harg12 arg13 harg13 arg14 harg14 else pure ⟨⟩)
      (if k0_h5 : k0_cond5 i = 1#1 then blk5 (F := Ideal) i arg2 harg2 arg3 harg3 arg4 harg4 arg5 harg5 arg6 harg6 arg7 harg7 arg8 harg8 arg9 harg9 arg10 harg10 arg11 harg11 arg12 harg12 arg13 harg13 arg14 harg14 k0_h5 else pure ⟨⟩)) (fun _ => HeldP c arg2 arg3 arg4 arg5 arg6 arg7 arg8 arg9 arg10 arg11 arg12 arg13 arg14 (Post X γ β x0 g0 b0 i)) := by
  by_cases h9 : v9 = 1#1
  · by_cases hp8 : (i 0).val < 8
    · exact (seqP c arg2 arg3 arg4 arg5 arg6 arg7 arg8 arg9 arg10 arg11 arg12 arg13 arg14 (Pre X γ β x0 g0 b0 i) (Pre X γ β x0 g0 b0 i) _ _ _
      (iteP c arg2 arg3 arg4 arg5 arg6 arg7 arg8 arg9 arg10 arg11 arg12 arg13 arg14 (Pre X γ β x0 g0 b0 i) (Pre X γ β x0 g0 b0 i) _ (fun g => absurd h9 ((not_iff1 _).1 ((guard_iff _ _).1 g).2)) (fun g => fun s h => h))
      (seqP c arg2 arg3 arg4 arg5 arg6 arg7 arg8 arg9 arg10 arg11 arg12 arg13 arg14 (Pre X γ β x0 g0 b0 i) (Mid2 X γ β x0 g0 b0 i) _ _ _
      (iteP c arg2 arg3 arg4 arg5 arg6 arg7 arg8 arg9 arg10 arg11 arg12 arg13 arg14 (Pre X γ β x0 g0 b0 i) (Mid2 X γ β x0 g0 b0 i) _ (fun g => blk2_val c i arg2 harg2 arg3 harg3 arg4 harg4 arg5 harg5 arg6 harg6 arg7 harg7 arg8 harg8 arg9 harg9 arg10 harg10 arg11 harg11 arg12 harg12 arg13 harg13 arg14 harg14 (Pre X γ β x0 g0 b0 i) (Mid2 X γ β x0 g0 b0 i) (fun s s' h r => step2 (hv h9) hp8 h r)) (fun g => absurd ((guard_iff _ _).2 ⟨h9, (h8 i).2 hp8⟩) g))
      (seqP c arg2 arg3 arg4 arg5 arg6 arg7 arg8 arg9 arg10 arg11 arg12 arg13 arg14 (Mid2 X γ β x0 g0 b0 i) (Mid2 X γ β x0 g0 b0 i) _ _ _
      (iteP c arg2 arg3 arg4 arg5 arg6 arg7 arg8 arg9 arg10 arg11 arg12 arg13 arg14 (Mid2 X γ β x0 g0 b0 i) (Mid2 X γ β x0 g0 b0 i) _ (fun g => absurd ((h8 i).2 hp8) ((not_iff1 _).1 ((guard_iff _ _).1 g).2)) (fun g => fun s h => h))
      (seqP c arg2 arg3 arg4 arg5 arg6 arg7 arg8 arg9 arg10 arg11 arg12 arg13 arg14 (Mid2 X γ β x0 g0 b0 i) (Mid2 X γ β x0 g0 b0 i) _ _ _
      (iteP c arg2 arg3 arg4 arg5 arg6 arg7 arg8 arg9 arg10 arg11 arg12 arg13 arg14 (Mid2 X γ β x0 g0 b0 i) (Mid2 X γ β x0 g0 b0 i) _ (fun g => absurd h9 ((not_iff1 _).1 ((guard_iff _ _).1 g).2)) (fun g => fun s h => h))
      (last_val c i arg2 harg2 arg3 harg3 arg4 harg4 arg5 harg5 arg6 harg6 arg7 harg7 arg8 harg8 arg9 harg9 arg10 harg10 arg11 harg11 arg12 harg12 arg13 harg13 arg14 harg14 X γ β x0 g0 b0 hX)))))
    · exact (seqP c arg2 arg3 arg4 arg5 arg6 arg7 arg8 arg9 arg10 arg11 arg12 arg13 arg14 (Pre X γ β x0 g0 b0 i) (Pre X γ β x0 g0 b0 i) _ _ _
      (iteP c arg2 arg3 arg4 arg5 arg6 arg7 arg8 arg9 arg10 arg11 arg12 arg13 arg14 (Pre X γ β x0 g0 b0 i) (Pre X γ β x0 g0 b0 i) _ (fun g => absurd h9 ((not_iff1 _).1 ((guard_iff _ _).1 g).2)) (fun g => fun s h => h))
      (seqP c arg2 arg3 arg4 arg5 arg6 arg7 arg8 arg9 arg10 arg11 arg12 arg13 arg14 (Pre X γ β x0 g0 b0 i) (Pre X γ β x0 g0 b0 i) _ _ _
      (iteP c arg2 arg3 arg4 arg5 arg6 arg7 arg8 arg9 arg10 arg11 arg12 arg13 arg14 (Pre X γ β x0 g0 b0 i) (Pre X γ β x0 g0 b0 i) _ (fun g => absurd ((h8 i).1 ((guard_iff _ _).1 g).2) hp8) (fun g => fun s h => h))
      (seqP c arg2 arg3 arg4 arg5 arg6 arg7 arg8 arg9 arg10 arg11 arg12 arg13 arg14 (Pre X γ β x0 g0 b0 i) (Mid2 X γ β x0 g0 b0 i) _ _ _
      (iteP c arg2 arg3 arg4 arg5 arg6 arg7 arg8 arg9 arg10 arg11 arg12 arg13 arg14 (Pre X γ β x0 g0 b0 i) (Mid2 X γ β x0 g0 b0 i) _ (fun g => blk3_val c i arg2 harg2 arg3 harg3 arg4 harg4 arg5 harg5 arg6 harg6 arg7 harg7 arg8 harg8 arg9 harg9 arg10 harg10 arg11 harg11 arg12 harg12 arg13 harg13 arg14 harg14 (Pre X γ β x0 g0 b0 i) (Mid2 X γ β x0 g0 b0 i) (fun s s' h r => step_last hp8 (step13 (hv h9) h r))) (fun g => absurd ((guard_iff _ _).2 ⟨h9, (not_iff1 _).2 (fun hh => hp8 ((h8 i).1 hh))⟩) g))
      (seqP c arg2 arg3 arg4 arg5 arg6 arg7 arg8 arg9 arg10 arg11 arg12 arg13 arg14 (Mid2 X γ β x0 g0 b0 i) (Mid2 X γ β x0 g0 b0 i) _ _ _
      (iteP c arg2 arg3 arg4 arg5 arg6 arg7 arg8 arg9 arg10 arg11 arg12 arg13 arg14 (Mid2 X γ β x0 g0 b0 i) (Mid2 X γ β x0 g0 b0 i) _ (fun g => absurd h9 ((not_iff1 _).1 ((guard_iff _ _).1 g).2)) (fun g => fun s h => h))
      (last_val c i arg2 harg2 arg3 harg3 arg4 harg4 arg5 harg5 arg6 harg6 arg7 harg7 arg8 harg8 arg9 harg9 arg10 harg10 arg11 harg11 arg12 harg12 arg13 harg13 arg14 harg14 X γ β x0 g0 b0 hX)))))
  · exact (seqP c arg2 arg3 arg4 arg5 arg6 arg7 arg8 arg9 arg10 arg11 arg12 arg13 arg14 (Pre X γ β x0 g0 b0 i) (Mid1 X γ β x0 g0 b0 i) _ _ _
      (iteP c arg2 arg3 arg4 arg5 arg6 arg7 arg8 arg9 arg10 arg11 arg12 arg13 arg14 (Pre X γ β x0 g0 b0 i) (Mid1 X γ β x0 g0 b0 i) _ (fun g => blk1_val c i arg2 harg2 arg3 harg3 arg4 harg4 arg5 harg5 arg6 harg6 arg7 harg7 arg8 harg8 arg9 harg9 arg10 harg10 arg11 harg11 arg12 harg12 arg13 harg13 arg14 harg14 (Pre X γ β x0 g0 b0 i) (Mid1 X γ β x0 g0 b0 i) (fun s s' h r => step13 ((h0 i).1 ((guard_iff _ _).1 g).1) h r)) (fun g => fun s h => ⟨h, fun hp => absurd ((guard_iff _ _).2 ⟨(h0 i).2 hp, (not_iff1 _).2 h9⟩) g⟩))
      (seqP c arg2 arg3 arg4 arg5 arg6 arg7 arg8 arg9 arg10 arg11 arg12 arg13 arg14 (Mid1 X γ β x0 g0 b0 i) (Mid1 X γ β x0 g0 b0 i) _ _ _
      (iteP c arg2 arg3 arg4 arg5 arg6 arg7 arg8 arg9 arg10 arg11 arg12 arg13 arg14 (Mid1 X γ β x0 g0 b0 i) (Mid1 X γ β x0 g0 b0 i) _ (fun g => absurd ((guard_iff _ _).1 g).1 h9) (fun g => fun s h => h))
      (seqP c arg2 arg3 arg4 arg5 arg6 arg7 arg8 arg9 arg10 arg11 arg12 arg13 arg14 (Mid1 X γ β x0 g0 b0 i) (Mid1 X γ β x0 g0 b0 i) _ _ _
      (iteP c arg2 arg3 arg4 arg5 arg6 arg7 arg8 arg9 arg10 arg11 arg12 arg13 arg14 (Mid1 X γ β x0 g0 b0 i) (Mid1 X γ β x0 g0 b0 i) _ (fun g => absurd ((guard_iff _ _).1 g).1 h9) (fun g => fun s h => h))
      (seqP c arg2 arg3 arg4 arg5 arg6 arg7 arg8 arg9 arg10 arg11 arg12 arg13 arg14 (Mid1 X γ β x0 g0 b0 i) (Mid2 X γ β x0 g0 b0 i) _ _ _
      (iteP c arg2 arg3 arg4 arg5 arg6 arg7 arg8 arg9 arg10 arg11 arg12 arg13 arg14 (Mid1 X γ β x0 g0 b0 i) (Mid2 X γ β x0 g0 b0 i) _ (fun g => blk4_val c i arg2 harg2 arg3 harg3 arg4 harg4 arg5 harg5 arg6 harg6 arg7 harg7 arg8 harg8 arg9 harg9 arg10 harg10 arg11 harg11 arg12 harg12 arg13 harg13 arg14 harg14 (Mid1 X γ β x0 g0 b0 i) (Mid2 X γ β x0 g0 b0 i) (fun s s' h r => step4 ((h8 i).1 ((guard_iff _ _).1 g).1) h r)) (fun g => fun s h => step_last (fun hp => g ((guard_iff _ _).2 ⟨(h8 i).2 hp, (not_iff1 _).2 h9⟩)) h))
      (last_val c i arg2 harg2 arg3 harg3 arg4 harg4 arg5 harg5 arg6 harg6 arg7 harg7 arg8 harg8 arg9 harg9 arg10 harg10 arg11 harg11 arg12 harg12 arg13 harg13 arg14 harg14 X γ β x0 g0 b0 hX)))))

/-- The whole body at one grid point. -/
theorem body_val (c : Dev nD) (i : grid0.Coords) (arg2 : Memref sig .tc .vmem S1x4096x256 .bf16) (harg2 : arg2.IsWhole) (arg3 : Memref sig .tc .vmem S5x1x256 .f32) (harg3 : arg3.IsWhole) (arg4 : Memref sig .tc .vmem S5x1x256 .f32) (harg4 : arg4.IsWhole) (arg5 : Memref sig .tc .vmem S1x4096x256 .fp8e4m3) (harg5 : arg5.IsWhole) (arg6 : Memref sig .tc .smem S8 .f32) (harg6 : arg6.IsWhole) (arg7 : Memref sig .tc .vmem S5x4096x256 .bf16) (harg7 : arg7.IsWhole) (arg8 : Memref sig .tc .vmem S5x8x256 .f32) (harg8 : arg8.IsWhole) (arg9 : Memref sig .tc .vmem S5x8x256 .f32) (harg9 : arg9.IsWhole) (arg10 : Memref sig .tc .vmem S5x16x256 .bf16) (harg10 : arg10.IsWhole) (arg11 : Memref sig .tc .vmem S5x16x256 .bf16) (harg11 : arg11.IsWhole) (arg12 : Memref sig .tc .vmem S5x8x256 .f32) (harg12 : arg12.IsWhole) (arg13 : Memref sig .tc .smem S1 .i32) (harg13 : arg13.IsWhole) (arg14 : Memref sig .tc .smem S1 .i32) (harg14 : arg14.IsWhole) (X : ℕ → ℕ → ℕ → ℝ) (γ β : ℕ → ℝ) (x0 : Vec Ideal S1x4096x256 .bf16) (g0 b0 : Vec Ideal S5x1x256 .f32)
    (hX : ∀ p, p < 8 → amax (X p) γ β ≤ 406 * 2 ^ 126) :
    HeldP c arg2 arg3 arg4 arg5 arg6 arg7 arg8 arg9 arg10 arg11 arg12 arg13 arg14 (Pre X γ β x0 g0 b0 i)
      ⊢ wp frame (wpE (defs₀ (F := Ideal)) Variants.none c none) Set.univ
          (cc0_gn_silu_fp8 (F := Ideal) i arg2 harg2 arg3 harg3 arg4 harg4 arg5 harg5 arg6 harg6 arg7 harg7 arg8 harg8 arg9 harg9 arg10 harg10 arg11 harg11 arg12 harg12 arg13 harg13 arg14 harg14) (fun _ => HeldP c arg2 arg3 arg4 arg5 arg6 arg7 arg8 arg9 arg10 arg11 arg12 arg13 arg14 (Post X γ β x0 g0 b0 i)) := by
  rw [cc0_gn_silu_fp8_eq_skeleton, skel_eq_blocks]
  unfold bodyBlocks
  unfold HeldP owns
  iintro ⟨%d2, %d3, %d4, %d5, %d6, %d7, %d8, %d9, %d10, %d11, %d12, %d13, %d14, ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩⟩, %hP⟩
  sl_exec
  iapply (blocks_val c i arg2 harg2 arg3 harg3 arg4 harg4 arg5 harg5 arg6 harg6 arg7 harg7 arg8 harg8 arg9 harg9 arg10 harg10 arg11 harg11 arg12 harg12 arg13 harg13 arg14 harg14 X γ β x0 g0 b0 hX _ (fun h => (h0 i).1 (and_left1 _ _ h)))
  unfold HeldP owns
  iexists d2, d3, d4, d5, d6, d7, d8, d9, d10, d11, d12, d13, d14
  isplitl [H2 H3 H4 H5 H6 H7 H8 H9 H10 H11 H12 H13 H14]
  · isplitl [H2]
    · iexists _; isplitr; swap; · iexact H2
      ipureintro; assumption
    isplitl [H3]
    · iexists _; isplitr; swap; · iexact H3
      ipureintro; assumption
    isplitl [H4]
    · iexists _; isplitr; swap; · iexact H4
      ipureintro; assumption
    isplitl [H5]
    · iexists _; isplitr; swap; · iexact H5
      ipureintro; assumption
    isplitl [H6]
    · iexists _; isplitr; swap; · iexact H6
      ipureintro; assumption
    isplitl [H7]
    · iexists _; isplitr; swap; · iexact H7
      ipureintro; assumption
    isplitl [H8]
    · iexists _; isplitr; swap; · iexact H8
      ipureintro; assumption
    isplitl [H9]
    · iexists _; isplitr; swap; · iexact H9
      ipureintro; assumption
    isplitl [H10]
    · iexists _; isplitr; swap; · iexact H10
      ipureintro; assumption
    isplitl [H11]
    · iexists _; isplitr; swap; · iexact H11
      ipureintro; assumption
    isplitl [H12]
    · iexists _; isplitr; swap; · iexact H12
      ipureintro; assumption
    isplitl [H13]
    · iexists _; isplitr; swap; · iexact H13
      ipureintro; assumption
    iexists _; isplitr; swap; · iexact H14
    ipureintro; assumption
  ipureintro; exact hP

end Cert.KernelIdeal.Hand

end
-- ==== Proof.Value.Run.lean ====
/-
  Hand-written, untrusted. the body obligation, with what the windows and the scratch hold.
-/
module

public import proofs.«01_k».proof.Proof.Value.Geo
public import proofs.«01_k».proof.Proof.Value.Body

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec
open Idealize.ShloMosaic.Pipeline (RDat)

variable (m : (ℓ : Loc nD τ sig) → Buf (Elt Ideal) ℓ)

local notation "𝕄" => MT nD τ sig Unit (Elt Ideal) ℕ (UR sig nD τ) ℕ

variable (X : Dev nD → ℕ → ℕ → ℕ → ℝ) (γ β : Dev nD → ℕ → ℝ)

/-- The scratch, with what it is known to hold when the grid reaches point `t`. -/
def ScrAt (c : Dev nD) (t : ℕ) : sProp 𝕄 :=
  iprop(∃ d7 : Vec Ideal S5x4096x256 .bf16, ∃ d8 : Vec Ideal S5x8x256 .f32, ∃ d9 : Vec Ideal S5x8x256 .f32, ∃ d10 : Vec Ideal S5x16x256 .bf16, ∃ d11 : Vec Ideal S5x16x256 .bf16, ∃ d12 : Vec Ideal S5x8x256 .f32, ∃ d13 : Vec Ideal S1 .i32, ∃ d14 : Vec Ideal S1 .i32, (owns (c : Thread nD τ) sc0 fullShare d7 ∗ owns (c : Thread nD τ) sc1 fullShare d8 ∗ owns (c : Thread nD τ) sc2 fullShare d9 ∗ owns (c : Thread nD τ) sc3 fullShare d10 ∗ owns (c : Thread nD τ) sc4 fullShare d11 ∗ owns (c : Thread nD τ) sc5 fullShare d12 ∗ owns (c : Thread nD τ) sc6 fullShare d13 ∗ owns (c : Thread nD τ) sc7 fullShare d14)
    ∗ ⌜∀ (x : Vec Ideal S1x4096x256 .bf16) (ga be : Vec Ideal S5x1x256 .f32) (co : Vec Ideal S1x4096x256 .fp8e4m3) (sc : Vec Ideal S8 .f32),
        Inv (X c) (γ c) (β c) (t / 5) (t % 5) ⟨x, ga, be, co, sc, d7, d8, d9, d10, d11, d12, d13, d14⟩⌝)

/-- What the codes window holds after a point. -/
def CoP (c : Dev nD) (t : ℕ) (Z : Vec Ideal S1x4096x256 .fp8e4m3) : Prop :=
  0 < t / 5 → ∀ (r : Fin 4096) (l : Fin 256), Z (ix3 0 r l) = ((code (X c (t / 5 - 1)) (γ c) (β c) r.val (256 * (t % 5) + l.val) : ℝ) : EReal)

/-- What the body leaves in the windows. -/
def aft (c : Dev nD) : (w : Fin cfg0.W) → Fin cfg0.N → ((cfg0.win w).block.Idx → Elt Ideal (cfg0.win w).elt) → ((cfg0.win w).block.Idx → Elt Ideal (cfg0.win w).elt) → Prop
  | ⟨0, _⟩, _, Y, Z => Z = Y
  | ⟨1, _⟩, _, Y, Z => Z = Y
  | ⟨2, _⟩, _, Y, Z => Z = Y
  | ⟨3, _⟩, t, _, Z => CoP X γ β c t.val Z
  | ⟨4, _⟩, t, _, Z => ScOk (X c) (γ c) (β c) (t.val + 1) Z

/-- The proof data on core `c`: the arrays as the region finds them; the input windows kept, the codes and the scales of the
    images finished; the scratch with its invariant. -/
def vdat (c : Dev nD) : RDat τ (Elt Ideal) Unit ℕ (UR sig nD τ) ℕ cfg0 c where
  A w := V m c (Pipeline.arrRef spec0 w)
  after := aft X γ β c
  Φ t := iprop(ScrAt X γ β c t.val ∗ (∃ r, prngReg c r))
  q _ := fullShare
  owed _ := 0

theorem finds0 (c : Dev nD) (t : Fin cfg0.N) (Y) (h : (vdat m X γ β c).Finds 0 t Y) : Y = iblk m c 0 t := by
  obtain ⟨d, rfl⟩ := RDat.finds_in_eq_fetched (vdat m X γ β c) 0 rfl (fun _ _ _ => rfl) (fun _ _ _ h => h) t Y h
  rfl
theorem finds1 (c : Dev nD) (t : Fin cfg0.N) (Y) (h : (vdat m X γ β c).Finds 1 t Y) : Y = iblk m c 1 t := by
  obtain ⟨d, rfl⟩ := RDat.finds_in_eq_fetched (vdat m X γ β c) 1 rfl (fun _ _ _ => rfl) (fun _ _ _ h => h) t Y h
  rfl
theorem finds2 (c : Dev nD) (t : Fin cfg0.N) (Y) (h : (vdat m X γ β c).Finds 2 t Y) : Y = iblk m c 2 t := by
  obtain ⟨d, rfl⟩ := RDat.finds_in_eq_fetched (vdat m X γ β c) 2 rfl (fun _ _ _ => rfl) (fun _ _ _ h => h) t Y h
  rfl
theorem finds4 (c : Dev nD) (t : Fin cfg0.N) (Y) (h : (vdat m X γ β c).Finds 4 t Y) : ScOk (X c) (γ c) (β c) t.val Y := by
  have hf : (cfg0.win 4).fetch t = false := Pipeline.Window.fetch_out _ rfl t
  by_cases ht : t.val = 0
  · intro q hq; omega
  rcases ((vdat m X γ β c).finds_of_pos hf ht Y).1 h with hfl | ⟨Y', -, hR⟩
  · have := (flush0_4 _).1 hfl
    have h45 : t.val < 45 := N_0 ▸ t.isLt
    simp only at this
    omega
  · have h2 : ScOk (X c) (γ c) (β c) (t.val - 1 + 1) Y := hR
    rwa [Nat.sub_add_cancel (Nat.one_le_iff_ne_zero.2 ht)] at h2

variable (hX : ∀ (c : Dev nD) (q : Fin 8) (r : Fin 4096) (j : Fin 1280), m ((c : Thread nD τ).loc main_arg0) (ix3 q r j) = ((X c q.val r.val j.val : ℝ) : EReal))
  (hγ : ∀ (c : Dev nD) (j : Fin 1280), m ((c : Thread nD τ).loc main_arg1) (ix1 j) = ((γ c j.val : ℝ) : EReal))
  (hβ : ∀ (c : Dev nD) (j : Fin 1280), m ((c : Thread nD τ).loc main_arg2) (ix1 j) = ((β c j.val : ℝ) : EReal))
  (hb : ∀ (c : Dev nD) (p : ℕ), p < 8 → amax (X c p) (γ c) (β c) ≤ 406 * 2 ^ 126)

include hX hγ hβ in
/-- What the body finds. -/
theorem pre_of (c : Dev nD) (t : Fin cfg0.N) (Y : (w : Fin cfg0.W) → (cfg0.win w).block.Idx → Elt Ideal (cfg0.win w).elt)
    (hY : ∀ w, (vdat m X γ β c).Finds w t (Y w)) (d7 : Vec Ideal S5x4096x256 .bf16) (d8 : Vec Ideal S5x8x256 .f32) (d9 : Vec Ideal S5x8x256 .f32) (d10 : Vec Ideal S5x16x256 .bf16) (d11 : Vec Ideal S5x16x256 .bf16) (d12 : Vec Ideal S5x8x256 .f32) (d13 : Vec Ideal S1 .i32) (d14 : Vec Ideal S1 .i32)
    (hI : ∀ (x : Vec Ideal S1x4096x256 .bf16) (ga be : Vec Ideal S5x1x256 .f32) (co : Vec Ideal S1x4096x256 .fp8e4m3) (sc : Vec Ideal S8 .f32),
        Inv (X c) (γ c) (β c) (t.val / 5) (t.val % 5) ⟨x, ga, be, co, sc, d7, d8, d9, d10, d11, d12, d13, d14⟩) :
    Pre (X c) (γ c) (β c) (Y 0) (Y 1) (Y 2) (cfg0.grid.coords t) ⟨Y 0, Y 1, Y 2, Y 3, Y 4, d7, d8, d9, d10, d11, d12, d13, d14⟩ := by
  obtain ⟨e0, e1⟩ := coords_val t
  have f0 := finds0 m X γ β c t _ (hY 0)
  have f1 := finds1 m X γ β c t _ (hY 1)
  have f2 := finds2 m X γ β c t _ (hY 2)
  have f4 := finds4 m X γ β c t _ (hY 4)
  have h45 : t.val < 45 := N_0 ▸ t.isLt
  refine { x := rfl, ga := rfl, be := rfl, gb := ⟨fun k l => ?_, fun k l => ?_⟩, inp := fun h8 r l => ?_, scl := ?_, inv := ?_ }
  · refine (congrFun f1 (ix3 k 0 l)).trans ?_
    exact (iblk1_at m c t k l ⟨256 * k.val + l.val, by have := k.isLt; have := l.isLt; omega⟩ rfl).trans (hγ c _)
  · refine (congrFun f2 (ix3 k 0 l)).trans ?_
    exact (iblk2_at m c t k l ⟨256 * k.val + l.val, by have := k.isLt; have := l.isLt; omega⟩ rfl).trans (hβ c _)
  · rw [e0] at h8 ⊢
    refine (congrFun f0 (ix3 0 r l)).trans ?_
    have e1' : (col (cfg0.grid.coords t)).val = t.val % 5 := e1
    rw [e1']
    exact (iblk0_at m c t h8 r l ⟨t.val / 5, h8⟩ ⟨256 * (t.val % 5) + l.val, by have := l.isLt; omega⟩ rfl rfl).trans (hX c _ _ _)
  · rw [e0, e1, Nat.div_add_mod]; exact f4
  · rw [e0, e1]; exact hI _ _ _ _ _

/-- What the body leaves. -/
theorem post_of (c : Dev nD) (t : Fin cfg0.N) (x0 : Vec Ideal S1x4096x256 .bf16) (g0 b0 : Vec Ideal S5x1x256 .f32)
    (d2 : Vec Ideal S1x4096x256 .bf16) (d3 : Vec Ideal S5x1x256 .f32) (d4 : Vec Ideal S5x1x256 .f32) (d5 : Vec Ideal S1x4096x256 .fp8e4m3) (d6 : Vec Ideal S8 .f32) (d7 : Vec Ideal S5x4096x256 .bf16) (d8 : Vec Ideal S5x8x256 .f32) (d9 : Vec Ideal S5x8x256 .f32) (d10 : Vec Ideal S5x16x256 .bf16) (d11 : Vec Ideal S5x16x256 .bf16) (d12 : Vec Ideal S5x8x256 .f32) (d13 : Vec Ideal S1 .i32) (d14 : Vec Ideal S1 .i32)
    (h : Post (X c) (γ c) (β c) x0 g0 b0 (cfg0.grid.coords t) ⟨d2, d3, d4, d5, d6, d7, d8, d9, d10, d11, d12, d13, d14⟩) :
    d2 = x0 ∧ d3 = g0 ∧ d4 = b0 ∧ CoP X γ β c t.val d5 ∧ ScOk (X c) (γ c) (β c) (t.val + 1) d6
      ∧ ∀ (x : Vec Ideal S1x4096x256 .bf16) (ga be : Vec Ideal S5x1x256 .f32) (co : Vec Ideal S1x4096x256 .fp8e4m3) (sc : Vec Ideal S8 .f32),
        Inv (X c) (γ c) (β c) ((t.val + 1) / 5) ((t.val + 1) % 5) ⟨x, ga, be, co, sc, d7, d8, d9, d10, d11, d12, d13, d14⟩ := by
  obtain ⟨e0, e1⟩ := coords_val t
  have e2 : (col (cfg0.grid.coords t)).val = t.val % 5 := e1
  obtain ⟨⟨hx, hg, hbe⟩, h1, h2, h3⟩ := h
  rw [e0, e1, Nat.div_add_mod] at h1 h2
  refine ⟨hx, hg, hbe, fun hp r l => ?_, h1, fun x ga be co sc => ⟨h2.a, h2.b, h2.e⟩⟩
  have h4 := h3 (by rw [e0]; exact hp) r l
  rw [e0, e2] at h4
  exact h4

include hX hγ hβ hb in
/-- The body at the point. -/
theorem sound_val (c : Dev nD) (t : Fin cfg0.N)
    (Y : (w : Fin cfg0.W) → (cfg0.win w).block.Idx → Elt Ideal (cfg0.win w).elt) (hY : ∀ w, (vdat m X γ β c).Finds w t (Y w)) :
    iprop((vdat m X γ β c).Φ t.castSucc ∗ (vdat m X γ β c).owesAt () t.castSucc
        ∗ (owns (c : Thread nD τ) ((cfg0.win 0).stage (cfg0.slots t 0)) fullShare (Y 0)
          ∗ owns (c : Thread nD τ) ((cfg0.win 1).stage (cfg0.slots t 1)) fullShare (Y 1)
          ∗ owns (c : Thread nD τ) ((cfg0.win 2).stage (cfg0.slots t 2)) fullShare (Y 2)
          ∗ owns (c : Thread nD τ) ((cfg0.win 3).stage (cfg0.slots t 3)) fullShare (Y 3)
          ∗ owns (c : Thread nD τ) ((cfg0.win 4).stage (cfg0.slots t 4)) fullShare (Y 4)))
      ⊢ wp frame (wpE (defs₀ (F := Ideal)) Variants.none c none) Set.univ (bodyAt0 t) (fun _ =>
        iprop((vdat m X γ β c).Φ t.succ ∗ (vdat m X γ β c).owesAt () t.succ
        ∗ ((∃ Z, ⌜(vdat m X γ β c).after 0 t (Y 0) Z⌝ ∗ owns (c : Thread nD τ) ((cfg0.win 0).stage (cfg0.slots t 0)) fullShare Z)
          ∗ (∃ Z, ⌜(vdat m X γ β c).after 1 t (Y 1) Z⌝ ∗ owns (c : Thread nD τ) ((cfg0.win 1).stage (cfg0.slots t 1)) fullShare Z)
          ∗ (∃ Z, ⌜(vdat m X γ β c).after 2 t (Y 2) Z⌝ ∗ owns (c : Thread nD τ) ((cfg0.win 2).stage (cfg0.slots t 2)) fullShare Z)
          ∗ (∃ Z, ⌜(vdat m X γ β c).after 3 t (Y 3) Z⌝ ∗ owns (c : Thread nD τ) ((cfg0.win 3).stage (cfg0.slots t 3)) fullShare Z)
          ∗ (∃ Z, ⌜(vdat m X γ β c).after 4 t (Y 4) Z⌝ ∗ owns (c : Thread nD τ) ((cfg0.win 4).stage (cfg0.slots t 4)) fullShare Z)))) := by
  rw [show (vdat m X γ β c).owesAt () t.succ = (vdat m X γ β c).owesAt () t.castSucc from rfl,
    show (vdat m X γ β c).Φ t.castSucc = iprop(ScrAt X γ β c t.val ∗ (∃ r, prngReg c r)) from rfl,
    show (vdat m X γ β c).Φ t.succ = iprop(ScrAt X γ β c (t.val + 1) ∗ (∃ r, prngReg c r)) from rfl]
  unfold ScrAt
  iintro ⟨⟨⟨%d7, %d8, %d9, %d10, %d11, %d12, %d13, %d14, ⟨S0, S1, S2, S3, S4, S5, S6, S7⟩, %hI⟩, Hg⟩, HO, W0, W1, W2, W3, W4⟩
  iapply (wp_wand_r frame (wpE (defs₀ (F := Ideal)) Variants.none (c : Thread nD τ) none) Set.univ)
  isplitl [S0 S1 S2 S3 S4 S5 S6 S7 W0 W1 W2 W3 W4]
  · iapply (body_val c (cfg0.grid.coords t) _ _ _ _ _ _ _ _ _ _ _ _ _ _ _ _ _ _ _ _ _ _ _ _ _ _ (X c) (γ c) (β c) (Y 0) (Y 1) (Y 2) (hb c))
    unfold HeldP
    iexists (Y 0), (Y 1), (Y 2), (Y 3), (Y 4), d7, d8, d9, d10, d11, d12, d13, d14
    isplitl
    · isplitl [W0]; · iexact W0
      isplitl [W1]; · iexact W1
      isplitl [W2]; · iexact W2
      isplitl [W3]; · iexact W3
      isplitl [W4]; · iexact W4
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    ipureintro; exact pre_of m X γ β hX hγ hβ c t Y hY _ _ _ _ _ _ _ _ hI
  unfold HeldP
  iintro %_ ⟨%e2, %e3, %e4, %e5, %e6, %e7, %e8, %e9, %e10, %e11, %e12, %e13, %e14, ⟨W0, W1, W2, W3, W4, S0, S1, S2, S3, S4, S5, S6, S7⟩, %hP⟩
  obtain ⟨h0, h1, h2, h3, h4, h5⟩ := post_of X γ β c t _ _ _ _ _ _ _ _ _ _ _ _ _ _ _ _ hP
  isplitl [S0 S1 S2 S3 S4 S5 S6 S7 Hg]
  · isplitr [Hg]; swap; · iexact Hg
    iexists e7, e8, e9, e10, e11, e12, e13, e14
    isplitl
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    ipureintro; exact h5
  isplitl [HO]; · iexact HO
  isplitl [W0]; · iexists e2; isplitr; · ipureintro; exact h0
                  iexact W0
  isplitl [W1]; · iexists e3; isplitr; · ipureintro; exact h1
                  iexact W1
  isplitl [W2]; · iexists e4; isplitr; · ipureintro; exact h2
                  iexact W2
  isplitl [W3]; · iexists e5; isplitr; · ipureintro; exact h3
                  iexact W3
  iexists e6; isplitr; · ipureintro; exact h4
  iexact W4

include hX hγ hβ hb in
/-- The library's body obligation. -/
theorem val_obligation (c : Dev nD) : (vdat m X γ β c).BodyObligation (defs₀ (F := Ideal)) Variants.none () Set.univ :=
  fun t Y hY => by
    rw [bigSep_W0, bigSep_W0, defs₀_row]
    exact sound_val m X γ β hX hγ hβ hb c t Y hY

/-- At the first point nothing need be known of the scratch. -/
theorem scr_in (c : Dev nD) : (Pipeline.ΦA spec0 c : sProp 𝕄) ⊢ (vdat m X γ β c).Φ 0 := by
  rw [PhiA_eq, show (vdat m X γ β c).Φ 0 = iprop(ScrAt X γ β c 0 ∗ (∃ r, prngReg c r)) from rfl]
  unfold ScrAt
  iintro ⟨⟨⟨%d7, S0⟩, ⟨%d8, S1⟩, ⟨%d9, S2⟩, ⟨%d10, S3⟩, ⟨%d11, S4⟩, ⟨%d12, S5⟩, ⟨%d13, S6⟩, ⟨%d14, S7⟩⟩, Hg⟩
  isplitr [Hg]; swap; · iexact Hg
  iexists d7, d8, d9, d10, d11, d12, d13, d14
  isplitl
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  ipureintro
  intro x ga be co sc
  exact ⟨fun _ k hk => absurd hk (Nat.not_lt_zero _), fun h => absurd h (Nat.lt_irrefl 0), fun h => absurd h (Nat.lt_irrefl 0)⟩

/-- After the last point it is forgotten. -/
theorem scr_out (c : Dev nD) : (vdat m X γ β c).Φ (Fin.last cfg0.N) ⊢ (Pipeline.ΦA spec0 c : sProp 𝕄) := by
  rw [PhiA_eq, show (vdat m X γ β c).Φ (Fin.last cfg0.N) = iprop(ScrAt X γ β c cfg0.N ∗ (∃ r, prngReg c r)) from rfl]
  unfold ScrAt
  iintro ⟨⟨%d7, %d8, %d9, %d10, %d11, %d12, %d13, %d14, ⟨S0, S1, S2, S3, S4, S5, S6, S7⟩, -⟩, Hg⟩
  isplitr [Hg]; swap; · iexact Hg
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  iexists _; iexact S7

end Cert.KernelIdeal.Hand

end
-- ==== Proof.Value.End.lean ====
/-
  Hand-written, untrusted. the run, and what the results hold at the end.
-/
module

public import proofs.«01_k».proof.Proof.Value.Run
public import Idealize.ShloMosaic.Lib.Pipeline.ArrRel

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec
open Idealize.ShloMosaic.Pipeline (RDat)

variable (m : (ℓ : Loc nD τ sig) → Buf (Elt Ideal) ℓ)

variable (ρ : Dev nD → PrngReg) (X : Dev nD → ℕ → ℕ → ℕ → ℝ) (γ β : Dev nD → ℕ → ℝ)
  (hX : ∀ (c : Dev nD) (q : Fin 8) (r : Fin 4096) (j : Fin 1280), m ((c : Thread nD τ).loc main_arg0) (ix3 q r j) = ((X c q.val r.val j.val : ℝ) : EReal))
  (hγ : ∀ (c : Dev nD) (j : Fin 1280), m ((c : Thread nD τ).loc main_arg1) (ix1 j) = ((γ c j.val : ℝ) : EReal))
  (hβ : ∀ (c : Dev nD) (j : Fin 1280), m ((c : Thread nD τ).loc main_arg2) (ix1 j) = ((β c j.val : ℝ) : EReal))
  (hb : ∀ (c : Dev nD) (p : ℕ), p < 8 → amax (X c p) (γ c) (β c) ≤ 406 * 2 ^ 126)

include hX hγ hβ hb in
set_option backward.isDefEq.respectTransparency.types false in
/-- The run, with what the windows hold. -/
theorem run_val :
    θ_run defs (onTc (τ := τ) (main (F := Ideal))) (s₀ m ρ)
      (fun r => Pipeline.RDat.FramePost (cfgs 0) (fun c => vdat m X γ β c) (V m) r ∧ r.2.sem = fun _ => 0) :=
  Pipeline.RDat.θ_run_frame_track (Q' := _) cfgs (0 : Fin 1) launch0 defs₀ Variants.none (vdat m X γ β) m ρ main
    (hbody := fun c => val_obligation m X γ β hX hγ hβ hb c) (hshare := fun c w => by unfold RDat.share; split <;> rfl)
    (howed := fun _ _ => rfl) (V := V m) (hmain := hmain m Variants.none) (hA := fun _ _ => rfl)
    (hin := fun c => scr_in m X γ β c) (hout := fun c => scr_out m X γ β c) (hQ' := fun _ h => h)

variable {m ρ X γ β}

/-- The arguments at the end. -/
theorem val_args {r : PUnit × MemSt nD τ sig (Elt Ideal)}
    (h : Pipeline.RDat.FramePost (cfgs 0) (fun c => vdat m X γ β c) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨(Pipeline.RDat.FramePost.arr_in h c 0 rfl).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c)⟩

/-- The codes at the end. -/
theorem val_codes {r : PUnit × MemSt nD τ sig (Elt Ideal)}
    (h : Pipeline.RDat.FramePost (cfgs 0) (fun c => vdat m X γ β c) (V m) r) (c : Dev nD) (q : Fin 8) (a : Fin 4096) (j : Fin 1280) :
    r.2.mem ((c : Thread nD τ).loc main_v2_0) (ix3 q a j) = ((code (X c q.val) (γ c) (β c) a.val j.val : ℝ) : EReal) := by
  obtain ⟨after, hL, hA⟩ := Pipeline.RDat.FramePost.exists_exact h c
  have e : r.2.mem ((c : Thread nD τ).loc main_v2_0) = ((vdat m X γ β c).withAfter after).arrAt 3 cfg0.N := hA 3
  rw [e]
  refine Pipeline.Dat.arrAt_forall_of_covers ((vdat m X γ β c).withAfter after) 3
    (fun i v => v = ((code (X c (i 0).val) (γ c) (β c) (i 1).val (i 2).val : ℝ) : EReal)) covers3 (fun t hf y => ?_) (ix3 q a j)
  obtain ⟨Y', -, hR⟩ := hL 3 t hf
  have hc : CoP X γ β c t.val (after 3 t) := hR
  obtain ⟨e0, e1, e2⟩ := embCodes t y hf
  obtain ⟨hp, -, -, -⟩ := index3 t hf
  have key := hc hp (y 1) (y 2)
  show after 3 t y = _
  rw [show (((((cfg0.win 3).blk t).view.emb y) 0 : Fin _) : ℕ) = _ from e0, show (((((cfg0.win 3).blk t).view.emb y) 1 : Fin _) : ℕ) = _ from e1,
    show (((((cfg0.win 3).blk t).view.emb y) 2 : Fin _) : ℕ) = _ from e2, ← key]
  refine congrArg (after 3 t) ?_
  funext a
  match a with
  | ⟨0, _⟩ => exact Fin.ext (by have h0 : (y 0).val < 1 := (y 0).isLt; show (y 0).val = 0; omega)
  | ⟨1, _⟩ => rfl
  | ⟨2, _⟩ => rfl

/-- The scales at the end. -/
theorem val_scale {r : PUnit × MemSt nD τ sig (Elt Ideal)}
    (h : Pipeline.RDat.FramePost (cfgs 0) (fun c => vdat m X γ β c) (V m) r) (c : Dev nD) (q : Fin 8) :
    r.2.mem ((c : Thread nD τ).loc main_v2_1) (ix1 q) = (((2 : ℝ) ^ expo (amax (X c q.val) (γ c) (β c)) : ℝ) : EReal) := by
  obtain ⟨Z, ⟨Y', -, hR⟩, hG⟩ := Pipeline.RDat.ArrAt.emb_eq_of_wholeAt ((h c).1 4) whole4
  have hs : ScOk (X c) (γ c) (β c) 45 Z := hR
  refine (hG (ix1 q)).trans ?_
  refine Eq.trans ?_ (hs q (by have := q.isLt; omega))
  refine congrArg Z ?_
  funext a
  match a with
  | ⟨0, _⟩ => rfl

end Cert.KernelIdeal.Hand

end
-- ==== Proof.Value.RefStages.lean ====
/-
  Hand-written, untrusted. The reference's two results, cut into named stages.
-/
module

public import proofs.«01_k».proof.Proof.Gen.ReferenceIdeal.Run
public import Idealize.ShloMosaic.Lib.Pointwise

@[expose] public section

set_option maxRecDepth 8192
set_option maxHeartbeats 4000000

noncomputable section

namespace Cert.ReferenceIdeal.Value

open Cert.ReferenceIdeal Cert.ReferenceIdeal.Gen
open Idealize.ShloMosaic Idealize.ShloMosaic.TcCoe
open Idealize.ShloMosaic.StableHlo

/-- The image in groups. -/
def rXf (X : FVec Ideal S8x4096x1280 .bf16) : FVec Ideal S8x4096x32x40 .f32 :=
  (shapeCast _ (extf .f32 X bitsLt_bf16_f32) shapeCasts_S8x4096x1280_S8x4096x32x40)

/-- The group means. -/
def rMean (X : FVec Ideal S8x4096x1280 .bf16) : FVec Ideal S8x1x32x1 .f32 :=
  (Host.divf (broadcastInDim S8x1x32x1 ![0, 2] bcast_S8x32_S8x1x32x1_0_2 (Host.reduceAdd (rXf X) (constant S_ .f32 0x00000000#32) reducesTo_S8x4096x32x40_S8x32_d1_3 h_S_)) (broadcastInDim S8x1x32x1 ![] bcast_S_S8x1x32x1 (constant S_ .f32 0x48200000#32)))

/-- The deviations. -/
def rDev (X : FVec Ideal S8x4096x1280 .bf16) : FVec Ideal S8x4096x32x40 .f32 :=
  (subf (rXf X) (broadcastInDim S8x4096x32x40 ![0, 1, 2, 3] bcast_S8x1x32x1_S8x4096x32x40_0_1_2_3 (rMean X)))

/-- The reciprocal deviations. -/
def rRstd (X : FVec Ideal S8x4096x1280 .bf16) : FVec Ideal S8x1x32x1 .f32 :=
  (Host.rsqrt (addf (Host.divf (broadcastInDim S8x1x32x1 ![0, 2] bcast_S8x32_S8x1x32x1_0_2 (Host.reduceAdd (mulf (rDev X) (rDev X)) (constant S_ .f32 0x00000000#32) reducesTo_S8x4096x32x40_S8x32_d1_3 h_S_)) (broadcastInDim S8x1x32x1 ![] bcast_S_S8x1x32x1 (constant S_ .f32 0x48200000#32))) (broadcastInDim S8x1x32x1 ![] bcast_S_S8x1x32x1 (constant S_ .f32 0x3727C5AC#32))))

/-- The affine map. -/
def rVv (X : FVec Ideal S8x4096x1280 .bf16) (G : FVec Ideal S1280 .f32) (B : FVec Ideal S1280 .f32) : FVec Ideal S8x4096x1280 .f32 :=
  (addf (mulf (shapeCast _ (mulf (rDev X) (broadcastInDim S8x4096x32x40 ![0, 1, 2, 3] bcast_S8x1x32x1_S8x4096x32x40_0_1_2_3 (rRstd X))) shapeCasts_S8x4096x32x40_S8x4096x1280) (broadcastInDim S8x4096x1280 ![0, 1, 2] bcast_S1x1x1280_S8x4096x1280_0_1_2 (broadcastInDim S1x1x1280 ![2] bcast_S1280_S1x1x1280_2 G))) (broadcastInDim S8x4096x1280 ![0, 1, 2] bcast_S1x1x1280_S8x4096x1280_0_1_2 (broadcastInDim S1x1x1280 ![2] bcast_S1280_S1x1x1280_2 B)))

/-- The activation. -/
def rYy (X : FVec Ideal S8x4096x1280 .bf16) (G : FVec Ideal S1280 .f32) (B : FVec Ideal S1280 .f32) : FVec Ideal S8x4096x1280 .f32 :=
  (mulf (rVv X G B) (Host.divf (broadcastInDim S8x4096x1280 ![] bcast_S_S8x4096x1280 (constant S_ .f32 0x3F800000#32)) (addf (broadcastInDim S8x4096x1280 ![] bcast_S_S8x4096x1280 (constant S_ .f32 0x3F800000#32)) (Host.exp (Host.negf (rVv X G B))))))

/-- The largest magnitudes. -/
def rAm (X : FVec Ideal S8x4096x1280 .bf16) (G : FVec Ideal S1280 .f32) (B : FVec Ideal S1280 .f32) : FVec Ideal S8 .f32 :=
  (Host.reduce FloatOps.maximumf (Host.absf (rYy X G B)) (constant S_ .f32 0xFF800000#32) reducesTo_S8x4096x1280_S8_d1_2 h_S_)

/-- The table of powers. -/
def rTab  : FVec Ideal S254 .f32 :=
  (Host.powf (broadcastInDim S254 ![] bcast_S_S254 (constant S_ .f32 0x40000000#32)) (addf (broadcastInDim S254 ![] bcast_S_S254 (constant S_ .f32 0xC2FC0000#32)) (sitofp .f32 (iotaInDim S254 32 0))))

/-- How many powers lie below. -/
def rCntOf (a : FVec Ideal S8 .f32) : IVec S8 32 :=
  (Host.reduce IntOp.addi (extui 32 (cmpf .oge (broadcastInDim S8x254 ![0, 1] bcast_S8x1_S8x254_0_1 (broadcastInDim S8x1 ![0] bcast_S8_S8x1_0 (mulf a (broadcastInDim S8 ![] bcast_S_S8 (constant S_ .f32 0x3B124925#32))))) (broadcastInDim S8x254 ![0, 1] bcast_S1x254_S8x254_0_1 (broadcastInDim S1x254 ![1] bcast_S254_S1x254_1 rTab))) natLt_1_32) (constantI S_ 32 0#32) reducesTo_S8x254_S8_d1 h_S_)

/-- The exponents. -/
def rExpoOf (a : FVec Ideal S8 .f32) (n : IVec S8 32) : IVec S8 32 :=
  (select (cmpf .oeq a (broadcastInDim S8 ![] bcast_S_S8 (constant S_ .f32 0x00000000#32))) (broadcastInDim S8 ![] bcast_S_S8 (id (constantI S_ 32 0#32))) (subi n (broadcastInDim S8 ![] bcast_S_S8 (constantI S_ 32 126#32))))

/-- The codes. -/
def rCodesOf (y : FVec Ideal S8x4096x1280 .f32) (e : IVec S8 32) : FVec Ideal S8x4096x1280 .fp8e4m3 :=
  Host.convertf .fp8e4m3 (minimumf (broadcastInDim S8x4096x1280 ![] bcast_S_S8x4096x1280 (id (constant S_ .f32 0x43E00000#32))) (maximumf (broadcastInDim S8x4096x1280 ![] bcast_S_S8x4096x1280 (id (constant S_ .f32 0xC3E00000#32))) (mulf y (broadcastInDim S8x4096x1280 ![0, 1, 2] bcast_S8x1x1_S8x4096x1280_0_1_2 (broadcastInDim S8x1x1 ![0] bcast_S8_S8x1x1_0 (Host.powf (broadcastInDim S8 ![] bcast_S_S8 (constant S_ .f32 0x40000000#32)) (sitofp .f32 (negi e))))))))

/-- The scales. -/
def rScaleOf (e : IVec S8 32) : FVec Ideal S8 .f32 :=
  Host.powf (broadcastInDim S8 ![] bcast_S_S8 (constant S_ .f32 0x40000000#32)) (sitofp .f32 e)

/-- The exponents of an image. -/
def rExpo (X : FVec Ideal S8x4096x1280 .bf16) (G : FVec Ideal S1280 .f32) (B : FVec Ideal S1280 .f32) : IVec S8 32 :=
  rExpoOf (rAm X G B) (rCntOf (rAm X G B))

theorem res_codes (m : (ℓ : Loc nD τ sig) → Buf (Elt Ideal) ℓ) (c : Dev nD) :
    res_main_v64 m c = rCodesOf (rYy (m ((c.tc : Thread nD τ).loc main_arg0)) (m ((c.tc : Thread nD τ).loc main_arg1)) (m ((c.tc : Thread nD τ).loc main_arg2)))
        (rExpo (m ((c.tc : Thread nD τ).loc main_arg0)) (m ((c.tc : Thread nD τ).loc main_arg1)) (m ((c.tc : Thread nD τ).loc main_arg2))) := rfl

theorem res_scale (m : (ℓ : Loc nD τ sig) → Buf (Elt Ideal) ℓ) (c : Dev nD) :
    res_main_v55 m c = rScaleOf (rExpo (m ((c.tc : Thread nD τ).loc main_arg0)) (m ((c.tc : Thread nD τ).loc main_arg1)) (m ((c.tc : Thread nD τ).loc main_arg2))) := rfl

end Cert.ReferenceIdeal.Value

end
-- ==== Proof.Value.Ref.lean ====
/-
  Hand-written, untrusted. The reference's stages on real arguments: each is the specification's stage.
-/
module

public import proofs.«01_k».proof.Proof.Value.RefStages
public import proofs.«01_k».proof.Proof.Value.Word
public import Idealize.ShloMosaic.Lib.Pointwise
public import Idealize.ShloMosaic.Lib.IdealHost

@[expose] public section

set_option maxRecDepth 8192
set_option maxHeartbeats 4000000

noncomputable section

namespace Cert.ReferenceIdeal.Value

open Cert.ReferenceIdeal Cert.ReferenceIdeal.Gen Cert.Spec
open Idealize.ShloMosaic Idealize.ShloMosaic.TcCoe Finset

section r4_a13
variable {n0 n1 n2 n3 : Nat} {t : Shape}

theorem rank_a13 (h : (⟨4, ![n0, n1, n2, n3]⟩ : Shape).ReducesTo [1, 3] t) : t.rank = 2 := h.1
theorem lt_a13_0 (h : (⟨4, ![n0, n1, n2, n3]⟩ : Shape).ReducesTo [1, 3] t) : 0 < t.rank := rank_a13 h ▸ (by decide)
theorem size_a13_0 (h : (⟨4, ![n0, n1, n2, n3]⟩ : Shape).ReducesTo [1, 3] t) : t.size ⟨0, lt_a13_0 h⟩ = n0 := h.2 ⟨0, lt_a13_0 h⟩
theorem lt_a13_1 (h : (⟨4, ![n0, n1, n2, n3]⟩ : Shape).ReducesTo [1, 3] t) : 1 < t.rank := rank_a13 h ▸ (by decide)
theorem size_a13_1 (h : (⟨4, ![n0, n1, n2, n3]⟩ : Shape).ReducesTo [1, 3] t) : t.size ⟨1, lt_a13_1 h⟩ = n2 := h.2 ⟨1, lt_a13_1 h⟩

/-- The source indices that drop to `j` are the ones with `j`'s coordinates on the kept axes. -/
theorem fiber_a13 (h : (⟨4, ![n0, n1, n2, n3]⟩ : Shape).ReducesTo [1, 3] t) (j : t.Idx) (i : (⟨4, ![n0, n1, n2, n3]⟩ : Shape).Idx) :
    h.drop i = j ↔ ∃ k : Fin n1 × Fin n3, ix4 ⟨(j ⟨0, lt_a13_0 h⟩).val, Shape.coordLt (j ⟨0, lt_a13_0 h⟩) (size_a13_0 h)⟩ k.1
      ⟨(j ⟨1, lt_a13_1 h⟩).val, Shape.coordLt (j ⟨1, lt_a13_1 h⟩) (size_a13_1 h)⟩ k.2 = i := by
  constructor
  · intro e
    refine ⟨(i 1, i 3), ?_⟩
    funext a; apply Fin.ext
    match a with
    | ⟨0, _⟩ => exact (congrArg Fin.val (congrFun e ⟨0, lt_a13_0 h⟩)).symm
    | ⟨1, _⟩ => rfl
    | ⟨2, _⟩ => exact (congrArg Fin.val (congrFun e ⟨1, lt_a13_1 h⟩)).symm
    | ⟨3, _⟩ => rfl
  · rintro ⟨k, rfl⟩
    funext b
    apply Fin.ext
    match b with
    | ⟨0, _⟩ => rfl
    | ⟨1, _⟩ => rfl
    | ⟨_ + 2, hb⟩ => exact absurd hb (by have := rank_a13 h; omega)

/-- A host sum over axes 1 and 3. -/
theorem hostReduceAdd_a13 (h : (⟨4, ![n0, n1, n2, n3]⟩ : Shape).ReducesTo [1, 3] t) (v : (⟨4, ![n0, n1, n2, n3]⟩ : Shape).Idx → EReal)
    (init : EReal) (j : t.Idx) :
    Ideal.hostReduceAdd h v init j = init + ∑ k0 : Fin n1, ∑ k1 : Fin n3,
      v (ix4 ⟨(j ⟨0, lt_a13_0 h⟩).val, Shape.coordLt (j ⟨0, lt_a13_0 h⟩) (size_a13_0 h)⟩ k0
        ⟨(j ⟨1, lt_a13_1 h⟩).val, Shape.coordLt (j ⟨1, lt_a13_1 h⟩) (size_a13_1 h)⟩ k1) := by
  unfold Ideal.hostReduceAdd
  congr 1
  refine (Finset.sum_filter_eq_sum_of_fiber _ (fun k : Fin n1 × Fin n3 =>
    ix4 ⟨(j ⟨0, lt_a13_0 h⟩).val, Shape.coordLt (j ⟨0, lt_a13_0 h⟩) (size_a13_0 h)⟩ k.1
      ⟨(j ⟨1, lt_a13_1 h⟩).val, Shape.coordLt (j ⟨1, lt_a13_1 h⟩) (size_a13_1 h)⟩ k.2)
    (fun _ _ e => Prod.ext (congrFun e 1) (congrFun e 3)) (fiber_a13 h j) v).trans ?_
  simp only [Fintype.sum_prod_type]

end r4_a13

/-- A sum over rows and the members of a group, on the host. -/
theorem sum_a13 (v : S8x4096x32x40.Idx → EReal) (init : EReal) (q : Fin 8) (g : Fin 32) :
    Ideal.hostReduceAdd reducesTo_S8x4096x32x40_S8x32_d1_3 v init (ix2 q g)
      = init + ∑ a : Fin 4096, ∑ b : Fin 40, v (ix4 q a g b) :=
  hostReduceAdd_a13 reducesTo_S8x4096x32x40_S8x32_d1_3 v init (ix2 q g)

theorem sum_real (f : ℕ → ℕ → ℝ) (g : ℕ) :
    (0 : EReal) + ∑ a : Fin 4096, ∑ b : Fin 40, ((f a.val (40 * g + b.val) : ℝ) : EReal) = (gs f g : EReal) := by
  rw [zero_add]
  simp only [← coe_sum]
  unfold gs
  rw [Finset.sum_range]
  simp only [Finset.sum_range]

/-- The largest magnitude as a fold. -/
theorem fold_amax {n m : ℕ} (hn : n = 4096) (hm : m = 1280) (x : ℕ → ℕ → ℝ) (γ β : ℕ → ℝ) (f : Fin n × Fin m → EReal)
    (hf : ∀ p, f p = ((|silu (aff x γ β p.1.val p.2.val)| : ℝ) : EReal)) :
    Finset.fold max ⊥ f Finset.univ = (amax x γ β : EReal) := by
  apply le_antisymm
  · rw [Finset.fold_max_le]
    exact ⟨bot_le, fun p _ => by rw [hf]; exact_mod_cast le_amax x γ β p.1.val p.2.val (hn ▸ p.1.isLt) (hm ▸ p.2.isLt)⟩
  · apply amax_le_ereal
    intro r hr j hj
    rw [Finset.le_fold_max]
    exact Or.inr ⟨(⟨r, hn ▸ hr⟩, ⟨j, hm ▸ hj⟩), Finset.mem_univ _, (hf (⟨r, hn ▸ hr⟩, ⟨j, hm ▸ hj⟩)).ge⟩

variable (X : FVec Ideal S8x4096x1280 .bf16) (G : FVec Ideal S1280 .f32) (B : FVec Ideal S1280 .f32)
variable (x : ℕ → ℕ → ℕ → ℝ) (γ β : ℕ → ℝ)
variable (hX : ∀ (q : Fin 8) (r : Fin 4096) (j : Fin 1280), X (ix3 q r j) = ((x q.val r.val j.val : ℝ) : EReal))
variable (hG : ∀ j : Fin 1280, G (ix1 j) = ((γ j.val : ℝ) : EReal)) (hB : ∀ j : Fin 1280, B (ix1 j) = ((β j.val : ℝ) : EReal))

theorem rXf_at (q : Fin 8) (r : Fin 4096) (g : Fin 32) (k : Fin 40) :
    rXf X (ix4 q r g k) = X (ix3 q r ⟨g.val * 40 + k.val, by omega⟩) := by pointwise [rXf]

include hX

theorem rMean_at (q : Fin 8) (g : Fin 32) : rMean X (ix4 q 0 g 0) = (mean (x q.val) g.val : EReal) := by
  have h : rMean X (ix4 q 0 g 0) = Ideal.div (Ideal.hostReduceAdd reducesTo_S8x4096x32x40_S8x32_d1_3 (rXf X) 0 (ix2 q g))
      (Ideal.ofBits FTy.f32 1210056704#32) := by pointwise [rMean]
  rw [h, sum_a13, bits_n]
  simp only [rXf_at, hX]
  have := sum_real (x q.val) g.val
  simp only [Nat.mul_comm 40] at this
  rw [this, div_coe _ _ (by norm_num)]
  rfl

theorem rDev_at (q : Fin 8) (r : Fin 4096) (g : Fin 32) (k : Fin 40) :
    rDev X (ix4 q r g k) = ((x q.val r.val (40 * g.val + k.val) - mean (x q.val) g.val : ℝ) : EReal) := by
  have h : rDev X (ix4 q r g k) = X (ix3 q r ⟨g.val * 40 + k.val, by omega⟩) - rMean X (ix4 q 0 g 0) := by
    pointwise [rDev, rXf]
  rw [h, rMean_at X x hX, hX, Nat.mul_comm 40]
  norm_cast

theorem rRstd_at (q : Fin 8) (g : Fin 32) : rRstd X (ix4 q 0 g 0) = (rstd (x q.val) g.val : EReal) := by
  have h : rRstd X (ix4 q 0 g 0) = Ideal.rsqrt
      (Ideal.div (Ideal.hostReduceAdd reducesTo_S8x4096x32x40_S8x32_d1_3 (mulf (rDev X) (rDev X)) 0 (ix2 q g))
          (Ideal.ofBits FTy.f32 1210056704#32) + Ideal.ofBits FTy.f32 925353388#32) := by pointwise [rRstd]
  have h2 : ∀ (r : Fin 4096) (k : Fin 40), mulf (rDev X) (rDev X) (ix4 q r g k) = (((fun r j => (x q.val r j - mean (x q.val) g.val) *
      (x q.val r j - mean (x q.val) g.val)) r.val (40 * g.val + k.val) : ℝ) : EReal) := by
    intro r k
    show rDev X (ix4 q r g k) * rDev X (ix4 q r g k) = _
    rw [rDev_at X x hX]
    norm_cast
  rw [h, sum_a13, bits_n, bits_eps]
  simp only [h2]
  rw [sum_real (fun r j => (x q.val r j - mean (x q.val) g.val) * (x q.val r j - mean (x q.val) g.val)),
    div_coe _ _ (by norm_num), ← EReal.coe_add, rsqrt_coe _ (by
      have := var_nonneg (x q.val) g.val; have := eps_pos; unfold var at *; linarith)]
  rfl

include hG hB

theorem rVv_at (q : Fin 8) (r : Fin 4096) (j : Fin 1280) :
    rVv X G B (ix3 q r j) = (aff (x q.val) γ β r.val j.val : EReal) := by
  have h : rVv X G B (ix3 q r j) = rDev X (ix4 q r ⟨j.val / 40, by omega⟩ ⟨j.val % 40, by omega⟩) *
      rRstd X (ix4 q 0 ⟨j.val / 40, by omega⟩ 0) * G (ix1 j) + B (ix1 j) := by pointwise [rVv]
  rw [h, rDev_at X x hX, rRstd_at X x hX, hG, hB]
  simp only [Nat.div_add_mod]
  unfold aff
  norm_cast

theorem rYy_at (q : Fin 8) (r : Fin 4096) (j : Fin 1280) :
    rYy X G B (ix3 q r j) = (silu (aff (x q.val) γ β r.val j.val) : EReal) := by
  have h : rYy X G B (ix3 q r j) = rVv X G B (ix3 q r j) * Ideal.div 1 (1 + Ideal.exp (-rVv X G B (ix3 q r j))) := by
    pointwise [rYy]
  rw [h, rVv_at X G B x γ β hX hG hB, silu_coe]

theorem rAm_at (q : Fin 8) : rAm X G B (ix1 q) = (amax (x q.val) γ β : EReal) := by
  have h : rAm X G B (ix1 q) = Finset.fold max (Ideal.ofBits FTy.f32 4286578688#32)
      (fun x : Fin 4096 × Fin 1280 => FloatOps.absf (rYy X G B (ix3 q x.1 x.2))) Finset.univ := by pointwise [rAm]
  rw [h, bits_bot]
  exact fold_amax rfl rfl (x q.val) γ β _ fun p => by rw [rYy_at X G B x γ β hX hG hB, abs_coe]

omit hX hG hB

theorem rTab_at (k : Fin 254) : rTab (ix1 k) = (((2 : ℝ) ^ ((k.val : ℤ) - 126) : ℝ) : EReal) := by
  have h : rTab (ix1 k) = Ideal.pow (Ideal.ofBits FTy.f32 1073741824#32)
      (Ideal.ofBits FTy.f32 3271294976#32 + FloatOps.sitofp (F := Ideal) FTy.f32 (BitVec.ofNat 32 k.val)) := by pointwise [rTab]
  have e : (FloatOps.sitofp (F := Ideal) FTy.f32 (BitVec.ofNat 32 k.val) : Ideal .f32) = ((k.val : ℝ) : EReal) := by
    show (((BitVec.ofNat 32 k.val).toInt : ℝ) : EReal) = _
    rw [BitVec.toInt_ofNat', Int.bmod_eq_of_le (by norm_num) (by norm_num; omega)]; norm_cast
  rw [h, e, bits_two, bits_n126, ← EReal.coe_add]
  show ((Real.rpow 2 (-126 + (k.val : ℝ)) : ℝ) : EReal) = _
  have : (-126 + (k.val : ℝ)) = (((k.val : ℤ) - 126 : ℤ) : ℝ) := by push_cast; ring
  rw [this]
  exact congrArg _ (Real.rpow_intCast 2 _)

theorem fold_addi {n : ℕ} (p : ℕ → Prop) [DecidablePred p] (op : BitVec 32 → BitVec 32 → BitVec 32)
    (hop : op = IntOp.addi) [Std.Commutative op] [Std.Associative op] (f : Fin n → BitVec 32) (hf : ∀ k, f k = if p k.val then 1#32 else 0#32) :
    Finset.univ.fold op (0#32) f = BitVec.ofNat 32 ((range n).filter p).card := by
  subst hop
  have : ∀ s : Finset (Fin n), s.fold IntOp.addi (0#32) f = BitVec.ofNat 32 (∑ k ∈ s, if p k.val then 1 else 0) := by
    intro s
    induction s using Finset.induction_on with
    | empty => rfl
    | insert a s ha ih =>
      rw [Finset.fold_insert ha, ih, Finset.sum_insert ha, hf, BitVec.ofNat_add]
      unfold IntOp.addi
      split <;> rfl
  rw [this, ← Finset.sum_range (fun k => if p k then 1 else 0), Finset.card_filter]

theorem rCntOf_at (a : FVec Ideal S8 .f32) (q : Fin 8) (s : ℝ) (h : a (ix1 q) = (s : EReal)) :
    rCntOf a (ix1 q) = BitVec.ofNat 32 (cnt s) := by
  have e : rCntOf a (ix1 q) = Finset.fold IntOp.addi (0#32) (fun x : Fin 254 => BitVec.setWidth 32
          (BitVec.ofBool (decide (rTab (ix1 x) ≤ a (ix1 q) * Ideal.ofBits FTy.f32 991054117#32)))) Finset.univ := by
    pointwise [rCntOf]
  rw [e]
  refine fold_addi (fun k : ℕ => (2 : ℝ) ^ ((k : ℤ) - 126) ≤ s * c448) _ rfl _ ?_
  intro k
  simp only [rTab_at, h, bits_c448, ← EReal.coe_mul, EReal.coe_le_coe_iff]
  split
  · next h => rw [decide_eq_true h]; rfl
  · next h => rw [decide_eq_false h]; rfl

theorem rExpoOf_at (a : FVec Ideal S8 .f32) (q : Fin 8) (s : ℝ) (h : a (ix1 q) = (s : EReal)) :
    rExpoOf a (rCntOf a) (ix1 q) = BitVec.ofInt 32 (expo s) := by
  have e : ∀ n, rExpoOf a n (ix1 q) = if a (ix1 q) = 0 then 0#32 else IntOp.subi (n (ix1 q)) 126#32 := by
    intro n
    pointwise [rExpoOf]
    rfl
  rw [e, rCntOf_at a q s h, h]
  unfold expo
  by_cases h : s = 0
  · simp [h]
  · rw [if_neg (by exact_mod_cast h), if_neg h, sub126]

theorem pow_coe (e : ℤ) (h : -200 ≤ e) (h' : e ≤ 200) :
    Ideal.pow (Ideal.ofBits FTy.f32 1073741824#32) (FloatOps.sitofp (F := Ideal) FTy.f32 (BitVec.ofInt 32 e)) = (((2 : ℝ) ^ e : ℝ) : EReal) := by
  have e2 : (FloatOps.sitofp (F := Ideal) FTy.f32 (BitVec.ofInt 32 e) : Ideal .f32) = ((e : ℝ) : EReal) := by
    show (((BitVec.ofInt 32 e).toInt : ℝ) : EReal) = _
    rw [ofInt_toInt e h h']
  rw [e2, bits_two]
  show ((Real.rpow 2 (e : ℝ) : ℝ) : EReal) = _
  exact congrArg _ (Real.rpow_intCast 2 _)

theorem rScaleOf_at (e : IVec S8 32) (q : Fin 8) (z : ℤ) (h : e (ix1 q) = BitVec.ofInt 32 z) (h1 : -200 ≤ z) (h2 : z ≤ 200) :
    rScaleOf e (ix1 q) = (((2 : ℝ) ^ z : ℝ) : EReal) := by
  have e1 : rScaleOf e (ix1 q) = Ideal.pow (Ideal.ofBits FTy.f32 1073741824#32) (FloatOps.sitofp (F := Ideal) FTy.f32 (e (ix1 q))) := by
    pointwise [rScaleOf]
  rw [e1, h, pow_coe z h1 h2]

theorem rCodesOf_at (y : FVec Ideal S8x4096x1280 .f32) (e : IVec S8 32) (q : Fin 8) (r : Fin 4096) (j : Fin 1280) (v : ℝ) (z : ℤ)
    (hy : y (ix3 q r j) = (v : EReal)) (h : e (ix1 q) = BitVec.ofInt 32 z) (h1 : -200 ≤ z) (h2 : z ≤ 200) :
    rCodesOf y e (ix3 q r j) = ((min 448 (max (-448) (v * (2 : ℝ) ^ (-z))) : ℝ) : EReal) := by
  have e1 : rCodesOf y e (ix3 q r j) = min (Ideal.ofBits FTy.f32 1138753536#32) (max (Ideal.ofBits FTy.f32 3286237184#32)
        (y (ix3 q r j) * Ideal.pow (Ideal.ofBits FTy.f32 1073741824#32) (FloatOps.sitofp (F := Ideal) FTy.f32 (-e (ix1 q))))) := by
    pointwise [rCodesOf]
    rfl
  rw [e1, h, ← BitVec.ofInt_neg, pow_coe (-z) (by omega) (by omega), hy, bits_448, bits_neg448, ← EReal.coe_mul, ← coe_max,
    ← coe_min]

/-- The reference's exponents. -/
theorem rExpo_at (hX : ∀ (q : Fin 8) (r : Fin 4096) (j : Fin 1280), X (ix3 q r j) = ((x q.val r.val j.val : ℝ) : EReal))
    (hG : ∀ j : Fin 1280, G (ix1 j) = ((γ j.val : ℝ) : EReal)) (hB : ∀ j : Fin 1280, B (ix1 j) = ((β j.val : ℝ) : EReal)) (q : Fin 8) :
    rExpo X G B (ix1 q) = BitVec.ofInt 32 (expo (amax (x q.val) γ β)) :=
  rExpoOf_at _ q _ (rAm_at X G B x γ β hX hG hB q)

/-- The reference's scales. -/
theorem ref_scale (hX : ∀ (q : Fin 8) (r : Fin 4096) (j : Fin 1280), X (ix3 q r j) = ((x q.val r.val j.val : ℝ) : EReal))
    (hG : ∀ j : Fin 1280, G (ix1 j) = ((γ j.val : ℝ) : EReal)) (hB : ∀ j : Fin 1280, B (ix1 j) = ((β j.val : ℝ) : EReal)) (q : Fin 8) :
    rScaleOf (rExpo X G B) (ix1 q) = (((2 : ℝ) ^ (expo (amax (x q.val) γ β)) : ℝ) : EReal) := by
  have hc := cnt_le (amax (x q.val) γ β)
  exact rScaleOf_at _ q _ (rExpo_at X G B x γ β hX hG hB q) (by unfold expo; split <;> omega) (by unfold expo; split <;> omega)

/-- The reference's codes. -/
theorem ref_codes (hX : ∀ (q : Fin 8) (r : Fin 4096) (j : Fin 1280), X (ix3 q r j) = ((x q.val r.val j.val : ℝ) : EReal))
    (hG : ∀ j : Fin 1280, G (ix1 j) = ((γ j.val : ℝ) : EReal)) (hB : ∀ j : Fin 1280, B (ix1 j) = ((β j.val : ℝ) : EReal))
    (q : Fin 8) (r : Fin 4096) (j : Fin 1280) :
    rCodesOf (rYy X G B) (rExpo X G B) (ix3 q r j) = ((code (x q.val) γ β r.val j.val : ℝ) : EReal) := by
  have hc := cnt_le (amax (x q.val) γ β)
  exact rCodesOf_at _ _ q r j _ _ (rYy_at X G B x γ β hX hG hB q r j) (rExpo_at X G B x γ β hX hG hB q)
    (by unfold expo; split <;> omega) (by unfold expo; split <;> omega)

end Cert.ReferenceIdeal.Value

end
-- ==== Proof.Value.Alg.lean ====
/- The two results of the kernel at `Ideal` are the two results of the reference. -/
module

public import proofs.«01_k».proof.Defs
public import proofs.«01_k».proof.Proof.Gen.ReferenceIdeal.Run
public import proofs.«01_k».proof.Proof.Value.PreVal
public import proofs.«01_k».proof.Proof.Value.End
public import proofs.«01_k».proof.Proof.Value.Ref

@[expose] public section

noncomputable section

namespace Cert.Proof

open Idealize.ShloMosaic Idealize.ShloMosaic.TcCoe Idealize.SL.Sem Cert.Spec

/-- Two arrays of rank three that agree at each index triple are equal. -/
theorem ext3 {n0 n1 n2 : ℕ} {f k : (⟨3, ![n0, n1, n2]⟩ : Shape).Idx → EReal} (h : ∀ q a j, f (ix3 q a j) = k (ix3 q a j)) : f = k := by
  funext i
  have e : i = ix3 (i 0) (i 1) (i 2) := by
    funext a
    match a with
    | ⟨0, _⟩ => rfl
    | ⟨1, _⟩ => rfl
    | ⟨2, _⟩ => rfl
  rw [e]
  exact h _ _ _

/-- Two arrays of rank one that agree at each index are equal. -/
theorem ext1 {n : ℕ} {f k : (⟨1, ![n]⟩ : Shape).Idx → EReal} (h : ∀ q, f (ix1 q) = k (ix1 q)) : f = k := by
  funext i
  have e : i = ix1 (i 0) := by
    funext a
    match a with
    | ⟨0, _⟩ => rfl
  rw [e]
  exact h _

/-- From one memory that meets the precondition the kernel and the reference end with the same codes and the same scales. -/
theorem algebraic : Cert.algebraic_KernelIdeal_ReferenceIdeal_pre_finite (hKernelIdeal := Cert.KernelIdeal.Gen.facts)
    (hReferenceIdeal := Cert.ReferenceIdeal.Gen.facts) (hPre_finite := Cert.KernelIdeal.Hand.preFacts) := by
  intro m g m' g' hpre hag
  choose X γ β hX hγ hβ hb using fun c => Cert.KernelIdeal.Hand.pre_real _ _ _ (hpre c)
  refine ⟨fun c => Cert.ReferenceIdeal.Value.res_main_v64 m' c, fun c => Cert.ReferenceIdeal.Value.res_main_v55 m' c, ?_,
    Cert.ReferenceIdeal.Value.run (F := Ideal) m' g'⟩
  refine (θ_run Cert.KernelIdeal.defs _ _).mono (fun r h c => ?_)
    (Cert.KernelIdeal.Hand.run_val m g X γ β hX hγ hβ (fun c p _ => hb c p))
  obtain ⟨a0, a1, a2⟩ := hag c
  have hX' := fun (q : Fin 8) (r : Fin 4096) (j : Fin 1280) => (congrFun a0 (ix3 q r j)).trans (hX c q r j)
  have hγ' := fun (j : Fin 1280) => (congrFun a1 (ix1 j)).trans (hγ c j)
  have hβ' := fun (j : Fin 1280) => (congrFun a2 (ix1 j)).trans (hβ c j)
  refine ⟨?_, ?_, Cert.KernelIdeal.Hand.val_args h.1 c⟩
  · refine ext3 (n0 := 8) (n1 := 4096) (n2 := 1280) (fun q a j => ?_)
    exact (Cert.KernelIdeal.Hand.val_codes h.1 c q a j).trans
      (((congrFun (Cert.ReferenceIdeal.Value.res_codes m' c) _).trans (Cert.ReferenceIdeal.Value.ref_codes _ _ _ (X c) (γ c) (β c)
        hX' hγ' hβ' q a j)).symm)
  · refine ext1 (n := 8) (fun q => ?_)
    exact (Cert.KernelIdeal.Hand.val_scale h.1 c q).trans
      (((congrFun (Cert.ReferenceIdeal.Value.res_scale m' c) _).trans (Cert.ReferenceIdeal.Value.ref_scale _ _ _ (X c) (γ c) (β c)
        hX' hγ' hβ' q)).symm)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Frame
public import proofs.«01_k».proof.Proof.KernelIdeal.Frame
public import proofs.«01_k».proof.Proof.Value.Alg
public import Idealize.ShloMosaic.Adequacy
public import Idealize.ShloMosaic.Init

@[expose] public section

noncomputable section

namespace Cert.Proof

open Idealize.ShloMosaic Idealize.SL.Sem Cert.Kernel

theorem quiescentKernel : Cert.quiescent_Kernel (hKernel := Cert.Kernel.Gen.facts) := fun m g _ =>
  (θ_run Cert.Kernel.defs _ _).mono (fun r h => ⟨fun c => Cert.Kernel.Hand.final_args h.1 c, h.2⟩)
    (Cert.Kernel.Hand.run_main (F := Bits) m g)

theorem quiescentKernelIdeal : Cert.quiescent_KernelIdeal (hKernelIdeal := Cert.KernelIdeal.Gen.facts) := fun m g _ =>
  (θ_run Cert.KernelIdeal.defs _ _).mono (fun r h => ⟨fun c => Cert.KernelIdeal.Hand.final_args h.1 c, h.2⟩)
    (Cert.KernelIdeal.Hand.run_main (F := Ideal) m g)

theorem quiescentReferenceIdeal : Cert.quiescent_ReferenceIdeal (hReferenceIdeal := Cert.ReferenceIdeal.Gen.facts) := fun m g _ =>
  (θ_run Cert.ReferenceIdeal.defs _ _).mono
    (fun r h => ⟨fun c => (h c).2.2, sem_eq_zero_of_no_sems (by decide) r.2⟩) (Cert.ReferenceIdeal.Value.run (F := Ideal) m g)

theorem preserves : Cert.preserves_Kernel_KernelIdeal :=
  IdealRules.named_const.statement Cert.KernelIdeal.κ "inv_n" .f32 0x36CCCCCD#32 ((1 / 163840 : ℝ) : EReal) rfl

/-- The frames under the precondition are the frames without it. -/
theorem claim : Cert.Claim := ⟨Cert.Kernel.Gen.facts, Cert.KernelIdeal.Gen.facts, Cert.ReferenceIdeal.Gen.facts, Cert.KernelIdeal.Hand.preFacts,
  quiescentKernel, quiescentKernelIdeal, fun m g _ => quiescentKernelIdeal m g trivial, quiescentReferenceIdeal,
  fun m g _ => quiescentReferenceIdeal m g trivial, preserves, algebraic⟩

end Cert.Proof

end
